-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_GateupRefIdeal (m : (ℓ : Loc Cert.GateupRefIdeal.nD Cert.GateupRefIdeal.τ Cert.GateupRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_state [hPre_finite_state : Cert.Pre_finite_state.Facts] (m : (ℓ : Loc Cert.ActIdeal.nD Cert.ActIdeal.τ Cert.ActIdeal.sig) → Buf (Elt Ideal) ℓ) : Prop :=
  ∀ c : Dev Cert.ActIdeal.nD,
    (Cert.Pre_finite_state.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_state [hPre_finite_state : Cert.Pre_finite_state.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_state.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))) = (fun _ => 1#1)

def Pre_Actp (m : (ℓ : Loc Cert.Actp.nD Cert.Actp.τ Cert.Actp.sig) → Buf (Elt Bits) ℓ) : Prop :=
  True

def Pre_ActpIdeal (m : (ℓ : Loc Cert.ActpIdeal.nD Cert.ActpIdeal.τ Cert.ActpIdeal.sig) → Buf (Elt Ideal) ℓ) : Prop :=
  True

def Pre_ActpIdeal_finite_meta [hPre_finite_meta : Cert.Pre_finite_meta.Facts] (m : (ℓ : Loc Cert.ActpIdeal.nD Cert.ActpIdeal.τ Cert.ActpIdeal.sig) → Buf (Elt Ideal) ℓ) : Prop :=
  ∀ c : Dev Cert.ActpIdeal.nD,
    (Cert.Pre_finite_meta.fn (F := Ideal) (m ((c.tc : Thread Cert.ActpIdeal.nD Cert.ActpIdeal.τ).loc Cert.ActpIdeal.main_arg0)) (m ((c.tc : Thread Cert.ActpIdeal.nD Cert.ActpIdeal.τ).loc Cert.ActpIdeal.main_arg1)) (m ((c.tc : Thread Cert.ActpIdeal.nD Cert.ActpIdeal.τ).loc Cert.ActpIdeal.main_arg2)) (m ((c.tc : Thread Cert.ActpIdeal.nD Cert.ActpIdeal.τ).loc Cert.ActpIdeal.main_arg3))) = (fun _ => 1#1)

def Pre_ActpRefIdeal (m : (ℓ : Loc Cert.ActpRefIdeal.nD Cert.ActpRefIdeal.τ Cert.ActpRefIdeal.sig) → Buf (Elt Ideal) ℓ) : Prop :=
  True

def Pre_ActpRefIdeal_finite_meta [hPre_finite_meta : Cert.Pre_finite_meta.Facts] (m : (ℓ : Loc Cert.ActpRefIdeal.nD Cert.ActpRefIdeal.τ Cert.ActpRefIdeal.sig) → Buf (Elt Ideal) ℓ) : Prop :=
  ∀ c : Dev Cert.ActpRefIdeal.nD,
    (Cert.Pre_finite_meta.fn (F := Ideal) (m ((c.tc : Thread Cert.ActpRefIdeal.nD Cert.ActpRefIdeal.τ).loc Cert.ActpRefIdeal.main_arg0)) (m ((c.tc : Thread Cert.ActpRefIdeal.nD Cert.ActpRefIdeal.τ).loc Cert.ActpRefIdeal.main_arg1)) (m ((c.tc : Thread Cert.ActpRefIdeal.nD Cert.ActpRefIdeal.τ).loc Cert.ActpRefIdeal.main_arg2)) (m ((c.tc : Thread Cert.ActpRefIdeal.nD Cert.ActpRefIdeal.τ).loc Cert.ActpRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2))
      ∧ r.2.sem = fun _ => 0)

def quiescent_GateupRefIdeal [hGateupRefIdeal : Cert.GateupRefIdeal.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1)
      ∧ r.2.mem ((c.tc : Thread Cert.GateupRefIdeal.nD Cert.GateupRefIdeal.τ).loc Cert.GateupRefIdeal.main_arg2) = m ((c.tc : Thread Cert.GateupRefIdeal.nD Cert.GateupRefIdeal.τ).loc Cert.GateupRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActIdeal_pre_finite_state [hActIdeal : Cert.ActIdeal.Facts] [hPre_finite_state : Cert.Pre_finite_state.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_state m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_ActRefIdeal_pre_finite_state [hActRefIdeal : Cert.ActRefIdeal.Facts] [hPre_finite_state : Cert.Pre_finite_state.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_state m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_Actp [hActp : Cert.Actp.Facts] : Prop :=
  ∀ (m : (ℓ : Loc Cert.Actp.nD Cert.Actp.τ Cert.Actp.sig) → Buf (Elt Bits) ℓ) (g : Dev Cert.Actp.nD → PrngReg), Pre_Actp m →
    θ_run (Cert.Actp.defs (F := Bits)) (onTc (τ := Cert.Actp.τ) (Cert.Actp.main (F := Bits))) ⟨m, fun _ => 0, g⟩ (fun r => (∀ c : Dev Cert.Actp.nD,
      r.2.mem ((c.tc : Thread Cert.Actp.nD Cert.Actp.τ).loc Cert.Actp.main_arg0) = m ((c.tc : Thread Cert.Actp.nD Cert.Actp.τ).loc Cert.Actp.main_arg0)
      ∧ r.2.mem ((c.tc : Thread Cert.Actp.nD Cert.Actp.τ).loc Cert.Actp.main_arg1) = m ((c.tc : Thread Cert.Actp.nD Cert.Actp.τ).loc Cert.Actp.main_arg1)
      ∧ r.2.mem ((c.tc : Thread Cert.Actp.nD Cert.Actp.τ).loc Cert.Actp.main_arg2) = m ((c.tc : Thread Cert.Actp.nD Cert.Actp.τ).loc Cert.Actp.main_arg2)
      ∧ r.2.mem ((c.tc : Thread Cert.Actp.nD Cert.Actp.τ).loc Cert.Actp.main_arg3) = m ((c.tc : Thread Cert.Actp.nD Cert.Actp.τ).loc Cert.Actp.main_arg3))
      ∧ r.2.sem = fun _ => 0)

def quiescent_ActpIdeal [hActpIdeal : Cert.ActpIdeal.Facts] : Prop :=
  ∀ (m : (ℓ : Loc Cert.ActpIdeal.nD Cert.ActpIdeal.τ Cert.ActpIdeal.sig) → Buf (Elt Ideal) ℓ) (g : Dev Cert.ActpIdeal.nD → PrngReg), Pre_ActpIdeal m →
    θ_run (Cert.ActpIdeal.defs (F := Ideal)) (onTc (τ := Cert.ActpIdeal.τ) (Cert.ActpIdeal.main (F := Ideal))) ⟨m, fun _ => 0, g⟩ (fun r => (∀ c : Dev Cert.ActpIdeal.nD,
      r.2.mem ((c.tc : Thread Cert.ActpIdeal.nD Cert.ActpIdeal.τ).loc Cert.ActpIdeal.main_arg0) = m ((c.tc : Thread Cert.ActpIdeal.nD Cert.ActpIdeal.τ).loc Cert.ActpIdeal.main_arg0)
      ∧ r.2.mem ((c.tc : Thread Cert.ActpIdeal.nD Cert.ActpIdeal.τ).loc Cert.ActpIdeal.main_arg1) = m ((c.tc : Thread Cert.ActpIdeal.nD Cert.ActpIdeal.τ).loc Cert.ActpIdeal.main_arg1)
      ∧ r.2.mem ((c.tc : Thread Cert.ActpIdeal.nD Cert.ActpIdeal.τ).loc Cert.ActpIdeal.main_arg2) = m ((c.tc : Thread Cert.ActpIdeal.nD Cert.ActpIdeal.τ).loc Cert.ActpIdeal.main_arg2)
      ∧ r.2.mem ((c.tc : Thread Cert.ActpIdeal.nD Cert.ActpIdeal.τ).loc Cert.ActpIdeal.main_arg3) = m ((c.tc : Thread Cert.ActpIdeal.nD Cert.ActpIdeal.τ).loc Cert.ActpIdeal.main_arg3))
      ∧ r.2.sem = fun _ => 0)

def quiescent_ActpIdeal_pre_finite_meta [hActpIdeal : Cert.ActpIdeal.Facts] [hPre_finite_meta : Cert.Pre_finite_meta.Facts] : Prop :=
  ∀ (m : (ℓ : Loc Cert.ActpIdeal.nD Cert.ActpIdeal.τ Cert.ActpIdeal.sig) → Buf (Elt Ideal) ℓ) (g : Dev Cert.ActpIdeal.nD → PrngReg), Pre_ActpIdeal_finite_meta m →
    θ_run (Cert.ActpIdeal.defs (F := Ideal)) (onTc (τ := Cert.ActpIdeal.τ) (Cert.ActpIdeal.main (F := Ideal))) ⟨m, fun _ => 0, g⟩ (fun r => (∀ c : Dev Cert.ActpIdeal.nD,
      r.2.mem ((c.tc : Thread Cert.ActpIdeal.nD Cert.ActpIdeal.τ).loc Cert.ActpIdeal.main_arg0) = m ((c.tc : Thread Cert.ActpIdeal.nD Cert.ActpIdeal.τ).loc Cert.ActpIdeal.main_arg0)
      ∧ r.2.mem ((c.tc : Thread Cert.ActpIdeal.nD Cert.ActpIdeal.τ).loc Cert.ActpIdeal.main_arg1) = m ((c.tc : Thread Cert.ActpIdeal.nD Cert.ActpIdeal.τ).loc Cert.ActpIdeal.main_arg1)
      ∧ r.2.mem ((c.tc : Thread Cert.ActpIdeal.nD Cert.ActpIdeal.τ).loc Cert.ActpIdeal.main_arg2) = m ((c.tc : Thread Cert.ActpIdeal.nD Cert.ActpIdeal.τ).loc Cert.ActpIdeal.main_arg2)
      ∧ r.2.mem ((c.tc : Thread Cert.ActpIdeal.nD Cert.ActpIdeal.τ).loc Cert.ActpIdeal.main_arg3) = m ((c.tc : Thread Cert.ActpIdeal.nD Cert.ActpIdeal.τ).loc Cert.ActpIdeal.main_arg3))
      ∧ r.2.sem = fun _ => 0)

def quiescent_ActpRefIdeal [hActpRefIdeal : Cert.ActpRefIdeal.Facts] : Prop :=
  ∀ (m : (ℓ : Loc Cert.ActpRefIdeal.nD Cert.ActpRefIdeal.τ Cert.ActpRefIdeal.sig) → Buf (Elt Ideal) ℓ) (g : Dev Cert.ActpRefIdeal.nD → PrngReg), Pre_ActpRefIdeal m →
    θ_run (Cert.ActpRefIdeal.defs (F := Ideal)) (onTc (τ := Cert.ActpRefIdeal.τ) (Cert.ActpRefIdeal.main (F := Ideal))) ⟨m, fun _ => 0, g⟩ (fun r => (∀ c : Dev Cert.ActpRefIdeal.nD,
      r.2.mem ((c.tc : Thread Cert.ActpRefIdeal.nD Cert.ActpRefIdeal.τ).loc Cert.ActpRefIdeal.main_arg0) = m ((c.tc : Thread Cert.ActpRefIdeal.nD Cert.ActpRefIdeal.τ).loc Cert.ActpRefIdeal.main_arg0)
      ∧ r.2.mem ((c.tc : Thread Cert.ActpRefIdeal.nD Cert.ActpRefIdeal.τ).loc Cert.ActpRefIdeal.main_arg1) = m ((c.tc : Thread Cert.ActpRefIdeal.nD Cert.ActpRefIdeal.τ).loc Cert.ActpRefIdeal.main_arg1)
      ∧ r.2.mem ((c.tc : Thread Cert.ActpRefIdeal.nD Cert.ActpRefIdeal.τ).loc Cert.ActpRefIdeal.main_arg2) = m ((c.tc : Thread Cert.ActpRefIdeal.nD Cert.ActpRefIdeal.τ).loc Cert.ActpRefIdeal.main_arg2)
      ∧ r.2.mem ((c.tc : Thread Cert.ActpRefIdeal.nD Cert.ActpRefIdeal.τ).loc Cert.ActpRefIdeal.main_arg3) = m ((c.tc : Thread Cert.ActpRefIdeal.nD Cert.ActpRefIdeal.τ).loc Cert.ActpRefIdeal.main_arg3))
      ∧ r.2.sem = fun _ => 0)

def quiescent_ActpRefIdeal_pre_finite_meta [hActpRefIdeal : Cert.ActpRefIdeal.Facts] [hPre_finite_meta : Cert.Pre_finite_meta.Facts] : Prop :=
  ∀ (m : (ℓ : Loc Cert.ActpRefIdeal.nD Cert.ActpRefIdeal.τ Cert.ActpRefIdeal.sig) → Buf (Elt Ideal) ℓ) (g : Dev Cert.ActpRefIdeal.nD → PrngReg), Pre_ActpRefIdeal_finite_meta m →
    θ_run (Cert.ActpRefIdeal.defs (F := Ideal)) (onTc (τ := Cert.ActpRefIdeal.τ) (Cert.ActpRefIdeal.main (F := Ideal))) ⟨m, fun _ => 0, g⟩ (fun r => (∀ c : Dev Cert.ActpRefIdeal.nD,
      r.2.mem ((c.tc : Thread Cert.ActpRefIdeal.nD Cert.ActpRefIdeal.τ).loc Cert.ActpRefIdeal.main_arg0) = m ((c.tc : Thread Cert.ActpRefIdeal.nD Cert.ActpRefIdeal.τ).loc Cert.ActpRefIdeal.main_arg0)
      ∧ r.2.mem ((c.tc : Thread Cert.ActpRefIdeal.nD Cert.ActpRefIdeal.τ).loc Cert.ActpRefIdeal.main_arg1) = m ((c.tc : Thread Cert.ActpRefIdeal.nD Cert.ActpRefIdeal.τ).loc Cert.ActpRefIdeal.main_arg1)
      ∧ r.2.mem ((c.tc : Thread Cert.ActpRefIdeal.nD Cert.ActpRefIdeal.τ).loc Cert.ActpRefIdeal.main_arg2) = m ((c.tc : Thread Cert.ActpRefIdeal.nD Cert.ActpRefIdeal.τ).loc Cert.ActpRefIdeal.main_arg2)
      ∧ r.2.mem ((c.tc : Thread Cert.ActpRefIdeal.nD Cert.ActpRefIdeal.τ).loc Cert.ActpRefIdeal.main_arg3) = m ((c.tc : Thread Cert.ActpRefIdeal.nD Cert.ActpRefIdeal.τ).loc Cert.ActpRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Gateup_GateupIdeal : Prop :=
  True

def algebraic_GateupIdeal_GateupRefIdeal [hGateupIdeal : Cert.GateupIdeal.Facts] [hGateupRefIdeal : Cert.GateupRefIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupRefIdeal.nD Cert.GateupRefIdeal.τ Cert.GateupRefIdeal.sig) → Buf (Elt Ideal) ℓ) (g' : Dev Cert.GateupRefIdeal.nD → PrngReg), Pre_GateupIdeal m →
    (∀ c : Dev Cert.GateupIdeal.nD,
      m' ((c.tc : Thread Cert.GateupRefIdeal.nD Cert.GateupRefIdeal.τ).loc Cert.GateupRefIdeal.main_arg0) = m ((c.tc : Thread Cert.GateupIdeal.nD Cert.GateupIdeal.τ).loc Cert.GateupIdeal.main_arg0)
      ∧ m' ((c.tc : Thread Cert.GateupRefIdeal.nD Cert.GateupRefIdeal.τ).loc Cert.GateupRefIdeal.main_arg1) = m ((c.tc : Thread Cert.GateupIdeal.nD Cert.GateupIdeal.τ).loc Cert.GateupIdeal.main_arg1)
      ∧ m' ((c.tc : Thread Cert.GateupRefIdeal.nD Cert.GateupRefIdeal.τ).loc Cert.GateupRefIdeal.main_arg2) = m ((c.tc : Thread Cert.GateupIdeal.nD Cert.GateupIdeal.τ).loc Cert.GateupIdeal.main_arg2)) →
    ∃ (v0 : (c : Dev Cert.GateupIdeal.nD) → Buf (Elt Ideal) ((c.tc : Thread Cert.GateupIdeal.nD Cert.GateupIdeal.τ).loc Cert.GateupIdeal.main_v3_0)) (v1 : (c : Dev Cert.GateupIdeal.nD) → Buf (Elt Ideal) ((c.tc : Thread Cert.GateupIdeal.nD Cert.GateupIdeal.τ).loc Cert.GateupIdeal.main_v3_1)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v3_0) = v0 c
          ∧ r.2.mem ((c.tc : Thread Cert.GateupIdeal.nD Cert.GateupIdeal.τ).loc Cert.GateupIdeal.main_v3_1) = v1 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2))
      ∧ θ_run (Cert.GateupRefIdeal.defs (F := Ideal)) (onTc (τ := Cert.GateupRefIdeal.τ) (Cert.GateupRefIdeal.main (F := Ideal))) ⟨m', fun _ => 0, g'⟩ (fun r => ∀ c : Dev Cert.GateupRefIdeal.nD,
          r.2.mem ((c.tc : Thread Cert.GateupRefIdeal.nD Cert.GateupRefIdeal.τ).loc Cert.GateupRefIdeal.main_v7) = v0 c
          ∧ r.2.mem ((c.tc : Thread Cert.GateupRefIdeal.nD Cert.GateupRefIdeal.τ).loc Cert.GateupRefIdeal.main_v9) = v1 c
          ∧ r.2.mem ((c.tc : Thread Cert.GateupRefIdeal.nD Cert.GateupRefIdeal.τ).loc Cert.GateupRefIdeal.main_arg0) = m' ((c.tc : Thread Cert.GateupRefIdeal.nD Cert.GateupRefIdeal.τ).loc Cert.GateupRefIdeal.main_arg0)
          ∧ r.2.mem ((c.tc : Thread Cert.GateupRefIdeal.nD Cert.GateupRefIdeal.τ).loc Cert.GateupRefIdeal.main_arg1) = m' ((c.tc : Thread Cert.GateupRefIdeal.nD Cert.GateupRefIdeal.τ).loc Cert.GateupRefIdeal.main_arg1)
          ∧ r.2.mem ((c.tc : Thread Cert.GateupRefIdeal.nD Cert.GateupRefIdeal.τ).loc Cert.GateupRefIdeal.main_arg2) = m' ((c.tc : Thread Cert.GateupRefIdeal.nD Cert.GateupRefIdeal.τ).loc Cert.GateupRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v6)) (v1 : (c : Dev Cert.OutIdeal.nD) → Buf (Elt Ideal) ((c.tc : Thread Cert.OutIdeal.nD Cert.OutIdeal.τ).loc Cert.OutIdeal.main_v8)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_v8) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v18) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v17) = v0 c
          ∧ r.2.mem ((c.tc : Thread Cert.MixRefIdeal.nD Cert.MixRefIdeal.τ).loc Cert.MixRefIdeal.main_v31) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v11_0)) (v1 : (c : Dev Cert.InpIdeal.nD) → Buf (Elt Ideal) ((c.tc : Thread Cert.InpIdeal.nD Cert.InpIdeal.τ).loc Cert.InpIdeal.main_v11_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v11_0) = v0 c
          ∧ r.2.mem ((c.tc : Thread Cert.InpIdeal.nD Cert.InpIdeal.τ).loc Cert.InpIdeal.main_v11_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v12) = v0 c
          ∧ r.2.mem ((c.tc : Thread Cert.InpRefIdeal.nD Cert.InpRefIdeal.τ).loc Cert.InpRefIdeal.main_v10) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)) →
    ∃ (v0 : (c : Dev Cert.PromptIdeal.nD) → Buf (Elt Ideal) ((c.tc : Thread Cert.PromptIdeal.nD Cert.PromptIdeal.τ).loc Cert.PromptIdeal.main_v2)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v2) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v14) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2))

def preserves_Mla_MlaIdeal : Prop :=
  IdealRules.named_const.Statement Cert.MlaIdeal.κ "qscale" .f32 0x3DD53B95#32 (((Real.sqrt 192)⁻¹ * (Real.log 2)⁻¹ : ℝ) : EReal)

def algebraic_MlaIdeal_MlaRefIdeal [hMlaIdeal : Cert.MlaIdeal.Facts] [hMlaRefIdeal : Cert.MlaRefIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v67_0)) (v1 : (c : Dev Cert.MlaIdeal.nD) → Buf (Elt Ideal) ((c.tc : Thread Cert.MlaIdeal.nD Cert.MlaIdeal.τ).loc Cert.MlaIdeal.main_v67_1)) (v2 : (c : Dev Cert.MlaIdeal.nD) → Buf (Elt Ideal) ((c.tc : Thread Cert.MlaIdeal.nD Cert.MlaIdeal.τ).loc Cert.MlaIdeal.main_v67_2)) (v3 : (c : Dev Cert.MlaIdeal.nD) → Buf (Elt Ideal) ((c.tc : Thread Cert.MlaIdeal.nD Cert.MlaIdeal.τ).loc Cert.MlaIdeal.main_v67_3)) (v4 : (c : Dev Cert.MlaIdeal.nD) → Buf (Elt Ideal) ((c.tc : Thread Cert.MlaIdeal.nD Cert.MlaIdeal.τ).loc Cert.MlaIdeal.main_v67_4)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v67_0) = v0 c
          ∧ r.2.mem ((c.tc : Thread Cert.MlaIdeal.nD Cert.MlaIdeal.τ).loc Cert.MlaIdeal.main_v67_1) = v1 c
          ∧ r.2.mem ((c.tc : Thread Cert.MlaIdeal.nD Cert.MlaIdeal.τ).loc Cert.MlaIdeal.main_v67_2) = v2 c
          ∧ r.2.mem ((c.tc : Thread Cert.MlaIdeal.nD Cert.MlaIdeal.τ).loc Cert.MlaIdeal.main_v67_3) = v3 c
          ∧ r.2.mem ((c.tc : Thread Cert.MlaIdeal.nD Cert.MlaIdeal.τ).loc Cert.MlaIdeal.main_v67_4) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v123) = v0 c
          ∧ r.2.mem ((c.tc : Thread Cert.MlaRefIdeal.nD Cert.MlaRefIdeal.τ).loc Cert.MlaRefIdeal.main_v45) = v1 c
          ∧ r.2.mem ((c.tc : Thread Cert.MlaRefIdeal.nD Cert.MlaRefIdeal.τ).loc Cert.MlaRefIdeal.main_v124) = v2 c
          ∧ r.2.mem ((c.tc : Thread Cert.MlaRefIdeal.nD Cert.MlaRefIdeal.τ).loc Cert.MlaRefIdeal.main_v126) = v3 c
          ∧ r.2.mem ((c.tc : Thread Cert.MlaRefIdeal.nD Cert.MlaRefIdeal.τ).loc Cert.MlaRefIdeal.main_v128) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Act_ActIdeal : Prop :=
  True

def algebraic_ActIdeal_ActRefIdeal_pre_finite_state [hActIdeal : Cert.ActIdeal.Facts] [hActRefIdeal : Cert.ActRefIdeal.Facts] [hPre_finite_state : Cert.Pre_finite_state.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_state m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v12_0)) (v1 : (c : Dev Cert.ActIdeal.nD) → Buf (Elt Ideal) ((c.tc : Thread Cert.ActIdeal.nD Cert.ActIdeal.τ).loc Cert.ActIdeal.main_v12_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v12_0) = v0 c
          ∧ r.2.mem ((c.tc : Thread Cert.ActIdeal.nD Cert.ActIdeal.τ).loc Cert.ActIdeal.main_v12_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v35) = v0 c
          ∧ r.2.mem ((c.tc : Thread Cert.ActRefIdeal.nD Cert.ActRefIdeal.τ).loc Cert.ActRefIdeal.main_v37) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4))

def preserves_Actp_ActpIdeal : Prop :=
  True

def algebraic_ActpIdeal_ActpRefIdeal_pre_finite_meta [hActpIdeal : Cert.ActpIdeal.Facts] [hActpRefIdeal : Cert.ActpRefIdeal.Facts] [hPre_finite_meta : Cert.Pre_finite_meta.Facts] : Prop :=
  ∀ (m : (ℓ : Loc Cert.ActpIdeal.nD Cert.ActpIdeal.τ Cert.ActpIdeal.sig) → Buf (Elt Ideal) ℓ) (g : Dev Cert.ActpIdeal.nD → PrngReg)
    (m' : (ℓ : Loc Cert.ActpRefIdeal.nD Cert.ActpRefIdeal.τ Cert.ActpRefIdeal.sig) → Buf (Elt Ideal) ℓ) (g' : Dev Cert.ActpRefIdeal.nD → PrngReg), Pre_ActpIdeal_finite_meta m →
    (∀ c : Dev Cert.ActpIdeal.nD,
      m' ((c.tc : Thread Cert.ActpRefIdeal.nD Cert.ActpRefIdeal.τ).loc Cert.ActpRefIdeal.main_arg0) = m ((c.tc : Thread Cert.ActpIdeal.nD Cert.ActpIdeal.τ).loc Cert.ActpIdeal.main_arg0)
      ∧ m' ((c.tc : Thread Cert.ActpRefIdeal.nD Cert.ActpRefIdeal.τ).loc Cert.ActpRefIdeal.main_arg1) = m ((c.tc : Thread Cert.ActpIdeal.nD Cert.ActpIdeal.τ).loc Cert.ActpIdeal.main_arg1)
      ∧ m' ((c.tc : Thread Cert.ActpRefIdeal.nD Cert.ActpRefIdeal.τ).loc Cert.ActpRefIdeal.main_arg2) = m ((c.tc : Thread Cert.ActpIdeal.nD Cert.ActpIdeal.τ).loc Cert.ActpIdeal.main_arg2)
      ∧ m' ((c.tc : Thread Cert.ActpRefIdeal.nD Cert.ActpRefIdeal.τ).loc Cert.ActpRefIdeal.main_arg3) = m ((c.tc : Thread Cert.ActpIdeal.nD Cert.ActpIdeal.τ).loc Cert.ActpIdeal.main_arg3)) →
    ∃ (v0 : (c : Dev Cert.ActpIdeal.nD) → Buf (Elt Ideal) ((c.tc : Thread Cert.ActpIdeal.nD Cert.ActpIdeal.τ).loc Cert.ActpIdeal.main_v11_0)) (v1 : (c : Dev Cert.ActpIdeal.nD) → Buf (Elt Ideal) ((c.tc : Thread Cert.ActpIdeal.nD Cert.ActpIdeal.τ).loc Cert.ActpIdeal.main_v11_1)),
      θ_run (Cert.ActpIdeal.defs (F := Ideal)) (onTc (τ := Cert.ActpIdeal.τ) (Cert.ActpIdeal.main (F := Ideal))) ⟨m, fun _ => 0, g⟩ (fun r => ∀ c : Dev Cert.ActpIdeal.nD,
          r.2.mem ((c.tc : Thread Cert.ActpIdeal.nD Cert.ActpIdeal.τ).loc Cert.ActpIdeal.main_v11_0) = v0 c
          ∧ r.2.mem ((c.tc : Thread Cert.ActpIdeal.nD Cert.ActpIdeal.τ).loc Cert.ActpIdeal.main_v11_1) = v1 c
          ∧ r.2.mem ((c.tc : Thread Cert.ActpIdeal.nD Cert.ActpIdeal.τ).loc Cert.ActpIdeal.main_arg0) = m ((c.tc : Thread Cert.ActpIdeal.nD Cert.ActpIdeal.τ).loc Cert.ActpIdeal.main_arg0)
          ∧ r.2.mem ((c.tc : Thread Cert.ActpIdeal.nD Cert.ActpIdeal.τ).loc Cert.ActpIdeal.main_arg1) = m ((c.tc : Thread Cert.ActpIdeal.nD Cert.ActpIdeal.τ).loc Cert.ActpIdeal.main_arg1)
          ∧ r.2.mem ((c.tc : Thread Cert.ActpIdeal.nD Cert.ActpIdeal.τ).loc Cert.ActpIdeal.main_arg2) = m ((c.tc : Thread Cert.ActpIdeal.nD Cert.ActpIdeal.τ).loc Cert.ActpIdeal.main_arg2)
          ∧ r.2.mem ((c.tc : Thread Cert.ActpIdeal.nD Cert.ActpIdeal.τ).loc Cert.ActpIdeal.main_arg3) = m ((c.tc : Thread Cert.ActpIdeal.nD Cert.ActpIdeal.τ).loc Cert.ActpIdeal.main_arg3))
      ∧ θ_run (Cert.ActpRefIdeal.defs (F := Ideal)) (onTc (τ := Cert.ActpRefIdeal.τ) (Cert.ActpRefIdeal.main (F := Ideal))) ⟨m', fun _ => 0, g'⟩ (fun r => ∀ c : Dev Cert.ActpRefIdeal.nD,
          r.2.mem ((c.tc : Thread Cert.ActpRefIdeal.nD Cert.ActpRefIdeal.τ).loc Cert.ActpRefIdeal.main_v34) = v0 c
          ∧ r.2.mem ((c.tc : Thread Cert.ActpRefIdeal.nD Cert.ActpRefIdeal.τ).loc Cert.ActpRefIdeal.main_v36) = v1 c
          ∧ r.2.mem ((c.tc : Thread Cert.ActpRefIdeal.nD Cert.ActpRefIdeal.τ).loc Cert.ActpRefIdeal.main_arg0) = m' ((c.tc : Thread Cert.ActpRefIdeal.nD Cert.ActpRefIdeal.τ).loc Cert.ActpRefIdeal.main_arg0)
          ∧ r.2.mem ((c.tc : Thread Cert.ActpRefIdeal.nD Cert.ActpRefIdeal.τ).loc Cert.ActpRefIdeal.main_arg1) = m' ((c.tc : Thread Cert.ActpRefIdeal.nD Cert.ActpRefIdeal.τ).loc Cert.ActpRefIdeal.main_arg1)
          ∧ r.2.mem ((c.tc : Thread Cert.ActpRefIdeal.nD Cert.ActpRefIdeal.τ).loc Cert.ActpRefIdeal.main_arg2) = m' ((c.tc : Thread Cert.ActpRefIdeal.nD Cert.ActpRefIdeal.τ).loc Cert.ActpRefIdeal.main_arg2)
          ∧ r.2.mem ((c.tc : Thread Cert.ActpRefIdeal.nD Cert.ActpRefIdeal.τ).loc Cert.ActpRefIdeal.main_arg3) = m' ((c.tc : Thread Cert.ActpRefIdeal.nD Cert.ActpRefIdeal.τ).loc Cert.ActpRefIdeal.main_arg3))

def Claim : Prop :=
  ∃ (hKernel : Cert.Kernel.Facts) (hKernelIdeal : Cert.KernelIdeal.Facts) (hReferenceIdeal : Cert.ReferenceIdeal.Facts) (hGateup : Cert.Gateup.Facts) (hGateupIdeal : Cert.GateupIdeal.Facts) (hGateupRefIdeal : Cert.GateupRefIdeal.Facts) (hOut : Cert.Out.Facts) (hOutIdeal : Cert.OutIdeal.Facts) (hOutRefIdeal : Cert.OutRefIdeal.Facts) (hMix : Cert.Mix.Facts) (hMixIdeal : Cert.MixIdeal.Facts) (hMixRefIdeal : Cert.MixRefIdeal.Facts) (hInp : Cert.Inp.Facts) (hInpIdeal : Cert.InpIdeal.Facts) (hInpRefIdeal : Cert.InpRefIdeal.Facts) (hPrompt : Cert.Prompt.Facts) (hPromptIdeal : Cert.PromptIdeal.Facts) (hPromptRefIdeal : Cert.PromptRefIdeal.Facts) (hMla : Cert.Mla.Facts) (hMlaIdeal : Cert.MlaIdeal.Facts) (hMlaRefIdeal : Cert.MlaRefIdeal.Facts) (hAct : Cert.Act.Facts) (hActIdeal : Cert.ActIdeal.Facts) (hActRefIdeal : Cert.ActRefIdeal.Facts) (hActp : Cert.Actp.Facts) (hActpIdeal : Cert.ActpIdeal.Facts) (hActpRefIdeal : Cert.ActpRefIdeal.Facts) (hPre_finite_state : Cert.Pre_finite_state.Facts) (hPre_finite_meta : Cert.Pre_finite_meta.Facts),
    quiescent_Kernel (hKernel := hKernel)
    ∧ quiescent_KernelIdeal (hKernelIdeal := hKernelIdeal)
    ∧ quiescent_ReferenceIdeal (hReferenceIdeal := hReferenceIdeal)
    ∧ quiescent_Gateup (hGateup := hGateup)
    ∧ quiescent_GateupIdeal (hGateupIdeal := hGateupIdeal)
    ∧ quiescent_GateupRefIdeal (hGateupRefIdeal := hGateupRefIdeal)
    ∧ quiescent_Out (hOut := hOut)
    ∧ quiescent_OutIdeal (hOutIdeal := hOutIdeal)
    ∧ quiescent_OutRefIdeal (hOutRefIdeal := hOutRefIdeal)
    ∧ quiescent_Mix (hMix := hMix)
    ∧ quiescent_MixIdeal (hMixIdeal := hMixIdeal)
    ∧ quiescent_MixRefIdeal (hMixRefIdeal := hMixRefIdeal)
    ∧ quiescent_Inp (hInp := hInp)
    ∧ quiescent_InpIdeal (hInpIdeal := hInpIdeal)
    ∧ quiescent_InpRefIdeal (hInpRefIdeal := hInpRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Mla (hMla := hMla)
    ∧ quiescent_MlaIdeal (hMlaIdeal := hMlaIdeal)
    ∧ quiescent_MlaRefIdeal (hMlaRefIdeal := hMlaRefIdeal)
    ∧ quiescent_Act (hAct := hAct)
    ∧ quiescent_ActIdeal (hActIdeal := hActIdeal)
    ∧ quiescent_ActIdeal_pre_finite_state (hActIdeal := hActIdeal) (hPre_finite_state := hPre_finite_state)
    ∧ quiescent_ActRefIdeal (hActRefIdeal := hActRefIdeal)
    ∧ quiescent_ActRefIdeal_pre_finite_state (hActRefIdeal := hActRefIdeal) (hPre_finite_state := hPre_finite_state)
    ∧ quiescent_Actp (hActp := hActp)
    ∧ quiescent_ActpIdeal (hActpIdeal := hActpIdeal)
    ∧ quiescent_ActpIdeal_pre_finite_meta (hActpIdeal := hActpIdeal) (hPre_finite_meta := hPre_finite_meta)
    ∧ quiescent_ActpRefIdeal (hActpRefIdeal := hActpRefIdeal)
    ∧ quiescent_ActpRefIdeal_pre_finite_meta (hActpRefIdeal := hActpRefIdeal) (hPre_finite_meta := hPre_finite_meta)
    ∧ preserves_Kernel_KernelIdeal
    ∧ algebraic_KernelIdeal_ReferenceIdeal (hKernelIdeal := hKernelIdeal) (hReferenceIdeal := hReferenceIdeal)
    ∧ preserves_Gateup_GateupIdeal
    ∧ algebraic_GateupIdeal_GateupRefIdeal (hGateupIdeal := hGateupIdeal) (hGateupRefIdeal := hGateupRefIdeal)
    ∧ preserves_Out_OutIdeal
    ∧ algebraic_OutIdeal_OutRefIdeal (hOutIdeal := hOutIdeal) (hOutRefIdeal := hOutRefIdeal)
    ∧ preserves_Mix_MixIdeal
    ∧ algebraic_MixIdeal_MixRefIdeal (hMixIdeal := hMixIdeal) (hMixRefIdeal := hMixRefIdeal)
    ∧ preserves_Inp_InpIdeal
    ∧ algebraic_InpIdeal_InpRefIdeal (hInpIdeal := hInpIdeal) (hInpRefIdeal := hInpRefIdeal)
    ∧ preserves_Prompt_PromptIdeal
    ∧ algebraic_PromptIdeal_PromptRefIdeal (hPromptIdeal := hPromptIdeal) (hPromptRefIdeal := hPromptRefIdeal)
    ∧ preserves_Mla_MlaIdeal
    ∧ algebraic_MlaIdeal_MlaRefIdeal (hMlaIdeal := hMlaIdeal) (hMlaRefIdeal := hMlaRefIdeal)
    ∧ preserves_Act_ActIdeal
    ∧ algebraic_ActIdeal_ActRefIdeal_pre_finite_state (hActIdeal := hActIdeal) (hActRefIdeal := hActRefIdeal) (hPre_finite_state := hPre_finite_state)
    ∧ preserves_Actp_ActpIdeal
    ∧ algebraic_ActpIdeal_ActpRefIdeal_pre_finite_meta (hActpIdeal := hActpIdeal) (hActpRefIdeal := hActpRefIdeal) (hPre_finite_meta := hPre_finite_meta)
-- ==== Pre_finite_meta.lean ====
abbrev S18496x11008 : Shape := ⟨2, ![18496, 11008]⟩
abbrev S2x3x11008 : Shape := ⟨3, ![2, 3, 11008]⟩
abbrev S2x11008 : Shape := ⟨2, ![2, 11008]⟩
abbrev S_ : Shape := ⟨0, ![]⟩

class Facts : Prop where
  slices_S18496x11008_S2x11008_16446_0 : S18496x11008.Slices ![16446, 0] S2x11008
  bcast_S_S2x11008 : S_.BroadcastsInDim S2x11008 (![] : Fin 0 → Fin S2x11008.rank)

variable [Facts]

def fn {F : FTy → Type} [FloatOps F] (main_arg0 : FVec F S18496x11008 .f32) (main_arg1 : FVec F S18496x11008 .f32) (main_arg2 : FVec F S2x3x11008 .f32) (main_arg3 : FVec F S18496x11008 .f32) : IVec S2x11008 1 :=
  let main_v0 : FVec F S2x11008 .f32 := (extractStridedSlice S2x11008 ![16446, 0] · slices_S18496x11008_S2x11008_16446_0) main_arg0
  let main_v1 : FVec F S2x11008 .f32 := Host.absf main_v0
  let main_cst : FVec F S_ .f32 := constant S_ .f32 0x7F800000#32
  let main_v2 : FVec F S2x11008 .f32 := broadcastInDim S2x11008 ![] bcast_S_S2x11008 main_cst
  let main_v3 : IVec S2x11008 1 := cmpf .olt main_v1 main_v2
  main_v3
-- ==== Pre_finite_state.lean ====
abbrev S18496x11008 : Shape := ⟨2, ![18496, 11008]⟩
abbrev S2x32x2x11008 : Shape := ⟨4, ![2, 32, 2, 11008]⟩
abbrev S2x3x11008 : Shape := ⟨3, ![2, 3, 11008]⟩
abbrev S1x32x2x11008 : Shape := ⟨4, ![1, 32, 2, 11008]⟩
abbrev S32x2x11008 : Shape := ⟨3, ![32, 2, 11008]⟩
abbrev S_ : Shape := ⟨0, ![]⟩

class Facts : Prop where
  slices_S2x32x2x11008_S1x32x2x11008_0_0_0_0 : S2x32x2x11008.Slices ![0, 0, 0, 0] S1x32x2x11008
  shapeCasts_S1x32x2x11008_S32x2x11008 : S1x32x2x11008.ShapeCasts S32x2x11008
  bcast_S_S32x2x11008 : S_.BroadcastsInDim S32x2x11008 (![] : Fin 0 → Fin S32x2x11008.rank)

variable [Facts]

def fn {F : FTy → Type} [FloatOps F] (main_arg0 : FVec F S18496x11008 .f32) (main_arg1 : FVec F S18496x11008 .f32) (main_arg2 : FVec F S2x32x2x11008 .f32) (main_arg3 : FVec F S2x3x11008 .f32) (main_arg4 : FVec F S18496x11008 .f32) : IVec S32x2x11008 1 :=
  let main_v0 : FVec F S1x32x2x11008 .f32 := (extractStridedSlice S1x32x2x11008 ![0, 0, 0, 0] · slices_S2x32x2x11008_S1x32x2x11008_0_0_0_0) main_arg2
  let main_v1 : FVec F S32x2x11008 .f32 := shapeCast S32x2x11008 main_v0 shapeCasts_S1x32x2x11008_S32x2x11008
  let main_v2 : FVec F S32x2x11008 .f32 := Host.absf main_v1
  let main_cst : FVec F S_ .f32 := constant S_ .f32 0x7F800000#32
  let main_v3 : FVec F S32x2x11008 .f32 := broadcastInDim S32x2x11008 ![] bcast_S_S32x2x11008 main_cst
  let main_v4 : IVec S32x2x11008 1 := cmpf .olt main_v2 main_v3
  main_v4
-- ==== Kernel.lean ====
abbrev S18496x8x128 : Shape := ⟨3, ![18496, 8, 128]⟩
abbrev S18496x8x64 : Shape := ⟨3, ![18496, 8, 64]⟩
abbrev S18496x512 : Shape := ⟨2, ![18496, 512]⟩
abbrev S18496x64 : Shape := ⟨2, ![18496, 64]⟩
abbrev S2x32x2048x512 : Shape := ⟨4, ![2, 32, 2048, 512]⟩
abbrev S2x32x2048x64 : Shape := ⟨4, ![2, 32, 2048, 64]⟩
abbrev S512x2048 : Shape := ⟨2, ![512, 2048]⟩
abbrev S18496x1024 : Shape := ⟨2, ![18496, 1024]⟩
abbrev S_ : Shape := ⟨0, ![]⟩
abbrev S18496x8x256 : Shape := ⟨3, ![18496, 8, 256]⟩
abbrev S18496x2048 : Shape := ⟨2, ![18496, 2048]⟩
abbrev S18496x128 : Shape := ⟨2, ![18496, 128]⟩
abbrev S2x32x64x2048 : Shape := ⟨4, ![2, 32, 64, 2048]⟩
abbrev S512x8x256 : Shape := ⟨3, ![512, 8, 256]⟩
abbrev S512x8x128 : Shape := ⟨3, ![512, 8, 128]⟩
abbrev S8x128x512 : Shape := ⟨3, ![8, 128, 512]⟩
abbrev S8x512x128 : Shape := ⟨3, ![8, 512, 128]⟩
abbrev S64x2048 : Shape := ⟨2, ![64, 2048]⟩
abbrev S64x512 : Shape := ⟨2, ![64, 512]⟩
abbrev S64x128 : Shape := ⟨2, ![64, 128]⟩
abbrev S1x1x2048x512 : Shape := ⟨4, ![1, 1, 2048, 512]⟩
abbrev S1x1x64x2048 : Shape := ⟨4, ![1, 1, 64, 2048]⟩
abbrev S64x1024 : Shape := ⟨2, ![64, 1024]⟩
abbrev S2112x512 : Shape := ⟨2, ![2112, 512]⟩
abbrev S128x2048 : Shape := ⟨2, ![128, 2048]⟩
abbrev S2048x512 : Shape := ⟨2, ![2048, 512]⟩
abbrev S1x128x512 : Shape := ⟨3, ![1, 128, 512]⟩
abbrev S128x512 : Shape := ⟨2, ![128, 512]⟩
abbrev S512x512 : Shape := ⟨2, ![512, 512]⟩
abbrev S512x128 : Shape := ⟨2, ![512, 128]⟩
abbrev S512x64 : Shape := ⟨2, ![512, 64]⟩
abbrev S512x2112 : Shape := ⟨2, ![512, 2112]⟩
abbrev S512 : Shape := ⟨1, ![512]⟩
abbrev S512x1 : Shape := ⟨2, ![512, 1]⟩
abbrev S1x512x128 : Shape := ⟨3, ![1, 512, 128]⟩

abbrev nBuf : Space → Nat
  | .hbm => 34
  | .vmem => 16
  | .smem => 0
  | _ => 0

abbrev bufTy : (tb : Table) → Fin (tcTables nBuf tb) → BufTy
  | .hbm, ⟨0, _⟩ => ⟨S18496x8x128, .f32⟩
  | .hbm, ⟨1, _⟩ => ⟨S18496x8x64, .f32⟩
  | .hbm, ⟨2, _⟩ => ⟨S18496x512, .f32⟩
  | .hbm, ⟨3, _⟩ => ⟨S18496x64, .f32⟩
  | .hbm, ⟨4, _⟩ => ⟨S2x32x2048x512, .f32⟩
  | .hbm, ⟨5, _⟩ => ⟨S2x32x2048x64, .f32⟩
  | .hbm, ⟨6, _⟩ => ⟨S512x2048, .f32⟩
  | .hbm, ⟨7, _⟩ => ⟨S18496x1024, .f32⟩
  | .hbm, ⟨8, _⟩ => ⟨S_, .f32⟩
  | .hbm, ⟨9, _⟩ => ⟨S18496x8x64, .f32⟩
  | .hbm, ⟨10, _⟩ => ⟨S18496x8x256, .f32⟩
  | .hbm, ⟨11, _⟩ => ⟨S_, .f32⟩
  | .hbm, ⟨12, _⟩ => ⟨S_, .f32⟩
  | .hbm, ⟨13, _⟩ => ⟨S18496x8x256, .f32⟩
  | .hbm, ⟨14, _⟩ => ⟨S18496x8x256, .f32⟩
  | .hbm, ⟨15, _⟩ => ⟨S_, .f32⟩
  | .hbm, ⟨16, _⟩ => ⟨S_, .f32⟩
  | .hbm, ⟨17, _⟩ => ⟨S18496x8x256, .f32⟩
  | .hbm, ⟨18, _⟩ => ⟨S18496x8x256, .f32⟩
  | .hbm, ⟨19, _⟩ => ⟨S18496x2048, .f32⟩
  | .hbm, ⟨20, _⟩ => ⟨S18496x2048, .bf16⟩
  | .hbm, ⟨21, _⟩ => ⟨S_, .i32⟩
  | .hbm, ⟨22, _⟩ => ⟨S_, .f32⟩
  | .hbm, ⟨23, _⟩ => ⟨S18496x128, .f32⟩
  | .hbm, ⟨24, _⟩ => ⟨S2x32x64x2048, .f32⟩
  | .hbm, ⟨25, _⟩ => ⟨S512x8x256, .f32⟩
  | .hbm, ⟨26, _⟩ => ⟨S512x8x128, .f32⟩
  | .hbm, ⟨27, _⟩ => ⟨S8x128x512, .f32⟩
  | .hbm, ⟨28, _⟩ => ⟨S8x128x512, .bf16⟩
  | .hbm, ⟨29, _⟩ => ⟨S512x8x128, .f32⟩
  | .hbm, ⟨30, _⟩ => ⟨S8x512x128, .f32⟩
  | .hbm, ⟨31, _⟩ => ⟨S8x512x128, .bf16⟩
  | .hbm, ⟨32, _⟩ => ⟨S18496x1024, .bf16⟩
  | .hbm, ⟨33, _⟩ => ⟨S18496x1024, .bf16⟩
  | .local _ .vmem, ⟨0, _⟩ => ⟨S64x2048, .bf16⟩
  | .local _ .vmem, ⟨1, _⟩ => ⟨S64x2048, .bf16⟩
  | .local _ .vmem, ⟨2, _⟩ => ⟨S64x512, .f32⟩
  | .local _ .vmem, ⟨3, _⟩ => ⟨S64x512, .f32⟩
  | .local _ .vmem, ⟨4, _⟩ => ⟨S64x128, .f32⟩
  | .local _ .vmem, ⟨5, _⟩ => ⟨S64x128, .f32⟩
  | .local _ .vmem, ⟨6, _⟩ => ⟨S1x1x2048x512, .f32⟩
  | .local _ .vmem, ⟨7, _⟩ => ⟨S1x1x2048x512, .f32⟩
  | .local _ .vmem, ⟨8, _⟩ => ⟨S1x1x64x2048, .f32⟩
  | .local _ .vmem, ⟨9, _⟩ => ⟨S1x1x64x2048, .f32⟩
  | .local _ .vmem, ⟨10, _⟩ => ⟨S8x128x512, .bf16⟩
  | .local _ .vmem, ⟨11, _⟩ => ⟨S8x512x128, .bf16⟩
  | .local _ .vmem, ⟨12, _⟩ => ⟨S64x1024, .bf16⟩
  | .local _ .vmem, ⟨13, _⟩ => ⟨S64x1024, .bf16⟩
  | .local _ .vmem, ⟨14, _⟩ => ⟨S2112x512, .bf16⟩
  | .local _ .vmem, ⟨15, _⟩ => ⟨S128x2048, .bf16⟩
  | _, _ => ⟨S18496x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c257_i32 : BitVec 32 := 257#32
  let v0 : BitVec 32 := Scalar.addi c257_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c257_i32 : BitVec 32 := 257#32
  let v0 : BitVec 32 := Scalar.addi c257_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c257_i32 : BitVec 32 := 257#32
  let v0 : BitVec 32 := Scalar.addi c257_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c257_i32 : BitVec 32 := 257#32
  let v0 : BitVec 32 := Scalar.addi c257_i32 arg0
  let c0_i32 : BitVec 32 := 0#32
  let c0_i32_0 : BitVec 32 := 0#32
  ![v0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S18496x8x128 : Shape := ⟨3, ![18496, 8, 128]⟩
abbrev S18496x8x64 : Shape := ⟨3, ![18496, 8, 64]⟩
abbrev S18496x512 : Shape := ⟨2, ![18496, 512]⟩
abbrev S18496x64 : Shape := ⟨2, ![18496, 64]⟩
abbrev S2x32x2048x512 : Shape := ⟨4, ![2, 32, 2048, 512]⟩
abbrev S2x32x2048x64 : Shape := ⟨4, ![2, 32, 2048, 64]⟩
abbrev S512x2048 : Shape := ⟨2, ![512, 2048]⟩
abbrev S18496x1024 : Shape := ⟨2, ![18496, 1024]⟩
abbrev S2048x8x128 : Shape := ⟨3, ![2048, 8, 128]⟩
abbrev S32x64x8x128 : Shape := ⟨4, ![32, 64, 8, 128]⟩
abbrev S2048x8x64 : Shape := ⟨3, ![2048, 8, 64]⟩
abbrev S32x64x8x64 : Shape := ⟨4, ![32, 64, 8, 64]⟩
abbrev S1x32x2048x512 : Shape := ⟨4, ![1, 32, 2048, 512]⟩
abbrev S32x2048x512 : Shape := ⟨3, ![32, 2048, 512]⟩
abbrev S2048x512 : Shape := ⟨2, ![2048, 512]⟩
abbrev S32x64x512 : Shape := ⟨3, ![32, 64, 512]⟩
abbrev S32x2112x512 : Shape := ⟨3, ![32, 2112, 512]⟩
abbrev S1x32x2048x64 : Shape := ⟨4, ![1, 32, 2048, 64]⟩
abbrev S32x2048x64 : Shape := ⟨3, ![32, 2048, 64]⟩
abbrev S2048x64 : Shape := ⟨2, ![2048, 64]⟩
abbrev S32x64x64 : Shape := ⟨3, ![32, 64, 64]⟩
abbrev S32x2112x64 : Shape := ⟨3, ![32, 2112, 64]⟩
abbrev S512x8x256 : Shape := ⟨3, ![512, 8, 256]⟩
abbrev S512x8x128 : Shape := ⟨3, ![512, 8, 128]⟩
abbrev S8x512x32x64 : Shape := ⟨4, ![8, 512, 32, 64]⟩
abbrev S32x64x8x512 : Shape := ⟨4, ![32, 64, 8, 512]⟩
abbrev S32x2112x64x8 : Shape := ⟨4, ![32, 2112, 64, 8]⟩
abbrev S32x8x64x2112 : Shape := ⟨4, ![32, 8, 64, 2112]⟩
abbrev S_ : Shape := ⟨0, ![]⟩
abbrev S32x8x64 : Shape := ⟨3, ![32, 8, 64]⟩
abbrev S32x8x64x1 : Shape := ⟨4, ![32, 8, 64, 1]⟩
abbrev S32x512x8x64 : Shape := ⟨4, ![32, 512, 8, 64]⟩
abbrev S8x128x32x64 : Shape := ⟨4, ![8, 128, 32, 64]⟩
abbrev S16448x1024 : Shape := ⟨2, ![16448, 1024]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S18496x8x128, .f32⟩
  | .hbm, ⟨1, _⟩ => ⟨S18496x8x64, .f32⟩
  | .hbm, ⟨2, _⟩ => ⟨S18496x512, .f32⟩
  | .hbm, ⟨3, _⟩ => ⟨S18496x64, .f32⟩
  | .hbm, ⟨4, _⟩ => ⟨S2x32x2048x512, .f32⟩
  | .hbm, ⟨5, _⟩ => ⟨S2x32x2048x64, .f32⟩
  | .hbm, ⟨6, _⟩ => ⟨S512x2048, .f32⟩
  | .hbm, ⟨7, _⟩ => ⟨S18496x1024, .f32⟩
  | .hbm, ⟨8, _⟩ => ⟨S2048x8x128, .f32⟩
  | .hbm, ⟨9, _⟩ => ⟨S32x64x8x128, .f32⟩
  | .hbm, ⟨10, _⟩ => ⟨S2048x8x64, .f32⟩
  | .hbm, ⟨11, _⟩ => ⟨S32x64x8x64, .f32⟩
  | .hbm, ⟨12, _⟩ => ⟨S1x32x2048x512, .f32⟩
  | .hbm, ⟨13, _⟩ => ⟨S32x2048x512, .f32⟩
  | .hbm, ⟨14, _⟩ => ⟨S2048x512, .f32⟩
  | .hbm, ⟨15, _⟩ => ⟨S32x64x512, .f32⟩
  | .hbm, ⟨16, _⟩ => ⟨S32x2112x512, .f32⟩
  | .hbm, ⟨17, _⟩ => ⟨S1x32x2048x64, .f32⟩
  | .hbm, ⟨18, _⟩ => ⟨S32x2048x64, .f32⟩
  | .hbm, ⟨19, _⟩ => ⟨S2048x64, .f32⟩
  | .hbm, ⟨20, _⟩ => ⟨S32x64x64, .f32⟩
  | .hbm, ⟨21, _⟩ => ⟨S32x2112x64, .f32⟩
  | .hbm, ⟨22, _⟩ => ⟨S512x8x256, .f32⟩
  | .hbm, ⟨23, _⟩ => ⟨S512x8x128, .f32⟩
  | .hbm, ⟨24, _⟩ => ⟨S8x512x32x64, .f32⟩
  | .hbm, ⟨25, _⟩ => ⟨S32x64x8x512, .f32⟩
  | .hbm, ⟨26, _⟩ => ⟨S32x2112x64x8, .f32⟩
  | .hbm, ⟨27, _⟩ => ⟨S32x8x64x2112, .f32⟩
  | .hbm, ⟨28, _⟩ => ⟨S32x2112x64x8, .f32⟩
  | .hbm, ⟨29, _⟩ => ⟨S32x8x64x2112, .f32⟩
  | .hbm, ⟨30, _⟩ => ⟨S32x8x64x2112, .f32⟩
  | .hbm, ⟨31, _⟩ => ⟨S_, .f32⟩
  | .hbm, ⟨32, _⟩ => ⟨S_, .f32⟩
  | .hbm, ⟨33, _⟩ => ⟨S32x8x64x2112, .f32⟩
  | .hbm, ⟨34, _⟩ => ⟨S32x8x64x2112, .f32⟩
  | .hbm, ⟨35, _⟩ => ⟨S_, .f32⟩
  | .hbm, ⟨36, _⟩ => ⟨S32x8x64, .f32⟩
  | .hbm, ⟨37, _⟩ => ⟨S_, .f32⟩
  | .hbm, ⟨38, _⟩ => ⟨S32x8x64, .f32⟩
  | .hbm, ⟨39, _⟩ => ⟨S32x8x64, .f32⟩
  | .hbm, ⟨40, _⟩ => ⟨S32x8x64x1, .f32⟩
  | .hbm, ⟨41, _⟩ => ⟨S32x8x64x2112, .f32⟩
  | .hbm, ⟨42, _⟩ => ⟨S32x8x64x2112, .f32⟩
  | .hbm, ⟨43, _⟩ => ⟨S32x8x64x2112, .f32⟩
  | .hbm, ⟨44, _⟩ => ⟨S_, .f32⟩
  | .hbm, ⟨45, _⟩ => ⟨S32x8x64, .f32⟩
  | .hbm, ⟨46, _⟩ => ⟨S32x8x64x1, .f32⟩
  | .hbm, ⟨47, _⟩ => ⟨S32x8x64x2112, .f32⟩
  | .hbm, ⟨48, _⟩ => ⟨S32x8x64x2112, .f32⟩
  | .hbm, ⟨49, _⟩ => ⟨S32x512x8x64, .f32⟩
  | .hbm, ⟨50, _⟩ => ⟨S32x64x8x512, .f32⟩
  | .hbm, ⟨51, _⟩ => ⟨S512x8x128, .f32⟩
  | .hbm, ⟨52, _⟩ => ⟨S8x128x32x64, .f32⟩
  | .hbm, ⟨53, _⟩ => ⟨S32x64x8x128, .f32⟩
  | .hbm, ⟨54, _⟩ => ⟨S16448x1024, .f32⟩
  | .hbm, ⟨55, _⟩ => ⟨S2048x1024, .f32⟩
  | .hbm, ⟨56, _⟩ => ⟨S18496x1024, .f32⟩
  | .hbm, ⟨57, _⟩ => ⟨S18496x1024, .bf16⟩
  | _, _ => ⟨S18496x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Gateup.lean ====
abbrev S18496x4096 : Shape := ⟨2, ![18496, 4096]⟩
abbrev S2x4096x11008 : Shape := ⟨3, ![2, 4096, 11008]⟩
abbrev S4096x11264 : Shape := ⟨2, ![4096, 11264]⟩
abbrev S1x128x11008 : Shape := ⟨3, ![1, 128, 11008]⟩
abbrev S128x11264 : Shape := ⟨2, ![128, 11264]⟩
abbrev S128x11008 : Shape := ⟨2, ![128, 11008]⟩
abbrev S128x256 : Shape := ⟨2, ![128, 256]⟩
abbrev S18496x11264 : Shape := ⟨2, ![18496, 11264]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 8
  | .vmem => 18
  | .smem => 0
  | _ => 0

abbrev bufTy : (tb : Table) → Fin (tcTables nBuf tb) → BufTy
  | .hbm, ⟨0, _⟩ => ⟨S18496x4096, .f32⟩
  | .hbm, ⟨1, _⟩ => ⟨S2x4096x11008, .f32⟩
  | .hbm, ⟨2, _⟩ => ⟨S2x4096x11008, .f32⟩
  | .hbm, ⟨3, _⟩ => ⟨S18496x4096, .bf16⟩
  | .hbm, ⟨4, _⟩ => ⟨S4096x11264, .bf16⟩
  | .hbm, ⟨5, _⟩ => ⟨S4096x11264, .bf16⟩
  | .hbm, ⟨6, _⟩ => ⟨S18496x11264, .bf16⟩
  | .hbm, ⟨7, _⟩ => ⟨S18496x11264, .bf16⟩
  | .local _ .vmem, ⟨0, _⟩ => ⟨S1x128x11008, .f32⟩
  | .local _ .vmem, ⟨1, _⟩ => ⟨S1x128x11008, .f32⟩
  | .local _ .vmem, ⟨2, _⟩ => ⟨S128x11264, .bf16⟩
  | .local _ .vmem, ⟨3, _⟩ => ⟨S128x11264, .bf16⟩
  | .local _ .vmem, ⟨4, _⟩ => ⟨S1x128x11008, .f32⟩
  | .local _ .vmem, ⟨5, _⟩ => ⟨S1x128x11008, .f32⟩
  | .local _ .vmem, ⟨6, _⟩ => ⟨S128x11264, .bf16⟩
  | .local _ .vmem, ⟨7, _⟩ => ⟨S128x11264, .bf16⟩
  | .local _ .vmem, ⟨8, _⟩ => ⟨S1088x4096, .bf16⟩
  | .local _ .vmem, ⟨9, _⟩ => ⟨S1088x4096, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S1088x512, .bf16⟩
  | .local _ .vmem, ⟨15, _⟩ => ⟨S1088x512, .bf16⟩
  | .local _ .vmem, ⟨16, _⟩ => ⟨S1088x512, .bf16⟩
  | .local _ .vmem, ⟨17, _⟩ => ⟨S1088x512, .bf16⟩
  | _, _ => ⟨S18496x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x128x11008 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x11264 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![17, 22], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1088x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1088x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1088x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== GateupRefIdeal.lean ====
abbrev S18496x4096 : Shape := ⟨2, ![18496, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S18496x11008 : Shape := ⟨2, ![18496, 11008]⟩
abbrev S_ : Shape := ⟨0, ![]⟩
abbrev S18496x11264 : Shape := ⟨2, ![18496, 11264]⟩

abbrev nBuf : Space → Nat
  | .hbm => 17
  | .vmem => 0
  | .smem => 0
  | _ => 0

abbrev bufTy : (tb : Table) → Fin (tcTables nBuf tb) → BufTy
  | .hbm, ⟨0, _⟩ => ⟨S18496x4096, .f32⟩
  | .hbm, ⟨1, _⟩ => ⟨S2x4096x11008, .f32⟩
  | .hbm, ⟨2, _⟩ => ⟨S2x4096x11008, .f32⟩
  | .hbm, ⟨3, _⟩ => ⟨S1x4096x11008, .f32⟩
  | .hbm, ⟨4, _⟩ => ⟨S4096x11008, .f32⟩
  | .hbm, ⟨5, _⟩ => ⟨S18496x11008, .f32⟩
  | .hbm, ⟨6, _⟩ => ⟨S1x4096x11008, .f32⟩
  | .hbm, ⟨7, _⟩ => ⟨S4096x11008, .f32⟩
  | .hbm, ⟨8, _⟩ => ⟨S18496x11008, .f32⟩
  | .hbm, ⟨9, _⟩ => ⟨S_, .i32⟩
  | .hbm, ⟨10, _⟩ => ⟨S_, .f32⟩
  | .hbm, ⟨11, _⟩ => ⟨S18496x11264, .f32⟩
  | .hbm, ⟨12, _⟩ => ⟨S18496x11264, .bf16⟩
  | .hbm, ⟨13, _⟩ => ⟨S_, .i32⟩
  | .hbm, ⟨14, _⟩ => ⟨S_, .f32⟩
  | .hbm, ⟨15, _⟩ => ⟨S18496x11264, .f32⟩
  | .hbm, ⟨16, _⟩ => ⟨S18496x11264, .bf16⟩
  | _, _ => ⟨S18496x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Out.lean ====
abbrev S18496x11008 : Shape := ⟨2, ![18496, 11008]⟩
abbrev S2x11008x4096 : Shape := ⟨3, ![2, 11008, 4096]⟩
abbrev S18496x4096 : Shape := ⟨2, ![18496, 4096]⟩
abbrev S4096 : Shape := ⟨1, ![4096]⟩
abbrev S_ : Shape := ⟨0, ![]⟩
abbrev S18496x11264 : Shape := ⟨2, ![18496, 11264]⟩
abbrev S1x11008x4096 : Shape := ⟨3, ![1, 11008, 4096]⟩
abbrev S11008x4096 : Shape := ⟨2, ![11008, 4096]⟩
abbrev S11264x4096 : Shape := ⟨2, ![11264, 4096]⟩
abbrev S544x11264 : Shape := ⟨2, ![544, 11264]⟩
abbrev S11264x512 : Shape := ⟨2, ![11264, 512]⟩
abbrev S544x512 : Shape := ⟨2, ![544, 512]⟩
abbrev S1x4096 : Shape := ⟨2, ![1, 4096]⟩
abbrev S2048x4096 : Shape := ⟨2, ![2048, 4096]⟩
abbrev S64x4096 : Shape := ⟨2, ![64, 4096]⟩
abbrev S64 : Shape := ⟨1, ![64]⟩
abbrev S64x1 : Shape := ⟨2, ![64, 1]⟩

abbrev nBuf : Space → Nat
  | .hbm => 17
  | .vmem => 13
  | .smem => 0
  | _ => 0

abbrev bufTy : (tb : Table) → Fin (tcTables nBuf tb) → BufTy
  | .hbm, ⟨0, _⟩ => ⟨S18496x11008, .f32⟩
  | .hbm, ⟨1, _⟩ => ⟨S2x11008x4096, .f32⟩
  | .hbm, ⟨2, _⟩ => ⟨S18496x4096, .f32⟩
  | .hbm, ⟨3, _⟩ => ⟨S4096, .f32⟩
  | .hbm, ⟨4, _⟩ => ⟨S_, .i32⟩
  | .hbm, ⟨5, _⟩ => ⟨S_, .f32⟩
  | .hbm, ⟨6, _⟩ => ⟨S18496x11264, .f32⟩
  | .hbm, ⟨7, _⟩ => ⟨S18496x11264, .bf16⟩
  | .hbm, ⟨8, _⟩ => ⟨S1x11008x4096, .f32⟩
  | .hbm, ⟨9, _⟩ => ⟨S11008x4096, .f32⟩
  | .hbm, ⟨10, _⟩ => ⟨S_, .i32⟩
  | .hbm, ⟨11, _⟩ => ⟨S_, .f32⟩
  | .hbm, ⟨12, _⟩ => ⟨S11264x4096, .f32⟩
  | .hbm, ⟨13, _⟩ => ⟨S11264x4096, .bf16⟩
  | .hbm, ⟨14, _⟩ => ⟨S18496x4096, .bf16⟩
  | .hbm, ⟨15, _⟩ => ⟨S1x4096, .f32⟩
  | .hbm, ⟨16, _⟩ => ⟨S2048x4096, .f32⟩
  | .local _ .vmem, ⟨0, _⟩ => ⟨S544x11264, .bf16⟩
  | .local _ .vmem, ⟨1, _⟩ => ⟨S544x11264, .bf16⟩
  | .local _ .vmem, ⟨2, _⟩ => ⟨S11264x512, .bf16⟩
  | .local _ .vmem, ⟨3, _⟩ => ⟨S11264x512, .bf16⟩
  | .local _ .vmem, ⟨4, _⟩ => ⟨S544x512, .bf16⟩
  | .local _ .vmem, ⟨5, _⟩ => ⟨S544x512, .bf16⟩
  | .local _ .vmem, ⟨6, _⟩ => ⟨S64x4096, .f32⟩
  | .local _ .vmem, ⟨7, _⟩ => ⟨S64x4096, .f32⟩
  | .local _ .vmem, ⟨8, _⟩ => ⟨S64x4096, .bf16⟩
  | .local _ .vmem, ⟨9, _⟩ => ⟨S64x4096, .bf16⟩
  | .local _ .vmem, ⟨10, _⟩ => ⟨S1x4096, .f32⟩
  | .local _ .vmem, ⟨11, _⟩ => ⟨S64x4096, .f32⟩
  | .local _ .vmem, ⟨12, _⟩ => ⟨S64x4096, .f32⟩
  | _, _ => ⟨S18496x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![34, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11264x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c257_i32 : BitVec 32 := 257#32
  let v0 : BitVec 32 := Scalar.addi c257_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c257_i32 : BitVec 32 := 257#32
  let v0 : BitVec 32 := Scalar.addi c257_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== OutRefIdeal.lean ====
abbrev S18496x11008 : Shape := ⟨2, ![18496, 11008]⟩
abbrev S2x11008x4096 : Shape := ⟨3, ![2, 11008, 4096]⟩
abbrev S18496x4096 : Shape := ⟨2, ![18496, 4096]⟩
abbrev S4096 : Shape := ⟨1, ![4096]⟩
abbrev S1x11008x4096 : Shape := ⟨3, ![1, 11008, 4096]⟩
abbrev S11008x4096 : Shape := ⟨2, ![11008, 4096]⟩
abbrev S_ : Shape := ⟨0, ![]⟩
abbrev S18496 : Shape := ⟨1, ![18496]⟩
abbrev S18496x1 : Shape := ⟨2, ![18496, 1]⟩
abbrev S1x4096 : Shape := ⟨2, ![1, 4096]⟩
abbrev S2048x4096 : Shape := ⟨2, ![2048, 4096]⟩

abbrev nBuf : Space → Nat
  | .hbm => 26
  | .vmem => 0
  | .smem => 0
  | _ => 0

abbrev bufTy : (tb : Table) → Fin (tcTables nBuf tb) → BufTy
  | .hbm, ⟨0, _⟩ => ⟨S18496x11008, .f32⟩
  | .hbm, ⟨1, _⟩ => ⟨S2x11008x4096, .f32⟩
  | .hbm, ⟨2, _⟩ => ⟨S18496x4096, .f32⟩
  | .hbm, ⟨3, _⟩ => ⟨S4096, .f32⟩
  | .hbm, ⟨4, _⟩ => ⟨S1x11008x4096, .f32⟩
  | .hbm, ⟨5, _⟩ => ⟨S11008x4096, .f32⟩
  | .hbm, ⟨6, _⟩ => ⟨S18496x4096, .f32⟩
  | .hbm, ⟨7, _⟩ => ⟨S18496x4096, .bf16⟩
  | .hbm, ⟨8, _⟩ => ⟨S18496x4096, .f32⟩
  | .hbm, ⟨9, _⟩ => ⟨S_, .f32⟩
  | .hbm, ⟨10, _⟩ => ⟨S18496, .f32⟩
  | .hbm, ⟨11, _⟩ => ⟨S18496x1, .f32⟩
  | .hbm, ⟨12, _⟩ => ⟨S_, .f32⟩
  | .hbm, ⟨13, _⟩ => ⟨S18496x1, .f32⟩
  | .hbm, ⟨14, _⟩ => ⟨S18496x1, .f32⟩
  | .hbm, ⟨15, _⟩ => ⟨S_, .f32⟩
  | .hbm, ⟨16, _⟩ => ⟨S18496x1, .f32⟩
  | .hbm, ⟨17, _⟩ => ⟨S18496x1, .f32⟩
  | .hbm, ⟨18, _⟩ => ⟨S18496x1, .f32⟩
  | .hbm, ⟨19, _⟩ => ⟨S18496x4096, .f32⟩
  | .hbm, ⟨20, _⟩ => ⟨S18496x4096, .f32⟩
  | .hbm, ⟨21, _⟩ => ⟨S1x4096, .f32⟩
  | .hbm, ⟨22, _⟩ => ⟨S18496x4096, .f32⟩
  | .hbm, ⟨23, _⟩ => ⟨S18496x4096, .f32⟩
  | .hbm, ⟨24, _⟩ => ⟨S18496x4096, .f32⟩
  | .hbm, ⟨25, _⟩ => ⟨S2048x4096, .f32⟩
  | _, _ => ⟨S18496x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Mix.lean ====
abbrev S18496x2048 : Shape := ⟨2, ![18496, 2048]⟩
abbrev S18496x1024 : Shape := ⟨2, ![18496, 1024]⟩
abbrev S2x4096x4096 : Shape := ⟨3, ![2, 4096, 4096]⟩
abbrev S18496x4096 : Shape := ⟨2, ![18496, 4096]⟩
abbrev S4096 : Shape := ⟨1, ![4096]⟩
abbrev S4096x4096 : Shape := ⟨2, ![4096, 4096]⟩
abbrev S1x128x4096 : Shape := ⟨3, ![1, 128, 4096]⟩
abbrev S128x4096 : Shape := ⟨2, ![128, 4096]⟩
abbrev S1088x2048 : Shape := ⟨2, ![1088, 2048]⟩
abbrev S1088x1024 : Shape := ⟨2, ![1088, 1024]⟩
abbrev S2048x1024 : Shape := ⟨2, ![2048, 1024]⟩
abbrev S1024x1024 : Shape := ⟨2, ![1024, 1024]⟩
abbrev S1x4096 : Shape := ⟨2, ![1, 4096]⟩
abbrev S272x4096 : Shape := ⟨2, ![272, 4096]⟩
abbrev S272 : Shape := ⟨1, ![272]⟩
abbrev S272x1 : Shape := ⟨2, ![272, 1]⟩

abbrev nBuf : Space → Nat
  | .hbm => 16
  | .vmem => 28
  | .smem => 0
  | _ => 0

abbrev bufTy : (tb : Table) → Fin (tcTables nBuf tb) → BufTy
  | .hbm, ⟨0, _⟩ => ⟨S18496x2048, .f32⟩
  | .hbm, ⟨1, _⟩ => ⟨S18496x1024, .f32⟩
  | .hbm, ⟨2, _⟩ => ⟨S18496x1024, .f32⟩
  | .hbm, ⟨3, _⟩ => ⟨S2x4096x4096, .f32⟩
  | .hbm, ⟨4, _⟩ => ⟨S18496x4096, .f32⟩
  | .hbm, ⟨5, _⟩ => ⟨S4096, .f32⟩
  | .hbm, ⟨6, _⟩ => ⟨S4096, .f32⟩
  | .hbm, ⟨7, _⟩ => ⟨S18496x2048, .bf16⟩
  | .hbm, ⟨8, _⟩ => ⟨S18496x1024, .bf16⟩
  | .hbm, ⟨9, _⟩ => ⟨S18496x1024, .bf16⟩
  | .hbm, ⟨10, _⟩ => ⟨S4096x4096, .bf16⟩
  | .hbm, ⟨11, _⟩ => ⟨S18496x4096, .bf16⟩
  | .hbm, ⟨12, _⟩ => ⟨S1x4096, .f32⟩
  | .hbm, ⟨13, _⟩ => ⟨S1x4096, .f32⟩
  | .hbm, ⟨14, _⟩ => ⟨S18496x4096, .f32⟩
  | .hbm, ⟨15, _⟩ => ⟨S18496x4096, .bf16⟩
  | .local _ .vmem, ⟨0, _⟩ => ⟨S1x128x4096, .f32⟩
  | .local _ .vmem, ⟨1, _⟩ => ⟨S1x128x4096, .f32⟩
  | .local _ .vmem, ⟨2, _⟩ => ⟨S128x4096, .bf16⟩
  | .local _ .vmem, ⟨3, _⟩ => ⟨S128x4096, .bf16⟩
  | .local _ .vmem, ⟨4, _⟩ => ⟨S1088x2048, .bf16⟩
  | .local _ .vmem, ⟨5, _⟩ => ⟨S1088x2048, .bf16⟩
  | .local _ .vmem, ⟨6, _⟩ => ⟨S1088x1024, .bf16⟩
  | .local _ .vmem, ⟨7, _⟩ => ⟨S1088x1024, .bf16⟩
  | .local _ .vmem, ⟨8, _⟩ => ⟨S1088x1024, .bf16⟩
  | .local _ .vmem, ⟨9, _⟩ => ⟨S1088x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1088x1024, .bf16⟩
  | .local _ .vmem, ⟨17, _⟩ => ⟨S1088x1024, .bf16⟩
  | .local _ .vmem, ⟨18, _⟩ => ⟨S272x4096, .f32⟩
  | .local _ .vmem, ⟨19, _⟩ => ⟨S272x4096, .f32⟩
  | .local _ .vmem, ⟨20, _⟩ => ⟨S272x4096, .bf16⟩
  | .local _ .vmem, ⟨21, _⟩ => ⟨S272x4096, .bf16⟩
  | .local _ .vmem, ⟨22, _⟩ => ⟨S1x4096, .f32⟩
  | .local _ .vmem, ⟨23, _⟩ => ⟨S1x4096, .f32⟩
  | .local _ .vmem, ⟨24, _⟩ => ⟨S272x4096, .f32⟩
  | .local _ .vmem, ⟨25, _⟩ => ⟨S272x4096, .f32⟩
  | .local _ .vmem, ⟨26, _⟩ => ⟨S272x4096, .bf16⟩
  | .local _ .vmem, ⟨27, _⟩ => ⟨S272x4096, .bf16⟩
  | _, _ => ⟨S18496x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![17, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc1_transform_5 (i : grid1.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1088x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1088x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1088x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1088x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![68], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S272x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S272x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S272x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S272x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== MixRefIdeal.lean ====
abbrev S18496x2048 : Shape := ⟨2, ![18496, 2048]⟩
abbrev S18496x1024 : Shape := ⟨2, ![18496, 1024]⟩
abbrev S2x4096x4096 : Shape := ⟨3, ![2, 4096, 4096]⟩
abbrev S18496x4096 : Shape := ⟨2, ![18496, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S18496 : Shape := ⟨1, ![18496]⟩
abbrev S18496x1 : Shape := ⟨2, ![18496, 1]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S18496x2048, .f32⟩
  | .hbm, ⟨1, _⟩ => ⟨S18496x1024, .f32⟩
  | .hbm, ⟨2, _⟩ => ⟨S18496x1024, .f32⟩
  | .hbm, ⟨3, _⟩ => ⟨S2x4096x4096, .f32⟩
  | .hbm, ⟨4, _⟩ => ⟨S18496x4096, .f32⟩
  | .hbm, ⟨5, _⟩ => ⟨S4096, .f32⟩
  | .hbm, ⟨6, _⟩ => ⟨S4096, .f32⟩
  | .hbm, ⟨7, _⟩ => ⟨S18496x4096, .f32⟩
  | .hbm, ⟨8, _⟩ => ⟨S1x4096x4096, .f32⟩
  | .hbm, ⟨9, _⟩ => ⟨S4096x4096, .f32⟩
  | .hbm, ⟨10, _⟩ => ⟨S18496x4096, .f32⟩
  | .hbm, ⟨11, _⟩ => ⟨S18496x4096, .f32⟩
  | .hbm, ⟨12, _⟩ => ⟨S_, .f32⟩
  | .hbm, ⟨13, _⟩ => ⟨S18496, .f32⟩
  | .hbm, ⟨14, _⟩ => ⟨S18496x1, .f32⟩
  | .hbm, ⟨15, _⟩ => ⟨S_, .f32⟩
  | .hbm, ⟨16, _⟩ => ⟨S18496x1, .f32⟩
  | .hbm, ⟨17, _⟩ => ⟨S18496x1, .f32⟩
  | .hbm, ⟨18, _⟩ => ⟨S_, .f32⟩
  | .hbm, ⟨19, _⟩ => ⟨S18496x1, .f32⟩
  | .hbm, ⟨20, _⟩ => ⟨S18496x1, .f32⟩
  | .hbm, ⟨21, _⟩ => ⟨S18496x1, .f32⟩
  | .hbm, ⟨22, _⟩ => ⟨S18496x4096, .f32⟩
  | .hbm, ⟨23, _⟩ => ⟨S18496x4096, .f32⟩
  | .hbm, ⟨24, _⟩ => ⟨S1x4096, .f32⟩
  | .hbm, ⟨25, _⟩ => ⟨S18496x4096, .f32⟩
  | .hbm, ⟨26, _⟩ => ⟨S18496x4096, .f32⟩
  | .hbm, ⟨27, _⟩ => ⟨S18496x4096, .f32⟩
  | .hbm, ⟨28, _⟩ => ⟨S18496x4096, .f32⟩
  | .hbm, ⟨29, _⟩ => ⟨S_, .f32⟩
  | .hbm, ⟨30, _⟩ => ⟨S18496, .f32⟩
  | .hbm, ⟨31, _⟩ => ⟨S18496x1, .f32⟩
  | .hbm, ⟨32, _⟩ => ⟨S_, .f32⟩
  | .hbm, ⟨33, _⟩ => ⟨S18496x1, .f32⟩
  | .hbm, ⟨34, _⟩ => ⟨S18496x1, .f32⟩
  | .hbm, ⟨35, _⟩ => ⟨S_, .f32⟩
  | .hbm, ⟨36, _⟩ => ⟨S18496x1, .f32⟩
  | .hbm, ⟨37, _⟩ => ⟨S18496x1, .f32⟩
  | .hbm, ⟨38, _⟩ => ⟨S18496x1, .f32⟩
  | .hbm, ⟨39, _⟩ => ⟨S18496x4096, .f32⟩
  | .hbm, ⟨40, _⟩ => ⟨S18496x4096, .f32⟩
  | .hbm, ⟨41, _⟩ => ⟨S1x4096, .f32⟩
  | .hbm, ⟨42, _⟩ => ⟨S18496x4096, .f32⟩
  | .hbm, ⟨43, _⟩ => ⟨S18496x4096, .f32⟩
  | .hbm, ⟨44, _⟩ => ⟨S18496x4096, .bf16⟩
  | _, _ => ⟨S18496x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Inp.lean ====
abbrev S18496x4096 : Shape := ⟨2, ![18496, 4096]⟩
abbrev S2x4096x10592 : Shape := ⟨3, ![2, 4096, 10592]⟩
abbrev S1x4096x10592 : Shape := ⟨3, ![1, 4096, 10592]⟩
abbrev S4096x10592 : Shape := ⟨2, ![4096, 10592]⟩
abbrev S4096x6144 : Shape := ⟨2, ![4096, 6144]⟩
abbrev S4096x32 : Shape := ⟨2, ![4096, 32]⟩
abbrev S4096x4352 : Shape := ⟨2, ![4096, 4352]⟩
abbrev S_ : Shape := ⟨0, ![]⟩
abbrev S4096x96 : Shape := ⟨2, ![4096, 96]⟩
abbrev S4096x10752 : Shape := ⟨2, ![4096, 10752]⟩
abbrev S18496x10752 : Shape := ⟨2, ![18496, 10752]⟩
abbrev S18496x128 : Shape := ⟨2, ![18496, 128]⟩
abbrev S1088x4096 : Shape := ⟨2, ![1088, 4096]⟩
abbrev S4096x768 : Shape := ⟨2, ![4096, 768]⟩
abbrev S1088x768 : Shape := ⟨2, ![1088, 768]⟩
abbrev S1088x128 : Shape := ⟨2, ![1088, 128]⟩

abbrev nBuf : Space → Nat
  | .hbm => 16
  | .vmem => 8
  | .smem => 0
  | _ => 0

abbrev bufTy : (tb : Table) → Fin (tcTables nBuf tb) → BufTy
  | .hbm, ⟨0, _⟩ => ⟨S18496x4096, .f32⟩
  | .hbm, ⟨1, _⟩ => ⟨S2x4096x10592, .f32⟩
  | .hbm, ⟨2, _⟩ => ⟨S1x4096x10592, .f32⟩
  | .hbm, ⟨3, _⟩ => ⟨S4096x10592, .f32⟩
  | .hbm, ⟨4, _⟩ => ⟨S4096x6144, .f32⟩
  | .hbm, ⟨5, _⟩ => ⟨S4096x32, .f32⟩
  | .hbm, ⟨6, _⟩ => ⟨S4096x4352, .f32⟩
  | .hbm, ⟨7, _⟩ => ⟨S4096x32, .f32⟩
  | .hbm, ⟨8, _⟩ => ⟨S4096x32, .f32⟩
  | .hbm, ⟨9, _⟩ => ⟨S_, .f32⟩
  | .hbm, ⟨10, _⟩ => ⟨S4096x96, .f32⟩
  | .hbm, ⟨11, _⟩ => ⟨S4096x10752, .f32⟩
  | .hbm, ⟨12, _⟩ => ⟨S18496x4096, .bf16⟩
  | .hbm, ⟨13, _⟩ => ⟨S4096x10752, .bf16⟩
  | .hbm, ⟨14, _⟩ => ⟨S18496x10752, .bf16⟩
  | .hbm, ⟨15, _⟩ => ⟨S18496x128, .f32⟩
  | .local _ .vmem, ⟨0, _⟩ => ⟨S1088x4096, .bf16⟩
  | .local _ .vmem, ⟨1, _⟩ => ⟨S1088x4096, .bf16⟩
  | .local _ .vmem, ⟨2, _⟩ => ⟨S4096x768, .bf16⟩
  | .local _ .vmem, ⟨3, _⟩ => ⟨S4096x768, .bf16⟩
  | .local _ .vmem, ⟨4, _⟩ => ⟨S1088x768, .bf16⟩
  | .local _ .vmem, ⟨5, _⟩ => ⟨S1088x768, .bf16⟩
  | .local _ .vmem, ⟨6, _⟩ => ⟨S1088x128, .f32⟩
  | .local _ .vmem, ⟨7, _⟩ => ⟨S1088x128, .f32⟩
  | _, _ => ⟨S18496x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 14], ![false, false]⟩

def k0_cond1 (i : grid0.Coords) : BitVec 1 :=
  let arg1 : BitVec 32 := BitVec.ofNat 32 (i 1).val
  let c13_i32 : BitVec 32 := 13#32
  let v7 : BitVec 1 := Scalar.cmpi .eq arg1 c13_i32
  let v8 : BitVec 32 := Scalar.extui v7
  let c0_i32 : BitVec 32 := 0#32
  let v9 : BitVec 1 := Scalar.cmpi .ne v8 c0_i32
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InpRefIdeal.lean ====
abbrev S18496x4096 : Shape := ⟨2, ![18496, 4096]⟩
abbrev S2x4096x10592 : Shape := ⟨3, ![2, 4096, 10592]⟩
abbrev S1x4096x10592 : Shape := ⟨3, ![1, 4096, 10592]⟩
abbrev S4096x10592 : Shape := ⟨2, ![4096, 10592]⟩
abbrev S18496x10592 : Shape := ⟨2, ![18496, 10592]⟩
abbrev S18496x6144 : Shape := ⟨2, ![18496, 6144]⟩
abbrev S18496x32 : Shape := ⟨2, ![18496, 32]⟩
abbrev S18496x4352 : Shape := ⟨2, ![18496, 4352]⟩
abbrev S18496x64 : Shape := ⟨2, ![18496, 64]⟩
abbrev S_ : Shape := ⟨0, ![]⟩
abbrev S18496x128 : Shape := ⟨2, ![18496, 128]⟩
abbrev S18496x10752 : Shape := ⟨2, ![18496, 10752]⟩

abbrev nBuf : Space → Nat
  | .hbm => 17
  | .vmem => 0
  | .smem => 0
  | _ => 0

abbrev bufTy : (tb : Table) → Fin (tcTables nBuf tb) → BufTy
  | .hbm, ⟨0, _⟩ => ⟨S18496x4096, .f32⟩
  | .hbm, ⟨1, _⟩ => ⟨S2x4096x10592, .f32⟩
  | .hbm, ⟨2, _⟩ => ⟨S1x4096x10592, .f32⟩
  | .hbm, ⟨3, _⟩ => ⟨S4096x10592, .f32⟩
  | .hbm, ⟨4, _⟩ => ⟨S18496x10592, .f32⟩
  | .hbm, ⟨5, _⟩ => ⟨S18496x6144, .f32⟩
  | .hbm, ⟨6, _⟩ => ⟨S18496x32, .f32⟩
  | .hbm, ⟨7, _⟩ => ⟨S18496x4352, .f32⟩
  | .hbm, ⟨8, _⟩ => ⟨S18496x64, .f32⟩
  | .hbm, ⟨9, _⟩ => ⟨S18496x32, .f32⟩
  | .hbm, ⟨10, _⟩ => ⟨S18496x32, .f32⟩
  | .hbm, ⟨11, _⟩ => ⟨S18496x64, .f32⟩
  | .hbm, ⟨12, _⟩ => ⟨S_, .i32⟩
  | .hbm, ⟨13, _⟩ => ⟨S_, .f32⟩
  | .hbm, ⟨14, _⟩ => ⟨S18496x128, .f32⟩
  | .hbm, ⟨15, _⟩ => ⟨S18496x10752, .f32⟩
  | .hbm, ⟨16, _⟩ => ⟨S18496x10752, .bf16⟩
  | _, _ => ⟨S18496x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Prompt.lean ====
abbrev S18496x4096 : Shape := ⟨2, ![18496, 4096]⟩
abbrev S4096 : Shape := ⟨1, ![4096]⟩
abbrev S1x4096 : Shape := ⟨2, ![1, 4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S18496x4096, .f32⟩
  | .hbm, ⟨1, _⟩ => ⟨S18496x4096, .f32⟩
  | .hbm, ⟨2, _⟩ => ⟨S4096, .f32⟩
  | .hbm, ⟨3, _⟩ => ⟨S18496x4096, .bf16⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S18496x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PromptRefIdeal.lean ====
abbrev S18496x4096 : Shape := ⟨2, ![18496, 4096]⟩
abbrev S4096 : Shape := ⟨1, ![4096]⟩
abbrev S_ : Shape := ⟨0, ![]⟩
abbrev S18496 : Shape := ⟨1, ![18496]⟩
abbrev S18496x1 : Shape := ⟨2, ![18496, 1]⟩
abbrev S1x4096 : Shape := ⟨2, ![1, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S18496x4096, .f32⟩
  | .hbm, ⟨1, _⟩ => ⟨S18496x4096, .f32⟩
  | .hbm, ⟨2, _⟩ => ⟨S4096, .f32⟩
  | .hbm, ⟨3, _⟩ => ⟨S18496x4096, .f32⟩
  | .hbm, ⟨4, _⟩ => ⟨S_, .f32⟩
  | .hbm, ⟨5, _⟩ => ⟨S18496, .f32⟩
  | .hbm, ⟨6, _⟩ => ⟨S18496x1, .f32⟩
  | .hbm, ⟨7, _⟩ => ⟨S_, .f32⟩
  | .hbm, ⟨8, _⟩ => ⟨S18496x1, .f32⟩
  | .hbm, ⟨9, _⟩ => ⟨S18496x1, .f32⟩
  | .hbm, ⟨10, _⟩ => ⟨S_, .f32⟩
  | .hbm, ⟨11, _⟩ => ⟨S18496x1, .f32⟩
  | .hbm, ⟨12, _⟩ => ⟨S18496x1, .f32⟩
  | .hbm, ⟨13, _⟩ => ⟨S18496x1, .f32⟩
  | .hbm, ⟨14, _⟩ => ⟨S18496x4096, .f32⟩
  | .hbm, ⟨15, _⟩ => ⟨S18496x4096, .f32⟩
  | .hbm, ⟨16, _⟩ => ⟨S1x4096, .f32⟩
  | .hbm, ⟨17, _⟩ => ⟨S18496x4096, .f32⟩
  | .hbm, ⟨18, _⟩ => ⟨S18496x4096, .f32⟩
  | .hbm, ⟨19, _⟩ => ⟨S18496x4096, .f32⟩
  | .hbm, ⟨20, _⟩ => ⟨S16384x4096, .f32⟩
  | _, _ => ⟨S18496x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mla.lean ====
abbrev S18496x10592 : Shape := ⟨2, ![18496, 10592]⟩
abbrev S2x768 : Shape := ⟨2, ![2, 768]⟩
abbrev S2x768x1536 : Shape := ⟨3, ![2, 768, 1536]⟩
abbrev S2x512 : Shape := ⟨2, ![2, 512]⟩
abbrev S2x512x2048 : Shape := ⟨3, ![2, 512, 2048]⟩
abbrev S18496x6144 : Shape := ⟨2, ![18496, 6144]⟩
abbrev S18496x32 : Shape := ⟨2, ![18496, 32]⟩
abbrev S18496x4352 : Shape := ⟨2, ![18496, 4352]⟩
abbrev S_ : Shape := ⟨0, ![]⟩
abbrev S18496x96 : Shape := ⟨2, ![18496, 96]⟩
abbrev S18496x10752 : Shape := ⟨2, ![18496, 10752]⟩
abbrev S1x768x1536 : Shape := ⟨3, ![1, 768, 1536]⟩
abbrev S768x1536 : Shape := ⟨2, ![768, 1536]⟩
abbrev S768x8x192 : Shape := ⟨3, ![768, 8, 192]⟩
abbrev S768x8x64 : Shape := ⟨3, ![768, 8, 64]⟩
abbrev S1x512x2048 : Shape := ⟨3, ![1, 512, 2048]⟩
abbrev S512x2048 : Shape := ⟨2, ![512, 2048]⟩
abbrev S512x8x256 : Shape := ⟨3, ![512, 8, 256]⟩
abbrev S1x768 : Shape := ⟨2, ![1, 768]⟩
abbrev S768 : Shape := ⟨1, ![768]⟩
abbrev S1x512 : Shape := ⟨2, ![1, 512]⟩
abbrev S512 : Shape := ⟨1, ![512]⟩
abbrev S768x8x128 : Shape := ⟨3, ![768, 8, 128]⟩
abbrev S768x8x256 : Shape := ⟨3, ![768, 8, 256]⟩
abbrev S768x2048 : Shape := ⟨2, ![768, 2048]⟩
abbrev S768x8x32 : Shape := ⟨3, ![768, 8, 32]⟩
abbrev S768x1024 : Shape := ⟨2, ![768, 1024]⟩
abbrev S512x8x128 : Shape := ⟨3, ![512, 8, 128]⟩
abbrev S512x1024 : Shape := ⟨2, ![512, 1024]⟩
abbrev S16384 : Shape := ⟨1, ![16384]⟩
abbrev S64 : Shape := ⟨1, ![64]⟩
abbrev S2048 : Shape := ⟨1, ![2048]⟩
abbrev S18496 : Shape := ⟨1, ![18496]⟩
abbrev S32 : Shape := ⟨1, ![32]⟩
abbrev S18496x1 : Shape := ⟨2, ![18496, 1]⟩
abbrev S1x32 : Shape := ⟨2, ![1, 32]⟩
abbrev S18496x128 : Shape := ⟨2, ![18496, 128]⟩
abbrev S18496x2048 : Shape := ⟨2, ![18496, 2048]⟩
abbrev S18496x512 : Shape := ⟨2, ![18496, 512]⟩
abbrev S18496x1024 : Shape := ⟨2, ![18496, 1024]⟩
abbrev S544x1536 : Shape := ⟨2, ![544, 1536]⟩
abbrev S544x128 : Shape := ⟨2, ![544, 128]⟩
abbrev S544x2048 : Shape := ⟨2, ![544, 2048]⟩
abbrev S544x512 : Shape := ⟨2, ![544, 512]⟩
abbrev S544x1024 : Shape := ⟨2, ![544, 1024]⟩
abbrev S544x768 : Shape := ⟨2, ![544, 768]⟩
abbrev S544 : Shape := ⟨1, ![544]⟩
abbrev S544x1 : Shape := ⟨2, ![544, 1]⟩

abbrev nBuf : Space → Nat
  | .hbm => 106
  | .vmem => 20
  | .smem => 0
  | _ => 0

abbrev bufTy : (tb : Table) → Fin (tcTables nBuf tb) → BufTy
  | .hbm, ⟨0, _⟩ => ⟨S18496x10592, .f32⟩
  | .hbm, ⟨1, _⟩ => ⟨S2x768, .f32⟩
  | .hbm, ⟨2, _⟩ => ⟨S2x768x1536, .f32⟩
  | .hbm, ⟨3, _⟩ => ⟨S2x512, .f32⟩
  | .hbm, ⟨4, _⟩ => ⟨S2x512x2048, .f32⟩
  | .hbm, ⟨5, _⟩ => ⟨S18496x6144, .f32⟩
  | .hbm, ⟨6, _⟩ => ⟨S18496x32, .f32⟩
  | .hbm, ⟨7, _⟩ => ⟨S18496x4352, .f32⟩
  | .hbm, ⟨8, _⟩ => ⟨S18496x32, .f32⟩
  | .hbm, ⟨9, _⟩ => ⟨S18496x32, .f32⟩
  | .hbm, ⟨10, _⟩ => ⟨S_, .f32⟩
  | .hbm, ⟨11, _⟩ => ⟨S18496x96, .f32⟩
  | .hbm, ⟨12, _⟩ => ⟨S18496x10752, .f32⟩
  | .hbm, ⟨13, _⟩ => ⟨S1x768x1536, .f32⟩
  | .hbm, ⟨14, _⟩ => ⟨S768x1536, .f32⟩
  | .hbm, ⟨15, _⟩ => ⟨S768x8x192, .f32⟩
  | .hbm, ⟨16, _⟩ => ⟨S768x8x64, .f32⟩
  | .hbm, ⟨17, _⟩ => ⟨S_, .f32⟩
  | .hbm, ⟨18, _⟩ => ⟨S768x8x64, .f32⟩
  | .hbm, ⟨19, _⟩ => ⟨S1x512x2048, .f32⟩
  | .hbm, ⟨20, _⟩ => ⟨S512x2048, .f32⟩
  | .hbm, ⟨21, _⟩ => ⟨S512x8x256, .f32⟩
  | .hbm, ⟨22, _⟩ => ⟨S1x768, .f32⟩
  | .hbm, ⟨23, _⟩ => ⟨S768, .f32⟩
  | .hbm, ⟨24, _⟩ => ⟨S1x768, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S768x8x128, .f32⟩
  | .hbm, ⟨29, _⟩ => ⟨S768x8x256, .f32⟩
  | .hbm, ⟨30, _⟩ => ⟨S768x2048, .f32⟩
  | .hbm, ⟨31, _⟩ => ⟨S768x2048, .bf16⟩
  | .hbm, ⟨32, _⟩ => ⟨S768x8x32, .f32⟩
  | .hbm, ⟨33, _⟩ => ⟨S768x8x32, .f32⟩
  | .hbm, ⟨34, _⟩ => ⟨S768x8x64, .f32⟩
  | .hbm, ⟨35, _⟩ => ⟨S768x8x128, .f32⟩
  | .hbm, ⟨36, _⟩ => ⟨S768x1024, .f32⟩
  | .hbm, ⟨37, _⟩ => ⟨S768x1024, .bf16⟩
  | .hbm, ⟨38, _⟩ => ⟨S512x8x128, .f32⟩
  | .hbm, ⟨39, _⟩ => ⟨S512x1024, .f32⟩
  | .hbm, ⟨40, _⟩ => ⟨S512x1024, .bf16⟩
  | .hbm, ⟨41, _⟩ => ⟨S512x8x128, .f32⟩
  | .hbm, ⟨42, _⟩ => ⟨S512x1024, .f32⟩
  | .hbm, ⟨43, _⟩ => ⟨S512x1024, .bf16⟩
  | .hbm, ⟨44, _⟩ => ⟨S18496x10752, .bf16⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S_, .i32⟩
  | .hbm, ⟨54, _⟩ => ⟨S64, .i32⟩
  | .hbm, ⟨55, _⟩ => ⟨S64, .i32⟩
  | .hbm, ⟨56, _⟩ => ⟨S2048, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S_, .i32⟩
  | .hbm, ⟨66, _⟩ => ⟨S2048, .i32⟩
  | .hbm, ⟨67, _⟩ => ⟨S2048, .i1⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S_, .i1⟩
  | .hbm, ⟨73, _⟩ => ⟨S2048, .i1⟩
  | .hbm, ⟨74, _⟩ => ⟨S2048, .i1⟩
  | .hbm, ⟨75, _⟩ => ⟨S2048, .i1⟩
  | .hbm, ⟨76, _⟩ => ⟨S2048, .i32⟩
  | .hbm, ⟨77, _⟩ => ⟨S2048, .i32⟩
  | .hbm, ⟨78, _⟩ => ⟨S2048, .i32⟩
  | .hbm, ⟨79, _⟩ => ⟨S_, .i32⟩
  | .hbm, ⟨80, _⟩ => ⟨S2048, .i32⟩
  | .hbm, ⟨81, _⟩ => ⟨S2048, .i32⟩
  | .hbm, ⟨82, _⟩ => ⟨S18496, .i32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S32, .f32⟩
  | .hbm, ⟨90, _⟩ => ⟨S32, .f32⟩
  | .hbm, ⟨91, _⟩ => ⟨S18496, .f32⟩
  | .hbm, ⟨92, _⟩ => ⟨S18496x1, .f32⟩
  | .hbm, ⟨93, _⟩ => ⟨S1x32, .f32⟩
  | .hbm, ⟨94, _⟩ => ⟨S18496x32, .f32⟩
  | .hbm, ⟨95, _⟩ => ⟨S18496x32, .f32⟩
  | .hbm, ⟨96, _⟩ => ⟨S18496x32, .f32⟩
  | .hbm, ⟨97, _⟩ => ⟨S18496x32, .f32⟩
  | .hbm, ⟨98, _⟩ => ⟨S18496x32, .f32⟩
  | .hbm, ⟨99, _⟩ => ⟨S18496x32, .f32⟩
  | .hbm, ⟨100, _⟩ => ⟨S18496x128, .f32⟩
  | .hbm, ⟨101, _⟩ => ⟨S18496x2048, .bf16⟩
  | .hbm, ⟨102, _⟩ => ⟨S18496x512, .f32⟩
  | .hbm, ⟨103, _⟩ => ⟨S18496x128, .f32⟩
  | .hbm, ⟨104, _⟩ => ⟨S18496x2048, .bf16⟩
  | .hbm, ⟨105, _⟩ => ⟨S18496x1024, .bf16⟩
  | .local _ .vmem, ⟨0, _⟩ => ⟨S544x1536, .bf16⟩
  | .local _ .vmem, ⟨1, _⟩ => ⟨S544x1536, .bf16⟩
  | .local _ .vmem, ⟨2, _⟩ => ⟨S544x128, .f32⟩
  | .local _ .vmem, ⟨3, _⟩ => ⟨S544x128, .f32⟩
  | .local _ .vmem, ⟨4, _⟩ => ⟨S1x768, .f32⟩
  | .local _ .vmem, ⟨5, _⟩ => ⟨S1x512, .f32⟩
  | .local _ .vmem, ⟨6, _⟩ => ⟨S768x2048, .bf16⟩
  | .local _ .vmem, ⟨7, _⟩ => ⟨S768x1024, .bf16⟩
  | .local _ .vmem, ⟨8, _⟩ => ⟨S512x1024, .bf16⟩
  | .local _ .vmem, ⟨9, _⟩ => ⟨S512x1024, .bf16⟩
  | .local _ .vmem, ⟨10, _⟩ => ⟨S544x2048, .bf16⟩
  | .local _ .vmem, ⟨11, _⟩ => ⟨S544x2048, .bf16⟩
  | .local _ .vmem, ⟨12, _⟩ => ⟨S544x512, .f32⟩
  | .local _ .vmem, ⟨13, _⟩ => ⟨S544x512, .f32⟩
  | .local _ .vmem, ⟨14, _⟩ => ⟨S544x128, .f32⟩
  | .local _ .vmem, ⟨15, _⟩ => ⟨S544x128, .f32⟩
  | .local _ .vmem, ⟨16, _⟩ => ⟨S544x2048, .bf16⟩
  | .local _ .vmem, ⟨17, _⟩ => ⟨S544x2048, .bf16⟩
  | .local _ .vmem, ⟨18, _⟩ => ⟨S544x1024, .bf16⟩
  | .local _ .vmem, ⟨19, _⟩ => ⟨S544x1024, .bf16⟩
  | _, _ => ⟨S18496x10592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_1 : Ref sig .tc := ⟨.hbm, 50, rfl⟩
abbrev main_v42 : Ref sig .tc := ⟨.hbm, 51, rfl⟩
abbrev main_v43 : Ref sig .tc := ⟨.hbm, 52, rfl⟩
abbrev main_c_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_3 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_c_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_1 : Ref sig .tc := ⟨.hbm, 65, rfl⟩
abbrev main_call0_v5 : Ref sig .tc := ⟨.hbm, 66, rfl⟩
abbrev main_call0_v6 : Ref sig .tc := ⟨.hbm, 67, rfl⟩
abbrev main_call0_c_2 : Ref sig .tc := ⟨.hbm, 68, rfl⟩
abbrev main_call0_v7 : Ref sig .tc := ⟨.hbm, 69, rfl⟩
abbrev main_call0_v8 : Ref sig .tc := ⟨.hbm, 70, rfl⟩
abbrev main_call0_c_3 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_v12 : Ref sig .tc := ⟨.hbm, 75, rfl⟩
abbrev main_call0_v13 : Ref sig .tc := ⟨.hbm, 76, rfl⟩
abbrev main_call0_v14 : Ref sig .tc := ⟨.hbm, 77, rfl⟩
abbrev main_v47 : Ref sig .tc := ⟨.hbm, 78, rfl⟩
abbrev main_c_4 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_5 : Ref sig .tc := ⟨.hbm, 85, rfl⟩
abbrev main_v53 : Ref sig .tc := ⟨.hbm, 86, rfl⟩
abbrev main_v54 : Ref sig .tc := ⟨.hbm, 87, rfl⟩
abbrev main_cst_6 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67_0 : Ref sig .tc := ⟨.hbm, 101, rfl⟩
abbrev main_v67_1 : Ref sig .tc := ⟨.hbm, 102, rfl⟩
abbrev main_v67_2 : Ref sig .tc := ⟨.hbm, 103, rfl⟩
abbrev main_v67_3 : Ref sig .tc := ⟨.hbm, 104, rfl⟩
abbrev main_v67_4 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S544x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlaIdeal.lean ====
variable {F : FTy → Type} [FloatOps F] [Named F]
def κ : String → Option EReal := fun
  | "qscale" => some (((Real.sqrt 192)⁻¹ * (Real.log 2)⁻¹ : ℝ) : EReal)
  | _ => none
-- ==== MlaRefIdeal.lean ====
abbrev S18496x10592 : Shape := ⟨2, ![18496, 10592]⟩
abbrev S2x768 : Shape := ⟨2, ![2, 768]⟩
abbrev S2x768x1536 : Shape := ⟨3, ![2, 768, 1536]⟩
abbrev S2x512 : Shape := ⟨2, ![2, 512]⟩
abbrev S2x512x2048 : Shape := ⟨3, ![2, 512, 2048]⟩
abbrev S16384 : Shape := ⟨1, ![16384]⟩
abbrev S_ : Shape := ⟨0, ![]⟩
abbrev S64 : Shape := ⟨1, ![64]⟩
abbrev S2048 : Shape := ⟨1, ![2048]⟩
abbrev S18496 : Shape := ⟨1, ![18496]⟩
abbrev S18496x1344 : Shape := ⟨2, ![18496, 1344]⟩
abbrev S18496x768 : Shape := ⟨2, ![18496, 768]⟩
abbrev S1x768 : Shape := ⟨2, ![1, 768]⟩
abbrev S768 : Shape := ⟨1, ![768]⟩
abbrev S18496x1 : Shape := ⟨2, ![18496, 1]⟩
abbrev S18496x512 : Shape := ⟨2, ![18496, 512]⟩
abbrev S1x512 : Shape := ⟨2, ![1, 512]⟩
abbrev S512 : Shape := ⟨1, ![512]⟩
abbrev S18496x64 : Shape := ⟨2, ![18496, 64]⟩
abbrev S32 : Shape := ⟨1, ![32]⟩
abbrev S1x32 : Shape := ⟨2, ![1, 32]⟩
abbrev S18496x32 : Shape := ⟨2, ![18496, 32]⟩
abbrev S1x768x1536 : Shape := ⟨3, ![1, 768, 1536]⟩
abbrev S768x1536 : Shape := ⟨2, ![768, 1536]⟩
abbrev S18496x1536 : Shape := ⟨2, ![18496, 1536]⟩
abbrev S18496x8x192 : Shape := ⟨3, ![18496, 8, 192]⟩
abbrev S18496x8x128 : Shape := ⟨3, ![18496, 8, 128]⟩
abbrev S18496x8x64 : Shape := ⟨3, ![18496, 8, 64]⟩
abbrev S18496x1x32 : Shape := ⟨3, ![18496, 1, 32]⟩
abbrev S18496x8x32 : Shape := ⟨3, ![18496, 8, 32]⟩
abbrev S1x512x2048 : Shape := ⟨3, ![1, 512, 2048]⟩
abbrev S512x2048 : Shape := ⟨2, ![512, 2048]⟩
abbrev S18496x2048 : Shape := ⟨2, ![18496, 2048]⟩
abbrev S18496x8x256 : Shape := ⟨3, ![18496, 8, 256]⟩
abbrev S18496x1x64 : Shape := ⟨3, ![18496, 1, 64]⟩
abbrev S18496x128 : Shape := ⟨2, ![18496, 128]⟩
abbrev S18496x1024 : Shape := ⟨2, ![18496, 1024]⟩

abbrev nBuf : Space → Nat
  | .hbm => 174
  | .vmem => 0
  | .smem => 0
  | _ => 0

abbrev hbmTy0_0 (i : Nat) : BufTy := match i % 128 with
  | 0 => ⟨S18496x10592, .f32⟩
  | 1 => ⟨S2x768, .f32⟩
  | 2 => ⟨S2x768x1536, .f32⟩
  | 3 => ⟨S2x512, .f32⟩
  | 4 => ⟨S2x512x2048, .f32⟩
  | 5 => ⟨S16384, .i32⟩
  | 6 => ⟨S_, .i32⟩
  | 7 => ⟨S16384, .i32⟩
  | 8 => ⟨S16384, .i32⟩
  | 9 => ⟨S64, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S2048, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i1⟩
  | 28 => ⟨S_, .i32⟩
  | 29 => ⟨S2048, .i32⟩
  | 30 => ⟨S2048, .i1⟩
  | 31 => ⟨S_, .i32⟩
  | 32 => ⟨S_, .i1⟩
  | 33 => ⟨S2048, .i1⟩
  | 34 => ⟨S2048, .i1⟩
  | 35 => ⟨S2048, .i1⟩
  | 36 => ⟨S2048, .i32⟩
  | 37 => ⟨S2048, .i32⟩
  | 38 => ⟨S2048, .i32⟩
  | 39 => ⟨S_, .i32⟩
  | 40 => ⟨S2048, .i32⟩
  | 41 => ⟨S2048, .i32⟩
  | 42 => ⟨S18496, .i32⟩
  | 43 => ⟨S18496x1344, .f32⟩
  | 44 => ⟨S18496x768, .f32⟩
  | 45 => ⟨S1x768, .f32⟩
  | 46 => ⟨S768, .f32⟩
  | 47 => ⟨S18496x768, .f32⟩
  | 48 => ⟨S_, .f32⟩
  | 49 => ⟨S18496, .f32⟩
  | 50 => ⟨S18496x1, .f32⟩
  | 51 => ⟨S_, .f32⟩
  | 52 => ⟨S18496x1, .f32⟩
  | 53 => ⟨S18496x1, .f32⟩
  | 54 => ⟨S_, .f32⟩
  | 55 => ⟨S18496x1, .f32⟩
  | 56 => ⟨S18496x1, .f32⟩
  | 57 => ⟨S18496x1, .f32⟩
  | 58 => ⟨S18496x768, .f32⟩
  | 59 => ⟨S18496x768, .f32⟩
  | 60 => ⟨S1x768, .f32⟩
  | 61 => ⟨S18496x768, .f32⟩
  | 62 => ⟨S18496x768, .f32⟩
  | 63 => ⟨S18496x512, .f32⟩
  | 64 => ⟨S1x512, .f32⟩
  | 65 => ⟨S512, .f32⟩
  | 66 => ⟨S18496x512, .f32⟩
  | 67 => ⟨S_, .f32⟩
  | 68 => ⟨S18496, .f32⟩
  | 69 => ⟨S18496x1, .f32⟩
  | 70 => ⟨S_, .f32⟩
  | 71 => ⟨S18496x1, .f32⟩
  | 72 => ⟨S18496x1, .f32⟩
  | 73 => ⟨S_, .f32⟩
  | 74 => ⟨S18496x1, .f32⟩
  | 75 => ⟨S18496x1, .f32⟩
  | 76 => ⟨S18496x1, .f32⟩
  | 77 => ⟨S18496x512, .f32⟩
  | 78 => ⟨S18496x512, .f32⟩
  | 79 => ⟨S1x512, .f32⟩
  | 80 => ⟨S18496x512, .f32⟩
  | 81 => ⟨S18496x512, .f32⟩
  | 82 => ⟨S18496x64, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S18496, .f32⟩
  | 92 => ⟨S18496x1, .f32⟩
  | 93 => ⟨S1x32, .f32⟩
  | 94 => ⟨S18496x32, .f32⟩
  | 95 => ⟨S18496x32, .f32⟩
  | 96 => ⟨S18496x32, .f32⟩
  | 97 => ⟨S18496x32, .f32⟩
  | 98 => ⟨S18496x32, .f32⟩
  | 99 => ⟨S18496x32, .f32⟩
  | 100 => ⟨S18496x32, .f32⟩
  | 101 => ⟨S18496x32, .f32⟩
  | 102 => ⟨S18496x32, .f32⟩
  | 103 => ⟨S18496x32, .f32⟩
  | 104 => ⟨S18496x32, .f32⟩
  | 105 => ⟨S18496x32, .f32⟩
  | 106 => ⟨S18496x32, .f32⟩
  | 107 => ⟨S18496x64, .f32⟩
  | 108 => ⟨S1x768x1536, .f32⟩
  | 109 => ⟨S768x1536, .f32⟩
  | 110 => ⟨S18496x1536, .f32⟩
  | 111 => ⟨S18496x8x192, .f32⟩
  | 112 => ⟨S18496x8x128, .f32⟩
  | 113 => ⟨S18496x8x64, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S18496, .f32⟩
  | 123 => ⟨S18496x1, .f32⟩
  | 124 => ⟨S1x32, .f32⟩
  | 125 => ⟨S18496x32, .f32⟩
  | 126 => ⟨S18496x32, .f32⟩
  | 127 => ⟨S18496x32, .f32⟩
  | _ => ⟨S18496x10592, .f32⟩

abbrev hbmTy0_1 (i : Nat) : BufTy := match i % 128 with
  | 0 => ⟨S18496x32, .f32⟩
  | 1 => ⟨S18496x1x32, .f32⟩
  | 2 => ⟨S18496x32, .f32⟩
  | 3 => ⟨S18496x1x32, .f32⟩
  | 4 => ⟨S18496x8x32, .f32⟩
  | 5 => ⟨S18496x8x32, .f32⟩
  | 6 => ⟨S18496x8x32, .f32⟩
  | 7 => ⟨S18496x8x32, .f32⟩
  | 8 => ⟨S18496x8x32, .f32⟩
  | 9 => ⟨S18496x8x32, .f32⟩
  | 10 => ⟨S18496x8x32, .f32⟩
  | 11 => ⟨S18496x8x32, .f32⟩
  | 12 => ⟨S18496x8x32, .f32⟩
  | 13 => ⟨S18496x8x32, .f32⟩
  | 14 => ⟨S18496x8x32, .f32⟩
  | 15 => ⟨S18496x8x32, .f32⟩
  | 16 => ⟨S18496x8x64, .f32⟩
  | 17 => ⟨S1x512x2048, .f32⟩
  | 18 => ⟨S512x2048, .f32⟩
  | 19 => ⟨S18496x2048, .f32⟩
  | 20 => ⟨S18496x8x256, .f32⟩
  | 21 => ⟨S18496x8x128, .f32⟩
  | 22 => ⟨S18496x8x128, .f32⟩
  | 23 => ⟨S_, .f32⟩
  | 24 => ⟨S18496x8x64, .f32⟩
  | 25 => ⟨S18496x8x256, .f32⟩
  | 26 => ⟨S_, .f32⟩
  | 27 => ⟨S_, .f32⟩
  | 28 => ⟨S18496x8x256, .f32⟩
  | 29 => ⟨S18496x8x256, .f32⟩
  | 30 => ⟨S_, .f32⟩
  | 31 => ⟨S_, .f32⟩
  | 32 => ⟨S18496x8x256, .f32⟩
  | 33 => ⟨S18496x8x256, .f32⟩
  | 34 => ⟨S18496x1x64, .f32⟩
  | 35 => ⟨S18496x8x64, .f32⟩
  | 36 => ⟨S18496x8x256, .f32⟩
  | 37 => ⟨S18496x2048, .f32⟩
  | 38 => ⟨S18496x2048, .bf16⟩
  | 39 => ⟨S_, .i32⟩
  | 40 => ⟨S_, .f32⟩
  | 41 => ⟨S18496x128, .f32⟩
  | 42 => ⟨S18496x2048, .f32⟩
  | 43 => ⟨S18496x2048, .bf16⟩
  | 44 => ⟨S18496x1024, .f32⟩
  | 45 => ⟨S18496x1024, .bf16⟩
  | _ => ⟨S18496x10592, .f32⟩

abbrev hbmTy (i : Nat) : BufTy := match i / 128 with
  | 0 => hbmTy0_0 i
  | 1 => hbmTy0_1 i
  | _ => ⟨S18496x10592, .f32⟩

abbrev bufTy : (tb : Table) → Fin (tcTables nBuf tb) → BufTy
  | .hbm, ⟨i, _⟩ => hbmTy i
  | _, _ => ⟨S18496x10592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v9 : Ref sig .tc := ⟨.hbm, 38, rfl⟩
abbrev main_c_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_6 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_9 : Ref sig .tc := ⟨.hbm, 85, rfl⟩
abbrev main_v49 : Ref sig .tc := ⟨.hbm, 86, rfl⟩
abbrev main_v50 : Ref sig .tc := ⟨.hbm, 87, rfl⟩
abbrev main_cst_10 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_11 : Ref sig .tc := ⟨.hbm, 116, rfl⟩
abbrev main_v78 : Ref sig .tc := ⟨.hbm, 117, rfl⟩
abbrev main_v79 : Ref sig .tc := ⟨.hbm, 118, rfl⟩
abbrev main_cst_12 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_13 : Ref sig .tc := ⟨.hbm, 151, rfl⟩
abbrev main_v111 : Ref sig .tc := ⟨.hbm, 152, rfl⟩
abbrev main_v112 : Ref sig .tc := ⟨.hbm, 153, rfl⟩
abbrev main_cst_14 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_15 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_16 : Ref sig .tc := ⟨.hbm, 167, rfl⟩
abbrev main_call1_v0 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]
-- ==== Act.lean ====
abbrev S18496x11008 : Shape := ⟨2, ![18496, 11008]⟩
abbrev S2x32x2x11008 : Shape := ⟨4, ![2, 32, 2, 11008]⟩
abbrev S2x3x11008 : Shape := ⟨3, ![2, 3, 11008]⟩
abbrev S144x80 : Shape := ⟨2, ![144, 80]⟩
abbrev S_ : Shape := ⟨0, ![]⟩
abbrev S18496x11264 : Shape := ⟨2, ![18496, 11264]⟩
abbrev S1x32x2x11008 : Shape := ⟨4, ![1, 32, 2, 11008]⟩
abbrev S32x2x11008 : Shape := ⟨3, ![32, 2, 11008]⟩
abbrev S32x2x11264 : Shape := ⟨3, ![32, 2, 11264]⟩
abbrev S1x3x11008 : Shape := ⟨3, ![1, 3, 11008]⟩
abbrev S3x11008 : Shape := ⟨2, ![3, 11008]⟩
abbrev S3x11264 : Shape := ⟨2, ![3, 11264]⟩
abbrev S64x11264 : Shape := ⟨2, ![64, 11264]⟩
abbrev S1x2x11264 : Shape := ⟨3, ![1, 2, 11264]⟩
abbrev S16x11264 : Shape := ⟨2, ![16, 11264]⟩
abbrev S2x11264 : Shape := ⟨2, ![2, 11264]⟩
abbrev S1x11264 : Shape := ⟨2, ![1, 11264]⟩
abbrev S64x1 : Shape := ⟨2, ![64, 1]⟩
abbrev S80x11264 : Shape := ⟨2, ![80, 11264]⟩
abbrev S144x11264 : Shape := ⟨2, ![144, 11264]⟩
abbrev S1x1x11264 : Shape := ⟨3, ![1, 1, 11264]⟩

abbrev nBuf : Space → Nat
  | .hbm => 30
  | .vmem => 13
  | .smem => 0
  | _ => 0

abbrev bufTy : (tb : Table) → Fin (tcTables nBuf tb) → BufTy
  | .hbm, ⟨0, _⟩ => ⟨S18496x11008, .f32⟩
  | .hbm, ⟨1, _⟩ => ⟨S18496x11008, .f32⟩
  | .hbm, ⟨2, _⟩ => ⟨S2x32x2x11008, .f32⟩
  | .hbm, ⟨3, _⟩ => ⟨S2x3x11008, .f32⟩
  | .hbm, ⟨4, _⟩ => ⟨S18496x11008, .f32⟩
  | .hbm, ⟨5, _⟩ => ⟨S144x80, .bf16⟩
  | .hbm, ⟨6, _⟩ => ⟨S_, .i32⟩
  | .hbm, ⟨7, _⟩ => ⟨S_, .f32⟩
  | .hbm, ⟨8, _⟩ => ⟨S18496x11264, .f32⟩
  | .hbm, ⟨9, _⟩ => ⟨S18496x11264, .bf16⟩
  | .hbm, ⟨10, _⟩ => ⟨S_, .i32⟩
  | .hbm, ⟨11, _⟩ => ⟨S_, .f32⟩
  | .hbm, ⟨12, _⟩ => ⟨S18496x11264, .f32⟩
  | .hbm, ⟨13, _⟩ => ⟨S18496x11264, .bf16⟩
  | .hbm, ⟨14, _⟩ => ⟨S_, .i32⟩
  | .hbm, ⟨15, _⟩ => ⟨S_, .f32⟩
  | .hbm, ⟨16, _⟩ => ⟨S18496x11264, .f32⟩
  | .hbm, ⟨17, _⟩ => ⟨S18496x11264, .bf16⟩
  | .hbm, ⟨18, _⟩ => ⟨S1x32x2x11008, .f32⟩
  | .hbm, ⟨19, _⟩ => ⟨S32x2x11008, .f32⟩
  | .hbm, ⟨20, _⟩ => ⟨S_, .i32⟩
  | .hbm, ⟨21, _⟩ => ⟨S_, .f32⟩
  | .hbm, ⟨22, _⟩ => ⟨S32x2x11264, .f32⟩
  | .hbm, ⟨23, _⟩ => ⟨S1x3x11008, .f32⟩
  | .hbm, ⟨24, _⟩ => ⟨S3x11008, .f32⟩
  | .hbm, ⟨25, _⟩ => ⟨S_, .i32⟩
  | .hbm, ⟨26, _⟩ => ⟨S_, .f32⟩
  | .hbm, ⟨27, _⟩ => ⟨S3x11264, .f32⟩
  | .hbm, ⟨28, _⟩ => ⟨S18496x11264, .bf16⟩
  | .hbm, ⟨29, _⟩ => ⟨S32x2x11264, .f32⟩
  | .local _ .vmem, ⟨0, _⟩ => ⟨S64x11264, .bf16⟩
  | .local _ .vmem, ⟨1, _⟩ => ⟨S64x11264, .bf16⟩
  | .local _ .vmem, ⟨2, _⟩ => ⟨S64x11264, .bf16⟩
  | .local _ .vmem, ⟨3, _⟩ => ⟨S64x11264, .bf16⟩
  | .local _ .vmem, ⟨4, _⟩ => ⟨S1x2x11264, .f32⟩
  | .local _ .vmem, ⟨5, _⟩ => ⟨S1x2x11264, .f32⟩
  | .local _ .vmem, ⟨6, _⟩ => ⟨S3x11264, .f32⟩
  | .local _ .vmem, ⟨7, _⟩ => ⟨S144x80, .bf16⟩
  | .local _ .vmem, ⟨8, _⟩ => ⟨S64x11264, .bf16⟩
  | .local _ .vmem, ⟨9, _⟩ => ⟨S64x11264, .bf16⟩
  | .local _ .vmem, ⟨10, _⟩ => ⟨S1x2x11264, .f32⟩
  | .local _ .vmem, ⟨11, _⟩ => ⟨S1x2x11264, .f32⟩
  | .local _ .vmem, ⟨12, _⟩ => ⟨S16x11264, .f32⟩
  | _, _ => ⟨S18496x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_call3_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_call4_v0 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_18 : BitVec 32 := 0#32
  let v49 : BitVec 1 := Scalar.cmpi .eq arg1 c0_i32_18
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c257_i32 : BitVec 32 := 257#32
  let v1 : BitVec 32 := Scalar.addi c257_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c257_i32 : BitVec 32 := 257#32
  let v1 : BitVec 32 := Scalar.addi c257_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c257_i32 : BitVec 32 := 257#32
  let v1 : BitVec 32 := Scalar.addi c257_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x11264 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S144x80 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x11264 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x11264 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ActRefIdeal.lean ====
abbrev S18496x11008 : Shape := ⟨2, ![18496, 11008]⟩
abbrev S2x32x2x11008 : Shape := ⟨4, ![2, 32, 2, 11008]⟩
abbrev S2x3x11008 : Shape := ⟨3, ![2, 3, 11008]⟩
abbrev S1x3x11008 : Shape := ⟨3, ![1, 3, 11008]⟩
abbrev S3x11008 : Shape := ⟨2, ![3, 11008]⟩
abbrev S1x32x2x11008 : Shape := ⟨4, ![1, 32, 2, 11008]⟩
abbrev S32x2x11008 : Shape := ⟨3, ![32, 2, 11008]⟩
abbrev S2048x11008 : Shape := ⟨2, ![2048, 11008]⟩
abbrev S32x64x11008 : Shape := ⟨3, ![32, 64, 11008]⟩
abbrev S32x66x11008 : Shape := ⟨3, ![32, 66, 11008]⟩
abbrev S1x11008 : Shape := ⟨2, ![1, 11008]⟩
abbrev S11008 : Shape := ⟨1, ![11008]⟩
abbrev S1x1x11008 : Shape := ⟨3, ![1, 1, 11008]⟩
abbrev S_ : Shape := ⟨0, ![]⟩
abbrev S16448x11008 : Shape := ⟨2, ![16448, 11008]⟩
abbrev S18496x11264 : Shape := ⟨2, ![18496, 11264]⟩
abbrev S32x2x11264 : Shape := ⟨3, ![32, 2, 11264]⟩

abbrev nBuf : Space → Nat
  | .hbm => 55
  | .vmem => 0
  | .smem => 0
  | _ => 0

abbrev bufTy : (tb : Table) → Fin (tcTables nBuf tb) → BufTy
  | .hbm, ⟨0, _⟩ => ⟨S18496x11008, .f32⟩
  | .hbm, ⟨1, _⟩ => ⟨S18496x11008, .f32⟩
  | .hbm, ⟨2, _⟩ => ⟨S2x32x2x11008, .f32⟩
  | .hbm, ⟨3, _⟩ => ⟨S2x3x11008, .f32⟩
  | .hbm, ⟨4, _⟩ => ⟨S18496x11008, .f32⟩
  | .hbm, ⟨5, _⟩ => ⟨S1x3x11008, .f32⟩
  | .hbm, ⟨6, _⟩ => ⟨S3x11008, .f32⟩
  | .hbm, ⟨7, _⟩ => ⟨S1x32x2x11008, .f32⟩
  | .hbm, ⟨8, _⟩ => ⟨S32x2x11008, .f32⟩
  | .hbm, ⟨9, _⟩ => ⟨S2048x11008, .f32⟩
  | .hbm, ⟨10, _⟩ => ⟨S32x64x11008, .f32⟩
  | .hbm, ⟨11, _⟩ => ⟨S32x66x11008, .f32⟩
  | .hbm, ⟨12, _⟩ => ⟨S1x11008, .f32⟩
  | .hbm, ⟨13, _⟩ => ⟨S11008, .f32⟩
  | .hbm, ⟨14, _⟩ => ⟨S32x64x11008, .f32⟩
  | .hbm, ⟨15, _⟩ => ⟨S1x1x11008, .f32⟩
  | .hbm, ⟨16, _⟩ => ⟨S32x64x11008, .f32⟩
  | .hbm, ⟨17, _⟩ => ⟨S32x64x11008, .f32⟩
  | .hbm, ⟨18, _⟩ => ⟨S1x11008, .f32⟩
  | .hbm, ⟨19, _⟩ => ⟨S11008, .f32⟩
  | .hbm, ⟨20, _⟩ => ⟨S32x64x11008, .f32⟩
  | .hbm, ⟨21, _⟩ => ⟨S1x1x11008, .f32⟩
  | .hbm, ⟨22, _⟩ => ⟨S32x64x11008, .f32⟩
  | .hbm, ⟨23, _⟩ => ⟨S32x64x11008, .f32⟩
  | .hbm, ⟨24, _⟩ => ⟨S32x64x11008, .f32⟩
  | .hbm, ⟨25, _⟩ => ⟨S1x11008, .f32⟩
  | .hbm, ⟨26, _⟩ => ⟨S11008, .f32⟩
  | .hbm, ⟨27, _⟩ => ⟨S32x64x11008, .f32⟩
  | .hbm, ⟨28, _⟩ => ⟨S1x1x11008, .f32⟩
  | .hbm, ⟨29, _⟩ => ⟨S32x64x11008, .f32⟩
  | .hbm, ⟨30, _⟩ => ⟨S32x64x11008, .f32⟩
  | .hbm, ⟨31, _⟩ => ⟨S32x64x11008, .f32⟩
  | .hbm, ⟨32, _⟩ => ⟨S32x64x11008, .f32⟩
  | .hbm, ⟨33, _⟩ => ⟨S32x64x11008, .f32⟩
  | .hbm, ⟨34, _⟩ => ⟨S_, .f32⟩
  | .hbm, ⟨35, _⟩ => ⟨S32x64x11008, .f32⟩
  | .hbm, ⟨36, _⟩ => ⟨S32x64x11008, .f32⟩
  | .hbm, ⟨37, _⟩ => ⟨S_, .f32⟩
  | .hbm, ⟨38, _⟩ => ⟨S32x64x11008, .f32⟩
  | .hbm, ⟨39, _⟩ => ⟨S32x64x11008, .f32⟩
  | .hbm, ⟨40, _⟩ => ⟨S32x64x11008, .f32⟩
  | .hbm, ⟨41, _⟩ => ⟨S2048x11008, .f32⟩
  | .hbm, ⟨42, _⟩ => ⟨S32x64x11008, .f32⟩
  | .hbm, ⟨43, _⟩ => ⟨S32x64x11008, .f32⟩
  | .hbm, ⟨44, _⟩ => ⟨S16448x11008, .f32⟩
  | .hbm, ⟨45, _⟩ => ⟨S2048x11008, .f32⟩
  | .hbm, ⟨46, _⟩ => ⟨S18496x11008, .f32⟩
  | .hbm, ⟨47, _⟩ => ⟨S_, .i32⟩
  | .hbm, ⟨48, _⟩ => ⟨S_, .f32⟩
  | .hbm, ⟨49, _⟩ => ⟨S18496x11264, .f32⟩
  | .hbm, ⟨50, _⟩ => ⟨S18496x11264, .bf16⟩
  | .hbm, ⟨51, _⟩ => ⟨S32x2x11008, .f32⟩
  | .hbm, ⟨52, _⟩ => ⟨S_, .i32⟩
  | .hbm, ⟨53, _⟩ => ⟨S_, .f32⟩
  | .hbm, ⟨54, _⟩ => ⟨S32x2x11264, .f32⟩
  | _, _ => ⟨S18496x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call1_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_0 : Ref sig .tc := ⟨.hbm, 52, rfl⟩
abbrev main_call2_v0 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Actp.lean ====
abbrev S18496x11008 : Shape := ⟨2, ![18496, 11008]⟩
abbrev S2x3x11008 : Shape := ⟨3, ![2, 3, 11008]⟩
abbrev S272x144 : Shape := ⟨2, ![272, 144]⟩
abbrev S_ : Shape := ⟨0, ![]⟩
abbrev S18496x11264 : Shape := ⟨2, ![18496, 11264]⟩
abbrev S2x11264 : Shape := ⟨2, ![2, 11264]⟩
abbrev S1x2x11264 : Shape := ⟨3, ![1, 2, 11264]⟩
abbrev S1x3x11008 : Shape := ⟨3, ![1, 3, 11008]⟩
abbrev S3x11008 : Shape := ⟨2, ![3, 11008]⟩
abbrev S3x11264 : Shape := ⟨2, ![3, 11264]⟩
abbrev S128x11264 : Shape := ⟨2, ![128, 11264]⟩
abbrev S16x11264 : Shape := ⟨2, ![16, 11264]⟩
abbrev S1x11264 : Shape := ⟨2, ![1, 11264]⟩
abbrev S128x1 : Shape := ⟨2, ![128, 1]⟩
abbrev S144x11264 : Shape := ⟨2, ![144, 11264]⟩
abbrev S272x11264 : Shape := ⟨2, ![272, 11264]⟩
abbrev S1x1x11264 : Shape := ⟨3, ![1, 1, 11264]⟩

abbrev nBuf : Space → Nat
  | .hbm => 26
  | .vmem => 11
  | .smem => 0
  | _ => 0

abbrev bufTy : (tb : Table) → Fin (tcTables nBuf tb) → BufTy
  | .hbm, ⟨0, _⟩ => ⟨S18496x11008, .f32⟩
  | .hbm, ⟨1, _⟩ => ⟨S18496x11008, .f32⟩
  | .hbm, ⟨2, _⟩ => ⟨S2x3x11008, .f32⟩
  | .hbm, ⟨3, _⟩ => ⟨S18496x11008, .f32⟩
  | .hbm, ⟨4, _⟩ => ⟨S272x144, .bf16⟩
  | .hbm, ⟨5, _⟩ => ⟨S_, .i32⟩
  | .hbm, ⟨6, _⟩ => ⟨S_, .f32⟩
  | .hbm, ⟨7, _⟩ => ⟨S18496x11264, .f32⟩
  | .hbm, ⟨8, _⟩ => ⟨S_, .i32⟩
  | .hbm, ⟨9, _⟩ => ⟨S_, .f32⟩
  | .hbm, ⟨10, _⟩ => ⟨S18496x11264, .f32⟩
  | .hbm, ⟨11, _⟩ => ⟨S_, .i32⟩
  | .hbm, ⟨12, _⟩ => ⟨S_, .f32⟩
  | .hbm, ⟨13, _⟩ => ⟨S18496x11264, .f32⟩
  | .hbm, ⟨14, _⟩ => ⟨S2x11264, .f32⟩
  | .hbm, ⟨15, _⟩ => ⟨S1x2x11264, .f32⟩
  | .hbm, ⟨16, _⟩ => ⟨S18496x11264, .bf16⟩
  | .hbm, ⟨17, _⟩ => ⟨S18496x11264, .bf16⟩
  | .hbm, ⟨18, _⟩ => ⟨S18496x11264, .bf16⟩
  | .hbm, ⟨19, _⟩ => ⟨S1x3x11008, .f32⟩
  | .hbm, ⟨20, _⟩ => ⟨S3x11008, .f32⟩
  | .hbm, ⟨21, _⟩ => ⟨S_, .i32⟩
  | .hbm, ⟨22, _⟩ => ⟨S_, .f32⟩
  | .hbm, ⟨23, _⟩ => ⟨S3x11264, .f32⟩
  | .hbm, ⟨24, _⟩ => ⟨S18496x11264, .bf16⟩
  | .hbm, ⟨25, _⟩ => ⟨S1x2x11264, .f32⟩
  | .local _ .vmem, ⟨0, _⟩ => ⟨S128x11264, .bf16⟩
  | .local _ .vmem, ⟨1, _⟩ => ⟨S128x11264, .bf16⟩
  | .local _ .vmem, ⟨2, _⟩ => ⟨S128x11264, .bf16⟩
  | .local _ .vmem, ⟨3, _⟩ => ⟨S128x11264, .bf16⟩
  | .local _ .vmem, ⟨4, _⟩ => ⟨S1x2x11264, .f32⟩
  | .local _ .vmem, ⟨5, _⟩ => ⟨S3x11264, .f32⟩
  | .local _ .vmem, ⟨6, _⟩ => ⟨S272x144, .bf16⟩
  | .local _ .vmem, ⟨7, _⟩ => ⟨S128x11264, .bf16⟩
  | .local _ .vmem, ⟨8, _⟩ => ⟨S128x11264, .bf16⟩
  | .local _ .vmem, ⟨9, _⟩ => ⟨S1x2x11264, .f32⟩
  | .local _ .vmem, ⟨10, _⟩ => ⟨S16x11264, .f32⟩
  | _, _ => ⟨S18496x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32 : BitVec 32 := 127#32
  let v49 : BitVec 1 := Scalar.cmpi .eq arg1 c127_i32
  let v50 : BitVec 32 := Scalar.extui v49
  let c0_i32_18 : BitVec 32 := 0#32
  let v51 : BitVec 1 := Scalar.cmpi .ne v50 c0_i32_18
  v51

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S3x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S272x144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x11264 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ActpRefIdeal.lean ====
abbrev S18496x11008 : Shape := ⟨2, ![18496, 11008]⟩
abbrev S2x3x11008 : Shape := ⟨3, ![2, 3, 11008]⟩
abbrev S1x3x11008 : Shape := ⟨3, ![1, 3, 11008]⟩
abbrev S3x11008 : Shape := ⟨2, ![3, 11008]⟩
abbrev S2x11008 : Shape := ⟨2, ![2, 11008]⟩
abbrev S16384x11008 : Shape := ⟨2, ![16384, 11008]⟩
abbrev S16386x11008 : Shape := ⟨2, ![16386, 11008]⟩
abbrev S1x16386x11008 : Shape := ⟨3, ![1, 16386, 11008]⟩
abbrev S1x11008 : Shape := ⟨2, ![1, 11008]⟩
abbrev S11008 : Shape := ⟨1, ![11008]⟩
abbrev S1x16384x11008 : Shape := ⟨3, ![1, 16384, 11008]⟩
abbrev S1x1x11008 : Shape := ⟨3, ![1, 1, 11008]⟩
abbrev S_ : Shape := ⟨0, ![]⟩
abbrev S2112x11008 : Shape := ⟨2, ![2112, 11008]⟩
abbrev S18496x11264 : Shape := ⟨2, ![18496, 11264]⟩
abbrev S1x2x11008 : Shape := ⟨3, ![1, 2, 11008]⟩
abbrev S1x2x11264 : Shape := ⟨3, ![1, 2, 11264]⟩

abbrev nBuf : Space → Nat
  | .hbm => 53
  | .vmem => 0
  | .smem => 0
  | _ => 0

abbrev bufTy : (tb : Table) → Fin (tcTables nBuf tb) → BufTy
  | .hbm, ⟨0, _⟩ => ⟨S18496x11008, .f32⟩
  | .hbm, ⟨1, _⟩ => ⟨S18496x11008, .f32⟩
  | .hbm, ⟨2, _⟩ => ⟨S2x3x11008, .f32⟩
  | .hbm, ⟨3, _⟩ => ⟨S18496x11008, .f32⟩
  | .hbm, ⟨4, _⟩ => ⟨S1x3x11008, .f32⟩
  | .hbm, ⟨5, _⟩ => ⟨S3x11008, .f32⟩
  | .hbm, ⟨6, _⟩ => ⟨S2x11008, .f32⟩
  | .hbm, ⟨7, _⟩ => ⟨S16384x11008, .f32⟩
  | .hbm, ⟨8, _⟩ => ⟨S16386x11008, .f32⟩
  | .hbm, ⟨9, _⟩ => ⟨S1x16386x11008, .f32⟩
  | .hbm, ⟨10, _⟩ => ⟨S1x11008, .f32⟩
  | .hbm, ⟨11, _⟩ => ⟨S11008, .f32⟩
  | .hbm, ⟨12, _⟩ => ⟨S1x16384x11008, .f32⟩
  | .hbm, ⟨13, _⟩ => ⟨S1x1x11008, .f32⟩
  | .hbm, ⟨14, _⟩ => ⟨S1x16384x11008, .f32⟩
  | .hbm, ⟨15, _⟩ => ⟨S1x16384x11008, .f32⟩
  | .hbm, ⟨16, _⟩ => ⟨S1x11008, .f32⟩
  | .hbm, ⟨17, _⟩ => ⟨S11008, .f32⟩
  | .hbm, ⟨18, _⟩ => ⟨S1x16384x11008, .f32⟩
  | .hbm, ⟨19, _⟩ => ⟨S1x1x11008, .f32⟩
  | .hbm, ⟨20, _⟩ => ⟨S1x16384x11008, .f32⟩
  | .hbm, ⟨21, _⟩ => ⟨S1x16384x11008, .f32⟩
  | .hbm, ⟨22, _⟩ => ⟨S1x16384x11008, .f32⟩
  | .hbm, ⟨23, _⟩ => ⟨S1x11008, .f32⟩
  | .hbm, ⟨24, _⟩ => ⟨S11008, .f32⟩
  | .hbm, ⟨25, _⟩ => ⟨S1x16384x11008, .f32⟩
  | .hbm, ⟨26, _⟩ => ⟨S1x1x11008, .f32⟩
  | .hbm, ⟨27, _⟩ => ⟨S1x16384x11008, .f32⟩
  | .hbm, ⟨28, _⟩ => ⟨S1x16384x11008, .f32⟩
  | .hbm, ⟨29, _⟩ => ⟨S1x16384x11008, .f32⟩
  | .hbm, ⟨30, _⟩ => ⟨S1x16384x11008, .f32⟩
  | .hbm, ⟨31, _⟩ => ⟨S1x16384x11008, .f32⟩
  | .hbm, ⟨32, _⟩ => ⟨S_, .f32⟩
  | .hbm, ⟨33, _⟩ => ⟨S1x16384x11008, .f32⟩
  | .hbm, ⟨34, _⟩ => ⟨S1x16384x11008, .f32⟩
  | .hbm, ⟨35, _⟩ => ⟨S_, .f32⟩
  | .hbm, ⟨36, _⟩ => ⟨S1x16384x11008, .f32⟩
  | .hbm, ⟨37, _⟩ => ⟨S1x16384x11008, .f32⟩
  | .hbm, ⟨38, _⟩ => ⟨S1x16384x11008, .f32⟩
  | .hbm, ⟨39, _⟩ => ⟨S16384x11008, .f32⟩
  | .hbm, ⟨40, _⟩ => ⟨S1x16384x11008, .f32⟩
  | .hbm, ⟨41, _⟩ => ⟨S1x16384x11008, .f32⟩
  | .hbm, ⟨42, _⟩ => ⟨S16384x11008, .f32⟩
  | .hbm, ⟨43, _⟩ => ⟨S2112x11008, .f32⟩
  | .hbm, ⟨44, _⟩ => ⟨S18496x11008, .f32⟩
  | .hbm, ⟨45, _⟩ => ⟨S_, .i32⟩
  | .hbm, ⟨46, _⟩ => ⟨S_, .f32⟩
  | .hbm, ⟨47, _⟩ => ⟨S18496x11264, .f32⟩
  | .hbm, ⟨48, _⟩ => ⟨S18496x11264, .bf16⟩
  | .hbm, ⟨49, _⟩ => ⟨S1x2x11008, .f32⟩
  | .hbm, ⟨50, _⟩ => ⟨S_, .i32⟩
  | .hbm, ⟨51, _⟩ => ⟨S_, .f32⟩
  | .hbm, ⟨52, _⟩ => ⟨S1x2x11264, .f32⟩
  | _, _ => ⟨S18496x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_0 : Ref sig .tc := ⟨.hbm, 50, rfl⟩
abbrev main_call2_v0 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Attn.Block.lean ====
module
public import proofs.«01_k».proof.Proof.Gen.KernelIdeal.Value
public import Idealize.ShloMosaic.Lib.Pipeline.ValueKit
@[expose] public section
set_option maxRecDepth 16384
noncomputable section
open Idealize.ShloMosaic Idealize.ShloMosaic.TcCoe Idealize.SL.Sem
namespace Cert.KernelIdeal.Attn
open Cert.KernelIdeal Cert.KernelIdeal.Gen

/-! What one grid point of the cached attention computes, as functions of its input blocks:
`x0` the queries of 64 frames (per head 128 lanes without and 128 lanes with rotary positions),
`x1`, `x2` the new frames' latent rows and rotated keys, `x3`, `x4` the cached ones, `x5`, `x6` the
two halves of the latent up-projection. -/

/-- The latent rows of all 2112 keys: the scratch after its two stores. -/
def keysRead (x1 : FVec Ideal S64x512 .f32) (x3 : FVec Ideal S1x1x2048x512 .f32) :=
  View.readCov (Val := Elt Ideal) (View.whole cc0_scratch0)
    [⟨Rect.unit ![2048, 0] ![64, 512] inb_S2112x512_S64x512_2048_0, k0_pay3 (F := Ideal) x1⟩,
      ⟨Rect.unit ![0, 0] ![2048, 512] inb_S2112x512_S2048x512_0_0, k0_pay2 (F := Ideal) x3⟩]
    (Rect.unit ![0, 0] ![2112, 512] inb_S2112x512_S2112x512_0_0).toLoadRect

/-- The same at its shape. -/
def keys (x1 : FVec Ideal S64x512 .f32) (x3 : FVec Ideal S1x1x2048x512 .f32) : FVec Ideal S2112x512 .bf16 := keysRead x1 x3

/-- The cached rotated keys, transposed and padded with zero rows: the other scratch. -/
def rotsRead (x4 : FVec Ideal S1x1x64x2048 .f32) :=
  View.readCov (Val := Elt Ideal) (View.whole cc0_scratch1)
    [⟨Rect.unit ![64, 0] ![64, 2048] inb_S128x2048_S64x2048_64_0, k0_pay5 (F := Ideal)⟩,
      ⟨Rect.unit ![0, 0] ![64, 2048] inb_S128x2048_S64x2048_0_0, k0_pay4 (F := Ideal) x4⟩]
    (Rect.unit ![0, 0] ![128, 2048] inb_S128x2048_S128x2048_0_0).toLoadRect

/-- The same at its shape. -/
def rots (x4 : FVec Ideal S1x1x64x2048 .f32) : FVec Ideal S128x2048 .bf16 := rotsRead x4

/-- Eight arrays of 64 rows and 512 lanes, one below the other. -/
def wide (f : Fin 8 → FVec Ideal ⟨2, ![64, 512]⟩ .bf16) : FVec Ideal S512x512 .bf16 :=
  concatenate S512x512 0 [⟨S64x512, f 0⟩, ⟨S64x512, f 1⟩, ⟨S64x512, f 2⟩, ⟨S64x512, f 3⟩, ⟨S64x512, f 4⟩, ⟨S64x512, f 5⟩, ⟨S64x512, f 6⟩, ⟨S64x512, f 7⟩]
    concatenates_S64x512_S64x512_S64x512_S64x512_S64x512_S64x512_S64x512_S64x512_S512x512_d0

/-- Row `64 h + s` of the stack is row `s` of the `h`-th array. -/
theorem wide_apply (f : Fin 8 → FVec Ideal ⟨2, ![64, 512]⟩ .bf16) (h : Fin 8) (s : Fin 64) (l : Fin 512) :
    wide f (ix2 ⟨64 * h.val + s.val, by omega⟩ l) = f h (ix2 s l) := by
  have key : ∀ (k : Fin 8) (u : Fin 64), 64 * h.val + s.val = 64 * k.val + u.val → f k (ix2 u l) = f h (ix2 s l) := by
    intro k u e
    have hk : k = h := Fin.ext (by omega)
    subst hk
    have hu : u = s := Fin.ext (by omega)
    rw [hu]
  pointwise [wide]
  split_ifs <;> (apply key; simp <;> omega)

/-- Eight arrays of 64 rows and 128 lanes, one below the other. -/
def narrow (f : Fin 8 → FVec Ideal ⟨2, ![64, 128]⟩ .bf16) : FVec Ideal S512x128 .bf16 :=
  concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
    concatenates_S64x128_S64x128_S64x128_S64x128_S64x128_S64x128_S64x128_S64x128_S512x128_d0

/-- Row `64 h + s` of the stack is row `s` of the `h`-th array. -/
theorem narrow_apply (f : Fin 8 → FVec Ideal ⟨2, ![64, 128]⟩ .bf16) (h : Fin 8) (s : Fin 64) (l : Fin 128) :
    narrow f (ix2 ⟨64 * h.val + s.val, by omega⟩ l) = f h (ix2 s l) := by
  have key : ∀ (k : Fin 8) (u : Fin 64), 64 * h.val + s.val = 64 * k.val + u.val → f k (ix2 u l) = f h (ix2 s l) := by
    intro k u e
    have hk : k = h := Fin.ext (by omega)
    subst hk
    have hu : u = s := Fin.ext (by omega)
    rw [hu]
  pointwise [narrow]
  split_ifs <;> (apply key; simp <;> omega)

/-- The queries carried into the latent space, the eight heads one below the other. -/
def lat (x0 : FVec Ideal S64x2048 .bf16) (x5 : FVec Ideal S8x128x512 .bf16) : FVec Ideal S512x512 .bf16 :=
  wide ![k0_pay6 (View.ld (Val := Elt Ideal) (S := S64x2048) (e' := .bf16) x0 (Rect.unit ![0, 0] ![64, 128] inb_S64x2048_S64x128_0_0)) (View.ld (Val := Elt Ideal) (S := S8x128x512) (e' := .bf16) x5 (Rect.unit ![0, 0, 0] ![1, 128, 512] inb_S8x128x512_S1x128x512_0_0_0)),
    k0_pay8 (View.ld (Val := Elt Ideal) (S := S64x2048) (e' := .bf16) x0 (Rect.unit ![0, 256] ![64, 128] inb_S64x2048_S64x128_0_256)) (View.ld (Val := Elt Ideal) (S := S8x128x512) (e' := .bf16) x5 (Rect.unit ![1, 0, 0] ![1, 128, 512] inb_S8x128x512_S1x128x512_1_0_0)),
    k0_pay10 (View.ld (Val := Elt Ideal) (S := S64x2048) (e' := .bf16) x0 (Rect.unit ![0, 512] ![64, 128] inb_S64x2048_S64x128_0_512)) (View.ld (Val := Elt Ideal) (S := S8x128x512) (e' := .bf16) x5 (Rect.unit ![2, 0, 0] ![1, 128, 512] inb_S8x128x512_S1x128x512_2_0_0)),
    k0_pay12 (View.ld (Val := Elt Ideal) (S := S64x2048) (e' := .bf16) x0 (Rect.unit ![0, 768] ![64, 128] inb_S64x2048_S64x128_0_768)) (View.ld (Val := Elt Ideal) (S := S8x128x512) (e' := .bf16) x5 (Rect.unit ![3, 0, 0] ![1, 128, 512] inb_S8x128x512_S1x128x512_3_0_0)),
    k0_pay10 (View.ld (Val := Elt Ideal) (S := S64x2048) (e' := .bf16) x0 (Rect.unit ![0, 1024] ![64, 128] inb_S64x2048_S64x128_0_1024)) (View.ld (Val := Elt Ideal) (S := S8x128x512) (e' := .bf16) x5 (Rect.unit ![4, 0, 0] ![1, 128, 512] inb_S8x128x512_S1x128x512_4_0_0)),
    k0_pay10 (View.ld (Val := Elt Ideal) (S := S64x2048) (e' := .bf16) x0 (Rect.unit ![0, 1280] ![64, 128] inb_S64x2048_S64x128_0_1280)) (View.ld (Val := Elt Ideal) (S := S8x128x512) (e' := .bf16) x5 (Rect.unit ![5, 0, 0] ![1, 128, 512] inb_S8x128x512_S1x128x512_5_0_0)),
    k0_pay10 (View.ld (Val := Elt Ideal) (S := S64x2048) (e' := .bf16) x0 (Rect.unit ![0, 1536] ![64, 128] inb_S64x2048_S64x128_0_1536)) (View.ld (Val := Elt Ideal) (S := S8x128x512) (e' := .bf16) x5 (Rect.unit ![6, 0, 0] ![1, 128, 512] inb_S8x128x512_S1x128x512_6_0_0)),
    k0_pay10 (View.ld (Val := Elt Ideal) (S := S64x2048) (e' := .bf16) x0 (Rect.unit ![0, 1792] ![64, 128] inb_S64x2048_S64x128_0_1792)) (View.ld (Val := Elt Ideal) (S := S8x128x512) (e' := .bf16) x5 (Rect.unit ![7, 0, 0] ![1, 128, 512] inb_S8x128x512_S1x128x512_7_0_0))]

/-- The rotary parts of the queries, the eight heads one below the other. -/
def rotq (x0 : FVec Ideal S64x2048 .bf16) : FVec Ideal S512x128 .bf16 :=
  narrow ![k0_pay7 (View.ld (Val := Elt Ideal) (S := S64x2048) (e' := .bf16) x0 (Rect.unit ![0, 128] ![64, 128] inb_S64x2048_S64x128_0_128)),
    k0_pay9 (View.ld (Val := Elt Ideal) (S := S64x2048) (e' := .bf16) x0 (Rect.unit ![0, 384] ![64, 128] inb_S64x2048_S64x128_0_384)),
    k0_pay11 (View.ld (Val := Elt Ideal) (S := S64x2048) (e' := .bf16) x0 (Rect.unit ![0, 640] ![64, 128] inb_S64x2048_S64x128_0_640)),
    k0_pay13 (View.ld (Val := Elt Ideal) (S := S64x2048) (e' := .bf16) x0 (Rect.unit ![0, 896] ![64, 128] inb_S64x2048_S64x128_0_896)),
    k0_pay7 (View.ld (Val := Elt Ideal) (S := S64x2048) (e' := .bf16) x0 (Rect.unit ![0, 1152] ![64, 128] inb_S64x2048_S64x128_0_1152)),
    k0_pay9 (View.ld (Val := Elt Ideal) (S := S64x2048) (e' := .bf16) x0 (Rect.unit ![0, 1408] ![64, 128] inb_S64x2048_S64x128_0_1408)),
    k0_pay11 (View.ld (Val := Elt Ideal) (S := S64x2048) (e' := .bf16) x0 (Rect.unit ![0, 1664] ![64, 128] inb_S64x2048_S64x128_0_1664)),
    k0_pay13 (View.ld (Val := Elt Ideal) (S := S64x2048) (e' := .bf16) x0 (Rect.unit ![0, 1920] ![64, 128] inb_S64x2048_S64x128_0_1920))]

/-- The rotary scores against the cached keys. -/
def rotscore (x0 : FVec Ideal S64x2048 .bf16) (x4 : FVec Ideal S1x1x64x2048 .f32) : FVec Ideal S512x2048 .f32 :=
  matmul (F := Ideal) dot_S512x128_S128x2048_S512x2048_1_0_0_1_n_n none (rotq x0) (rots x4) (constant S512x2048 .f32 0x00000000#32)

/-- The scores of every query against the 2112 keys. -/
def score (a : FVec Ideal S512x512 .bf16) (b : FVec Ideal S512x128 .bf16) (e : FVec Ideal S512x2048 .f32) (f : FVec Ideal S64x128 .f32)
    (k : FVec Ideal S2112x512 .bf16) : FVec Ideal S512x2112 .f32 :=
  addf (matmul dot_S512x512_S2112x512_S512x2112_1_1_0_0_n_n none a k (constant S512x2112 .f32 0x00000000#32))
    (concatenate S512x2112 1 [⟨S512x2048, e⟩, ⟨S512x64, matmul dot_S512x128_S64x128_S512x64_1_1_0_0_n_n none b
      (truncf .bf16 (shapeCast S64x128 f shapeCasts_S64x128_S64x128) bitsLt_bf16_f32) (constant S512x64 .f32 0x00000000#32)⟩]
      concatenates_S512x2048_S512x64_S512x2112_d1)

/-- Base-two softmax over the keys, and the weighted sum of the latent rows. -/
def soft (z : FVec Ideal S512x2112 .f32) (v : FVec Ideal S2112x512 .bf16) : FVec Ideal S512x512 .bf16 :=
  have w : FVec Ideal S512x2112 .f32 := exp2 (subf z (broadcastTo S512x2112 (shapeCast S512x1 (multiReduction .maximumf [1] S512 z 0xFF800000#32 reduces_S512x2112_S512 (.inl rfl) rfl) shapeCasts_S512_S512x1) broadcasts_S512x1_S512x2112))
  truncf .bf16 (matmul dot_S512x2112_S2112x512_S512x512_1_0_0_1_n_n none
    (truncf .bf16 (divf w (broadcastTo S512x2112 (shapeCast S512x1 (multiReduction .add [1] S512 w 0x00000000#32 reduces_S512x2112_S512 (.inl rfl) rfl) shapeCasts_S512_S512x1) broadcasts_S512x1_S512x2112)) bitsLt_bf16_f32)
    v (constant S512x512 .f32 0x00000000#32)) bitsLt_bf16_f32

/-- The attention-weighted latent rows, the eight heads one below the other. -/
def mix (x0 : FVec Ideal S64x2048 .bf16) (x1 : FVec Ideal S64x512 .f32) (x2 : FVec Ideal S64x128 .f32)
    (x3 : FVec Ideal S1x1x2048x512 .f32) (x4 : FVec Ideal S1x1x64x2048 .f32) (x5 : FVec Ideal S8x128x512 .bf16) : FVec Ideal S512x512 .bf16 :=
  k0_pay18 (k0_pay15 (k0_pay6 (View.ld (Val := Elt Ideal) (S := S64x2048) (e' := .bf16) x0 (Rect.unit ![0, 0] ![64, 128] inb_S64x2048_S64x128_0_0)) (View.ld (Val := Elt Ideal) (S := S8x128x512) (e' := .bf16) x5 (Rect.unit ![0, 0, 0] ![1, 128, 512] inb_S8x128x512_S1x128x512_0_0_0)))
      (k0_pay8 (View.ld (Val := Elt Ideal) (S := S64x2048) (e' := .bf16) x0 (Rect.unit ![0, 256] ![64, 128] inb_S64x2048_S64x128_0_256)) (View.ld (Val := Elt Ideal) (S := S8x128x512) (e' := .bf16) x5 (Rect.unit ![1, 0, 0] ![1, 128, 512] inb_S8x128x512_S1x128x512_1_0_0)))
      (k0_pay10 (View.ld (Val := Elt Ideal) (S := S64x2048) (e' := .bf16) x0 (Rect.unit ![0, 512] ![64, 128] inb_S64x2048_S64x128_0_512)) (View.ld (Val := Elt Ideal) (S := S8x128x512) (e' := .bf16) x5 (Rect.unit ![2, 0, 0] ![1, 128, 512] inb_S8x128x512_S1x128x512_2_0_0)))
      (k0_pay12 (View.ld (Val := Elt Ideal) (S := S64x2048) (e' := .bf16) x0 (Rect.unit ![0, 768] ![64, 128] inb_S64x2048_S64x128_0_768)) (View.ld (Val := Elt Ideal) (S := S8x128x512) (e' := .bf16) x5 (Rect.unit ![3, 0, 0] ![1, 128, 512] inb_S8x128x512_S1x128x512_3_0_0)))
      (k0_pay14 (View.ld (Val := Elt Ideal) (S := S64x2048) (e' := .bf16) x0 (Rect.unit ![0, 1024] ![64, 128] inb_S64x2048_S64x128_0_1024)) (View.ld (Val := Elt Ideal) (S := S8x128x512) (e' := .bf16) x5 (Rect.unit ![4, 0, 0] ![1, 128, 512] inb_S8x128x512_S1x128x512_4_0_0)))
      (View.ld (Val := Elt Ideal) (S := S64x2048) (e' := .bf16) x0 (Rect.unit ![0, 1280] ![64, 128] inb_S64x2048_S64x128_0_1280)) (View.ld (Val := Elt Ideal) (S := S8x128x512) (e' := .bf16) x5 (Rect.unit ![5, 0, 0] ![1, 128, 512] inb_S8x128x512_S1x128x512_5_0_0))
      (View.ld (Val := Elt Ideal) (S := S64x2048) (e' := .bf16) x0 (Rect.unit ![0, 1536] ![64, 128] inb_S64x2048_S64x128_0_1536)) (View.ld (Val := Elt Ideal) (S := S8x128x512) (e' := .bf16) x5 (Rect.unit ![6, 0, 0] ![1, 128, 512] inb_S8x128x512_S1x128x512_6_0_0))
      (View.ld (Val := Elt Ideal) (S := S64x2048) (e' := .bf16) x0 (Rect.unit ![0, 1792] ![64, 128] inb_S64x2048_S64x128_0_1792)) (View.ld (Val := Elt Ideal) (S := S8x128x512) (e' := .bf16) x5 (Rect.unit ![7, 0, 0] ![1, 128, 512] inb_S8x128x512_S1x128x512_7_0_0)))
    (k0_pay16 (k0_pay7 (View.ld (Val := Elt Ideal) (S := S64x2048) (e' := .bf16) x0 (Rect.unit ![0, 128] ![64, 128] inb_S64x2048_S64x128_0_128)))
      (k0_pay9 (View.ld (Val := Elt Ideal) (S := S64x2048) (e' := .bf16) x0 (Rect.unit ![0, 384] ![64, 128] inb_S64x2048_S64x128_0_384)))
      (k0_pay11 (View.ld (Val := Elt Ideal) (S := S64x2048) (e' := .bf16) x0 (Rect.unit ![0, 640] ![64, 128] inb_S64x2048_S64x128_0_640)))
      (k0_pay13 (View.ld (Val := Elt Ideal) (S := S64x2048) (e' := .bf16) x0 (Rect.unit ![0, 896] ![64, 128] inb_S64x2048_S64x128_0_896))) (View.ld (Val := Elt Ideal) (S := S64x2048) (e' := .bf16) x0 (Rect.unit ![0, 1152] ![64, 128] inb_S64x2048_S64x128_0_1152)) (View.ld (Val := Elt Ideal) (S := S64x2048) (e' := .bf16) x0 (Rect.unit ![0, 1408] ![64, 128] inb_S64x2048_S64x128_0_1408)) (View.ld (Val := Elt Ideal) (S := S64x2048) (e' := .bf16) x0 (Rect.unit ![0, 1664] ![64, 128] inb_S64x2048_S64x128_0_1664)) (View.ld (Val := Elt Ideal) (S := S64x2048) (e' := .bf16) x0 (Rect.unit ![0, 1920] ![64, 128] inb_S64x2048_S64x128_0_1920)))
    (k0_pay17 (k0_pay7 (View.ld (Val := Elt Ideal) (S := S64x2048) (e' := .bf16) x0 (Rect.unit ![0, 128] ![64, 128] inb_S64x2048_S64x128_0_128))) (k0_pay9 (View.ld (Val := Elt Ideal) (S := S64x2048) (e' := .bf16) x0 (Rect.unit ![0, 384] ![64, 128] inb_S64x2048_S64x128_0_384))) (k0_pay11 (View.ld (Val := Elt Ideal) (S := S64x2048) (e' := .bf16) x0 (Rect.unit ![0, 640] ![64, 128] inb_S64x2048_S64x128_0_640))) (k0_pay13 (View.ld (Val := Elt Ideal) (S := S64x2048) (e' := .bf16) x0 (Rect.unit ![0, 896] ![64, 128] inb_S64x2048_S64x128_0_896))) (View.ld (Val := Elt Ideal) (S := S64x2048) (e' := .bf16) x0 (Rect.unit ![0, 1152] ![64, 128] inb_S64x2048_S64x128_0_1152)) (View.ld (Val := Elt Ideal) (S := S64x2048) (e' := .bf16) x0 (Rect.unit ![0, 1408] ![64, 128] inb_S64x2048_S64x128_0_1408)) (View.ld (Val := Elt Ideal) (S := S64x2048) (e' := .bf16) x0 (Rect.unit ![0, 1664] ![64, 128] inb_S64x2048_S64x128_0_1664)) (View.ld (Val := Elt Ideal) (S := S64x2048) (e' := .bf16) x0 (Rect.unit ![0, 1920] ![64, 128] inb_S64x2048_S64x128_0_1920)) (rots x4))
    x2 (keys x1 x3) (keys x1 x3)

theorem mix_eq (x0 : FVec Ideal S64x2048 .bf16) (x1 : FVec Ideal S64x512 .f32) (x2 : FVec Ideal S64x128 .f32)
    (x3 : FVec Ideal S1x1x2048x512 .f32) (x4 : FVec Ideal S1x1x64x2048 .f32) (x5 : FVec Ideal S8x128x512 .bf16) :
    mix x0 x1 x2 x3 x4 x5 = soft (score (lat x0 x5) (rotq x0) (rotscore x0 x4) x2 (keys x1 x3)) (keys x1 x3) := rfl

theorem keys_apply (x1 : FVec Ideal S64x512 .f32) (x3 : FVec Ideal S1x1x2048x512 .f32) (t : Fin 2112) (l : Fin 512) :
    keys x1 x3 (ix2 t l) = if h : t.val < 2048 then x3 (ix4 0 0 ⟨t.val, h⟩ l) else x1 (ix2 ⟨t.val - 2048, by omega⟩ l) := by
  unfold keys keysRead
  rw [View.readCov_eq_canon']
  have hy : ((Rect.unit ![0, 0] ![2112, 512] inb_S2112x512_S2112x512_0_0 : Rect S2112x512).toLoadRect.idx (ix2 t l : S2112x512.Idx)) = ix2 t l := by pointwise
  refine (congrArg _ hy).trans ?_
  have hc : ∃ p ∈ [(⟨Rect.unit ![2048, 0] ![64, 512] inb_S2112x512_S64x512_2048_0, k0_pay3 (F := Ideal) x1⟩ : View.Piece (Elt Ideal) S2112x512 .bf16),
      ⟨Rect.unit ![0, 0] ![2048, 512] inb_S2112x512_S2048x512_0_0, k0_pay2 (F := Ideal) x3⟩], (ix2 t l : S2112x512.Idx) ∈ p.fst.set := by
    by_cases ht : t.val < 2048
    · refine ⟨_, List.mem_cons_of_mem _ List.mem_cons_self, ?_⟩
      rw [Rect.mem_set_unit]
      intro a
      fin_cases a <;> simp <;> omega
    · refine ⟨_, List.mem_cons_self, ?_⟩
      rw [Rect.mem_set_unit]
      intro a
      fin_cases a <;> simp <;> omega
  canon_tiles x h
  · open_payloads
    change (t.val : ℕ) = _ at h0
    change (l.val : ℕ) = _ at h1
    rw [dif_neg (by omega)]
    pointwise
    try blk_ext
  · open_payloads
    change (t.val : ℕ) = _ at h0
    change (l.val : ℕ) = _ at h1
    rw [dif_pos (by omega)]
    pointwise
    try blk_ext

theorem rots_apply (x4 : FVec Ideal S1x1x64x2048 .f32) (d : Fin 128) (t : Fin 2048) :
    rots x4 (ix2 d t) = if h : d.val < 64 then x4 (ix4 0 0 ⟨d.val, h⟩ t) else 0 := by
  unfold rots rotsRead
  rw [View.readCov_eq_canon']
  have hy : ((Rect.unit ![0, 0] ![128, 2048] inb_S128x2048_S128x2048_0_0 : Rect S128x2048).toLoadRect.idx (ix2 d t : S128x2048.Idx)) = ix2 d t := by pointwise
  refine (congrArg _ hy).trans ?_
  canon_tiles x h
  · open_payloads
    change (d.val : ℕ) = _ at h0
    change (t.val : ℕ) = _ at h1
    rw [dif_neg (by omega)]
    pointwise
    try blk_ext
  · open_payloads
    change (d.val : ℕ) = _ at h0
    change (t.val : ℕ) = _ at h1
    rw [dif_pos (by omega)]
    pointwise
    try blk_ext

theorem lat_apply (x0 : FVec Ideal S64x2048 .bf16) (x5 : FVec Ideal S8x128x512 .bf16) (h : Fin 8) (s : Fin 64) (l : Fin 512) :
    lat x0 x5 (ix2 ⟨64 * h.val + s.val, by omega⟩ l)
      = ∑ d : Fin 128, x0 (ix2 s ⟨256 * h.val + d.val, by omega⟩) * x5 (ix3 h d l) := by
  refine (wide_apply _ h s l).trans ?_
  fin_cases h <;> pointwise [k0_pay6, k0_pay8, k0_pay10, k0_pay12]

theorem rotq_apply (x0 : FVec Ideal S64x2048 .bf16) (h : Fin 8) (s : Fin 64) (l : Fin 128) :
    rotq x0 (ix2 ⟨64 * h.val + s.val, by omega⟩ l) = x0 (ix2 s ⟨256 * h.val + 128 + l.val, by omega⟩) := by
  refine (narrow_apply _ h s l).trans ?_
  fin_cases h <;> pointwise [k0_pay7, k0_pay9, k0_pay11, k0_pay13]

theorem rotscore_apply (x0 : FVec Ideal S64x2048 .bf16) (x4 : FVec Ideal S1x1x64x2048 .f32) (r : Fin 512) (t : Fin 2048) :
    rotscore x0 x4 (ix2 r t) = ∑ d : Fin 128, rotq x0 (ix2 r d) * rots x4 (ix2 d t) := by
  pointwise [rotscore]

theorem score_apply (a : FVec Ideal S512x512 .bf16) (b : FVec Ideal S512x128 .bf16) (e : FVec Ideal S512x2048 .f32) (f : FVec Ideal S64x128 .f32)
    (k : FVec Ideal S2112x512 .bf16) (r : Fin 512) (t : Fin 2112) :
    score a b e f k (ix2 r t) = ∑ l : Fin 512, a (ix2 r l) * k (ix2 t l)
      + (if h : t.val < 2048 then e (ix2 r ⟨t.val, h⟩) else ∑ d : Fin 128, b (ix2 r d) * f (ix2 ⟨t.val - 2048, by omega⟩ d)) := by
  pointwise [score]

/-- A row's largest score, from −∞. -/
def rowMax (z : FVec Ideal S512x2112 .f32) (r : Fin 512) : EReal :=
  Finset.fold max (Ideal.ofBits .f32 0xFF800000#32) (fun t => z (ix2 r t)) Finset.univ

theorem soft_apply (z : FVec Ideal S512x2112 .f32) (v : FVec Ideal S2112x512 .bf16) (r : Fin 512) (l : Fin 512) :
    soft z v (ix2 r l) = ∑ t : Fin 2112, Ideal.div (FloatOps.exp2 (F := Ideal) (φ := .f32) (z (ix2 r t) - rowMax z r))
      (∑ t : Fin 2112, FloatOps.exp2 (F := Ideal) (φ := .f32) (z (ix2 r t) - rowMax z r)) * v (ix2 t l) := by
  unfold rowMax
  pointwise [soft]

end Cert.KernelIdeal.Attn
end
-- ==== Proof.Attn.Value.lean ====
/-
  What the cached attention leaves in its result: every row from 16448 on is the attention of the
  grid point whose 64 frames hold it, as a function of that point's input blocks.
-/
module
public import proofs.«01_k».proof.Proof.Attn.Block
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen

/-- A head's rows of `M` through that head's value weights, at one column of that head. -/
def head (M : FVec Ideal S512x512 .bf16) (x6 : FVec Ideal S8x512x128 .bf16) (h : Fin 8) (s : Fin 64) (e : Fin 128) : EReal :=
  ∑ l : Fin 512, M (ix2 ⟨64 * h.val + s.val, by omega⟩ l) * x6 (ix3 h l e)

section
variable (a : FVec Ideal S512x512 .bf16) (b : FVec Ideal S512x128 .bf16) (e : FVec Ideal S512x2048 .f32) (f : FVec Ideal S64x128 .f32)
  (k k' : FVec Ideal S2112x512 .bf16) (M : FVec Ideal S512x512 .bf16) (x6 : FVec Ideal S8x512x128 .bf16) (x : S64x128.Idx)

theorem head0 : k0_pay19 a b e f k k' (View.ld (Val := Elt Ideal) (S := S8x512x128) (e' := .bf16) x6 (Rect.unit ![0, 0, 0] ![1, 512, 128] inb_S8x512x128_S1x512x128_0_0_0)) x = head (k0_pay18 a b e f k k') x6 0 (x 0) (x 1) := by
  unfold head
  pointwise [k0_pay19]

theorem head1 : k0_pay20 a b e f k k' (View.ld (Val := Elt Ideal) (S := S8x512x128) (e' := .bf16) x6 (Rect.unit ![1, 0, 0] ![1, 512, 128] inb_S8x512x128_S1x512x128_1_0_0)) x = head (k0_pay18 a b e f k k') x6 1 (x 0) (x 1) := by
  unfold head
  pointwise [k0_pay20]

theorem head2 : k0_pay22 (k0_pay21 a b e f k k') (View.ld (Val := Elt Ideal) (S := S8x512x128) (e' := .bf16) x6 (Rect.unit ![2, 0, 0] ![1, 512, 128] inb_S8x512x128_S1x512x128_2_0_0)) x = head (k0_pay18 a b e f k k') x6 2 (x 0) (x 1) := by
  unfold head
  pointwise [k0_pay22, k0_pay21]

theorem head3 : k0_pay23 M (View.ld (Val := Elt Ideal) (S := S8x512x128) (e' := .bf16) x6 (Rect.unit ![3, 0, 0] ![1, 512, 128] inb_S8x512x128_S1x512x128_3_0_0)) x = head M x6 3 (x 0) (x 1) := by
  unfold head
  pointwise [k0_pay23]

theorem head4 : k0_pay24 M (View.ld (Val := Elt Ideal) (S := S8x512x128) (e' := .bf16) x6 (Rect.unit ![4, 0, 0] ![1, 512, 128] inb_S8x512x128_S1x512x128_4_0_0)) x = head M x6 4 (x 0) (x 1) := by
  unfold head
  pointwise [k0_pay24]

theorem head5 : k0_pay25 M (View.ld (Val := Elt Ideal) (S := S8x512x128) (e' := .bf16) x6 (Rect.unit ![5, 0, 0] ![1, 512, 128] inb_S8x512x128_S1x512x128_5_0_0)) x = head M x6 5 (x 0) (x 1) := by
  unfold head
  pointwise [k0_pay25]

theorem head6 : k0_pay26 M (View.ld (Val := Elt Ideal) (S := S8x512x128) (e' := .bf16) x6 (Rect.unit ![6, 0, 0] ![1, 512, 128] inb_S8x512x128_S1x512x128_6_0_0)) x = head M x6 6 (x 0) (x 1) := by
  unfold head
  pointwise [k0_pay26]

theorem head7 : k0_pay1 M (View.ld (Val := Elt Ideal) (S := S8x512x128) (e' := .bf16) x6 (Rect.unit ![7, 0, 0] ![1, 512, 128] inb_S8x512x128_S1x512x128_7_0_0)) x = head M x6 7 (x 0) (x 1) := by
  unfold head
  pointwise [k0_pay1]

end

/-- The block a grid point writes: per head the weighted latent rows through that head's value weights. -/
def out (x0 : FVec Ideal S64x2048 .bf16) (x1 : FVec Ideal S64x512 .f32) (x2 : FVec Ideal S64x128 .f32)
    (x3 : FVec Ideal S1x1x2048x512 .f32) (x4 : FVec Ideal S1x1x64x2048 .f32) (x5 : FVec Ideal S8x128x512 .bf16)
    (x6 : FVec Ideal S8x512x128 .bf16) (s : Fin 64) (k : Fin 1024) : EReal :=
  head (mix x0 x1 x2 x3 x4 x5) x6 ⟨k.val / 128, by omega⟩ s ⟨k.val % 128, by omega⟩

theorem head_eq (M : FVec Ideal S512x512 .bf16) (x6 : FVec Ideal S8x512x128 .bf16) (h : Fin 8) (s s' : Fin 64) (e : Fin 128) (k : Fin 1024)
    (hs : s'.val = s.val) (hk : k.val = 128 * h.val + e.val) :
    head M x6 h s e = head M x6 ⟨k.val / 128, by omega⟩ s' ⟨k.val % 128, by omega⟩ := by
  have key : ∀ (h' : Fin 8) (s'' : Fin 64) (e' : Fin 128), h = h' → s = s'' → e = e' → head M x6 h s e = head M x6 h' s'' e' := by
    rintro _ _ _ rfl rfl rfl; rfl
  exact key _ _ _ (Fin.ext (by show _ = _ / _; omega)) (Fin.ext hs.symm) (Fin.ext (by show _ = _ % _; omega))

variable (m : (ℓ : Loc nD τ sig) → Buf (Elt Ideal) ℓ)

theorem idx : ∀ t : Fin cfg0.N, win0_0.index t = ![257 + t.val, 0] ∧ win0_1.index t = ![257 + t.val, 0] ∧ win0_2.index t = ![257 + t.val, 0]
   ∧ win0_3.index t = ![0, t.val, 0, 0] ∧ win0_4.index t = ![0, t.val, 0, 0] ∧ win0_5.index t = ![0, 0, 0] ∧ win0_6.index t = ![0, 0, 0] ∧ win0_7.index t = ![257 + t.val, 0] :=
  (by decide +kernel : ∀ t : Fin grid0.N, _)

/-- The grid point's block by name. -/
def blk (c : Dev nD) (t : Fin cfg0.N) (s : Fin 64) (k : Fin 1024) : EReal :=
  out (iblk m c 0 t) (iblk m c 1 t) (iblk m c 2 t) (iblk m c 3 t) (iblk m c 4 t) (iblk m c 5 t) (iblk m c 6 t) s k

/-- The result's rows from 16448 on. -/
def rows (c : Dev nD) : FVec Ideal S18496x1024 .bf16 := fun i =>
  blk m c ⟨((i 0).val - 16448) / 64, by have h : (i 0).val < 18496 := (i 0).isLt; show _ < 32; omega⟩
    ⟨((i 0).val - 16448) % 64, by omega⟩ (i 1)

theorem final (c : Dev nD) : (dats m 0 c).arrAt 7 cfg0.N = fun i => if 16448 ≤ (i 0).val then rows m c i else (dats m 0 c).A 7 i := by
  refine ((dats m 0 c).arrAt_eq_of_coversWhere 7 (rows m c) (fun β => 257 ≤ β 0) (by decide +kernel) (fun t hf y => ?_) (fun j => by blk_simp [Pipeline.Window.cell_apply]; omega))
  have ht : t.val < 32 := t.isLt
  have hr : rows m c ((((View.whole main_v20).slice (win0_7.rect t)).emb y)) = blk m c t (y 0) (y 1) := by
    unfold rows
    have h0 : ((((View.whole main_v20).slice (win0_7.rect t)).emb y) 0 : Nat) = 64 * (257 + t.val) + (y 0 : Nat) := by
      blk_simp [idx t]
      try omega
    have h1 : ((((View.whole main_v20).slice (win0_7.rect t)).emb y) 1 : Nat) = (y 1 : Nat) := by
      blk_simp [idx t]
      try omega
    have y0 : (y 0 : Nat) < 64 := (y 0).isLt
    have e : ∀ (t' : Fin cfg0.N) (s' : Fin 64) (k' : Fin 1024), t' = t → s' = y 0 → k' = y 1 → blk m c t' s' k' = blk m c t (y 0) (y 1) := by
      rintro _ _ _ rfl rfl rfl; rfl
    refine e _ _ _ (Fin.ext ?_) (Fin.ext ?_) (Fin.ext h1)
    · show _ / 64 = _; rw [h0]; omega
    · show _ % 64 = _; rw [h0]; omega
  refine Eq.trans ?_ hr.symm
  blk_simp
  rw [after0_7]; unfold outsAt0
  frame_open
  simp (disch := decide) only [↓ View.readCov_skip, ↓ View.readCov_cons_toLoadRect, ↓ View.readCov_fill]
  frame_out
  unfold blk
  canon_tiles x h
  · exact (head7 (mix (iblk m c 0 t) (iblk m c 1 t) (iblk m c 2 t) (iblk m c 3 t) (iblk m c 4 t) (iblk m c 5 t)) (iblk m c 6 t) x).trans
      (head_eq _ _ _ _ _ _ _ h0 (by simpa using h1))
  · exact (head6 (mix (iblk m c 0 t) (iblk m c 1 t) (iblk m c 2 t) (iblk m c 3 t) (iblk m c 4 t) (iblk m c 5 t)) (iblk m c 6 t) x).trans
      (head_eq _ _ _ _ _ _ _ h0 (by simpa using h1))
  · exact (head5 (mix (iblk m c 0 t) (iblk m c 1 t) (iblk m c 2 t) (iblk m c 3 t) (iblk m c 4 t) (iblk m c 5 t)) (iblk m c 6 t) x).trans
      (head_eq _ _ _ _ _ _ _ h0 (by simpa using h1))
  · exact (head4 (mix (iblk m c 0 t) (iblk m c 1 t) (iblk m c 2 t) (iblk m c 3 t) (iblk m c 4 t) (iblk m c 5 t)) (iblk m c 6 t) x).trans
      (head_eq _ _ _ _ _ _ _ h0 (by simpa using h1))
  · exact (head3 (mix (iblk m c 0 t) (iblk m c 1 t) (iblk m c 2 t) (iblk m c 3 t) (iblk m c 4 t) (iblk m c 5 t)) (iblk m c 6 t) x).trans
      (head_eq _ _ _ _ _ _ _ h0 (by simpa using h1))
  · exact (head2 _ _ _ _ _ _ (iblk m c 6 t) x).trans
      (head_eq _ _ _ _ _ _ _ h0 (by simpa using h1))
  · exact (head1 _ _ _ _ _ _ (iblk m c 6 t) x).trans
      (head_eq _ _ _ _ _ _ _ h0 (by simpa using h1))
  · exact (head0 _ _ _ _ _ _ (iblk m c 6 t) x).trans
      (head_eq _ _ _ _ _ _ _ h0 (by simpa using h1))
end Cert.KernelIdeal.Attn
end
-- ==== Proof.Attn.Scale.lean ====
/-
  The mathematics that lets a query scale pass through an attention's scores: a positive real factor
  leaves a sum of products, a maximum and a difference of extended reals, and `2 ^ (κ / ln 2 · x)` is
  `e ^ (κ x)`. No finiteness is assumed anywhere.
-/
module
public import Idealize.ShloMosaic.PureOps.Ideal
@[expose] public section
noncomputable section
open Idealize.ShloMosaic
namespace Cert.Scale

/-- The reciprocal root of the head width. -/
def κ : ℝ := (Real.sqrt 192)⁻¹

/-- The same over the natural logarithm of two: the factor of the scores under `exp2`. -/
def c : ℝ := (Real.sqrt 192)⁻¹ * (Real.log 2)⁻¹

theorem κ_pos : 0 < κ := inv_pos.mpr (Real.sqrt_pos.mpr (by norm_num))
theorem c_pos : 0 < c := mul_pos κ_pos (inv_pos.mpr (Real.log_pos (by norm_num)))

theorem mul_add_pos {r : ℝ} (hr : 0 < r) (x y : EReal) : (r : EReal) * (x + y) = r * x + r * y :=
  EReal.left_distrib_of_nonneg_of_ne_top (by exact_mod_cast hr.le) (EReal.coe_ne_top r) x y

/-- A positive real factor goes through a finite sum. -/
theorem mul_sum_pos {ι : Type} {r : ℝ} (hr : 0 < r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, mul_add_pos hr, ih]

theorem mul_le_mul_pos {r : ℝ} (hr : 0 < r) {x y : EReal} (h : x ≤ y) : (r : EReal) * x ≤ r * y :=
  mul_le_mul_of_nonneg_left h (by exact_mod_cast hr.le)

/-- It goes through a maximum, -/
theorem mul_max_pos {r : ℝ} (hr : 0 < r) (x y : EReal) : (r : EReal) * max x y = max (r * x) (r * y) := by
  rcases le_total x y with h | h
  · rw [max_eq_right h, max_eq_right (mul_le_mul_pos hr h)]
  · rw [max_eq_left h, max_eq_left (mul_le_mul_pos hr h)]

/-- through the maximum of a finite family, from `⊥`, -/
theorem mul_fold_max_pos {ι : Type} {r : ℝ} (hr : 0 < r) (s : Finset ι) (f : ι → EReal) :
    (r : EReal) * s.fold max ⊥ f = s.fold max ⊥ fun i => (r : EReal) * f i := by
  classical
  induction s using Finset.induction_on with
  | empty => simp only [Finset.fold_empty]; exact EReal.coe_mul_bot_of_pos hr
  | insert a s ha ih => rw [Finset.fold_insert ha, Finset.fold_insert ha, mul_max_pos hr, ih]

/-- and through a difference. -/
theorem mul_sub_pos {r : ℝ} (hr : 0 < r) (x y : EReal) : (r : EReal) * (x - y) = r * x - r * y := by
  rw [sub_eq_add_neg, sub_eq_add_neg, mul_add_pos hr, mul_neg]

/-- `2 ^ (c x) = e ^ (κ x)`. -/
theorem exp2_mul (x : EReal) : Ideal.exp2 ((c : EReal) * x) = Ideal.exp ((κ : EReal) * x) := by
  induction x using EReal.rec with
  | bot => rw [EReal.coe_mul_bot_of_pos c_pos, EReal.coe_mul_bot_of_pos κ_pos, Ideal.exp2_bot, Ideal.exp_bot]
  | top => rw [EReal.coe_mul_top_of_pos c_pos, EReal.coe_mul_top_of_pos κ_pos, Ideal.exp2_top, Ideal.exp_top]
  | coe x =>
    rw [← EReal.coe_mul, ← EReal.coe_mul, Ideal.exp2_coe, Ideal.exp_coe]
    congr 1
    have h2 : Real.log 2 ≠ 0 := (Real.log_pos (by norm_num)).ne'
    show (2 : ℝ) ^ (c * x) = _
    rw [Real.rpow_def_of_pos (by norm_num)]
    congr 1
    unfold c κ
    field_simp

/-- The exponentials of an attention row: with every score scaled by `c`, `exp2` of the distance to the
    largest is `exp` of that distance with every score scaled by `κ`. -/
theorem row_exp {ι : Type} (s : Finset ι) (w : ι → EReal) (t : ι) :
    Ideal.exp2 ((c : EReal) * w t - s.fold max ⊥ fun i => (c : EReal) * w i)
      = Ideal.exp ((κ : EReal) * w t - s.fold max ⊥ fun i => (κ : EReal) * w i) := by
  rw [← mul_fold_max_pos c_pos, ← mul_fold_max_pos κ_pos, ← mul_sub_pos c_pos, ← mul_sub_pos κ_pos, exp2_mul]

end Cert.Scale
end
-- ==== Proof.Attn.Consts.lean ====
/-
  The words of the constants that both programs spell.
-/
module
public import Idealize.ShloMosaic.PureOps.Ideal
@[expose] public section
noncomputable section
open Idealize.ShloMosaic
namespace Cert.Consts

theorem width : Ideal.ofBits .f32 0x43400000#32 = ((192 : ℝ) : EReal) := by
  simp [Ideal.ofBits, Ideal.ieee, -EReal.coe_mul]; norm_num

theorem least : Ideal.ofBits .f32 0xFF800000#32 = (⊥ : EReal) := by
  simp [Ideal.ofBits, Ideal.ieee]

theorem zero : Ideal.ofBits .f32 0x00000000#32 = (0 : EReal) := by
  simp [Ideal.ofBits, Ideal.ieee]

end Cert.Consts
end
-- ==== Proof.Attn.Entry.lean ====
/-
  What the host lines leave in the arrays the cached attention's region reads.
-/
module
public import proofs.«01_k».proof.Proof.Attn.Value
public import proofs.«01_k».proof.Proof.Attn.Scale
public import proofs.«01_k».proof.Proof.Attn.Consts
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen
theorem two : Ideal.ofBits .f32 0x40000000#32 = ((2 : ℝ) : EReal) := by
  simp [Ideal.ofBits, Ideal.ieee, -EReal.coe_mul]; norm_num

theorem div_div (x : EReal) : Ideal.div (Ideal.div x (Ideal.sqrt (Ideal.ofBits .f32 0x43400000#32))) (Ideal.log (Ideal.ofBits .f32 0x40000000#32)) = (Scale.c : EReal) * x := by
  rw [Consts.width, two, Ideal.sqrt_coe, if_neg (by norm_num), Ideal.log_coe, if_neg (by norm_num), Ideal.div_coe (Real.sqrt_pos.mpr (by norm_num)).ne',
    Ideal.div_coe (Real.log_pos (by norm_num)).ne', mul_assoc, ← EReal.coe_mul, mul_comm, one_div, one_div]
  rfl

variable (m : (ℓ : Loc nD τ sig) → Buf (Elt Ideal) ℓ) (c : Dev nD)

/-- Division by the root of 192 and the logarithm of 2. -/
def scaled (x : FVec Ideal S18496x8x256 .f32) : FVec Ideal S18496x8x256 .f32 :=
  Host.divf (Host.divf x (broadcastInDim S18496x8x256 ![] bcast_S_S18496x8x256 (Host.sqrt (constant (F := Ideal) S_ .f32 0x43400000#32)))) (broadcastInDim S18496x8x256 ![] bcast_S_S18496x8x256 (Host.log (constant (F := Ideal) S_ .f32 0x40000000#32)))

theorem scaled_apply (x : FVec Ideal S18496x8x256 .f32) (i : S18496x8x256.Idx) : scaled x i = (Scale.c : EReal) * x i := div_div (x i)

/-- The queries' array: a head's query, its rotary lanes and zeros side by side, scaled. -/
theorem V_q : V m c main_v9 = truncf (F := Ideal) .bf16 (shapeCast S18496x2048 (scaled (concatenate S18496x8x256 2 [⟨S18496x8x128, (m ((c : Thread nD τ).loc main_arg0) : FVec Ideal S18496x8x128 .f32)⟩, ⟨S18496x8x64, (m ((c : Thread nD τ).loc main_arg1) : FVec Ideal S18496x8x64 .f32)⟩, ⟨S18496x8x64, (broadcastInDim S18496x8x64 ![] bcast_S_S18496x8x64 (constant (F := Ideal) S_ .f32 0x00000000#32) : FVec Ideal S18496x8x64 .f32)⟩] concatenates_S18496x8x128_S18496x8x64_S18496x8x64_S18496x8x256_d2)) shapeCasts_S18496x8x256_S18496x2048) bitsLt_bf16_f32 := rfl

/-- The new rotary keys, padded to 128 lanes. -/
theorem V_newrot : V m c main_v10 = pad S18496x128 ![0, 0] ![0, 64] ![0, 0] (m ((c : Thread nD τ).loc main_arg3) : FVec Ideal S18496x64 .f32) (sitofp (F := Ideal) .f32 (constantI S_ 32 0#32)) pads_S18496x64_S18496x128_000_0640 h_S_ := rfl

/-- The cached rotary keys, transposed. -/
theorem V_cacherot : V m c main_v11 = transpose S2x32x64x2048 [0, 1, 3, 2] (m ((c : Thread nD τ).loc main_arg5) : FVec Ideal S2x32x2048x64 .f32) transposes_S2x32x2048x64_S2x32x64x2048_0_1_3_2 := rfl

/-- The weight's query half, a head at a time. -/
theorem V_wk : V m c main_v15 = truncf (F := Ideal) .bf16 (transpose S8x128x512 [1, 2, 0] (extractStridedSlice S512x8x128 ![0, 0, 0] (shapeCast S512x8x256 (m ((c : Thread nD τ).loc main_arg6) : FVec Ideal S512x2048 .f32) shapeCasts_S512x2048_S512x8x256) slices_S512x8x256_S512x8x128_0_0_0) transposes_S512x8x128_S8x128x512_1_2_0) bitsLt_bf16_f32 := rfl

/-- The weight's value half, a head at a time. -/
theorem V_wv : V m c main_v18 = truncf (F := Ideal) .bf16 (transpose S8x512x128 [1, 0, 2] (extractStridedSlice S512x8x128 ![0, 0, 128] (shapeCast S512x8x256 (m ((c : Thread nD τ).loc main_arg6) : FVec Ideal S512x2048 .f32) shapeCasts_S512x2048_S512x8x256) slices_S512x8x256_S512x8x128_0_0_128) transposes_S512x8x128_S8x512x128_1_0_2) bitsLt_bf16_f32 := rfl
end Cert.KernelIdeal.Attn
end
-- ==== Proof.Attn.Reads.lean ====
/-
  What the cached attention's input blocks hold, in terms of the arguments.
-/
module
public import proofs.«01_k».proof.Proof.Attn.Entry
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen
variable (m : (ℓ : Loc nD τ sig) → Buf (Elt Ideal) ℓ)

/-- The query block: 128 lanes of a head's query, its 64 rotary lanes, 64 lanes of zeros. -/
theorem read_nope (c : Dev nD) (t : Fin cfg0.N) (s : Fin 64) (h : Fin 8) (d : Fin 128) :
    (show FVec Ideal S64x2048 .bf16 from iblk m c 0 t) (ix2 s ⟨256 * h.val + d.val, by omega⟩)
      = (Scale.c : EReal) * (show FVec Ideal S18496x8x128 .f32 from m ((c : Thread nD τ).loc main_arg0)) (ix3 ⟨16448 + 64 * t.val + s.val, by have : t.val < 32 := t.isLt; omega⟩ h d) := by
  have ht : t.val < 32 := t.isLt
  blk_simp [iblk]
  rw [V_q]
  pointwise
  rw [scaled_apply]
  refine congrArg _ ?_
  pointwise
  blk_simp [idx t]
  refine (dif_pos (show (256 * h.val + d.val) % 256 < 128 by omega)).trans ?_
  blk_ext [idx t]

theorem read_rot (c : Dev nD) (t : Fin cfg0.N) (s : Fin 64) (h : Fin 8) (d : Fin 128) :
    (show FVec Ideal S64x2048 .bf16 from iblk m c 0 t) (ix2 s ⟨256 * h.val + 128 + d.val, by omega⟩)
      = if hd : d.val < 64 then (Scale.c : EReal) * (show FVec Ideal S18496x8x64 .f32 from m ((c : Thread nD τ).loc main_arg1)) (ix3 ⟨16448 + 64 * t.val + s.val, by have : t.val < 32 := t.isLt; omega⟩ h ⟨d.val, hd⟩) else 0 := by
  have ht : t.val < 32 := t.isLt
  blk_simp [iblk]
  rw [V_q]
  pointwise
  rw [scaled_apply]
  by_cases hd : d.val < 64
  · rw [dif_pos hd]
    refine congrArg _ ?_
    pointwise
    blk_simp [idx t]
    refine (dif_neg (show ¬ (256 * h.val + 128 + d.val) % 256 < 128 by omega)).trans ?_
    refine (dif_pos (show (256 * h.val + 128 + d.val) % 256 - 128 < 64 by omega)).trans ?_
    blk_ext [idx t]
  · rw [dif_neg hd]
    refine (congrArg (fun y : EReal => (Scale.c : EReal) * y) (?_ : _ = (0 : EReal))).trans (mul_zero _)
    pointwise
    have e : ((((View.whole main_v9).slice (win0_0.rect t)).emb (ix2 s (⟨256 * h.val + 128 + d.val, by omega⟩ : Fin 2048))) 1 : Nat) = 256 * h.val + 128 + d.val := by
      blk_simp [idx t]
      try omega
    exact (dif_neg (by rw [e]; omega)).trans (dif_neg (by rw [e]; omega))

theorem read_new (c : Dev nD) (t : Fin cfg0.N) (s : Fin 64) (l : Fin 512) :
    (show FVec Ideal S64x512 .f32 from iblk m c 1 t) (ix2 s l)
      = (show FVec Ideal S18496x512 .f32 from m ((c : Thread nD τ).loc main_arg2)) (ix2 ⟨16448 + 64 * t.val + s.val, by have : t.val < 32 := t.isLt; omega⟩ l) := by
  have ht : t.val < 32 := t.isLt
  blk_ext [iblk, V, idx t]

theorem read_newrot (c : Dev nD) (t : Fin cfg0.N) (s : Fin 64) (d : Fin 128) :
    (show FVec Ideal S64x128 .f32 from iblk m c 2 t) (ix2 s d)
      = if hd : d.val < 64 then (show FVec Ideal S18496x64 .f32 from m ((c : Thread nD τ).loc main_arg3)) (ix2 ⟨16448 + 64 * t.val + s.val, by have : t.val < 32 := t.isLt; omega⟩ ⟨d.val, hd⟩) else 0 := by
  have ht : t.val < 32 := t.isLt
  blk_simp [iblk]
  rw [V_newrot]
  pointwise
  by_cases hd : d.val < 64
  · rw [dif_pos hd]
    refine (dif_pos ?_).trans ?_
    · intro a
      fin_cases a
      · blk_simp [idx t]
        show 0 ≤ (257 + t.val) * 64 + s.val ∧ ((257 + t.val) * 64 + s.val - 0) % 1 = 0 ∧ ((257 + t.val) * 64 + s.val - 0) / 1 < 18496
        omega
      · blk_simp [idx t]
        show 0 ≤ d.val ∧ (d.val - 0) % 1 = 0 ∧ (d.val - 0) / 1 < 64
        omega
    · blk_ext [idx t]
  · rw [dif_neg hd]
    refine (dif_neg fun h => ?_).trans (by show ((((0#32 : BitVec 32).toInt : ℤ) : ℝ) : EReal) = 0; simp)
    have h1 := h 1
    blk_simp [idx t] at h1
    omega

theorem read_cache (c : Dev nD) (t : Fin cfg0.N) (k : Fin 2048) (l : Fin 512) :
    (show FVec Ideal S1x1x2048x512 .f32 from iblk m c 3 t) (ix4 0 0 k l)
      = (show FVec Ideal S2x32x2048x512 .f32 from m ((c : Thread nD τ).loc main_arg4)) (ix4 0 ⟨t.val, t.isLt⟩ k l) := by
  have ht : t.val < 32 := t.isLt
  blk_ext [iblk, V, idx t]

theorem read_cacherot (c : Dev nD) (t : Fin cfg0.N) (d : Fin 64) (k : Fin 2048) :
    (show FVec Ideal S1x1x64x2048 .f32 from iblk m c 4 t) (ix4 0 0 d k)
      = (show FVec Ideal S2x32x2048x64 .f32 from m ((c : Thread nD τ).loc main_arg5)) (ix4 0 ⟨t.val, t.isLt⟩ k d) := by
  have ht : t.val < 32 := t.isLt
  blk_simp [iblk]
  rw [V_cacherot]
  pointwise
  blk_ext [idx t]

theorem read_wk (c : Dev nD) (t : Fin cfg0.N) (h : Fin 8) (d : Fin 128) (l : Fin 512) :
    (show FVec Ideal S8x128x512 .bf16 from iblk m c 5 t) (ix3 h d l)
      = (show FVec Ideal S512x2048 .f32 from m ((c : Thread nD τ).loc main_arg6)) (ix2 l ⟨256 * h.val + d.val, by omega⟩) := by
  have ht : t.val < 32 := t.isLt
  blk_simp [iblk]
  rw [V_wk]
  pointwise
  blk_ext [idx t]

theorem read_wv (c : Dev nD) (t : Fin cfg0.N) (h : Fin 8) (l : Fin 512) (e : Fin 128) :
    (show FVec Ideal S8x512x128 .bf16 from iblk m c 6 t) (ix3 h l e)
      = (show FVec Ideal S512x2048 .f32 from m ((c : Thread nD τ).loc main_arg6)) (ix2 l ⟨256 * h.val + 128 + e.val, by omega⟩) := by
  have ht : t.val < 32 := t.isLt
  blk_simp [iblk]
  rw [V_wv]
  pointwise
  blk_ext [idx t]

end Cert.KernelIdeal.Attn
end
-- ==== Proof.Attn.Spec.lean ====
/-
  The cached attention as plain sums over the arguments: what both programs are shown to compute.
-/
module
public import Idealize.ShloMosaic.Lib.Pipeline.ValueKit
public import proofs.«01_k».proof.Proof.Attn.Scale
@[expose] public section
noncomputable section
open Idealize.ShloMosaic
namespace Cert.Spec

variable (A0 : FVec Ideal ⟨3, ![18496, 8, 128]⟩ .f32) (A1 : FVec Ideal ⟨3, ![18496, 8, 64]⟩ .f32)
  (A2 : FVec Ideal ⟨2, ![18496, 512]⟩ .f32) (A3 : FVec Ideal ⟨2, ![18496, 64]⟩ .f32)
  (A4 : FVec Ideal ⟨4, ![2, 32, 2048, 512]⟩ .f32) (A5 : FVec Ideal ⟨4, ![2, 32, 2048, 64]⟩ .f32)
  (A6 : FVec Ideal ⟨2, ![512, 2048]⟩ .f32)

/-- The row of stream `t`'s sample `s`. -/
def row (t : Fin 32) (s : Fin 64) : Fin 18496 := ⟨16448 + 64 * t.val + s.val, by omega⟩

/-- The latent keys of a stream: 2048 cached ones, then 64 new ones. -/
def key (t : Fin 32) (j : Fin 2112) (l : Fin 512) : EReal :=
  if h : j.val < 2048 then A4 (ix4 0 t ⟨j.val, h⟩ l) else A2 (ix2 (row t ⟨j.val - 2048, by omega⟩) l)

/-- The rotary keys of a stream. -/
def rot (t : Fin 32) (j : Fin 2112) (d : Fin 64) : EReal :=
  if h : j.val < 2048 then A5 (ix4 0 t ⟨j.val, h⟩ d) else A3 (ix2 (row t ⟨j.val - 2048, by omega⟩) d)

/-- A head's query taken to the latent width. -/
def qlat (t : Fin 32) (h : Fin 8) (s : Fin 64) (l : Fin 512) : EReal :=
  ∑ d : Fin 128, A0 (ix3 (row t s) h d) * A6 (ix2 l ⟨256 * h.val + d.val, by omega⟩)

/-- The score before its scale. -/
def score (t : Fin 32) (h : Fin 8) (s : Fin 64) (j : Fin 2112) : EReal :=
  ∑ l : Fin 512, qlat A0 A6 t h s l * key A2 A4 t j l + ∑ d : Fin 64, A1 (ix3 (row t s) h d) * rot A3 A5 t j d

/-- The exponential of a scaled score less its row's greatest. -/
def weight (t : Fin 32) (h : Fin 8) (s : Fin 64) (j : Fin 2112) : EReal :=
  Ideal.exp ((Scale.κ : EReal) * score A0 A1 A2 A3 A4 A5 A6 t h s j
    - Finset.univ.fold max ⊥ fun i => (Scale.κ : EReal) * score A0 A1 A2 A3 A4 A5 A6 t h s i)

/-- The latent rows averaged by the normalised weights. -/
def mixed (t : Fin 32) (h : Fin 8) (s : Fin 64) (l : Fin 512) : EReal :=
  ∑ j : Fin 2112, Ideal.div (weight A0 A1 A2 A3 A4 A5 A6 t h s j) (∑ i : Fin 2112, weight A0 A1 A2 A3 A4 A5 A6 t h s i)
    * key A2 A4 t j l

/-- The head's result. -/
def result (t : Fin 32) (h : Fin 8) (s : Fin 64) (e : Fin 128) : EReal :=
  ∑ l : Fin 512, mixed A0 A1 A2 A3 A4 A5 A6 t h s l * A6 (ix2 l ⟨256 * h.val + 128 + e.val, by omega⟩)

end Cert.Spec
end
-- ==== Proof.Attn.Mid.lean ====
/-
  The cached attention's block, read from the arguments: the plain sums.
-/
module
public import proofs.«01_k».proof.Proof.Attn.Reads
public import proofs.«01_k».proof.Proof.Attn.Spec
public import proofs.«01_k».proof.Proof.Attn.Consts
public import Idealize.ShloMosaic.PureOps.Ideal
@[expose] public section
set_option maxRecDepth 16384
noncomputable section
open Idealize.ShloMosaic Idealize.ShloMosaic.TcCoe Idealize.SL.Sem
namespace Cert.KernelIdeal.Attn
open Cert.KernelIdeal Cert.KernelIdeal.Gen

/-- A sum over 128 lanes of which the upper half is zero. -/
theorem sum_half (f : Fin 128 → EReal) (hf : ∀ d : Fin 128, ¬ d.val < 64 → f d = 0) :
    ∑ d : Fin 128, f d = ∑ d : Fin 64, f ⟨d.val, by omega⟩ := by
  rw [show (∑ d : Fin 128, f d) = ∑ d : Fin (64 + 64), f d from rfl, Fin.sum_univ_add]
  rw [Finset.sum_eq_zero (s := Finset.univ) (f := fun i : Fin 64 => f (Fin.natAdd 64 i)) (fun i _ => hf _ (by show ¬ 64 + i.val < 64; omega)), add_zero]
  rfl

section
variable (x0 : FVec Ideal S64x2048 .bf16) (x1 : FVec Ideal S64x512 .f32) (x2 : FVec Ideal S64x128 .f32)
    (x3 : FVec Ideal S1x1x2048x512 .f32) (x4 : FVec Ideal S1x1x64x2048 .f32) (x5 : FVec Ideal S8x128x512 .bf16)
    (x6 : FVec Ideal S8x512x128 .bf16)
  (A0 : FVec Ideal ⟨3, ![18496, 8, 128]⟩ .f32) (A1 : FVec Ideal ⟨3, ![18496, 8, 64]⟩ .f32)
  (A2 : FVec Ideal ⟨2, ![18496, 512]⟩ .f32) (A3 : FVec Ideal ⟨2, ![18496, 64]⟩ .f32)
  (A4 : FVec Ideal ⟨4, ![2, 32, 2048, 512]⟩ .f32) (A5 : FVec Ideal ⟨4, ![2, 32, 2048, 64]⟩ .f32)
  (A6 : FVec Ideal ⟨2, ![512, 2048]⟩ .f32) (t : Fin 32)
  (e0 : ∀ (s : Fin 64) (h : Fin 8) (d : Fin 128), x0 (ix2 s ⟨256 * h.val + d.val, by omega⟩) = (Scale.c : EReal) * A0 (ix3 (Spec.row t s) h d))
  (e0' : ∀ (s : Fin 64) (h : Fin 8) (d : Fin 128), x0 (ix2 s ⟨256 * h.val + 128 + d.val, by omega⟩)
      = if hd : d.val < 64 then (Scale.c : EReal) * A1 (ix3 (Spec.row t s) h ⟨d.val, hd⟩) else 0)
  (e1 : ∀ (s : Fin 64) (l : Fin 512), x1 (ix2 s l) = A2 (ix2 (Spec.row t s) l))
  (e2 : ∀ (s : Fin 64) (d : Fin 128), x2 (ix2 s d) = if hd : d.val < 64 then A3 (ix2 (Spec.row t s) ⟨d.val, hd⟩) else 0)
  (e3 : ∀ (k : Fin 2048) (l : Fin 512), x3 (ix4 0 0 k l) = A4 (ix4 0 t k l))
  (e4 : ∀ (d : Fin 64) (k : Fin 2048), x4 (ix4 0 0 d k) = A5 (ix4 0 t k d))
  (e5 : ∀ (h : Fin 8) (d : Fin 128) (l : Fin 512), x5 (ix3 h d l) = A6 (ix2 l ⟨256 * h.val + d.val, by omega⟩))
  (e6 : ∀ (h : Fin 8) (l : Fin 512) (e : Fin 128), x6 (ix3 h l e) = A6 (ix2 l ⟨256 * h.val + 128 + e.val, by omega⟩))
include e1 e3 in
theorem keys_eq (j : Fin 2112) (l : Fin 512) : keys x1 x3 (ix2 j l) = Spec.key A2 A4 t j l := by
  rw [keys_apply]; unfold Spec.key
  by_cases h : j.val < 2048
  · rw [dif_pos h, dif_pos h, e3]
  · rw [dif_neg h, dif_neg h, e1]

include e0 e5 in
theorem lat_eq (h : Fin 8) (s : Fin 64) (l : Fin 512) :
    lat x0 x5 (ix2 ⟨64 * h.val + s.val, by omega⟩ l) = (Scale.c : EReal) * Spec.qlat A0 A6 t h s l := by
  rw [lat_apply, Spec.qlat, Scale.mul_sum_pos Scale.c_pos]
  refine Finset.sum_congr rfl fun d _ => ?_
  rw [e0, e5, mul_assoc]

include e0' in
/-- Both halves of the rotary scores: the lanes from 64 on are zero. -/
theorem rotary (g : Fin 128 → EReal) (G : Fin 64 → EReal)
    (hg : ∀ d : Fin 128, g d = if hd : d.val < 64 then G ⟨d.val, hd⟩ else 0) (h : Fin 8) (s : Fin 64) :
    ∑ d : Fin 128, rotq x0 (ix2 ⟨64 * h.val + s.val, by omega⟩ d) * g d
      = (Scale.c : EReal) * ∑ d : Fin 64, A1 (ix3 (Spec.row t s) h d) * G d := by
  rw [sum_half _ fun d hd => by rw [hg, dif_neg hd, mul_zero], Scale.mul_sum_pos Scale.c_pos]
  refine Finset.sum_congr rfl fun d _ => ?_
  rw [rotq_apply, hg, e0', dif_pos d.isLt, dif_pos d.isLt, mul_assoc]

include e0 e0' e1 e2 e3 e4 e5 in
theorem score_eq (h : Fin 8) (s : Fin 64) (j : Fin 2112) :
    score (lat x0 x5) (rotq x0) (rotscore x0 x4) x2 (keys x1 x3) (ix2 ⟨64 * h.val + s.val, by omega⟩ j)
      = (Scale.c : EReal) * Spec.score A0 A1 A2 A3 A4 A5 A6 t h s j := by
  rw [score_apply, Spec.score, Scale.mul_add_pos Scale.c_pos]
  congr 1
  · rw [Scale.mul_sum_pos Scale.c_pos]
    refine Finset.sum_congr rfl fun l _ => ?_
    rw [lat_eq x0 x5 A0 A6 t e0 e5, keys_eq x1 x3 A2 A4 t e1 e3, mul_assoc]
  · by_cases hj : j.val < 2048
    · rw [dif_pos hj, rotscore_apply]
      refine (rotary x0 A1 t e0' _ (fun d => Spec.rot A3 A5 t j d) (fun d => ?_) h s)
      rw [rots_apply]
      by_cases hd : d.val < 64
      · rw [dif_pos hd, dif_pos hd, e4, Spec.rot, dif_pos hj]
      · rw [dif_neg hd, dif_neg hd]
    · rw [dif_neg hj]
      refine (rotary x0 A1 t e0' _ (fun d => Spec.rot A3 A5 t j d) (fun d => ?_) h s)
      rw [e2]
      by_cases hd : d.val < 64
      · rw [dif_pos hd, dif_pos hd, Spec.rot, dif_neg hj]
      · rw [dif_neg hd, dif_neg hd]

include e0 e0' e1 e2 e3 e4 e5 in
theorem weight_eq (h : Fin 8) (s : Fin 64) (j : Fin 2112) :
    FloatOps.exp2 (F := Ideal) (φ := .f32) (score (lat x0 x5) (rotq x0) (rotscore x0 x4) x2 (keys x1 x3) (ix2 ⟨64 * h.val + s.val, by omega⟩ j)
        - rowMax (score (lat x0 x5) (rotq x0) (rotscore x0 x4) x2 (keys x1 x3)) ⟨64 * h.val + s.val, by omega⟩)
      = Spec.weight A0 A1 A2 A3 A4 A5 A6 t h s j := by
  unfold rowMax
  rw [Consts.least]
  simp only [score_eq x0 x1 x2 x3 x4 x5 A0 A1 A2 A3 A4 A5 A6 t e0 e0' e1 e2 e3 e4 e5]
  exact Scale.row_exp _ _ j

include e0 e0' e1 e2 e3 e4 e5 e6 in
theorem out_eq (s : Fin 64) (h : Fin 8) (e : Fin 128) :
    head (mix x0 x1 x2 x3 x4 x5) x6 h s e = Spec.result A0 A1 A2 A3 A4 A5 A6 t h s e := by
  unfold head Spec.result
  refine Finset.sum_congr rfl fun l _ => ?_
  rw [e6, mix_eq, soft_apply]
  congr 1
  unfold Spec.mixed
  refine Finset.sum_congr rfl fun j _ => ?_
  simp only [weight_eq x0 x1 x2 x3 x4 x5 A0 A1 A2 A3 A4 A5 A6 t e0 e0' e1 e2 e3 e4 e5]
  rw [keys_eq x1 x3 A2 A4 t e1 e3]
end

variable (m : (ℓ : Loc nD τ sig) → Buf (Elt Ideal) ℓ)

theorem blk_eq (c : Dev nD) (t : Fin cfg0.N) (s : Fin 64) (k : Fin 1024) :
    blk m c t s k = Spec.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      ⟨t.val, t.isLt⟩ ⟨k.val / 128, by omega⟩ s ⟨k.val % 128, by omega⟩ := by
  unfold blk out
  exact out_eq _ _ _ _ _ _ _ _ _ _ _ _ _ _ ⟨t.val, t.isLt⟩ (read_nope m c t) (read_rot m c t) (read_new m c t) (read_newrot m c t)
    (read_cache m c t) (read_cacherot m c t) (read_wk m c t) (read_wv m c t) s _ _
end Cert.KernelIdeal.Attn
end
-- ==== Proof.Attn.Ref.lean ====
/-
  The reference's composed term, one stage at a time, read as the plain sums of `Spec`.
-/
module
public import proofs.«01_k».proof.Proof.Gen.ReferenceIdeal.Run
public import proofs.«01_k».proof.Proof.Attn.Spec
public import proofs.«01_k».proof.Proof.Attn.Consts
@[expose] public section
set_option maxRecDepth 16384
noncomputable section
open Idealize.ShloMosaic Idealize.ShloMosaic.TcCoe Idealize.SL.Sem
namespace Cert.ReferenceIdeal.Attn
open Cert.ReferenceIdeal Cert.ReferenceIdeal.Gen

variable (A0 : FVec Ideal S18496x8x128 .f32) (A1 : FVec Ideal S18496x8x64 .f32)
  (A2 : FVec Ideal S18496x512 .f32) (A3 : FVec Ideal S18496x64 .f32)
  (A4 : FVec Ideal S2x32x2048x512 .f32) (A5 : FVec Ideal S2x32x2048x64 .f32)
  (A6 : FVec Ideal S512x2048 .f32) (A7 : FVec Ideal S18496x1024 .f32)

/-- Latent keys of all streams. -/
def cAll : FVec Ideal S32x2112x512 .f32 :=
  concatenate S32x2112x512 1 [⟨S32x2048x512, (shapeCast _ (extractStridedSlice S1x32x2048x512 ![0, 0, 0, 0] A4 slices_S2x32x2048x512_S1x32x2048x512_0_0_0_0) shapeCasts_S1x32x2048x512_S32x2048x512)⟩, ⟨S32x64x512, (shapeCast _ (extractStridedSlice S2048x512 ![16448, 0] A2 slices_S18496x512_S2048x512_16448_0) shapeCasts_S2048x512_S32x64x512)⟩] concatenates_S32x2048x512_S32x64x512_S32x2112x512_d1

/-- Rotary keys of all streams. -/
def peAll : FVec Ideal S32x2112x64 .f32 :=
  concatenate S32x2112x64 1 [⟨S32x2048x64, (shapeCast _ (extractStridedSlice S1x32x2048x64 ![0, 0, 0, 0] A5 slices_S2x32x2048x64_S1x32x2048x64_0_0_0_0) shapeCasts_S1x32x2048x64_S32x2048x64)⟩, ⟨S32x64x64, (shapeCast _ (extractStridedSlice S2048x64 ![16448, 0] A3 slices_S18496x64_S2048x64_16448_0) shapeCasts_S2048x64_S32x64x64)⟩] concatenates_S32x2048x64_S32x64x64_S32x2112x64_d1

/-- Queries at the latent width. -/
def qAll : FVec Ideal S32x64x8x512 .f32 :=
  transpose S32x64x8x512 [2, 3, 0, 1] (Host.dotGeneral (F := Ideal) dot_S512x8x128_S32x64x8x128_S8x512x32x64_2_3_0_01_1_2 none (extractStridedSlice S512x8x128 ![0, 0, 0] (shapeCast S512x8x256 A6 shapeCasts_S512x2048_S512x8x256) slices_S512x8x256_S512x8x128_0_0_0) (shapeCast S32x64x8x128 (extractStridedSlice S2048x8x128 ![16448, 0, 0] A0 slices_S18496x8x128_S2048x8x128_16448_0_0) shapeCasts_S2048x8x128_S32x64x8x128)) transposes_S8x512x32x64_S32x64x8x512_2_3_0_1

/-- Scaled scores over given keys and queries. -/
def scores (C : FVec Ideal S32x2112x512 .f32) (P : FVec Ideal S32x2112x64 .f32) (Q : FVec Ideal S32x64x8x512 .f32) : FVec Ideal S32x8x64x2112 .f32 :=
  Host.divf (addf (transpose S32x8x64x2112 [0, 3, 2, 1] (Host.dotGeneral (F := Ideal) dot_S32x2112x512_S32x64x8x512_S32x2112x64x8_2_3_1_12_0_0 none C Q) transposes_S32x2112x64x8_S32x8x64x2112_0_3_2_1)
    (transpose S32x8x64x2112 [0, 3, 2, 1] (Host.dotGeneral (F := Ideal) dot_S32x2112x64_S32x64x8x64_S32x2112x64x8_2_3_1_12_0_0 none P (shapeCast S32x64x8x64 (extractStridedSlice S2048x8x64 ![16448, 0, 0] A1 slices_S18496x8x64_S2048x8x64_16448_0_0) shapeCasts_S2048x8x64_S32x64x8x64)) transposes_S32x2112x64x8_S32x8x64x2112_0_3_2_1))
    (broadcastInDim S32x8x64x2112 ![] bcast_S_S32x8x64x2112 (Host.sqrt (constant (F := Ideal) S_ .f32 0x43400000#32)))

/-- The greatest score of each row. -/
def top (z : FVec Ideal S32x8x64x2112 .f32) : FVec Ideal S32x8x64 .f32 :=
  maximumf (broadcastInDim S32x8x64 ![] bcast_S_S32x8x64 (constant (F := Ideal) S_ .f32 0xFF800000#32)) (Host.reduce FloatOps.maximumf z (constant (F := Ideal) S_ .f32 0xFF800000#32) reducesTo_S32x8x64x2112_S32x8x64_d3 h_S_)

/-- Exponentials of scores less a number of their row. -/
def weights (z : FVec Ideal S32x8x64x2112 .f32) (b : FVec Ideal S32x8x64 .f32) : FVec Ideal S32x8x64x2112 .f32 :=
  Host.exp (subf z (broadcastInDim S32x8x64x2112 ![0, 1, 2, 3] bcast_S32x8x64x1_S32x8x64x2112_0_1_2_3 (broadcastInDim S32x8x64x1 ![0, 1, 2] bcast_S32x8x64_S32x8x64x1_0_1_2 b)))

/-- Normalised weights applied to the latent keys. -/
def mixes (w : FVec Ideal S32x8x64x2112 .f32) (C : FVec Ideal S32x2112x512 .f32) : FVec Ideal S32x64x8x512 .f32 :=
  transpose S32x64x8x512 [0, 3, 2, 1] (Host.dotGeneral (F := Ideal) dot_S32x2112x512_S32x8x64x2112_S32x512x8x64_1_3_2_12_0_0 none C (Host.divf w (broadcastInDim S32x8x64x2112 ![0, 1, 2, 3] bcast_S32x8x64x1_S32x8x64x2112_0_1_2_3 (broadcastInDim S32x8x64x1 ![0, 1, 2] bcast_S32x8x64_S32x8x64x1_0_1_2 (Host.reduceAdd w (constant (F := Ideal) S_ .f32 0x00000000#32) reducesTo_S32x8x64x2112_S32x8x64_d3 h_S_))))) transposes_S32x512x8x64_S32x64x8x512_0_3_2_1

/-- A head's averaged latent rows through its value weights. -/
def heads (M : FVec Ideal S32x64x8x512 .f32) : FVec Ideal S32x64x8x128 .f32 :=
  transpose S32x64x8x128 [2, 3, 0, 1] (Host.dotGeneral (F := Ideal) dot_S512x8x128_S32x64x8x512_S8x128x32x64_0_3_2_01_1_2 none (extractStridedSlice S512x8x128 ![0, 0, 128] (shapeCast S512x8x256 A6 shapeCasts_S512x2048_S512x8x256) slices_S512x8x256_S512x8x128_0_0_128) M) transposes_S8x128x32x64_S32x64x8x128_2_3_0_1

/-- The prompt's rows above the samples' rows. -/
def whole (H : FVec Ideal S32x64x8x128 .f32) : FVec Ideal S18496x1024 .bf16 :=
  truncf .bf16 (concatenate S18496x1024 0 [⟨S16448x1024, (extractStridedSlice S16448x1024 ![0, 0] A7 slices_S18496x1024_S16448x1024_0_0)⟩, ⟨S2048x1024, (shapeCast S2048x1024 H shapeCasts_S32x64x8x128_S2048x1024)⟩] concatenates_S16448x1024_S2048x1024_S18496x1024_d0) bitsLt_bf16_f32

variable (m : (ℓ : Loc nD τ sig) → Buf (Elt Ideal) ℓ)

/-- The averaged latent rows over the arguments. -/
def stage : FVec Ideal S32x8x64x2112 .f32 := scores A1 (cAll A2 A4) (peAll A3 A5) (qAll A0 A6)

theorem res_eq (c : Dev nD) : Value.res_out0 m c
    = whole (m ((c : Thread nD τ).loc main_arg7)) (heads (m ((c : Thread nD τ).loc main_arg6))
        (mixes (weights (stage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
          (top (stage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))))
          (cAll (m ((c : Thread nD τ).loc main_arg2)) (m ((c : Thread nD τ).loc main_arg4))))) := rfl

theorem cAll_apply (t : Fin 32) (j : Fin 2112) (l : Fin 512) : cAll A2 A4 (ix3 t j l) = Spec.key A2 A4 t j l := by
  unfold Spec.key Spec.row
  pointwise [cAll]
  split
  · rfl
  · blk_ext []

theorem peAll_apply (t : Fin 32) (j : Fin 2112) (l : Fin 64) : peAll A3 A5 (ix3 t j l) = Spec.rot A3 A5 t j l := by
  unfold Spec.rot Spec.row
  pointwise [peAll]
  split
  · rfl
  · blk_ext []

theorem qAll_apply (t : Fin 32) (s : Fin 64) (h : Fin 8) (l : Fin 512) : qAll A0 A6 (ix4 t s h l) = Spec.qlat A0 A6 t h s l := by
  unfold Spec.qlat Spec.row
  pointwise [qAll]
  refine Finset.sum_congr rfl fun d _ => (mul_comm _ _).trans (congr_arg₂ (· * ·) ?_ ?_)
  · blk_ext []
  · blk_ext []

/-- Division by the root of 192 is multiplication by its reciprocal. -/
theorem div_root (x : EReal) : Ideal.div x (Ideal.sqrt (Ideal.ofBits .f32 0x43400000#32)) = (Scale.κ : EReal) * x := by
  rw [Consts.width, Ideal.sqrt_coe, if_neg (by norm_num), Ideal.div_coe (Real.sqrt_pos.mpr (by norm_num)).ne', mul_comm, one_div]
  rfl

theorem scores_apply (C : FVec Ideal S32x2112x512 .f32) (P : FVec Ideal S32x2112x64 .f32) (Q : FVec Ideal S32x64x8x512 .f32)
    (t : Fin 32) (h : Fin 8) (s : Fin 64) (j : Fin 2112) : scores A1 C P Q (ix4 t h s j)
      = (Scale.κ : EReal) * (∑ l : Fin 512, Q (ix4 t s h l) * C (ix3 t j l) + ∑ d : Fin 64, A1 (ix3 (Spec.row t s) h d) * P (ix3 t j d)) := by
  unfold Spec.row
  pointwise [scores]
  refine (div_root _).trans (congrArg _ (congr_arg₂ (· + ·) ?_ ?_))
  · exact Finset.sum_congr rfl fun d _ => mul_comm _ _
  · refine Finset.sum_congr rfl fun d _ => (mul_comm _ _).trans (congr_arg₂ (· * ·) ?_ rfl)
    blk_ext []

theorem greatest (z : FVec Ideal S32x8x64x2112 .f32) (v : FVec Ideal S_ .f32) (t : Fin 32) (h : Fin 8) (s : Fin 64) :
    Host.reduce FloatOps.maximumf z v reducesTo_S32x8x64x2112_S32x8x64_d3 h_S_ (ix3 t h s)
      = Finset.univ.fold max (v (Shape.Idx.first h_S_)) fun i : Fin 2112 => z (ix4 t h s i) := by
  simp only [pointwise]

theorem pairwise (a b : FVec Ideal S32x8x64 .f32) (i : S32x8x64.Idx) : maximumf a b i = max (a i) (b i) := rfl

theorem start (i : S_.Idx) : (constant (F := Ideal) S_ .f32 0xFF800000#32) i = (⊥ : EReal) := Consts.least

theorem spread (v : FVec Ideal S_ .f32) (x : EReal) (hv : ∀ i, v i = x) (i : S32x8x64.Idx) :
    broadcastInDim S32x8x64 ![] bcast_S_S32x8x64 v i = x := hv _

theorem top_apply (z : FVec Ideal S32x8x64x2112 .f32) (t : Fin 32) (h : Fin 8) (s : Fin 64) :
    top z (ix3 t h s) = Finset.univ.fold max ⊥ fun i => z (ix4 t h s i) := by
  unfold top
  rw [pairwise, greatest, spread _ ⊥ start, start]
  exact max_eq_right bot_le

theorem weights_apply (z : FVec Ideal S32x8x64x2112 .f32) (b : FVec Ideal S32x8x64 .f32) (t : Fin 32) (h : Fin 8) (s : Fin 64) (j : Fin 2112) :
    weights z b (ix4 t h s j) = Ideal.exp (z (ix4 t h s j) - b (ix3 t h s)) := by
  pointwise [weights]

theorem mixes_apply (w : FVec Ideal S32x8x64x2112 .f32) (C : FVec Ideal S32x2112x512 .f32) (t : Fin 32) (s : Fin 64) (h : Fin 8) (l : Fin 512) :
    mixes w C (ix4 t s h l) = ∑ j : Fin 2112, Ideal.div (w (ix4 t h s j)) (∑ i : Fin 2112, w (ix4 t h s i)) * C (ix3 t j l) := by
  pointwise [mixes]
  exact Finset.sum_congr rfl fun d _ => mul_comm _ _

theorem heads_apply (M : FVec Ideal S32x64x8x512 .f32) (t : Fin 32) (s : Fin 64) (h : Fin 8) (e : Fin 128) : heads A6 M (ix4 t s h e)
    = ∑ l : Fin 512, M (ix4 t s h l) * A6 (ix2 l ⟨256 * h.val + 128 + e.val, by omega⟩) := by
  pointwise [heads]
  refine Finset.sum_congr rfl fun d _ => (mul_comm _ _).trans (congr_arg₂ (· * ·) rfl ?_)
  blk_ext []

theorem whole_apply (H : FVec Ideal S32x64x8x128 .f32) (i : Fin 18496) (k : Fin 1024) : whole A7 H (ix2 i k)
    = if i.val < 16448 then A7 (ix2 i k)
      else H (ix4 ⟨(i.val - 16448) / 64, by omega⟩ ⟨(i.val - 16448) % 64, by omega⟩ ⟨k.val / 128, by omega⟩ ⟨k.val % 128, by omega⟩) := by
  pointwise [whole]
  rfl
end Cert.ReferenceIdeal.Attn
end
-- ==== Proof.Attn.Claims.lean ====
/-
  The cached attention's claims.
-/
module
public import proofs.«01_k».proof.Defs
public import proofs.«01_k».proof.Proof.Attn.Mid
public import proofs.«01_k».proof.Proof.Attn.Ref
public import proofs.«01_k».proof.Proof.Gen.Kernel.Frame
public import Idealize.ShloMosaic.Adequacy
public import Idealize.ShloMosaic.Init
@[expose] public section
set_option maxRecDepth 16384
noncomputable section
open Idealize.ShloMosaic Idealize.ShloMosaic.TcCoe Idealize.SL.Sem

namespace Cert.Spec
variable (A0 : FVec Ideal ⟨3, ![18496, 8, 128]⟩ .f32) (A1 : FVec Ideal ⟨3, ![18496, 8, 64]⟩ .f32)
  (A2 : FVec Ideal ⟨2, ![18496, 512]⟩ .f32) (A3 : FVec Ideal ⟨2, ![18496, 64]⟩ .f32)
  (A4 : FVec Ideal ⟨4, ![2, 32, 2048, 512]⟩ .f32) (A5 : FVec Ideal ⟨4, ![2, 32, 2048, 64]⟩ .f32)
  (A6 : FVec Ideal ⟨2, ![512, 2048]⟩ .f32) (A7 : FVec Ideal ⟨2, ![18496, 1024]⟩ .f32)

/-- The whole result: the prompt's rows as given, then the samples' rows. -/
def array (i : Fin 18496) (k : Fin 1024) : EReal :=
  if i.val < 16448 then A7 (ix2 i k)
  else result A0 A1 A2 A3 A4 A5 A6 ⟨(i.val - 16448) / 64, by omega⟩ ⟨k.val / 128, by omega⟩ ⟨(i.val - 16448) % 64, by omega⟩ ⟨k.val % 128, by omega⟩
end Cert.Spec

namespace Cert.ReferenceIdeal.Attn
open Cert.ReferenceIdeal Cert.ReferenceIdeal.Gen
variable (m : (ℓ : Loc nD τ sig) → Buf (Elt Ideal) ℓ)

theorem stage_apply (A0 : FVec Ideal S18496x8x128 .f32) (A1 : FVec Ideal S18496x8x64 .f32)
    (A2 : FVec Ideal S18496x512 .f32) (A3 : FVec Ideal S18496x64 .f32)
    (A4 : FVec Ideal S2x32x2048x512 .f32) (A5 : FVec Ideal S2x32x2048x64 .f32) (A6 : FVec Ideal S512x2048 .f32)
    (t : Fin 32) (h : Fin 8) (s : Fin 64) (j : Fin 2112) :
    stage A0 A1 A2 A3 A4 A5 A6 (ix4 t h s j) = (Scale.κ : EReal) * Spec.score A0 A1 A2 A3 A4 A5 A6 t h s j := by
  unfold stage
  rw [scores_apply]
  simp only [qAll_apply, cAll_apply, peAll_apply]
  rfl

theorem reference_apply (c : Dev nD) (i : Fin 18496) (k : Fin 1024) :
    (show FVec Ideal S18496x1024 .bf16 from Value.res_out0 m c) (ix2 i k)
      = Spec.array (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) i k := by
  rw [res_eq]
  refine (whole_apply _ _ i k).trans ?_
  unfold Spec.array
  split
  · rfl
  · rw [heads_apply]
    unfold Spec.result
    refine Finset.sum_congr rfl fun l _ => congrArg (· * _) ?_
    rw [mixes_apply]
    unfold Spec.mixed
    refine Finset.sum_congr rfl fun j _ => ?_
    simp only [weights_apply, top_apply, stage_apply, cAll_apply]
    rfl
end Cert.ReferenceIdeal.Attn

namespace Cert.KernelIdeal.Attn
open Cert.KernelIdeal Cert.KernelIdeal.Gen
variable (m : (ℓ : Loc nD τ sig) → Buf (Elt Ideal) ℓ)

/-- The result's array before the launch: the prompt's rows. -/
theorem V_prompt (c : Dev nD) : V m c main_v19 = truncf (F := Ideal) .bf16 (m ((c : Thread nD τ).loc main_arg7) : FVec Ideal S18496x1024 .f32) bitsLt_bf16_f32 := rfl

theorem before (c : Dev nD) (i : S18496x1024.Idx) : (show FVec Ideal S18496x1024 .bf16 from (dats m 0 c).A 7) i
    = (show FVec Ideal S18496x1024 .f32 from m ((c : Thread nD τ).loc main_arg7)) i :=
  congrFun (V_prompt m c) i

theorem kernel_apply (c : Dev nD) (i : Fin 18496) (k : Fin 1024) :
    (show FVec Ideal S18496x1024 .bf16 from (dats m 0 c).arrAt 7 cfg0.N) (ix2 i k)
      = Spec.array (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) i k := by
  rw [final m c]
  unfold Spec.array
  by_cases hi : i.val < 16448
  · rw [if_pos hi]
    refine (if_neg (show ¬ 16448 ≤ i.val by omega)).trans (before m c _)
  · rw [if_neg hi]
    refine (if_pos (show 16448 ≤ i.val by omega)).trans ?_
    exact blk_eq m c _ _ _
end Cert.KernelIdeal.Attn

namespace Cert.Attn

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7⟩ := hagree c
  refine funext fun (i : (⟨2, ![18496, 1024]⟩ : Shape).Idx) => ?_
  rw [show i = ix2 (i 0) (i 1) from by pointwise]
  refine (Cert.ReferenceIdeal.Attn.reference_apply m' c (i 0) (i 1)).trans ((?_ : _ = _).trans (Cert.KernelIdeal.Attn.kernel_apply m c (i 0) (i 1)).symm)
  rw [h0, h1, h2, h3, h4, h5, h6, h7]

end Cert.Attn
end
-- ==== Proof.Proj.GateupRun.lean ====
/-
  The gate and up projections' run: every buffer ends at the last valuation of the generated frame.
-/
module
public import proofs.«01_k».proof.Proof.Gen.GateupIdeal.Frame
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
namespace Cert.GateupIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The run ends with every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The results' final contents are the last region's arrays, the arguments unchanged. -/
theorem run_results : θ_run defs (onTc (τ := τ) (main (F := F))) ⟨m, fun _ => 0, ρ⟩ (fun r => ∀ c : Dev nD,
      r.2.mem ((c.tc : Thread nD τ).loc main_v3_0) = (dat2 (V3 m ρ) c).arrAt 3 cfg2.N
      ∧ r.2.mem ((c.tc : Thread nD τ).loc main_v3_1) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c _ (mem_uc main_v3_0 (by decide))).trans (hF2 m ρ c 3).symm,
       (h c _ (mem_uc main_v3_1 (by decide))).trans (hF2 m ρ c 4).symm,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩) (run_all m ρ)

end Cert.GateupIdeal.Gen
end
-- ==== Proof.Proj.GateupValue.lean ====
/-
  The gate and up projections' regions: what each leaves in its result, over the contents it is entered with.
-/
module
public import proofs.«01_k».proof.Proof.Proj.GateupRun
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.ShloMosaic.Tactic Idealize.SL.Sem
open Idealize.ShloMosaic.Pipeline (Dat)

/-- Rows times a weight's first layer, the columns past 11008 zero. -/
def Cert.Spec.wideProd (a : FVec Ideal ⟨2, ![18496, 4096]⟩ .f32) (w : FVec Ideal ⟨3, ![2, 4096, 11008]⟩ .f32) (i : Fin 18496) (j : Fin 11264) : EReal :=
  if h : j.val < 11008 then ∑ k : Fin 4096, a (ix2 i k) * w (ix3 0 k ⟨j.val, h⟩) else 0

namespace Cert.GateupIdeal.Gen
variable (V : (c : Dev nD) → (b : Ref sig .tc) → Buf (Elt Ideal) ((c : Thread nD τ).loc b))

/-- A weight's first layer, its columns past 11008 zero. -/
def wide (w : FVec Ideal S2x4096x11008 .f32) : FVec Ideal S4096x11264 .bf16 := fun i =>
  if h : (i 1).val < 11008 then w (ix3 0 (i 0) ⟨(i 1).val, h⟩) else 0

/-- The product's entries. -/
def prod (a : FVec Ideal S18496x4096 .bf16) (w : FVec Ideal S4096x11264 .bf16) : FVec Ideal S18496x11264 .bf16 := fun i =>
  ∑ k : Fin 4096, a (ix2 (i 0) k) * w (ix2 k (i 1))

theorem idx0 : ∀ t : Fin cfg0.N, win0_0.index t = ![0, t.val, 0] ∧ win0_1.index t = ![t.val, 0] :=
  (by decide +kernel : ∀ t : Fin grid0.N, _)
theorem idx1 : ∀ t : Fin cfg1.N, win1_0.index t = ![0, t.val, 0] ∧ win1_1.index t = ![t.val, 0] :=
  (by decide +kernel : ∀ t : Fin grid1.N, _)
theorem idx2 : ∀ t : Fin cfg2.N, win2_0.index t = ![t.val / 22, 0] ∧ win2_1.index t = ![0, t.val % 22] ∧ win2_2.index t = ![0, t.val % 22]
    ∧ win2_3.index t = ![t.val / 22, t.val % 22] ∧ win2_4.index t = ![t.val / 22, t.val % 22] :=
  (by decide +kernel : ∀ t : Fin grid2.N, _)

theorem final2_3 (c : Dev nD) : (dat2 V c).arrAt 3 cfg2.N = prod (V c main_v0) (V c main_v1) := by
  refine (dat2 V c).arrAt_eq_of_covers 3 _ (by decide +kernel) fun t _ y => ?_
  blk_simp
  rw [after2_3]
  frame_out
  unfold prod
  pointwise [k2_pay2, k2_pay1]
  blk_point [iblk2, idx2 t]

theorem final2_4 (c : Dev nD) : (dat2 V c).arrAt 4 cfg2.N = prod (V c main_v0) (V c main_v2) := by
  refine (dat2 V c).arrAt_eq_of_covers 4 _ (by decide +kernel) fun t _ y => ?_
  blk_simp
  rw [after2_4]
  frame_out
  unfold prod
  pointwise [k2_pay3, k2_pay1]
  blk_point [iblk2, idx2 t]

theorem final0 (c : Dev nD) : (dat0 V c).arrAt 1 cfg0.N = wide (V c main_arg1) := by
  refine (dat0 V c).arrAt_eq_of_covers 1 _ (by decide +kernel) fun t _ y => ?_
  blk_simp
  rw [after0_1]; unfold outsAt0
  frame_out
  canon_tiles x h using View.cover_of_tiledBy _ ![128, 256] (by sl_kernel_rfl) y
  · refine Eq.trans ?_ (dif_neg (show ¬ ((((View.whole main_v1).slice (win0_1.rect t)).emb y) 1 : Nat) < 11008 by
      blk_simp [idx0 t]; omega)).symm
    pointwise [k0_pay2]
  · refine Eq.trans ?_ (dif_pos (show ((((View.whole main_v1).slice (win0_1.rect t)).emb y) 1 : Nat) < 11008 by
      blk_simp [idx0 t]; omega)).symm
    pointwise [k0_pay1]
    blk_point [iblk0, idx0 t]
theorem final1 (c : Dev nD) : (dat1 V c).arrAt 1 cfg1.N = wide (V c main_arg2) := by
  refine (dat1 V c).arrAt_eq_of_covers 1 _ (by decide +kernel) fun t _ y => ?_
  blk_simp
  rw [after1_1]; unfold outsAt1
  frame_out
  canon_tiles x h using View.cover_of_tiledBy _ ![128, 256] (by sl_kernel_rfl) y
  · refine Eq.trans ?_ (dif_neg (show ¬ ((((View.whole main_v2).slice (win1_1.rect t)).emb y) 1 : Nat) < 11008 by
      blk_simp [idx1 t]; omega)).symm
    pointwise [k1_pay2]
  · refine Eq.trans ?_ (dif_pos (show ((((View.whole main_v2).slice (win1_1.rect t)).emb y) 1 : Nat) < 11008 by
      blk_simp [idx1 t]; omega)).symm
    pointwise [k1_pay1]
    blk_point [iblk1, idx1 t]

variable (m : (ℓ : Loc nD τ sig) → Buf (Elt Ideal) ℓ) (ρ : Dev nD → PrngReg)

theorem V3_rows (c : Dev nD) : V3 m ρ c main_v0 = (m ((c : Thread nD τ).loc main_arg0) : FVec Ideal S18496x4096 .f32) :=
  (W3_of m ρ c main_v0 (by decide)).trans ((W2_of m ρ c main_v0 (by decide)).trans rfl)

theorem V3_gate (c : Dev nD) : V3 m ρ c main_v1 = wide (m ((c : Thread nD τ).loc main_arg1)) :=
  (W3_of m ρ c main_v1 (by decide)).trans ((hF0 m ρ c 1).symm.trans ((final0 (V1 m ρ) c).trans
    (congrArg wide (W1_args m ρ c main_arg1 (by decide)))))

theorem V3_up (c : Dev nD) : V3 m ρ c main_v2 = wide (m ((c : Thread nD τ).loc main_arg2)) :=
  (hF1 m ρ c 1).symm.trans ((final1 (V2 m ρ) c).trans (congrArg wide (W2_args m ρ c main_arg2 (by decide))))

/-- The product with a weight widened by zero columns is the product widened by zero columns. -/
theorem prod_wide (a : FVec Ideal S18496x4096 .f32) (w : FVec Ideal S2x4096x11008 .f32) (i : Fin 18496) (j : Fin 11264) :
    prod a (wide w) (ix2 i j) = Spec.wideProd a w i j := by
  unfold prod Spec.wideProd
  by_cases h : j.val < 11008
  · refine Eq.trans ?_ (dif_pos h).symm
    exact Finset.sum_congr rfl fun k _ => congrArg (a (ix2 i k) * ·) (dif_pos (show j.val < 11008 from h))
  · refine Eq.trans ?_ (dif_neg h).symm
    refine Finset.sum_eq_zero fun k _ => ?_
    refine (congrArg (a (ix2 i k) * ·) (dif_neg (show ¬ j.val < 11008 from h))).trans (mul_zero _)

theorem gate (c : Dev nD) (i : Fin 18496) (j : Fin 11264) :
    (show FVec Ideal S18496x11264 .bf16 from (dat2 (V3 m ρ) c).arrAt 3 cfg2.N) (ix2 i j)
      = Spec.wideProd (m ((c : Thread nD τ).loc main_arg0)) (m ((c : Thread nD τ).loc main_arg1)) i j := by
  rw [final2_3, V3_rows, V3_gate]
  exact prod_wide _ _ i j

theorem up (c : Dev nD) (i : Fin 18496) (j : Fin 11264) :
    (show FVec Ideal S18496x11264 .bf16 from (dat2 (V3 m ρ) c).arrAt 4 cfg2.N) (ix2 i j)
      = Spec.wideProd (m ((c : Thread nD τ).loc main_arg0)) (m ((c : Thread nD τ).loc main_arg2)) i j := by
  rw [final2_4, V3_rows, V3_up]
  exact prod_wide _ _ i j
end Cert.GateupIdeal.Gen
end
-- ==== Proof.Proj.Gateup.lean ====
/-
  The gate and up projections' claims.
-/
module
public import proofs.«01_k».proof.Defs
public import proofs.«01_k».proof.Proof.Proj.GateupValue
public import proofs.«01_k».proof.Proof.Gen.GateupRefIdeal.Run
public import proofs.«01_k».proof.Proof.Gen.Gateup.Frame
public import Idealize.ShloMosaic.Adequacy
public import Idealize.ShloMosaic.Init
@[expose] public section
set_option maxRecDepth 16384
noncomputable section
open Idealize.ShloMosaic Idealize.ShloMosaic.TcCoe Idealize.SL.Sem

namespace Cert.GateupRefIdeal.Proj
open Cert.GateupRefIdeal Cert.GateupRefIdeal.Gen

theorem zero : (FloatOps.sitofp (F := Ideal) FTy.f32 0#32 : EReal) = 0 := by
  show ((((0#32 : BitVec 32).toInt : ℤ) : ℝ) : EReal) = 0
  simp

/-- The reference's result, entry by entry: the product, its columns past 11008 zero. -/
theorem wide_apply (a : FVec Ideal S18496x4096 .f32) (w : FVec Ideal S2x4096x11008 .f32) (i : Fin 18496) (j : Fin 11264) :
    truncf (F := Ideal) .bf16 (pad S18496x11264 ![0, 0] ![0, 256] ![0, 0] (Host.dotGeneral dot_S18496x4096_S4096x11008_S18496x11008_1_0_0_1_n_n none a
        (shapeCast _ (extractStridedSlice S1x4096x11008 ![0, 0, 0] w slices_S2x4096x11008_S1x4096x11008_0_0_0) shapeCasts_S1x4096x11008_S4096x11008))
        (sitofp .f32 (constantI S_ 32 0#32)) pads_S18496x11008_S18496x11264_000_02560 h_S_) bitsLt_bf16_f32 (ix2 i j)
      = Spec.wideProd a w i j := by
  unfold Spec.wideProd
  pointwise
  rw [show (FloatOps.sitofp (F := Ideal) FTy.f32 0#32 : EReal) = 0 from zero]
end Cert.GateupRefIdeal.Proj

namespace Cert.Proj.Gateup

theorem frame_p : Cert.quiescent_Gateup := fun m ρ _ => Cert.Gateup.Gen.frame m ρ
theorem frame_pi : Cert.quiescent_GateupIdeal := fun m ρ _ => Cert.GateupIdeal.Gen.frame m ρ
theorem frame_ri : Cert.quiescent_GateupRefIdeal := fun m ρ _ =>
  (θ_run Cert.GateupRefIdeal.defs _ _).mono (fun r h => ⟨fun c => (h c).2.2, Idealize.ShloMosaic.sem_eq_zero_of_no_sems (by decide) r.2⟩)
    (Cert.GateupRefIdeal.Value.run (F := Ideal) m ρ)

theorem preserves : Cert.preserves_Gateup_GateupIdeal := trivial

theorem algebraic : Cert.algebraic_GateupIdeal_GateupRefIdeal := by
  intro m ρ m' ρ' _ hagree
  refine ⟨_, _, Cert.GateupIdeal.Gen.run_results m ρ, ?_⟩
  refine (θ_run Cert.GateupRefIdeal.defs _ _).mono (fun _ h c => ⟨(h c).1.trans ?_, (h c).2.1.trans ?_, (h c).2.2⟩)
    (Cert.GateupRefIdeal.Value.run (F := Ideal) m' ρ')
  all_goals obtain ⟨h0, h1, h2⟩ := hagree c
  · refine funext fun (i : (⟨2, ![18496, 11264]⟩ : Shape).Idx) => ?_
    rw [show i = ix2 (i 0) (i 1) from by pointwise, h0, h1]
    exact (Cert.GateupRefIdeal.Proj.wide_apply _ _ (i 0) (i 1)).trans (Cert.GateupIdeal.Gen.gate m ρ c (i 0) (i 1)).symm
  · refine funext fun (i : (⟨2, ![18496, 11264]⟩ : Shape).Idx) => ?_
    rw [show i = ix2 (i 0) (i 1) from by pointwise, h0, h2]
    exact (Cert.GateupRefIdeal.Proj.wide_apply _ _ (i 0) (i 1)).trans (Cert.GateupIdeal.Gen.up m ρ c (i 0) (i 1)).symm

end Cert.Proj.Gateup
end
-- ==== Proof.Proj.OutRun.lean ====
/-
  The down projection's and the sample's residual's run: every buffer ends at the last valuation of the generated frame.
-/
module
public import proofs.«01_k».proof.Proof.Gen.OutIdeal.Frame
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
namespace Cert.OutIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The run ends with every unscoped buffer at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The projection is left as it is by the residual's region. -/
theorem main_v6_kept (c : Dev nD) : W8 m ρ c (Proc.devRef .tc main_v6) = (dat0 (V5 m ρ) c).arrAt 2 cfg0.N :=
  (W8_of m ρ c main_v6 (by decide)).trans ((W7_of m ρ c main_v6 (by decide)).trans (hF0 m ρ c 2).symm)

/-- The results' final contents are the regions' arrays, the arguments unchanged. -/
theorem run_results : θ_run defs (onTc (τ := τ) (main (F := F))) ⟨m, fun _ => 0, ρ⟩ (fun r => ∀ c : Dev nD,
      r.2.mem ((c.tc : Thread nD τ).loc main_v6) = (dat0 (V5 m ρ) c).arrAt 2 cfg0.N
      ∧ r.2.mem ((c.tc : Thread nD τ).loc main_v8) = (dat1 (V7 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c _ (mem_uc main_v6 (by decide))).trans (main_v6_kept m ρ c),
       (h c _ (mem_uc main_v8 (by decide))).trans (hF1 m ρ c 3).symm,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩) (run_all m ρ)

end Cert.OutIdeal.Gen
end
-- ==== Proof.Proj.Norm.lean ====
/-
  The root-mean-square norm of a row, at one of its columns.
-/
module
public import Idealize.ShloMosaic.Lib.Pipeline.ValueKit
@[expose] public section
noncomputable section
open Idealize.ShloMosaic
namespace Cert.Spec
/-- Entry `j` of the row `f` over the root of its mean square, times the gain `g`. -/
def rms (f : Fin 4096 → EReal) (g : EReal) (j : Fin 4096) : EReal :=
  f j * Ideal.rsqrt (Ideal.div (∑ k : Fin 4096, f k * f k) (Ideal.ofBits FTy.f32 1166016512#32) + Ideal.ofBits FTy.f32 897988541#32) * g

theorem rms_congr {f f' : Fin 4096 → EReal} {g g' : EReal} (hf : ∀ k, f k = f' k) (hg : g = g') (j : Fin 4096) : rms f g j = rms f' g' j := by
  rw [funext hf, hg]
end Cert.Spec
end
-- ==== Proof.Proj.OutValue.lean ====
/-
  The down projection's and the sample's residual's regions: what each leaves in its result.
-/
module
public import proofs.«01_k».proof.Proof.Proj.OutRun
public import proofs.«01_k».proof.Proof.Proj.Norm
public import Idealize.ShloMosaic.Lib.Pipeline.ReadBack
@[expose] public section
set_option maxRecDepth 16384
noncomputable section
open Idealize.ShloMosaic Idealize.ShloMosaic.TcCoe Idealize.ShloMosaic.Tactic Idealize.SL.Sem
open Idealize.ShloMosaic.Pipeline (Dat)

/-- Rows times the down weight's first layer. -/
def Cert.Spec.downProd (a : FVec Ideal ⟨2, ![18496, 11008]⟩ .f32) (w : FVec Ideal ⟨3, ![2, 11008, 4096]⟩ .f32) (i : Fin 18496) (j : Fin 4096) : EReal :=
  ∑ k : Fin 11008, a (ix2 i k) * w (ix3 0 k j)

/-- The sample's output rows: the residual stream plus the normed projection, from row 16448 on. -/
def Cert.Spec.outRow (a : FVec Ideal ⟨2, ![18496, 11008]⟩ .f32) (w : FVec Ideal ⟨3, ![2, 11008, 4096]⟩ .f32) (x : FVec Ideal ⟨2, ![18496, 4096]⟩ .f32)
    (g : FVec Ideal ⟨1, ![4096]⟩ .f32) (i : Fin 2048) (j : Fin 4096) : EReal :=
  x (ix2 ⟨16448 + i.val, by omega⟩ j) + Cert.Spec.rms (fun k => Cert.Spec.downProd a w ⟨16448 + i.val, by omega⟩ k) (g (ix1 j)) j

theorem Cert.Spec.zero : (FloatOps.sitofp (F := Ideal) FTy.f32 0#32 : EReal) = 0 := by
  show ((((0#32 : BitVec 32).toInt : ℤ) : ℝ) : EReal) = 0
  simp

namespace Cert.OutIdeal.Gen
variable (V : (c : Dev nD) → (b : Ref sig .tc) → Buf (Elt Ideal) ((c : Thread nD τ).loc b))

/-- The product's entries, over the padded width. -/
def prod (a : FVec Ideal S18496x11264 .bf16) (w : FVec Ideal S11264x4096 .bf16) : FVec Ideal S18496x4096 .bf16 := fun i =>
  ∑ k : Fin 11264, a (ix2 (i 0) k) * w (ix2 k (i 1))

/-- The output's rows. -/
def res (x : FVec Ideal S18496x4096 .f32) (f : FVec Ideal S18496x4096 .bf16) (g : FVec Ideal S1x4096 .f32) : FVec Ideal S2048x4096 .f32 := fun i =>
  x (ix2 ⟨16448 + (i 0).val, Nat.add_lt_add_left (i 0).isLt 16448⟩ (i 1))
    + Spec.rms (fun k => f (ix2 ⟨16448 + (i 0).val, Nat.add_lt_add_left (i 0).isLt 16448⟩ k)) (g (ix2 0 (i 1))) (i 1)

theorem idx0 : ∀ t : Fin cfg0.N, win0_0.index t = ![t.val / 8, 0] ∧ win0_1.index t = ![0, t.val % 8] ∧ win0_2.index t = ![t.val / 8, t.val % 8] :=
  (by decide +kernel : ∀ t : Fin grid0.N, _)
theorem idx1 : ∀ t : Fin cfg1.N, win1_0.index t = ![257 + t.val, 0] ∧ win1_1.index t = ![257 + t.val, 0] ∧ win1_2.index t = ![0, 0]
    ∧ win1_3.index t = ![t.val, 0] :=
  (by decide +kernel : ∀ t : Fin grid1.N, _)

theorem final0 (c : Dev nD) : (dat0 V c).arrAt 2 cfg0.N = prod (V c main_v1) (V c main_v5) := by
  refine (dat0 V c).arrAt_eq_of_covers 2 _ (by decide +kernel) fun t _ y => ?_
  blk_simp
  rw [after0_2]
  frame_out
  unfold prod
  pointwise [k0_pay1]
  blk_point [iblk0, idx0 t]

theorem pay_apply (x0 : FVec Ideal S64x4096 .f32) (x1 : FVec Ideal S64x4096 .bf16) (x2 : FVec Ideal S1x4096 .f32) (p : Fin 64) (k : Fin 4096) :
    k1_pay1 x0 x1 x2 (ix2 p k) = x0 (ix2 p k) + Spec.rms (fun k => x1 (ix2 p k)) (x2 (ix2 0 k)) k := by
  unfold Spec.rms
  pointwise [k1_pay1]

theorem read_x (c : Dev nD) (t : Fin cfg1.N) (p : Fin 64) (k : Fin 4096) (h : 64 * (257 + t.val) + p.val < 18496) :
    (show FVec Ideal S64x4096 .f32 from iblk1 V c 0 t) (ix2 p k) = (V c main_arg2 : FVec Ideal S18496x4096 .f32) (ix2 ⟨64 * (257 + t.val) + p.val, h⟩ k) := by
  blk_ext [iblk1, idx1 t]

theorem read_f (c : Dev nD) (t : Fin cfg1.N) (p : Fin 64) (k : Fin 4096) (h : 64 * (257 + t.val) + p.val < 18496) :
    (show FVec Ideal S64x4096 .bf16 from iblk1 V c 1 t) (ix2 p k) = (V c main_v6 : FVec Ideal S18496x4096 .bf16) (ix2 ⟨64 * (257 + t.val) + p.val, h⟩ k) := by
  blk_ext [iblk1, idx1 t]

theorem read_g (c : Dev nD) (t : Fin cfg1.N) (k : Fin 4096) :
    (show FVec Ideal S1x4096 .f32 from iblk1 V c 2 t) (ix2 0 k) = (V c main_v7 : FVec Ideal S1x4096 .f32) (ix2 0 k) := by
  blk_ext [iblk1, idx1 t]

theorem final1 (c : Dev nD) : (dat1 V c).arrAt 3 cfg1.N = res (V c main_arg2) (V c main_v6) (V c main_v7) := by
  refine (dat1 V c).arrAt_eq_of_covers 3 _ (by decide +kernel) fun t _ y => ?_
  have ht : t.val < 32 := t.isLt
  have hy : (y 0).val < 64 := (y 0).isLt
  have hb : 64 * (257 + t.val) + (y 0).val < 18496 := by omega
  have key : ∀ i : S2048x4096.Idx, (i 0).val = 64 * t.val + (y 0).val → (i 1).val = (y 1).val →
      k1_pay1 (iblk1 V c 0 t) (iblk1 V c 1 t) (iblk1 V c 2 t) (ix2 (y 0) (y 1)) = res (V c main_arg2) (V c main_v6) (V c main_v7) i := by
    intro i h0 h1
    refine (pay_apply _ _ _ (y 0) (y 1)).trans ?_
    unfold res
    rw [show (⟨16448 + (i 0).val, Nat.add_lt_add_left (i 0).isLt 16448⟩ : Fin 18496) = ⟨64 * (257 + t.val) + (y 0).val, hb⟩ from Fin.ext (by
        show 16448 + (i 0).val = 64 * (257 + t.val) + (y 0).val; omega),
      show i 1 = y 1 from Fin.ext h1]
    exact congrArg₂ (· + ·) (read_x V c t (y 0) (y 1) hb) (Spec.rms_congr (fun k => read_f V c t (y 0) k hb) (read_g V c t (y 1)) (y 1))
  blk_simp
  rw [after1_3]
  frame_out
  rw [show (y : S64x4096.Idx) = ix2 (y 0) (y 1) from by pointwise]
  refine key _ ?_ ?_
  · blk_simp [idx1 t]
    omega
  · blk_simp [idx1 t]

variable (m : (ℓ : Loc nD τ sig) → Buf (Elt Ideal) ℓ) (ρ : Dev nD → PrngReg)

/-- The activations, their columns past 11008 zero. -/
def padA (a : FVec Ideal S18496x11008 .f32) : FVec Ideal S18496x11264 .bf16 :=
  truncf (F := Ideal) .bf16 (pad S18496x11264 ![0, 0] ![0, 256] ![0, 0] a (sitofp (F := Ideal) .f32 (constantI S_ 32 0#32)) pads_S18496x11008_S18496x11264_000_02560 h_S_) bitsLt_bf16_f32
/-- The weight's first layer, its rows past 11008 zero. -/
def padW (w : FVec Ideal S2x11008x4096 .f32) : FVec Ideal S11264x4096 .bf16 :=
  truncf (F := Ideal) .bf16 (pad S11264x4096 ![0, 0] ![256, 0] ![0, 0]
    (shapeCast S11008x4096 (extractStridedSlice S1x11008x4096 ![0, 0, 0] w slices_S2x11008x4096_S1x11008x4096_0_0_0) shapeCasts_S1x11008x4096_S11008x4096)
    (sitofp (F := Ideal) .f32 (constantI S_ 32 0#32)) pads_S11008x4096_S11264x4096_02560_000 h_S_) bitsLt_bf16_f32

theorem V5_a (c : Dev nD) : V5 m ρ c main_v1 = padA (m ((c : Thread nD τ).loc main_arg0)) := rfl
theorem V5_w (c : Dev nD) : V5 m ρ c main_v5 = padW (m ((c : Thread nD τ).loc main_arg1)) := rfl
theorem V7_g (c : Dev nD) : V7 m ρ c main_v7 = shapeCast S1x4096 (m ((c : Thread nD τ).loc main_arg3) : FVec Ideal S4096 .f32) shapeCasts_S4096_S1x4096 :=
  (show V7 m ρ c main_v7 = shapeCast S1x4096 (W6 m ρ c (Proc.devRef .tc main_arg3) : FVec Ideal S4096 .f32) shapeCasts_S4096_S1x4096 from rfl).trans
    (congrArg (fun g : FVec Ideal S4096 .f32 => shapeCast S1x4096 g shapeCasts_S4096_S1x4096) (W6_args m ρ c main_arg3 (by decide)))

theorem padA_apply (a : FVec Ideal S18496x11008 .f32) (i : Fin 18496) (k : Fin 11264) :
    padA a (ix2 i k) = if h : k.val < 11008 then a (ix2 i ⟨k.val, h⟩) else 0 := by
  pointwise [padA]
  rw [show (FloatOps.sitofp (F := Ideal) FTy.f32 0#32 : EReal) = 0 from Spec.zero]

theorem padW_apply (w : FVec Ideal S2x11008x4096 .f32) (k : Fin 11264) (j : Fin 4096) :
    padW w (ix2 k j) = if h : k.val < 11008 then w (ix3 0 ⟨k.val, h⟩ j) else 0 := by
  pointwise [padW]
  rw [show (FloatOps.sitofp (F := Ideal) FTy.f32 0#32 : EReal) = 0 from Spec.zero]

theorem prod_pad (a : FVec Ideal S18496x11008 .f32) (w : FVec Ideal S2x11008x4096 .f32) (i : Fin 18496) (j : Fin 4096) :
    prod (padA a) (padW w) (ix2 i j) = Spec.downProd a w i j := by
  unfold prod Spec.downProd
  refine (Fin.sum_univ_add (a := 11008) (b := 256) (fun k : Fin (11008 + 256) => (padA a (ix2 i k) * padW w (ix2 k j) : EReal))).trans ?_
  refine Eq.trans (congrArg₂ (· + ·) (Finset.sum_congr rfl fun k _ => ?_) (Finset.sum_eq_zero fun k _ => ?_)) (add_zero _)
  · exact congrArg₂ (· * ·) ((padA_apply a i _).trans (dif_pos k.isLt)) ((padW_apply w _ j).trans (dif_pos k.isLt))
  · refine (congrArg (· * padW w (ix2 (Fin.natAdd 11008 k) j)) ((padA_apply a i _).trans (dif_neg ?_))).trans (zero_mul _)
    show ¬ 11008 + k.val < 11008
    omega

theorem row_apply (g : FVec Ideal S4096 .f32) (k : Fin 4096) : shapeCast S1x4096 g shapeCasts_S4096_S1x4096 (ix2 0 k) = g (ix1 k) := by
  pointwise

theorem down (c : Dev nD) (i : Fin 18496) (j : Fin 4096) :
    (show FVec Ideal S18496x4096 .bf16 from (dat0 (V5 m ρ) c).arrAt 2 cfg0.N) (ix2 i j)
      = Spec.downProd (m ((c : Thread nD τ).loc main_arg0)) (m ((c : Thread nD τ).loc main_arg1)) i j := by
  rw [final0, V5_a, V5_w]
  exact prod_pad _ _ i j

theorem V7_f (c : Dev nD) (i : Fin 18496) (j : Fin 4096) : (V7 m ρ c main_v6 : FVec Ideal S18496x4096 .bf16) (ix2 i j)
      = Spec.downProd (m ((c : Thread nD τ).loc main_arg0)) (m ((c : Thread nD τ).loc main_arg1)) i j :=
  (congrFun ((W7_of m ρ c main_v6 (by decide)).trans (hF0 m ρ c 2).symm) (ix2 i j)).trans (down m ρ c i j)

theorem out (c : Dev nD) (i : Fin 2048) (j : Fin 4096) :
    (show FVec Ideal S2048x4096 .f32 from (dat1 (V7 m ρ) c).arrAt 3 cfg1.N) (ix2 i j)
      = Spec.outRow (m ((c : Thread nD τ).loc main_arg0)) (m ((c : Thread nD τ).loc main_arg1)) (m ((c : Thread nD τ).loc main_arg2)) (m ((c : Thread nD τ).loc main_arg3)) i j := by
  rw [final1]
  refine congrArg₂ (· + ·) (congrFun (W7_args m ρ c main_arg2 (by decide)) _) (Spec.rms_congr (fun k => V7_f m ρ c _ k) ?_ j)
  rw [V7_g]
  exact row_apply _ j
end Cert.OutIdeal.Gen
end
-- ==== Proof.Proj.Out.lean ====
/-
  The down projection's and the sample's residual's claims.
-/
module
public import proofs.«01_k».proof.Defs
public import proofs.«01_k».proof.Proof.Proj.OutValue
public import proofs.«01_k».proof.Proof.Gen.OutRefIdeal.Run
public import proofs.«01_k».proof.Proof.Gen.Out.Frame
public import Idealize.ShloMosaic.Adequacy
public import Idealize.ShloMosaic.Init
@[expose] public section
set_option maxRecDepth 16384
noncomputable section
open Idealize.ShloMosaic Idealize.ShloMosaic.TcCoe Idealize.SL.Sem

namespace Cert.OutRefIdeal.Proj
open Cert.OutRefIdeal Cert.OutRefIdeal.Gen

theorem prod_apply (a : FVec Ideal S18496x11008 .f32) (w : FVec Ideal S2x11008x4096 .f32) (i : Fin 18496) (j : Fin 4096) :
    Host.dotGeneral dot_S18496x11008_S11008x4096_S18496x4096_1_0_0_1_n_n none a (shapeCast _ (extractStridedSlice S1x11008x4096 ![0, 0, 0] w slices_S2x11008x4096_S1x11008x4096_0_0_0) shapeCasts_S1x11008x4096_S11008x4096) (ix2 i j)
      = Spec.downProd a w i j := by
  unfold Spec.downProd
  pointwise

theorem rows_apply (x f : FVec Ideal S18496x4096 .f32) (g : FVec Ideal S4096 .f32) (i : Fin 2048) (j : Fin 4096) :
    extractStridedSlice S2048x4096 ![16448, 0] (addf x (mulf (mulf f (broadcastInDim S18496x4096 ![0, 1] bcast_S18496x1_S18496x4096_0_1 (Host.rsqrt (addf (Host.divf (broadcastInDim S18496x1 ![0] bcast_S18496_S18496x1_0 (Host.reduceAdd (mulf f f) (constant S_ .f32 0x00000000#32) reducesTo_S18496x4096_S18496_d1 h_S_)) (broadcastInDim S18496x1 ![] bcast_S_S18496x1 (constant S_ .f32 0x45800000#32))) (broadcastInDim S18496x1 ![] bcast_S_S18496x1 (constant S_ .f32 0x358637BD#32)))))) (broadcastInDim S18496x4096 ![0, 1] bcast_S1x4096_S18496x4096_0_1 (broadcastInDim S1x4096 ![1] bcast_S4096_S1x4096_1 g)))) slices_S18496x4096_S2048x4096_16448_0 (ix2 i j)
     = x (ix2 ⟨16448 + i.val, by omega⟩ j) + Spec.rms (fun k => f (ix2 ⟨16448 + i.val, by omega⟩ k)) (g (ix1 j)) j := by
  unfold Spec.rms
  pointwise
end Cert.OutRefIdeal.Proj

namespace Cert.Proj.Out

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2.2, Idealize.ShloMosaic.sem_eq_zero_of_no_sems (by decide) r.2⟩)
    (Cert.OutRefIdeal.Value.run (F := Ideal) m ρ)

theorem preserves : Cert.preserves_Out_OutIdeal := trivial

theorem algebraic : Cert.algebraic_OutIdeal_OutRefIdeal := by
  intro m ρ m' ρ' _ hagree
  refine ⟨_, _, Cert.OutIdeal.Gen.run_results m ρ, ?_⟩
  refine (θ_run Cert.OutRefIdeal.defs _ _).mono (fun _ h c => ⟨(h c).1.trans ?_, (h c).2.1.trans ?_, (h c).2.2⟩)
    (Cert.OutRefIdeal.Value.run (F := Ideal) m' ρ')
  all_goals obtain ⟨h0, h1, h2, h3⟩ := hagree c
  · refine funext fun (i : (⟨2, ![18496, 4096]⟩ : Shape).Idx) => ?_
    rw [show i = ix2 (i 0) (i 1) from by pointwise, h0, h1]
    exact (Cert.OutRefIdeal.Proj.prod_apply _ _ (i 0) (i 1)).trans (Cert.OutIdeal.Gen.down m ρ c (i 0) (i 1)).symm
  · refine funext fun (i : (⟨2, ![2048, 4096]⟩ : Shape).Idx) => ?_
    rw [show i = ix2 (i 0) (i 1) from by pointwise, h0, h1, h2, h3]
    refine (Cert.OutRefIdeal.Proj.rows_apply _ _ _ (i 0) (i 1)).trans (Eq.trans ?_ (Cert.OutIdeal.Gen.out m ρ c (i 0) (i 1)).symm)
    exact congrArg _ (Spec.rms_congr (fun k => Cert.OutRefIdeal.Proj.prod_apply _ _ _ k) rfl (i 1))

end Cert.Proj.Out
end
-- ==== Proof.Proj.MixRun.lean ====
/-
  The output projection's and the residual's run: every buffer ends at the last valuation of the generated frame.
-/
module
public import proofs.«01_k».proof.Proof.Gen.MixIdeal.Frame
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
namespace Cert.MixIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The run ends with every unscoped buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The results' final contents are the regions' arrays, the arguments unchanged. -/
theorem run_results : θ_run defs (onTc (τ := τ) (main (F := F))) ⟨m, fun _ => 0, ρ⟩ (fun r => ∀ c : Dev nD,
      r.2.mem ((c.tc : Thread nD τ).loc main_v7_0) = (dat2 (V4 m ρ) c).arrAt 4 cfg2.N
      ∧ r.2.mem ((c.tc : Thread nD τ).loc main_v7_1) = (dat2 (V4 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c _ (mem_uc main_v7_0 (by decide))).trans (hF2 m ρ c 4).symm,
       (h c _ (mem_uc main_v7_1 (by decide))).trans (hF2 m ρ c 5).symm,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩) (run_all m ρ)

end Cert.MixIdeal.Gen
end
-- ==== Proof.Proj.MixValue.lean ====
/-
  The output projection's and the residual's regions: what each leaves in its result.
-/
module
public import proofs.«01_k».proof.Proof.Proj.MixRun
public import proofs.«01_k».proof.Proof.Proj.Norm
public import Idealize.ShloMosaic.Lib.Pipeline.ReadBack
@[expose] public section
set_option maxRecDepth 16384
noncomputable section
open Idealize.ShloMosaic Idealize.ShloMosaic.TcCoe Idealize.ShloMosaic.Tactic Idealize.SL.Sem
open Idealize.ShloMosaic.Pipeline (Dat)

/-- The three mixers' outputs side by side, times the output weight's first layer. -/
def Cert.Spec.mixDot (y0 : FVec Ideal ⟨2, ![18496, 2048]⟩ .f32) (y1 y2 : FVec Ideal ⟨2, ![18496, 1024]⟩ .f32) (w : FVec Ideal ⟨3, ![2, 4096, 4096]⟩ .f32)
    (i : Fin 18496) (j : Fin 4096) : EReal :=
  (∑ k : Fin 2048, y0 (ix2 i k) * w (ix3 0 ⟨k.val, by omega⟩ j)) + (∑ k : Fin 1024, y1 (ix2 i k) * w (ix3 0 ⟨2048 + k.val, by omega⟩ j))
    + ∑ k : Fin 1024, y2 (ix2 i k) * w (ix3 0 ⟨3072 + k.val, by omega⟩ j)

/-- The residual stream plus the normed projection. -/
def Cert.Spec.mixRow (y0 : FVec Ideal ⟨2, ![18496, 2048]⟩ .f32) (y1 y2 : FVec Ideal ⟨2, ![18496, 1024]⟩ .f32) (w : FVec Ideal ⟨3, ![2, 4096, 4096]⟩ .f32)
    (x : FVec Ideal ⟨2, ![18496, 4096]⟩ .f32) (g : FVec Ideal ⟨1, ![4096]⟩ .f32) (i : Fin 18496) (j : Fin 4096) : EReal :=
  x (ix2 i j) + Cert.Spec.rms (fun k => Cert.Spec.mixDot y0 y1 y2 w i k) (g (ix1 j)) j

namespace Cert.MixIdeal.Gen
variable (V : (c : Dev nD) → (b : Ref sig .tc) → Buf (Elt Ideal) ((c : Thread nD τ).loc b))

/-- A weight's first layer. -/
def first (w : FVec Ideal S2x4096x4096 .f32) : FVec Ideal S4096x4096 .bf16 := fun i => w (ix3 0 (i 0) (i 1))

/-- The product's entries. -/
def prod (y0 : FVec Ideal S18496x2048 .bf16) (y1 y2 : FVec Ideal S18496x1024 .bf16) (w : FVec Ideal S4096x4096 .bf16) : FVec Ideal S18496x4096 .bf16 := fun i =>
  (∑ k : Fin 2048, y0 (ix2 (i 0) k) * w (ix2 ⟨k.val, by omega⟩ (i 1))) + (∑ k : Fin 1024, y1 (ix2 (i 0) k) * w (ix2 ⟨2048 + k.val, by omega⟩ (i 1)))
    + ∑ k : Fin 1024, y2 (ix2 (i 0) k) * w (ix2 ⟨3072 + k.val, by omega⟩ (i 1))

/-- The residual's rows. -/
def res (x : FVec Ideal S18496x4096 .f32) (f : FVec Ideal S18496x4096 .bf16) (g : FVec Ideal S1x4096 .f32) : FVec Ideal S18496x4096 .f32 := fun i =>
  x (ix2 (i 0) (i 1)) + Spec.rms (fun k => f (ix2 (i 0) k)) (g (ix2 0 (i 1))) (i 1)

/-- Their norm. -/
def nrm (x : FVec Ideal S18496x4096 .f32) (f : FVec Ideal S18496x4096 .bf16) (g h : FVec Ideal S1x4096 .f32) : FVec Ideal S18496x4096 .bf16 := fun i =>
  Spec.rms (fun k => res x f g (ix2 (i 0) k)) (h (ix2 0 (i 1))) (i 1)

theorem idx0 : ∀ t : Fin cfg0.N, win0_0.index t = ![0, t.val, 0] ∧ win0_1.index t = ![t.val, 0] :=
  (by decide +kernel : ∀ t : Fin grid0.N, _)
theorem idx1 : ∀ t : Fin cfg1.N, win1_0.index t = ![t.val / 4, 0] ∧ win1_1.index t = ![t.val / 4, 0] ∧ win1_2.index t = ![t.val / 4, 0]
    ∧ win1_3.index t = ![0, t.val % 4] ∧ win1_4.index t = ![2, t.val % 4] ∧ win1_5.index t = ![3, t.val % 4] ∧ win1_6.index t = ![t.val / 4, t.val % 4] :=
  (by decide +kernel : ∀ t : Fin grid1.N, _)
theorem idx2 : ∀ t : Fin cfg2.N, win2_0.index t = ![t.val, 0] ∧ win2_1.index t = ![t.val, 0] ∧ win2_2.index t = ![0, 0] ∧ win2_3.index t = ![0, 0]
    ∧ win2_4.index t = ![t.val, 0] ∧ win2_5.index t = ![t.val, 0] :=
  (by decide +kernel : ∀ t : Fin grid2.N, _)

theorem final0 (c : Dev nD) : (dat0 V c).arrAt 1 cfg0.N = first (V c main_arg3) := by
  refine (dat0 V c).arrAt_eq_of_covers 1 _ (by decide +kernel) fun t _ y => ?_
  blk_simp
  rw [after0_1]
  frame_out
  unfold first
  pointwise [k0_pay1]
  blk_point [iblk0, idx0 t]

theorem final1 (c : Dev nD) : (dat1 V c).arrAt 6 cfg1.N = prod (V c main_v0) (V c main_v1) (V c main_v2) (V c main_v3) := by
  refine (dat1 V c).arrAt_eq_of_covers 6 _ (by decide +kernel) fun t _ y => ?_
  blk_simp
  rw [after1_6]
  frame_out
  unfold prod
  pointwise [k1_pay1]
  blk_point [iblk1, idx1 t]

theorem pay1_apply (x0 : FVec Ideal S272x4096 .f32) (x1 : FVec Ideal S272x4096 .bf16) (x2 : FVec Ideal S1x4096 .f32) (p : Fin 272) (k : Fin 4096) :
    k2_pay1 x0 x1 x2 (ix2 p k) = x0 (ix2 p k) + Spec.rms (fun k => x1 (ix2 p k)) (x2 (ix2 0 k)) k := by
  unfold Spec.rms
  pointwise [k2_pay1]

theorem pay2_apply (x0 : FVec Ideal S272x4096 .f32) (x1 : FVec Ideal S272x4096 .bf16) (x2 x3 : FVec Ideal S1x4096 .f32) (p : Fin 272) (k : Fin 4096) :
    (k2_pay2 (F := Ideal) x0 x1 x2 x3 : FVec Ideal S272x4096 .bf16) (ix2 p k) = Spec.rms (fun k => (k2_pay1 (F := Ideal) x0 x1 x2 : FVec Ideal S272x4096 .f32) (ix2 p k)) (x3 (ix2 0 k)) k := by
  unfold k2_pay2
  generalize k2_pay1 (F := Ideal) x0 x1 x2 = z
  unfold Spec.rms
  pointwise

theorem read_x (c : Dev nD) (t : Fin cfg2.N) (p : Fin 272) (k : Fin 4096) (h : 272 * t.val + p.val < 18496) :
    (show FVec Ideal S272x4096 .f32 from iblk2 V c 0 t) (ix2 p k) = (V c main_arg4 : FVec Ideal S18496x4096 .f32) (ix2 ⟨272 * t.val + p.val, h⟩ k) := by
  blk_ext [iblk2, idx2 t]

theorem read_f (c : Dev nD) (t : Fin cfg2.N) (p : Fin 272) (k : Fin 4096) (h : 272 * t.val + p.val < 18496) :
    (show FVec Ideal S272x4096 .bf16 from iblk2 V c 1 t) (ix2 p k) = (V c main_v4 : FVec Ideal S18496x4096 .bf16) (ix2 ⟨272 * t.val + p.val, h⟩ k) := by
  blk_ext [iblk2, idx2 t]

theorem read_g (c : Dev nD) (t : Fin cfg2.N) (k : Fin 4096) :
    (show FVec Ideal S1x4096 .f32 from iblk2 V c 2 t) (ix2 0 k) = (V c main_v5 : FVec Ideal S1x4096 .f32) (ix2 0 k) := by
  blk_ext [iblk2, idx2 t]

theorem read_h (c : Dev nD) (t : Fin cfg2.N) (k : Fin 4096) :
    (show FVec Ideal S1x4096 .f32 from iblk2 V c 3 t) (ix2 0 k) = (V c main_v6 : FVec Ideal S1x4096 .f32) (ix2 0 k) := by
  blk_ext [iblk2, idx2 t]

theorem block_row (c : Dev nD) (t : Fin cfg2.N) (p : Fin 272) (k : Fin 4096) (h : 272 * t.val + p.val < 18496) :
    k2_pay1 (iblk2 V c 0 t) (iblk2 V c 1 t) (iblk2 V c 2 t) (ix2 p k)
      = res (V c main_arg4) (V c main_v4) (V c main_v5) (ix2 ⟨272 * t.val + p.val, h⟩ k) :=
  (pay1_apply _ _ _ p k).trans
    (congrArg₂ (· + ·) (read_x V c t p k h) (Spec.rms_congr (fun k => read_f V c t p k h) (read_g V c t k) k))

theorem final2_4 (c : Dev nD) : (dat2 V c).arrAt 4 cfg2.N = res (V c main_arg4) (V c main_v4) (V c main_v5) := by
  refine (dat2 V c).arrAt_eq_of_covers 4 _ (by decide +kernel) fun t _ y => ?_
  have ht : t.val < 68 := t.isLt
  have hy : (y 0).val < 272 := (y 0).isLt
  have hb : 272 * t.val + (y 0).val < 18496 := by omega
  have key : ∀ i : S18496x4096.Idx, (i 0).val = 272 * t.val + (y 0).val → (i 1).val = (y 1).val →
      k2_pay1 (iblk2 V c 0 t) (iblk2 V c 1 t) (iblk2 V c 2 t) (ix2 (y 0) (y 1)) = res (V c main_arg4) (V c main_v4) (V c main_v5) i := by
    intro i h0 h1
    refine (block_row V c t (y 0) (y 1) hb).trans (congrArg (res (V c main_arg4) (V c main_v4) (V c main_v5)) ?_)
    rw [show i = ix2 (i 0) (i 1) from by pointwise]
    exact congrArg₂ ix2 (Fin.ext h0.symm) (Fin.ext h1.symm)
  blk_simp
  rw [after2_4]
  frame_out
  rw [show (y : S272x4096.Idx) = ix2 (y 0) (y 1) from by pointwise]
  refine key _ ?_ ?_
  · blk_simp [idx2 t]
    omega
  · blk_simp [idx2 t]

theorem final2_5 (c : Dev nD) : (dat2 V c).arrAt 5 cfg2.N = nrm (V c main_arg4) (V c main_v4) (V c main_v5) (V c main_v6) := by
  refine (dat2 V c).arrAt_eq_of_covers 5 _ (by decide +kernel) fun t _ y => ?_
  have ht : t.val < 68 := t.isLt
  have hy : (y 0).val < 272 := (y 0).isLt
  have hb : 272 * t.val + (y 0).val < 18496 := by omega
  have key : ∀ i : S18496x4096.Idx, (i 0).val = 272 * t.val + (y 0).val → (i 1).val = (y 1).val →
      k2_pay2 (iblk2 V c 0 t) (iblk2 V c 1 t) (iblk2 V c 2 t) (iblk2 V c 3 t) (ix2 (y 0) (y 1))
        = nrm (V c main_arg4) (V c main_v4) (V c main_v5) (V c main_v6) i := by
    intro i h0 h1
    refine (pay2_apply _ _ _ _ (y 0) (y 1)).trans ?_
    unfold nrm
    rw [show i 0 = (⟨272 * t.val + (y 0).val, hb⟩ : Fin 18496) from Fin.ext h0, show i 1 = y 1 from Fin.ext h1]
    exact Spec.rms_congr (fun k => block_row V c t (y 0) k hb) (read_h V c t (y 1)) (y 1)
  blk_simp
  rw [after2_5]
  frame_out
  rw [show (y : S272x4096.Idx) = ix2 (y 0) (y 1) from by pointwise]
  refine key _ ?_ ?_
  · blk_simp [idx2 t]
    omega
  · blk_simp [idx2 t]

variable (m : (ℓ : Loc nD τ sig) → Buf (Elt Ideal) ℓ) (ρ : Dev nD → PrngReg)

theorem V2_0 (c : Dev nD) : V2 m ρ c main_v0 = (m ((c : Thread nD τ).loc main_arg0) : FVec Ideal S18496x2048 .f32) :=
  (W2_of m ρ c main_v0 (by decide)).trans rfl
theorem V2_1 (c : Dev nD) : V2 m ρ c main_v1 = (m ((c : Thread nD τ).loc main_arg1) : FVec Ideal S18496x1024 .f32) :=
  (W2_of m ρ c main_v1 (by decide)).trans rfl
theorem V2_2 (c : Dev nD) : V2 m ρ c main_v2 = (m ((c : Thread nD τ).loc main_arg2) : FVec Ideal S18496x1024 .f32) :=
  (W2_of m ρ c main_v2 (by decide)).trans rfl
theorem V2_w (c : Dev nD) : V2 m ρ c main_v3 = first (m ((c : Thread nD τ).loc main_arg3)) :=
  (hF0 m ρ c 1).symm.trans ((final0 (V1 m ρ) c).trans (congrArg first (W1_args m ρ c main_arg3 (by decide))))

theorem V4_f (c : Dev nD) (i : Fin 18496) (j : Fin 4096) : (V4 m ρ c main_v4 : FVec Ideal S18496x4096 .bf16) (ix2 i j)
      = Spec.mixDot (m ((c : Thread nD τ).loc main_arg0)) (m ((c : Thread nD τ).loc main_arg1)) (m ((c : Thread nD τ).loc main_arg2)) (m ((c : Thread nD τ).loc main_arg3)) i j := by
  refine (congrFun ((W4_of m ρ c main_v4 (by decide)).trans (hF1 m ρ c 6).symm) (ix2 i j)).trans ?_
  rw [final1, V2_0, V2_1, V2_2, V2_w]
  rfl

theorem V4_g (c : Dev nD) : V4 m ρ c main_v5 = shapeCast S1x4096 (m ((c : Thread nD τ).loc main_arg5) : FVec Ideal S4096 .f32) shapeCasts_S4096_S1x4096 :=
  (show V4 m ρ c main_v5 = shapeCast S1x4096 (W3 m ρ c (Proc.devRef .tc main_arg5) : FVec Ideal S4096 .f32) shapeCasts_S4096_S1x4096 from rfl).trans
    (congrArg (fun g : FVec Ideal S4096 .f32 => shapeCast S1x4096 g shapeCasts_S4096_S1x4096) (W3_args m ρ c main_arg5 (by decide)))
theorem V4_h (c : Dev nD) : V4 m ρ c main_v6 = shapeCast S1x4096 (m ((c : Thread nD τ).loc main_arg6) : FVec Ideal S4096 .f32) shapeCasts_S4096_S1x4096 :=
  (show V4 m ρ c main_v6 = shapeCast S1x4096 (W3 m ρ c (Proc.devRef .tc main_arg6) : FVec Ideal S4096 .f32) shapeCasts_S4096_S1x4096 from rfl).trans
    (congrArg (fun g : FVec Ideal S4096 .f32 => shapeCast S1x4096 g shapeCasts_S4096_S1x4096) (W3_args m ρ c main_arg6 (by decide)))

theorem row_apply (g : FVec Ideal S4096 .f32) (k : Fin 4096) : shapeCast S1x4096 g shapeCasts_S4096_S1x4096 (ix2 0 k) = g (ix1 k) := by
  pointwise

theorem res_V4 (c : Dev nD) (i : Fin 18496) (j : Fin 4096) :
    res (V4 m ρ c main_arg4) (V4 m ρ c main_v4) (V4 m ρ c main_v5) (ix2 i j)
      = Spec.mixRow (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) i j :=
  congrArg₂ (· + ·) (congrFun (W4_args m ρ c main_arg4 (by decide)) _)
    (Spec.rms_congr (fun k => V4_f m ρ c i k) ((congrFun (V4_g m ρ c) _).trans (row_apply _ j)) j)

theorem resid (c : Dev nD) (i : Fin 18496) (j : Fin 4096) :
    (show FVec Ideal S18496x4096 .f32 from (dat2 (V4 m ρ) c).arrAt 4 cfg2.N) (ix2 i j)
      = Spec.mixRow (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) i j := by
  rw [final2_4]
  exact res_V4 m ρ c i j

theorem normed (c : Dev nD) (i : Fin 18496) (j : Fin 4096) :
    (show FVec Ideal S18496x4096 .bf16 from (dat2 (V4 m ρ) c).arrAt 5 cfg2.N) (ix2 i j)
      = Spec.rms (fun k => Spec.mixRow (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) i k) ((m ((c : Thread nD τ).loc main_arg6) : FVec Ideal S4096 .f32) (ix1 j)) j := by
  rw [final2_5]
  exact Spec.rms_congr (fun k => res_V4 m ρ c i k) ((congrFun (V4_h m ρ c) _).trans (row_apply _ j)) j
end Cert.MixIdeal.Gen
end
-- ==== Proof.Proj.Mix.lean ====
/-
  The output projection's and the residual's claims.
-/
module
public import proofs.«01_k».proof.Defs
public import proofs.«01_k».proof.Proof.Proj.MixValue
public import proofs.«01_k».proof.Proof.Gen.MixRefIdeal.Run
public import proofs.«01_k».proof.Proof.Gen.Mix.Frame
public import Idealize.ShloMosaic.Adequacy
public import Idealize.ShloMosaic.Init
@[expose] public section
set_option maxRecDepth 16384
noncomputable section
open Idealize.ShloMosaic Idealize.ShloMosaic.TcCoe Idealize.SL.Sem

namespace Cert.MixRefIdeal.Proj
open Cert.MixRefIdeal Cert.MixRefIdeal.Gen

/-- The three mixers' outputs side by side. -/
def cat (y0 : FVec Ideal S18496x2048 .f32) (y1 y2 : FVec Ideal S18496x1024 .f32) : FVec Ideal S18496x4096 .f32 :=
  concatenate S18496x4096 1 [⟨S18496x2048, (y0 : (⟨S18496x2048, .f32⟩ : BufTy).Contents (Elt Ideal))⟩, ⟨S18496x1024, (y1 : (⟨S18496x1024, .f32⟩ : BufTy).Contents (Elt Ideal))⟩, ⟨S18496x1024, (y2 : (⟨S18496x1024, .f32⟩ : BufTy).Contents (Elt Ideal))⟩] concatenates_S18496x2048_S18496x1024_S18496x1024_S18496x4096_d1

/-- Rows times the output weight's first layer. -/
def dot (y : FVec Ideal S18496x4096 .f32) (w : FVec Ideal S2x4096x4096 .f32) : FVec Ideal S18496x4096 .f32 :=
  Host.dotGeneral dot_S18496x4096_S4096x4096_S18496x4096_1_0_0_1_n_n none y (shapeCast _ (extractStridedSlice S1x4096x4096 ![0, 0, 0] w slices_S2x4096x4096_S1x4096x4096_0_0_0) shapeCasts_S1x4096x4096_S4096x4096)

theorem dot_apply (y : FVec Ideal S18496x4096 .f32) (w : FVec Ideal S2x4096x4096 .f32) (i : Fin 18496) (j : Fin 4096) :
    dot y w (ix2 i j) = ∑ k : Fin 4096, y (ix2 i k) * w (ix3 0 k j) := by
  pointwise [dot]

theorem cat0 (y0 : FVec Ideal S18496x2048 .f32) (y1 y2 : FVec Ideal S18496x1024 .f32) (i : Fin 18496) (k : Fin 2048) :
    cat y0 y1 y2 (ix2 i ⟨k.val, by omega⟩) = y0 (ix2 i k) := by
  pointwise [cat]
theorem cat1 (y0 : FVec Ideal S18496x2048 .f32) (y1 y2 : FVec Ideal S18496x1024 .f32) (i : Fin 18496) (k : Fin 1024) :
    cat y0 y1 y2 (ix2 i ⟨2048 + k.val, by omega⟩) = y1 (ix2 i k) := by
  pointwise [cat]
theorem cat2 (y0 : FVec Ideal S18496x2048 .f32) (y1 y2 : FVec Ideal S18496x1024 .f32) (i : Fin 18496) (k : Fin 1024) :
    cat y0 y1 y2 (ix2 i ⟨3072 + k.val, by omega⟩) = y2 (ix2 i k) := by
  pointwise [cat]
  refine (dif_neg (by omega)).trans ((dif_neg (by omega)).trans ?_)
  exact congrArg (fun j => y2 (ix2 i j)) (Fin.ext (by dsimp only; omega))

theorem mix_apply (y0 : FVec Ideal S18496x2048 .f32) (y1 y2 : FVec Ideal S18496x1024 .f32) (w : FVec Ideal S2x4096x4096 .f32) (i : Fin 18496) (j : Fin 4096) :
    dot (cat y0 y1 y2) w (ix2 i j) = Spec.mixDot y0 y1 y2 w i j := by
  refine (dot_apply _ _ i j).trans ?_
  unfold Spec.mixDot
  refine (Fin.sum_univ_add (a := 3072) (b := 1024) (fun k : Fin (3072 + 1024) => (cat y0 y1 y2 (ix2 i k) * w (ix3 0 k j) : EReal))).trans ?_
  refine congrArg₂ (· + ·) ?_ (Finset.sum_congr rfl fun k _ => congrArg (· * _) (cat2 y0 y1 y2 i k))
  refine (Fin.sum_univ_add (a := 2048) (b := 1024) (fun k : Fin (2048 + 1024) => (cat y0 y1 y2 (ix2 i (Fin.castAdd 1024 k)) * w (ix3 0 (Fin.castAdd 1024 k) j) : EReal))).trans ?_
  exact congrArg₂ (· + ·) (Finset.sum_congr rfl fun k _ => congrArg (· * _) (cat0 y0 y1 y2 i k)) (Finset.sum_congr rfl fun k _ => congrArg (· * _) (cat1 y0 y1 y2 i k))

/-- The residual's array. -/
def resid (x f : FVec Ideal S18496x4096 .f32) (g : FVec Ideal S4096 .f32) : FVec Ideal S18496x4096 .f32 :=
  addf x (mulf (mulf f (broadcastInDim S18496x4096 ![0, 1] bcast_S18496x1_S18496x4096_0_1 (Host.rsqrt (addf (Host.divf (broadcastInDim S18496x1 ![0] bcast_S18496_S18496x1_0 (Host.reduceAdd (mulf f f) (constant S_ .f32 0x00000000#32) reducesTo_S18496x4096_S18496_d1 h_S_)) (broadcastInDim S18496x1 ![] bcast_S_S18496x1 (constant S_ .f32 0x45800000#32))) (broadcastInDim S18496x1 ![] bcast_S_S18496x1 (constant S_ .f32 0x358637BD#32)))))) (broadcastInDim S18496x4096 ![0, 1] bcast_S1x4096_S18496x4096_0_1 (broadcastInDim S1x4096 ![1] bcast_S4096_S1x4096_1 g)))

/-- Its norm. -/
def normed (x : FVec Ideal S18496x4096 .f32) (g : FVec Ideal S4096 .f32) : FVec Ideal S18496x4096 .bf16 :=
  truncf .bf16 (mulf (mulf x (broadcastInDim S18496x4096 ![0, 1] bcast_S18496x1_S18496x4096_0_1 (Host.rsqrt (addf (Host.divf (broadcastInDim S18496x1 ![0] bcast_S18496_S18496x1_0 (Host.reduceAdd (mulf x x) (constant S_ .f32 0x00000000#32) reducesTo_S18496x4096_S18496_d1 h_S_)) (broadcastInDim S18496x1 ![] bcast_S_S18496x1 (constant S_ .f32 0x45800000#32))) (broadcastInDim S18496x1 ![] bcast_S_S18496x1 (constant S_ .f32 0x358637BD#32)))))) (broadcastInDim S18496x4096 ![0, 1] bcast_S1x4096_S18496x4096_0_1 (broadcastInDim S1x4096 ![1] bcast_S4096_S1x4096_1 g))) bitsLt_bf16_f32

theorem resid_apply (x f : FVec Ideal S18496x4096 .f32) (g : FVec Ideal S4096 .f32) (i : Fin 18496) (j : Fin 4096) :
    resid x f g (ix2 i j) = x (ix2 i j) + Spec.rms (fun k => f (ix2 i k)) (g (ix1 j)) j := by
  unfold Spec.rms
  pointwise [resid]
theorem normed_apply (x : FVec Ideal S18496x4096 .f32) (g : FVec Ideal S4096 .f32) (i : Fin 18496) (j : Fin 4096) :
    normed x g (ix2 i j) = Spec.rms (fun k => x (ix2 i k)) (g (ix1 j)) j := by
  unfold Spec.rms
  pointwise [normed]

theorem row_apply (y0 : FVec Ideal S18496x2048 .f32) (y1 y2 : FVec Ideal S18496x1024 .f32) (w : FVec Ideal S2x4096x4096 .f32) (x : FVec Ideal S18496x4096 .f32)
    (g : FVec Ideal S4096 .f32) (i : Fin 18496) (j : Fin 4096) :
    resid x (dot (cat y0 y1 y2) w) g (ix2 i j) = Spec.mixRow y0 y1 y2 w x g i j :=
  (resid_apply _ _ _ i j).trans (congrArg _ (Spec.rms_congr (fun k => mix_apply y0 y1 y2 w i k) rfl j))
end Cert.MixRefIdeal.Proj

namespace Cert.Proj.Mix

theorem frame_p : Cert.quiescent_Mix := fun m ρ _ => Cert.Mix.Gen.frame m ρ
theorem frame_pi : Cert.quiescent_MixIdeal := fun m ρ _ => Cert.MixIdeal.Gen.frame m ρ
theorem frame_ri : Cert.quiescent_MixRefIdeal := fun m ρ _ =>
  (θ_run Cert.MixRefIdeal.defs _ _).mono (fun r h => ⟨fun c => (h c).2.2, Idealize.ShloMosaic.sem_eq_zero_of_no_sems (by decide) r.2⟩)
    (Cert.MixRefIdeal.Value.run (F := Ideal) m ρ)

theorem preserves : Cert.preserves_Mix_MixIdeal := trivial

theorem algebraic : Cert.algebraic_MixIdeal_MixRefIdeal := by
  intro m ρ m' ρ' _ hagree
  refine ⟨_, _, Cert.MixIdeal.Gen.run_results m ρ, ?_⟩
  refine (θ_run Cert.MixRefIdeal.defs _ _).mono (fun _ h c => ⟨(h c).1.trans ?_, (h c).2.1.trans ?_, (h c).2.2⟩)
    (Cert.MixRefIdeal.Value.run (F := Ideal) m' ρ')
  all_goals obtain ⟨h0, h1, h2, h3, h4, h5, h6⟩ := hagree c
  · refine funext fun (i : (⟨2, ![18496, 4096]⟩ : Shape).Idx) => ?_
    rw [show i = ix2 (i 0) (i 1) from by pointwise, h0, h1, h2, h3, h4, h5]
    exact (Cert.MixRefIdeal.Proj.row_apply _ _ _ _ _ _ (i 0) (i 1)).trans (Cert.MixIdeal.Gen.resid m ρ c (i 0) (i 1)).symm
  · unfold Cert.MixRefIdeal.Value.res_main_v31
    refine funext fun (i : (⟨2, ![18496, 4096]⟩ : Shape).Idx) => ?_
    rw [show i = ix2 (i 0) (i 1) from by pointwise, h0, h1, h2, h3, h4, h5, h6]
    exact (Cert.MixRefIdeal.Proj.normed_apply _ _ (i 0) (i 1)).trans
      ((Spec.rms_congr (fun k => Cert.MixRefIdeal.Proj.row_apply _ _ _ _ _ _ (i 0) k) rfl (i 1)).trans (Cert.MixIdeal.Gen.normed m ρ c (i 0) (i 1)).symm)

end Cert.Proj.Mix
end
-- ==== Proof.Proj.InpValue.lean ====
/-
  The input projection: its packed weight, and what the region leaves in its results.
-/
module
public import proofs.«01_k».proof.Proof.Gen.InpIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.ShloMosaic.Tactic Idealize.SL.Sem
open Idealize.ShloMosaic.Pipeline (Dat)
namespace Cert.InpIdeal.Gen
open Cert.InpIdeal
variable (m : (ℓ : Loc nD τ sig) → Buf (Elt Ideal) ℓ)

/-- A weight's first layer. -/
def layer (w : FVec Ideal S2x4096x10592 .f32) : FVec Ideal S4096x10592 .f32 :=
  shapeCast S4096x10592 (extractStridedSlice S1x4096x10592 ![0, 0, 0] w slices_S2x4096x10592_S1x4096x10592_0_0_0) shapeCasts_S1x4096x10592_S4096x10592

/-- The packed weight. -/
def pack (w : FVec Ideal S2x4096x10592 .f32) : FVec Ideal S4096x10752 .bf16 :=
  truncf (F := Ideal) .bf16 (concatenate S4096x10752 1 [⟨S4096x6144, (extractStridedSlice S4096x6144 ![0, 0] (layer w) slices_S4096x10592_S4096x6144_0_0 : (⟨S4096x6144, .f32⟩ : BufTy).Contents (Elt Ideal))⟩,
    ⟨S4096x4352, (extractStridedSlice S4096x4352 ![0, 6176] (layer w) slices_S4096x10592_S4096x4352_0_6176 : (⟨S4096x4352, .f32⟩ : BufTy).Contents (Elt Ideal))⟩,
    ⟨S4096x32, (extractStridedSlice S4096x32 ![0, 10528] (layer w) slices_S4096x10592_S4096x32_0_10528 : (⟨S4096x32, .f32⟩ : BufTy).Contents (Elt Ideal))⟩,
    ⟨S4096x32, (extractStridedSlice S4096x32 ![0, 10560] (layer w) slices_S4096x10592_S4096x32_0_10560 : (⟨S4096x32, .f32⟩ : BufTy).Contents (Elt Ideal))⟩,
    ⟨S4096x32, (extractStridedSlice S4096x32 ![0, 10560] (layer w) slices_S4096x10592_S4096x32_0_10560 : (⟨S4096x32, .f32⟩ : BufTy).Contents (Elt Ideal))⟩,
    ⟨S4096x32, (extractStridedSlice S4096x32 ![0, 10528] (layer w) slices_S4096x10592_S4096x32_0_10528 : (⟨S4096x32, .f32⟩ : BufTy).Contents (Elt Ideal))⟩,
    ⟨S4096x32, (extractStridedSlice S4096x32 ![0, 6144] (layer w) slices_S4096x10592_S4096x32_0_6144 : (⟨S4096x32, .f32⟩ : BufTy).Contents (Elt Ideal))⟩,
    ⟨S4096x96, (broadcastInDim S4096x96 ![] bcast_S_S4096x96 (constant (F := Ideal) S_ .f32 0x00000000#32) : (⟨S4096x96, .f32⟩ : BufTy).Contents (Elt Ideal))⟩]
    concatenates_S4096x6144_S4096x4352_S4096x32_S4096x32_S4096x32_S4096x32_S4096x32_S4096x96_S4096x10752_d1) bitsLt_bf16_f32

theorem layer_apply (w : FVec Ideal S2x4096x10592 .f32) (k : Fin 4096) (j : Fin 10592) : layer w (ix2 k j) = w (ix3 0 k j) := by
  pointwise [layer]

theorem pack0 (w : FVec Ideal S2x4096x10592 .f32) (k : Fin 4096) (q : Fin 6144) :
    pack w (ix2 k ⟨q.val, by omega⟩) = w (ix3 0 k ⟨q.val, by omega⟩) := by
  refine Eq.trans ?_ (layer_apply w k _)
  generalize hl : layer w = l
  pointwise [pack, hl]
  repeat' split
  all_goals first
    | (exfalso; omega)
    | exact congrArg (fun j => l (ix2 k j)) (Fin.ext (by dsimp only; omega))
    | rfl
theorem pack1 (w : FVec Ideal S2x4096x10592 .f32) (k : Fin 4096) (q : Fin 4352) :
    pack w (ix2 k ⟨6144 + q.val, by omega⟩) = w (ix3 0 k ⟨6176 + q.val, by omega⟩) := by
  refine Eq.trans ?_ (layer_apply w k _)
  generalize hl : layer w = l
  pointwise [pack, hl]
  repeat' split
  all_goals first
    | (exfalso; omega)
    | exact congrArg (fun j => l (ix2 k j)) (Fin.ext (by dsimp only; omega))
    | rfl
theorem pack2 (w : FVec Ideal S2x4096x10592 .f32) (k : Fin 4096) (q : Fin 32) :
    pack w (ix2 k ⟨10496 + q.val, by omega⟩) = w (ix3 0 k ⟨10528 + q.val, by omega⟩) := by
  refine Eq.trans ?_ (layer_apply w k _)
  generalize hl : layer w = l
  pointwise [pack, hl]
  repeat' split
  all_goals first
    | (exfalso; omega)
    | exact congrArg (fun j => l (ix2 k j)) (Fin.ext (by dsimp only; omega))
    | rfl
theorem pack3 (w : FVec Ideal S2x4096x10592 .f32) (k : Fin 4096) (q : Fin 32) :
    pack w (ix2 k ⟨10528 + q.val, by omega⟩) = w (ix3 0 k ⟨10560 + q.val, by omega⟩) := by
  refine Eq.trans ?_ (layer_apply w k _)
  generalize hl : layer w = l
  pointwise [pack, hl]
  repeat' split
  all_goals first
    | (exfalso; omega)
    | exact congrArg (fun j => l (ix2 k j)) (Fin.ext (by dsimp only; omega))
    | rfl
theorem pack4 (w : FVec Ideal S2x4096x10592 .f32) (k : Fin 4096) (q : Fin 32) :
    pack w (ix2 k ⟨10560 + q.val, by omega⟩) = w (ix3 0 k ⟨10560 + q.val, by omega⟩) := by
  refine Eq.trans ?_ (layer_apply w k _)
  generalize hl : layer w = l
  pointwise [pack, hl]
  repeat' split
  all_goals first
    | (exfalso; omega)
    | exact congrArg (fun j => l (ix2 k j)) (Fin.ext (by dsimp only; omega))
    | rfl
theorem pack5 (w : FVec Ideal S2x4096x10592 .f32) (k : Fin 4096) (q : Fin 32) :
    pack w (ix2 k ⟨10592 + q.val, by omega⟩) = w (ix3 0 k ⟨10528 + q.val, by omega⟩) := by
  refine Eq.trans ?_ (layer_apply w k _)
  generalize hl : layer w = l
  pointwise [pack, hl]
  repeat' split
  all_goals first
    | (exfalso; omega)
    | exact congrArg (fun j => l (ix2 k j)) (Fin.ext (by dsimp only; omega))
    | rfl
theorem pack6 (w : FVec Ideal S2x4096x10592 .f32) (k : Fin 4096) (q : Fin 32) :
    pack w (ix2 k ⟨10624 + q.val, by omega⟩) = w (ix3 0 k ⟨6144 + q.val, by omega⟩) := by
  refine Eq.trans ?_ (layer_apply w k _)
  generalize hl : layer w = l
  pointwise [pack, hl]
  repeat' split
  all_goals first
    | (exfalso; omega)
    | exact congrArg (fun j => l (ix2 k j)) (Fin.ext (by dsimp only; omega))
    | rfl
theorem pack7 (w : FVec Ideal S2x4096x10592 .f32) (k : Fin 4096) (q : Fin 96) : pack w (ix2 k ⟨10656 + q.val, by omega⟩) = 0 := by
  generalize hl : layer w = l
  pointwise [pack, hl]
  repeat' split
  all_goals first
    | (exfalso; omega)
    | exact congrArg (fun j => l (ix2 k j)) (Fin.ext (by dsimp only; omega))
    | rfl

/-- The product's entries. -/
def prod (h : FVec Ideal S18496x4096 .bf16) (w : FVec Ideal S4096x10752 .bf16) : FVec Ideal S18496x10752 .bf16 := fun i =>
  ∑ k : Fin 4096, h (ix2 (i 0) k) * w (ix2 k (i 1))

/-- Its last 128 columns. -/
def tail (h : FVec Ideal S18496x4096 .bf16) (w : FVec Ideal S4096x10752 .bf16) : FVec Ideal S18496x128 .f32 := fun i =>
  ∑ k : Fin 4096, h (ix2 (i 0) k) * w (ix2 k ⟨10624 + (i 1).val, Nat.add_lt_add_left (i 1).isLt 10624⟩)

theorem idx : ∀ t : Fin cfg0.N, win0_0.index t = ![t.val / 14, 0] ∧ win0_1.index t = ![0, t.val % 14] ∧ win0_2.index t = ![t.val / 14, t.val % 14]
    ∧ win0_3.index t = ![t.val / 14, 0] :=
  (by decide +kernel : ∀ t : Fin grid0.N, _)

theorem V_h (c : Dev nD) : V m c main_v9 = truncf (F := Ideal) .bf16 (m ((c : Thread nD τ).loc main_arg0) : FVec Ideal S18496x4096 .f32) bitsLt_bf16_f32 := rfl
theorem V_w (c : Dev nD) : V m c main_v10 = pack (m ((c : Thread nD τ).loc main_arg1)) := rfl

theorem final2' (c : Dev nD) : (dats m 0 c).arrAt 2 cfg0.N = prod (V m c main_v9) (V m c main_v10) := by
  refine (dats m 0 c).arrAt_eq_of_covers 2 _ (by decide +kernel) fun t _ y => ?_
  blk_simp
  rw [after0_2]
  by_cases h0 : t.val % 14 = 13
  · rw [outsAt0_B m c t h0]
    unfold out0_B_2
    frame_out
    unfold prod
    pointwise [k0_pay2, k0_pay1]
    blk_point [iblk, idx t]
  · rw [outsAt0_A m c t h0]
    unfold out0_A_2
    frame_out
    unfold prod
    pointwise [k0_pay2, k0_pay1]
    blk_point [iblk, idx t]

theorem final3' (c : Dev nD) : (dats m 0 c).arrAt 3 cfg0.N = tail (V m c main_v9) (V m c main_v10) := by
  refine (dats m 0 c).arrAt_eq_of_covers 3 _ (by decide +kernel) fun t ht y => ?_
  have h0 : t.val % 14 = 13 := (flush0_3 t).mp ht
  blk_simp
  rw [after0_3, outsAt0_B m c t h0]
  unfold out0_B_3
  frame_out
  unfold tail
  pointwise [k0_pay3, k0_pay1]
  blk_point [iblk, idx t]

theorem u_apply (c : Dev nD) (i : Fin 18496) (j : Fin 10752) :
    (show FVec Ideal S18496x10752 .bf16 from (dats m 0 c).arrAt 2 cfg0.N) (ix2 i j)
      = prod (m ((c : Thread nD τ).loc main_arg0)) (pack (m ((c : Thread nD τ).loc main_arg1))) (ix2 i j) := by
  rw [final2', V_h, V_w]
  rfl

theorem dt_apply (c : Dev nD) (i : Fin 18496) (j : Fin 128) :
    (show FVec Ideal S18496x128 .f32 from (dats m 0 c).arrAt 3 cfg0.N) (ix2 i j)
      = prod (m ((c : Thread nD τ).loc main_arg0)) (pack (m ((c : Thread nD τ).loc main_arg1))) (ix2 i ⟨10624 + j.val, by omega⟩) := by
  rw [final3', V_h, V_w]
  rfl
end Cert.InpIdeal.Gen
end
-- ==== Proof.Proj.Inp.lean ====
/-
  The input projection's claims.
-/
module
public import proofs.«01_k».proof.Defs
public import proofs.«01_k».proof.Proof.Proj.InpValue
public import proofs.«01_k».proof.Proof.Gen.InpRefIdeal.Run
public import proofs.«01_k».proof.Proof.Gen.Inp.Frame
public import Idealize.ShloMosaic.Adequacy
public import Idealize.ShloMosaic.Init
@[expose] public section
set_option maxRecDepth 16384
noncomputable section
open Idealize.ShloMosaic Idealize.ShloMosaic.TcCoe Idealize.SL.Sem

namespace Cert.InpRefIdeal.Proj
open Cert.InpRefIdeal Cert.InpRefIdeal.Gen

theorem zero : (FloatOps.sitofp (F := Ideal) FTy.f32 0#32 : EReal) = 0 := by
  show ((((0#32 : BitVec 32).toInt : ℤ) : ℝ) : EReal) = 0
  simp

/-- The projection's rows. -/
def dot (h : FVec Ideal S18496x4096 .f32) (w : FVec Ideal S2x4096x10592 .f32) : FVec Ideal S18496x10592 .f32 :=
  Host.dotGeneral dot_S18496x4096_S4096x10592_S18496x10592_1_0_0_1_n_n none h (shapeCast _ (extractStridedSlice S1x4096x10592 ![0, 0, 0] w slices_S2x4096x10592_S1x4096x10592_0_0_0) shapeCasts_S1x4096x10592_S4096x10592)

/-- The step's columns, padded. -/
def dt (d : FVec Ideal S18496x10592 .f32) : FVec Ideal S18496x128 .f32 :=
  pad S18496x128 ![0, 0] ![0, 96] ![0, 0] (extractStridedSlice S18496x32 ![0, 6144] d slices_S18496x10592_S18496x32_0_6144) (sitofp (F := Ideal) .f32 (constantI S_ 32 0#32)) pads_S18496x32_S18496x128_000_0960 h_S_

/-- The projection's columns, part by part. -/
def cols (d : FVec Ideal S18496x10592 .f32) : FVec Ideal S18496x10752 .bf16 :=
  truncf (F := Ideal) .bf16 ((concatenate S18496x10752 1 [⟨S18496x6144, ((extractStridedSlice S18496x6144 ![0, 0] d slices_S18496x10592_S18496x6144_0_0) : (⟨S18496x6144, .f32⟩ : BufTy).Contents (Elt Ideal))⟩, ⟨S18496x4352, ((extractStridedSlice S18496x4352 ![0, 6176] d slices_S18496x10592_S18496x4352_0_6176) : (⟨S18496x4352, .f32⟩ : BufTy).Contents (Elt Ideal))⟩, ⟨S18496x64, ((extractStridedSlice S18496x64 ![0, 10528] d slices_S18496x10592_S18496x64_0_10528) : (⟨S18496x64, .f32⟩ : BufTy).Contents (Elt Ideal))⟩, ⟨S18496x64, ((concatenate S18496x64 1 [⟨S18496x32, (extractStridedSlice S18496x32 ![0, 32] (extractStridedSlice S18496x64 ![0, 10528] d slices_S18496x10592_S18496x64_0_10528) slices_S18496x64_S18496x32_0_32)⟩, ⟨S18496x32, (extractStridedSlice S18496x32 ![0, 0] (extractStridedSlice S18496x64 ![0, 10528] d slices_S18496x10592_S18496x64_0_10528) slices_S18496x64_S18496x32_0_0)⟩] concatenates_S18496x32_S18496x32_S18496x64_d1) : (⟨S18496x64, .f32⟩ : BufTy).Contents (Elt Ideal))⟩, ⟨S18496x128, (dt d : (⟨S18496x128, .f32⟩ : BufTy).Contents (Elt Ideal))⟩] concatenates_S18496x6144_S18496x4352_S18496x64_S18496x64_S18496x128_S18496x10752_d1 : (⟨S18496x10752, .f32⟩ : BufTy).Contents (Elt Ideal))) bitsLt_bf16_f32

theorem dot_apply (h : FVec Ideal S18496x4096 .f32) (w : FVec Ideal S2x4096x10592 .f32) (i : Fin 18496) (j : Fin 10592) :
    dot h w (ix2 i j) = ∑ k : Fin 4096, h (ix2 i k) * w (ix3 0 k j) := by
  pointwise [dot]

theorem dt_cols (d : FVec Ideal S18496x10592 .f32) (i : Fin 18496) (q : Fin 32) : dt d (ix2 i ⟨q.val, by omega⟩) = d (ix2 i ⟨6144 + q.val, by omega⟩) := by
  pointwise [dt]
theorem dt_zero (d : FVec Ideal S18496x10592 .f32) (i : Fin 18496) (q : Fin 96) : dt d (ix2 i ⟨32 + q.val, by omega⟩) = 0 := by
  pointwise [dt]
  exact zero
theorem cols_dt (d : FVec Ideal S18496x10592 .f32) (i : Fin 18496) (q : Fin 128) : cols d (ix2 i ⟨10624 + q.val, by omega⟩) = dt d (ix2 i q) := by
  generalize hl : dt d = l
  pointwise [cols, hl]
  repeat' split
  all_goals first
    | (exfalso; omega)
    | exact congrArg (fun j => d (ix2 i j)) (Fin.ext (by dsimp only; omega))
    | exact congrArg (fun j => l (ix2 i j)) (Fin.ext (by dsimp only; omega))
    | rfl
theorem cols0 (d : FVec Ideal S18496x10592 .f32) (i : Fin 18496) (q : Fin 6144) :
    cols d (ix2 i ⟨q.val, by omega⟩) = d (ix2 i ⟨q.val, by omega⟩) := by
  generalize hl : dt d = l
  pointwise [cols, hl]
  repeat' split
  all_goals first
    | (exfalso; omega)
    | exact congrArg (fun j => d (ix2 i j)) (Fin.ext (by dsimp only; omega))
    | exact congrArg (fun j => l (ix2 i j)) (Fin.ext (by dsimp only; omega))
    | rfl
theorem cols1 (d : FVec Ideal S18496x10592 .f32) (i : Fin 18496) (q : Fin 4352) :
    cols d (ix2 i ⟨6144 + q.val, by omega⟩) = d (ix2 i ⟨6176 + q.val, by omega⟩) := by
  generalize hl : dt d = l
  pointwise [cols, hl]
  repeat' split
  all_goals first
    | (exfalso; omega)
    | exact congrArg (fun j => d (ix2 i j)) (Fin.ext (by dsimp only; omega))
    | exact congrArg (fun j => l (ix2 i j)) (Fin.ext (by dsimp only; omega))
    | rfl
theorem cols2 (d : FVec Ideal S18496x10592 .f32) (i : Fin 18496) (q : Fin 32) :
    cols d (ix2 i ⟨10496 + q.val, by omega⟩) = d (ix2 i ⟨10528 + q.val, by omega⟩) := by
  generalize hl : dt d = l
  pointwise [cols, hl]
  repeat' split
  all_goals first
    | (exfalso; omega)
    | exact congrArg (fun j => d (ix2 i j)) (Fin.ext (by dsimp only; omega))
    | exact congrArg (fun j => l (ix2 i j)) (Fin.ext (by dsimp only; omega))
    | rfl
theorem cols3 (d : FVec Ideal S18496x10592 .f32) (i : Fin 18496) (q : Fin 32) :
    cols d (ix2 i ⟨10528 + q.val, by omega⟩) = d (ix2 i ⟨10560 + q.val, by omega⟩) := by
  generalize hl : dt d = l
  pointwise [cols, hl]
  repeat' split
  all_goals first
    | (exfalso; omega)
    | exact congrArg (fun j => d (ix2 i j)) (Fin.ext (by dsimp only; omega))
    | exact congrArg (fun j => l (ix2 i j)) (Fin.ext (by dsimp only; omega))
    | rfl
theorem cols4 (d : FVec Ideal S18496x10592 .f32) (i : Fin 18496) (q : Fin 32) :
    cols d (ix2 i ⟨10560 + q.val, by omega⟩) = d (ix2 i ⟨10560 + q.val, by omega⟩) := by
  generalize hl : dt d = l
  pointwise [cols, hl]
  repeat' split
  all_goals first
    | (exfalso; omega)
    | exact congrArg (fun j => d (ix2 i j)) (Fin.ext (by dsimp only; omega))
    | exact congrArg (fun j => l (ix2 i j)) (Fin.ext (by dsimp only; omega))
    | rfl
theorem cols5 (d : FVec Ideal S18496x10592 .f32) (i : Fin 18496) (q : Fin 32) :
    cols d (ix2 i ⟨10592 + q.val, by omega⟩) = d (ix2 i ⟨10528 + q.val, by omega⟩) := by
  generalize hl : dt d = l
  pointwise [cols, hl]
  repeat' split
  all_goals first
    | (exfalso; omega)
    | exact congrArg (fun j => d (ix2 i j)) (Fin.ext (by dsimp only; omega))
    | exact congrArg (fun j => l (ix2 i j)) (Fin.ext (by dsimp only; omega))
    | rfl
theorem cols6 (d : FVec Ideal S18496x10592 .f32) (i : Fin 18496) (q : Fin 32) :
    cols d (ix2 i ⟨10624 + q.val, by omega⟩) = d (ix2 i ⟨6144 + q.val, by omega⟩) :=
  (cols_dt d i ⟨q.val, by omega⟩).trans (dt_cols d i q)
theorem cols7 (d : FVec Ideal S18496x10592 .f32) (i : Fin 18496) (q : Fin 96) : cols d (ix2 i ⟨10656 + q.val, by omega⟩) = 0 :=
  (congrArg (fun j => cols d (ix2 i j)) (Fin.ext (by show 10656 + q.val = 10624 + (32 + q.val); omega))).trans ((cols_dt d i ⟨32 + q.val, by omega⟩).trans (dt_zero d i q))
end Cert.InpRefIdeal.Proj

namespace Cert.Proj.Inp

/-- The reference's columns are the product with the packed weight. -/
theorem cols_eq (h : FVec Ideal ⟨2, ![18496, 4096]⟩ .f32) (w : FVec Ideal ⟨3, ![2, 4096, 10592]⟩ .f32) (i : Fin 18496) (j : Fin 10752) :
    Cert.InpRefIdeal.Proj.cols (Cert.InpRefIdeal.Proj.dot h w) (ix2 i j) = Cert.InpIdeal.Gen.prod h (Cert.InpIdeal.Gen.pack w) (ix2 i j) := by
  show _ = ∑ k : Fin 4096, h (ix2 i k) * Cert.InpIdeal.Gen.pack w (ix2 k j)
  rcases (show j.val < 6144 ∨ (6144 ≤ j.val ∧ j.val < 10496) ∨ (10496 ≤ j.val ∧ j.val < 10528) ∨ (10528 ≤ j.val ∧ j.val < 10560) ∨ (10560 ≤ j.val ∧ j.val < 10592) ∨ (10592 ≤ j.val ∧ j.val < 10624) ∨ (10624 ≤ j.val ∧ j.val < 10656) ∨ (10656 ≤ j.val ∧ j.val < 10752) from by have := j.isLt; omega) with hj | hj | hj | hj | hj | hj | hj | hj
  · obtain ⟨q, rfl⟩ : ∃ q : Fin 6144, j = ⟨q.val, Nat.lt_of_lt_of_le q.isLt (by decide)⟩ := ⟨⟨j.val - 0, by omega⟩, Fin.ext (by show j.val = (j.val - 0); omega)⟩
    refine (Cert.InpRefIdeal.Proj.cols0 _ i q).trans ((Cert.InpRefIdeal.Proj.dot_apply h w i _).trans ?_)
    exact Finset.sum_congr rfl fun k _ => congrArg (h (ix2 i k) * ·) (Cert.InpIdeal.Gen.pack0 w k q).symm
  · obtain ⟨q, rfl⟩ : ∃ q : Fin 4352, j = ⟨6144 + q.val, Nat.lt_of_lt_of_le (Nat.add_lt_add_left q.isLt 6144) (by decide)⟩ := ⟨⟨j.val - 6144, by omega⟩, Fin.ext (by show j.val = 6144 + (j.val - 6144); omega)⟩
    refine (Cert.InpRefIdeal.Proj.cols1 _ i q).trans ((Cert.InpRefIdeal.Proj.dot_apply h w i _).trans ?_)
    exact Finset.sum_congr rfl fun k _ => congrArg (h (ix2 i k) * ·) (Cert.InpIdeal.Gen.pack1 w k q).symm
  · obtain ⟨q, rfl⟩ : ∃ q : Fin 32, j = ⟨10496 + q.val, Nat.lt_of_lt_of_le (Nat.add_lt_add_left q.isLt 10496) (by decide)⟩ := ⟨⟨j.val - 10496, by omega⟩, Fin.ext (by show j.val = 10496 + (j.val - 10496); omega)⟩
    refine (Cert.InpRefIdeal.Proj.cols2 _ i q).trans ((Cert.InpRefIdeal.Proj.dot_apply h w i _).trans ?_)
    exact Finset.sum_congr rfl fun k _ => congrArg (h (ix2 i k) * ·) (Cert.InpIdeal.Gen.pack2 w k q).symm
  · obtain ⟨q, rfl⟩ : ∃ q : Fin 32, j = ⟨10528 + q.val, Nat.lt_of_lt_of_le (Nat.add_lt_add_left q.isLt 10528) (by decide)⟩ := ⟨⟨j.val - 10528, by omega⟩, Fin.ext (by show j.val = 10528 + (j.val - 10528); omega)⟩
    refine (Cert.InpRefIdeal.Proj.cols3 _ i q).trans ((Cert.InpRefIdeal.Proj.dot_apply h w i _).trans ?_)
    exact Finset.sum_congr rfl fun k _ => congrArg (h (ix2 i k) * ·) (Cert.InpIdeal.Gen.pack3 w k q).symm
  · obtain ⟨q, rfl⟩ : ∃ q : Fin 32, j = ⟨10560 + q.val, Nat.lt_of_lt_of_le (Nat.add_lt_add_left q.isLt 10560) (by decide)⟩ := ⟨⟨j.val - 10560, by omega⟩, Fin.ext (by show j.val = 10560 + (j.val - 10560); omega)⟩
    refine (Cert.InpRefIdeal.Proj.cols4 _ i q).trans ((Cert.InpRefIdeal.Proj.dot_apply h w i _).trans ?_)
    exact Finset.sum_congr rfl fun k _ => congrArg (h (ix2 i k) * ·) (Cert.InpIdeal.Gen.pack4 w k q).symm
  · obtain ⟨q, rfl⟩ : ∃ q : Fin 32, j = ⟨10592 + q.val, Nat.lt_of_lt_of_le (Nat.add_lt_add_left q.isLt 10592) (by decide)⟩ := ⟨⟨j.val - 10592, by omega⟩, Fin.ext (by show j.val = 10592 + (j.val - 10592); omega)⟩
    refine (Cert.InpRefIdeal.Proj.cols5 _ i q).trans ((Cert.InpRefIdeal.Proj.dot_apply h w i _).trans ?_)
    exact Finset.sum_congr rfl fun k _ => congrArg (h (ix2 i k) * ·) (Cert.InpIdeal.Gen.pack5 w k q).symm
  · obtain ⟨q, rfl⟩ : ∃ q : Fin 32, j = ⟨10624 + q.val, Nat.lt_of_lt_of_le (Nat.add_lt_add_left q.isLt 10624) (by decide)⟩ := ⟨⟨j.val - 10624, by omega⟩, Fin.ext (by show j.val = 10624 + (j.val - 10624); omega)⟩
    refine (Cert.InpRefIdeal.Proj.cols6 _ i q).trans ((Cert.InpRefIdeal.Proj.dot_apply h w i _).trans ?_)
    exact Finset.sum_congr rfl fun k _ => congrArg (h (ix2 i k) * ·) (Cert.InpIdeal.Gen.pack6 w k q).symm
  · obtain ⟨q, rfl⟩ : ∃ q : Fin 96, j = ⟨10656 + q.val, Nat.lt_of_lt_of_le (Nat.add_lt_add_left q.isLt 10656) (by decide)⟩ := ⟨⟨j.val - 10656, by omega⟩, Fin.ext (by show j.val = 10656 + (j.val - 10656); omega)⟩
    refine (Cert.InpRefIdeal.Proj.cols7 _ i q).trans (Finset.sum_eq_zero fun k _ => ?_).symm
    exact (congrArg (h (ix2 i k) * ·) (Cert.InpIdeal.Gen.pack7 w k q)).trans (mul_zero _)

theorem frame_p : Cert.quiescent_Inp := fun m ρ _ => Cert.Inp.Gen.frame m ρ
theorem frame_pi : Cert.quiescent_InpIdeal := fun m ρ _ => Cert.InpIdeal.Gen.frame m ρ
theorem frame_ri : Cert.quiescent_InpRefIdeal := fun m ρ _ =>
  (θ_run Cert.InpRefIdeal.defs _ _).mono (fun r h => ⟨fun c => (h c).2.2, Idealize.ShloMosaic.sem_eq_zero_of_no_sems (by decide) r.2⟩)
    (Cert.InpRefIdeal.Value.run (F := Ideal) m ρ)

theorem preserves : Cert.preserves_Inp_InpIdeal := trivial

theorem algebraic : Cert.algebraic_InpIdeal_InpRefIdeal := by
  intro m ρ m' ρ' _ hagree
  refine ⟨_, _, Cert.InpIdeal.Value.run_blocks m ρ, ?_⟩
  refine (θ_run Cert.InpRefIdeal.defs _ _).mono (fun _ h c => ⟨(h c).1.trans ?_, (h c).2.1.trans ?_, (h c).2.2⟩)
    (Cert.InpRefIdeal.Value.run (F := Ideal) m' ρ')
  all_goals obtain ⟨h0, h1⟩ := hagree c
  · refine funext fun (i : (⟨2, ![18496, 10752]⟩ : Shape).Idx) => ?_
    rw [show i = ix2 (i 0) (i 1) from by pointwise, h0, h1]
    exact (cols_eq _ _ (i 0) (i 1)).trans (Cert.InpIdeal.Gen.u_apply m c (i 0) (i 1)).symm
  · refine funext fun (i : (⟨2, ![18496, 128]⟩ : Shape).Idx) => ?_
    rw [show i = ix2 (i 0) (i 1) from by pointwise, h0, h1]
    exact (Cert.InpRefIdeal.Proj.cols_dt _ (i 0) (i 1)).symm.trans ((cols_eq _ _ (i 0) _).trans (Cert.InpIdeal.Gen.dt_apply m c (i 0) (i 1)).symm)

end Cert.Proj.Inp
end
-- ==== Proof.Proj.Prompt.lean ====
/-
  The trunk's output at the prompt frames: values and claims.
-/
module
public import proofs.«01_k».proof.Defs
public import proofs.«01_k».proof.Proof.Proj.Norm
public import proofs.«01_k».proof.Proof.Gen.PromptIdeal.Value
public import proofs.«01_k».proof.Proof.Gen.PromptRefIdeal.Run
public import proofs.«01_k».proof.Proof.Gen.Prompt.Frame
public import Idealize.ShloMosaic.Lib.Pipeline.ValueKit
public import Idealize.ShloMosaic.Adequacy
public import Idealize.ShloMosaic.Init
@[expose] public section
set_option maxRecDepth 16384
noncomputable section
open Idealize.ShloMosaic Idealize.ShloMosaic.TcCoe Idealize.SL.Sem
open Idealize.ShloMosaic.Pipeline (Dat)

namespace Cert.PromptRefIdeal.Proj
open Cert.PromptRefIdeal Cert.PromptRefIdeal.Gen

theorem rows_apply (x f : FVec Ideal S18496x4096 .f32) (g : FVec Ideal S4096 .f32) (i : Fin 16384) (j : Fin 4096) :
    extractStridedSlice S16384x4096 ![0, 0] (addf x (mulf (mulf f (broadcastInDim S18496x4096 ![0, 1] bcast_S18496x1_S18496x4096_0_1 (Host.rsqrt (addf (Host.divf (broadcastInDim S18496x1 ![0] bcast_S18496_S18496x1_0 (Host.reduceAdd (mulf f f) (constant S_ .f32 0x00000000#32) reducesTo_S18496x4096_S18496_d1 h_S_)) (broadcastInDim S18496x1 ![] bcast_S_S18496x1 (constant S_ .f32 0x45800000#32))) (broadcastInDim S18496x1 ![] bcast_S_S18496x1 (constant S_ .f32 0x358637BD#32)))))) (broadcastInDim S18496x4096 ![0, 1] bcast_S1x4096_S18496x4096_0_1 (broadcastInDim S1x4096 ![1] bcast_S4096_S1x4096_1 g)))) slices_S18496x4096_S16384x4096_0_0 (ix2 i j)
     = x (ix2 ⟨i.val, by omega⟩ j) + Spec.rms (fun k => f (ix2 ⟨i.val, by omega⟩ k)) (g (ix1 j)) j := by
  unfold Spec.rms
  pointwise
end Cert.PromptRefIdeal.Proj

namespace Cert.PromptIdeal.Gen
open Cert.PromptIdeal
variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- The output's rows. -/
def res (x f : FVec Ideal S18496x4096 .f32) (g : FVec Ideal S4096 .f32) : FVec Ideal S16384x4096 .f32 := fun i =>
  x (ix2 ⟨(i 0).val, Nat.lt_trans (i 0).isLt (by decide)⟩ (i 1))
    + Spec.rms (fun k => f (ix2 ⟨(i 0).val, Nat.lt_trans (i 0).isLt (by decide)⟩ k)) (g (ix1 (i 1))) (i 1)

theorem V_f (c : Dev nD) : V m c main_v0 = truncf (F := Ideal) .bf16 (m ((c : Thread nD τ).loc main_arg1) : FVec Ideal S18496x4096 .f32) bitsLt_bf16_f32 := rfl
theorem V_g (c : Dev nD) : V m c main_v1 = shapeCast S1x4096 (m ((c : Thread nD τ).loc main_arg2) : FVec Ideal S4096 .f32) shapeCasts_S4096_S1x4096 := rfl

theorem read_x (c : Dev nD) (t : Fin cfg0.N) (p : Fin 512) (k : Fin 4096) (h : 512 * t.val + p.val < 18496) :
    (show FVec Ideal S512x4096 .f32 from X0_0 m c t) (ix2 p k) = (m ((c : Thread nD τ).loc main_arg0) : FVec Ideal S18496x4096 .f32) (ix2 ⟨512 * t.val + p.val, h⟩ k) := by
  refine (dif_pos (moved0_0 t (ix2 p k))).trans ?_
  blk_ext [iblk, idx t]

theorem read_f (c : Dev nD) (t : Fin cfg0.N) (p : Fin 512) (k : Fin 4096) (h : 512 * t.val + p.val < 18496) :
    (show FVec Ideal S512x4096 .bf16 from X0_1 m c t) (ix2 p k) = (m ((c : Thread nD τ).loc main_arg1) : FVec Ideal S18496x4096 .f32) (ix2 ⟨512 * t.val + p.val, h⟩ k) := by
  refine (dif_pos (moved0_1 t (ix2 p k))).trans ?_
  blk_simp [iblk]
  rw [V_f]
  blk_ext [idx t]

theorem row_apply (g : FVec Ideal S4096 .f32) (i : S1x4096.Idx) : shapeCast S1x4096 g shapeCasts_S4096_S1x4096 i = g (ix1 (i 1)) := by
  pointwise

theorem read_g (c : Dev nD) (t : Fin cfg0.N) (k : Fin 4096) :
    (show FVec Ideal S1x4096 .f32 from iblk m c 2 t) (ix2 0 k) = (m ((c : Thread nD τ).loc main_arg2) : FVec Ideal S4096 .f32) (ix1 k) := by
  blk_simp [iblk]
  rw [V_g]
  refine (row_apply _ _).trans (congrArg (fun q => (m ((c : Thread nD τ).loc main_arg2) : FVec Ideal S4096 .f32) (ix1 q)) (Fin.ext ?_))
  blk_simp [idx t]

theorem pay_apply (x0 : FVec Ideal S512x4096 .f32) (x1 : FVec Ideal S512x4096 .bf16) (x2 : FVec Ideal S1x4096 .f32) (p : Fin 512) (k : Fin 4096) :
    k0_pay1 x0 x1 x2 (ix2 p k) = x0 (ix2 p k) + Spec.rms (fun k => x1 (ix2 p k)) (x2 (ix2 0 k)) k := by
  unfold Spec.rms
  pointwise [k0_pay1]

theorem final (c : Dev nD) : (dats m 0 c).arrAt 3 cfg0.N
    = res (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 32 := t.isLt
  have hy : (y 0).val < 512 := (y 0).isLt
  have hb : 512 * t.val + (y 0).val < 18496 := by omega
  have key : ∀ i : S16384x4096.Idx, (i 0).val = 512 * t.val + (y 0).val → (i 1).val = (y 1).val →
      k0_pay1 (X0_0 m c t) (X0_1 m c t) (iblk m c 2 t) (ix2 (y 0) (y 1))
        = res (m ((c : Thread nD τ).loc main_arg0)) (m ((c : Thread nD τ).loc main_arg1)) (m ((c : Thread nD τ).loc main_arg2)) i := by
    intro i h0 h1
    refine (pay_apply _ _ _ (y 0) (y 1)).trans ?_
    unfold res
    rw [show (⟨(i 0).val, Nat.lt_trans (i 0).isLt (by decide)⟩ : Fin 18496) = ⟨512 * t.val + (y 0).val, hb⟩ from Fin.ext h0,
      show i 1 = y 1 from Fin.ext h1]
    exact congrArg₂ (· + ·) (read_x m c t (y 0) (y 1) hb) (Spec.rms_congr (fun k => read_f m c t (y 0) k hb) (read_g m c t (y 1)) (y 1))
  blk_simp
  rw [after0_3]; unfold outsAt0
  frame_out
  rw [show (y : S512x4096.Idx) = ix2 (y 0) (y 1) from by pointwise]
  refine key _ ?_ ?_
  · blk_simp [idx t]
    omega
  · blk_simp [idx t]
end Cert.PromptIdeal.Gen

namespace Cert.Proj.Prompt

theorem frame_p : Cert.quiescent_Prompt := fun m ρ _ => Cert.Prompt.Gen.frame m ρ
theorem frame_pi : Cert.quiescent_PromptIdeal := fun m ρ _ => Cert.PromptIdeal.Gen.frame m ρ
theorem frame_ri : Cert.quiescent_PromptRefIdeal := fun m ρ _ =>
  (θ_run Cert.PromptRefIdeal.defs _ _).mono (fun r h => ⟨fun c => (h c).2, Idealize.ShloMosaic.sem_eq_zero_of_no_sems (by decide) r.2⟩)
    (Cert.PromptRefIdeal.Value.run (F := Ideal) m ρ)
theorem preserves : Cert.preserves_Prompt_PromptIdeal := trivial

theorem algebraic : Cert.algebraic_PromptIdeal_PromptRefIdeal := by
  intro m ρ m' ρ' _ hagree
  refine ⟨_, Cert.PromptIdeal.Value.run_blocks m ρ, ?_⟩
  refine (θ_run Cert.PromptRefIdeal.defs _ _).mono (fun _ h c => ⟨(h c).1.trans ?_, (h c).2⟩)
    (Cert.PromptRefIdeal.Value.run (F := Ideal) m' ρ')
  obtain ⟨h0, h1, h2⟩ := hagree c
  refine funext fun (i : (⟨2, ![16384, 4096]⟩ : Shape).Idx) => ?_
  rw [show i = ix2 (i 0) (i 1) from by pointwise, h0, h1, h2, Cert.PromptIdeal.Gen.final]
  exact Cert.PromptRefIdeal.Proj.rows_apply _ _ _ (i 0) (i 1)
end Cert.Proj.Prompt
end
-- ==== Proof.Proj.MlaTiles.lean ====
/-
  The tiles that the latent attention's projections write: a query tile of a head's 128 plain lanes, one
  of its rotary lanes, and the same of the keys.
-/
module
public import proofs.«01_k».proof.Proof.Gen.MlaIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.ShloMosaic.Tactic Idealize.SL.Sem

namespace Cert.Spec.Mla

/-- Entry `j` of the row `f` over the root of its mean square (`w` the word of its width), times the gain `g`. -/
def rms {n : Nat} (w : BitVec 32) (f : Fin n → EReal) (g : EReal) (j : Fin n) : EReal :=
  f j * Ideal.rsqrt (Ideal.div (∑ k : Fin n, f k * f k) (Ideal.ofBits FTy.f32 w) + Ideal.ofBits FTy.f32 897988541#32) * g

/-- The lane half a turn away. -/
def turn (d : Fin 128) : Fin 128 := ⟨(d.val + 128 - 64) % 128, by omega⟩

/-- The compressed query of a row of columns. -/
def cq (u : Fin 1536 → EReal) (g : Fin 768 → EReal) (k : Fin 768) : EReal :=
  rms 1145044992#32 (fun k : Fin 768 => u ⟨k.val, by omega⟩) (g k) k

/-- Its compressed key and value. -/
def ckv (u : Fin 1536 → EReal) (g : Fin 512 → EReal) (k : Fin 512) : EReal :=
  rms 1140850688#32 (fun k : Fin 512 => u ⟨768 + k.val, by omega⟩) (g k) k

/-- Its rotary key. -/
def kpe (u : Fin 1536 → EReal) (t : Fin 128 → EReal) (d : Fin 128) : EReal :=
  if d.val < 64 then u ⟨1280 + d.val, by omega⟩ * t d + u ⟨1280 + (turn d).val, by omega⟩ * t (turn d) else 0

/-- Its queries: per head 128 plain lanes, then 128 rotary ones. -/
def q (κ : EReal) (u : Fin 1536 → EReal) (t : Fin 128 → EReal) (g : Fin 768 → EReal) (wa : Fin 768 → Fin 2048 → EReal) (wb : Fin 768 → Fin 1024 → EReal)
    (n : Fin 2048) : EReal :=
  if n.val % 256 < 128 then (∑ k : Fin 768, cq u g k * wa k n) * κ
  else (∑ k : Fin 768, cq u g k * wa k n) * (t ⟨n.val % 128, by omega⟩ * κ)
    + (∑ k : Fin 768, cq u g k * wb k ⟨128 * (n.val / 256) + n.val % 128, by omega⟩) * (t (turn ⟨n.val % 128, by omega⟩) * κ)

/-- Its keys: per head 128 plain lanes, then the rotary key. -/
def k (u : Fin 1536 → EReal) (t : Fin 128 → EReal) (g : Fin 512 → EReal) (wk : Fin 512 → Fin 1024 → EReal) (n : Fin 2048) : EReal :=
  if n.val % 256 < 128 then ∑ k : Fin 512, ckv u g k * wk k ⟨128 * (n.val / 256) + n.val % 128, by omega⟩ else kpe u t ⟨n.val % 128, by omega⟩

/-- Its values. -/
def v (u : Fin 1536 → EReal) (g : Fin 512 → EReal) (wv : Fin 512 → Fin 1024 → EReal) (n : Fin 1024) : EReal := ∑ k : Fin 512, ckv u g k * wv k n

end Cert.Spec.Mla

namespace Cert.MlaIdeal.Gen
open Cert.MlaIdeal

/-- The queries' scale. -/
def scale : EReal := Named.named (F := Ideal) κ "qscale" (φ := .f32) 0x3DD53B95#32

/-- A query tile's entries from the two products and the scaled table. -/
def qT (a : FVec Ideal S544x2048 .f32) (b : FVec Ideal S544x1024 .f32) (t t' : FVec Ideal S544x128 .f32) (p : Fin 544) (n : Fin 2048) : EReal :=
  if n.val % 256 < 128 then a (ix2 p n) * scale
  else a (ix2 p n) * t (ix2 p ⟨n.val % 128, by omega⟩) + b (ix2 p ⟨128 * (n.val / 256) + n.val % 128, by omega⟩) * t' (ix2 p ⟨n.val % 128, by omega⟩)

/-- A key tile's. -/
def kT (a : FVec Ideal S544x1024 .f32) (e : FVec Ideal S544x128 .bf16) (p : Fin 544) (n : Fin 2048) : EReal :=
  if n.val % 256 < 128 then a (ix2 p ⟨128 * (n.val / 256) + n.val % 128, by omega⟩) else e (ix2 p ⟨n.val % 128, by omega⟩)

theorem qT_plain (a : FVec Ideal S544x2048 .f32) (b : FVec Ideal S544x1024 .f32) (t t' : FVec Ideal S544x128 .f32) (p p' : Fin 544) (n : Fin 2048) (h : Fin 8) (d : Fin 128)
    (hp : p.val = p'.val) (hn : n.val = 256 * h.val + d.val) : qT a b t t' p n = a (ix2 p' ⟨256 * h.val + d.val, by omega⟩) * scale := by
  obtain rfl : p = p' := Fin.ext hp
  have hb : 256 * h.val + d.val < 2048 := by omega
  obtain rfl : n = ⟨256 * h.val + d.val, hb⟩ := Fin.ext hn
  exact if_pos (show (256 * h.val + d.val) % 256 < 128 by omega)

theorem qT_rot (a : FVec Ideal S544x2048 .f32) (b : FVec Ideal S544x1024 .f32) (t t' : FVec Ideal S544x128 .f32) (p p' : Fin 544) (n : Fin 2048) (h : Fin 8) (d : Fin 128)
    (hp : p.val = p'.val) (hn : n.val = 256 * h.val + 128 + d.val) :
    qT a b t t' p n = a (ix2 p' ⟨256 * h.val + 128 + d.val, by omega⟩) * t (ix2 p' d) + b (ix2 p' ⟨128 * h.val + d.val, by omega⟩) * t' (ix2 p' d) := by
  obtain rfl : p = p' := Fin.ext hp
  have hb : 256 * h.val + 128 + d.val < 2048 := by omega
  obtain rfl : n = ⟨256 * h.val + 128 + d.val, hb⟩ := Fin.ext hn
  refine (if_neg (show ¬ (256 * h.val + 128 + d.val) % 256 < 128 by omega)).trans ?_
  have e : (⟨(256 * h.val + 128 + d.val) % 128, by omega⟩ : Fin 128) = d := Fin.ext (by show _ % _ = _; omega)
  have e' : (⟨128 * ((256 * h.val + 128 + d.val) / 256) + (256 * h.val + 128 + d.val) % 128, by omega⟩ : Fin 1024) = ⟨128 * h.val + d.val, by omega⟩ :=
    Fin.ext (by show 128 * ((256 * h.val + 128 + d.val) / 256) + (256 * h.val + 128 + d.val) % 128 = 128 * h.val + d.val; omega)
  show _ * t (ix2 p ⟨_ % 128, _⟩) + b (ix2 p ⟨_, _⟩) * t' (ix2 p ⟨_ % 128, _⟩) = _
  rw [e, e']

theorem kT_plain (a : FVec Ideal S544x1024 .f32) (e : FVec Ideal S544x128 .bf16) (p p' : Fin 544) (n : Fin 2048) (h : Fin 8) (d : Fin 128)
    (hp : p.val = p'.val) (hn : n.val = 256 * h.val + d.val) : kT a e p n = a (ix2 p' ⟨128 * h.val + d.val, by omega⟩) := by
  obtain rfl : p = p' := Fin.ext hp
  have hb : 256 * h.val + d.val < 2048 := by omega
  obtain rfl : n = ⟨256 * h.val + d.val, hb⟩ := Fin.ext hn
  exact (if_pos (show (256 * h.val + d.val) % 256 < 128 by omega)).trans
    (congrArg (fun j => a (ix2 p j)) (Fin.ext (by show 128 * ((256 * h.val + d.val) / 256) + (256 * h.val + d.val) % 128 = 128 * h.val + d.val; omega)))

theorem kT_rot (a : FVec Ideal S544x1024 .f32) (e : FVec Ideal S544x128 .bf16) (p p' : Fin 544) (n : Fin 2048) (h : Fin 8) (d : Fin 128)
    (hp : p.val = p'.val) (hn : n.val = 256 * h.val + 128 + d.val) : kT a e p n = e (ix2 p' d) := by
  obtain rfl : p = p' := Fin.ext hp
  have hb : 256 * h.val + 128 + d.val < 2048 := by omega
  obtain rfl : n = ⟨256 * h.val + 128 + d.val, hb⟩ := Fin.ext hn
  exact (if_neg (show ¬ (256 * h.val + 128 + d.val) % 256 < 128 by omega)).trans
    (congrArg (fun j => e (ix2 p j)) (Fin.ext (by show _ % 128 = _; omega)))

section Tiles
variable (a : FVec Ideal S544x2048 .f32) (b : FVec Ideal S544x1024 .f32) (t t' : FVec Ideal S544x128 .f32) (e : FVec Ideal S544x128 .bf16) (x : S544x128.Idx) (p : Fin 544) (n : Fin 2048)

theorem plain1 (h0 : p.val = (x 0).val) (h1 : n.val = 256 + (x 1).val) : (k0_pay24 (F := Ideal) a : FVec Ideal S544x128 .bf16) x = qT a b t t' p n := by
  refine Eq.trans ?_ (qT_plain a b t t' p (x 0) n 1 (x 1) h0 h1).symm
  unfold scale
  pointwise [k0_pay24]

theorem plain2 (h0 : p.val = (x 0).val) (h1 : n.val = 512 + (x 1).val) : (k0_pay27 (F := Ideal) a : FVec Ideal S544x128 .bf16) x = qT a b t t' p n := by
  refine Eq.trans ?_ (qT_plain a b t t' p (x 0) n 2 (x 1) h0 h1).symm
  unfold scale
  pointwise [k0_pay27]

theorem plain3 (h0 : p.val = (x 0).val) (h1 : n.val = 768 + (x 1).val) : (k0_pay31 (F := Ideal) a : FVec Ideal S544x128 .bf16) x = qT a b t t' p n := by
  refine Eq.trans ?_ (qT_plain a b t t' p (x 0) n 3 (x 1) h0 h1).symm
  unfold scale
  pointwise [k0_pay31]

theorem plain4 (h0 : p.val = (x 0).val) (h1 : n.val = 1024 + (x 1).val) : (k0_pay34 (F := Ideal) a : FVec Ideal S544x128 .bf16) x = qT a b t t' p n := by
  refine Eq.trans ?_ (qT_plain a b t t' p (x 0) n 4 (x 1) h0 h1).symm
  unfold scale
  pointwise [k0_pay34]

theorem plain5 (h0 : p.val = (x 0).val) (h1 : n.val = 1280 + (x 1).val) : (k0_pay39 (F := Ideal) a : FVec Ideal S544x128 .bf16) x = qT a b t t' p n := by
  refine Eq.trans ?_ (qT_plain a b t t' p (x 0) n 5 (x 1) h0 h1).symm
  unfold scale
  pointwise [k0_pay39]

theorem plain6 (h0 : p.val = (x 0).val) (h1 : n.val = 1536 + (x 1).val) : (k0_pay42 (F := Ideal) a : FVec Ideal S544x128 .bf16) x = qT a b t t' p n := by
  refine Eq.trans ?_ (qT_plain a b t t' p (x 0) n 6 (x 1) h0 h1).symm
  unfold scale
  pointwise [k0_pay42]

theorem plain7 (h0 : p.val = (x 0).val) (h1 : n.val = 1792 + (x 1).val) : (k0_pay3 (F := Ideal) a : FVec Ideal S544x128 .bf16) x = qT a b t t' p n := by
  refine Eq.trans ?_ (qT_plain a b t t' p (x 0) n 7 (x 1) h0 h1).symm
  unfold scale
  pointwise [k0_pay3]

theorem plain0 (y : FVec Ideal S544x768 .bf16) (w : FVec Ideal S768x2048 .bf16) (h0 : p.val = (x 0).val) (h1 : n.val = (x 1).val) :
    (k0_pay21 (F := Ideal) y w : FVec Ideal S544x128 .bf16) x = qT (k0_pay13 (F := Ideal) y w) b t t' p n := by
  refine Eq.trans ?_ (qT_plain _ b t t' p (x 0) n 0 (x 1) h0 (h1.trans (Nat.zero_add _).symm)).symm
  unfold scale k0_pay21
  generalize k0_pay13 (F := Ideal) y w = l
  pointwise

theorem rot0 (h0 : p.val = (x 0).val) (h1 : n.val = 128 + (x 1).val) : (k0_pay22 (F := Ideal) a b t t' : FVec Ideal S544x128 .bf16) x = qT a b t t' p n := by
  refine Eq.trans ?_ (qT_rot a b t t' p (x 0) n 0 (x 1) h0 h1).symm
  pointwise [k0_pay22]

theorem rot1 (h0 : p.val = (x 0).val) (h1 : n.val = 384 + (x 1).val) : (k0_pay25 (F := Ideal) a b t t' : FVec Ideal S544x128 .bf16) x = qT a b t t' p n := by
  refine Eq.trans ?_ (qT_rot a b t t' p (x 0) n 1 (x 1) h0 h1).symm
  pointwise [k0_pay25]

theorem rot2 (h0 : p.val = (x 0).val) (h1 : n.val = 640 + (x 1).val) : (k0_pay29 (F := Ideal) b t t' (k0_pay28 a) : FVec Ideal S544x128 .bf16) x = qT a b t t' p n := by
  refine Eq.trans ?_ (qT_rot a b t t' p (x 0) n 2 (x 1) h0 h1).symm
  pointwise [k0_pay29, k0_pay28]

theorem rot3 (h0 : p.val = (x 0).val) (h1 : n.val = 896 + (x 1).val) : (k0_pay32 (F := Ideal) a b t t' : FVec Ideal S544x128 .bf16) x = qT a b t t' p n := by
  refine Eq.trans ?_ (qT_rot a b t t' p (x 0) n 3 (x 1) h0 h1).symm
  pointwise [k0_pay32]

theorem rot4 (h0 : p.val = (x 0).val) (h1 : n.val = 1152 + (x 1).val) : (k0_pay37 (F := Ideal) t' (k0_pay35 a t) (k0_pay36 b) : FVec Ideal S544x128 .bf16) x = qT a b t t' p n := by
  refine Eq.trans ?_ (qT_rot a b t t' p (x 0) n 4 (x 1) h0 h1).symm
  pointwise [k0_pay37, k0_pay35, k0_pay36]

theorem rot5 (h0 : p.val = (x 0).val) (h1 : n.val = 1408 + (x 1).val) : (k0_pay40 (F := Ideal) a b t t' : FVec Ideal S544x128 .bf16) x = qT a b t t' p n := by
  refine Eq.trans ?_ (qT_rot a b t t' p (x 0) n 5 (x 1) h0 h1).symm
  pointwise [k0_pay40]

theorem rot6 (h0 : p.val = (x 0).val) (h1 : n.val = 1664 + (x 1).val) : (k0_pay1 (F := Ideal) (k0_pay43 a b t t') : FVec Ideal S544x128 .bf16) x = qT a b t t' p n := by
  refine Eq.trans ?_ (qT_rot a b t t' p (x 0) n 6 (x 1) h0 h1).symm
  pointwise [k0_pay1, k0_pay43]

theorem rot7 (h0 : p.val = (x 0).val) (h1 : n.val = 1920 + (x 1).val) : (k0_pay4 (F := Ideal) a b t t' : FVec Ideal S544x128 .bf16) x = qT a b t t' p n := by
  refine Eq.trans ?_ (qT_rot a b t t' p (x 0) n 7 (x 1) h0 h1).symm
  pointwise [k0_pay4]

theorem key0 (h0 : p.val = (x 0).val) (h1 : n.val = (x 1).val) : (k0_pay23 (F := Ideal) b : FVec Ideal S544x128 .bf16) x = kT b e p n := by
  refine Eq.trans ?_ (kT_plain b e p (x 0) n 0 (x 1) h0 (h1.trans (Nat.zero_add _).symm)).symm
  pointwise [k0_pay23]

theorem key1 (h0 : p.val = (x 0).val) (h1 : n.val = 256 + (x 1).val) : (k0_pay26 (F := Ideal) b : FVec Ideal S544x128 .bf16) x = kT b e p n := by
  refine Eq.trans ?_ (kT_plain b e p (x 0) n 1 (x 1) h0 h1).symm
  pointwise [k0_pay26]

theorem key2 (h0 : p.val = (x 0).val) (h1 : n.val = 512 + (x 1).val) : (k0_pay30 (F := Ideal) b : FVec Ideal S544x128 .bf16) x = kT b e p n := by
  refine Eq.trans ?_ (kT_plain b e p (x 0) n 2 (x 1) h0 h1).symm
  pointwise [k0_pay30]

theorem key3 (h0 : p.val = (x 0).val) (h1 : n.val = 768 + (x 1).val) : (k0_pay33 (F := Ideal) b : FVec Ideal S544x128 .bf16) x = kT b e p n := by
  refine Eq.trans ?_ (kT_plain b e p (x 0) n 3 (x 1) h0 h1).symm
  pointwise [k0_pay33]

theorem key4 (h0 : p.val = (x 0).val) (h1 : n.val = 1024 + (x 1).val) : (k0_pay38 (F := Ideal) b : FVec Ideal S544x128 .bf16) x = kT b e p n := by
  refine Eq.trans ?_ (kT_plain b e p (x 0) n 4 (x 1) h0 h1).symm
  pointwise [k0_pay38]

theorem key5 (h0 : p.val = (x 0).val) (h1 : n.val = 1280 + (x 1).val) : (k0_pay41 (F := Ideal) b : FVec Ideal S544x128 .bf16) x = kT b e p n := by
  refine Eq.trans ?_ (kT_plain b e p (x 0) n 5 (x 1) h0 h1).symm
  pointwise [k0_pay41]

theorem key6 (h0 : p.val = (x 0).val) (h1 : n.val = 1536 + (x 1).val) : (k0_pay2 (F := Ideal) b : FVec Ideal S544x128 .bf16) x = kT b e p n := by
  refine Eq.trans ?_ (kT_plain b e p (x 0) n 6 (x 1) h0 h1).symm
  pointwise [k0_pay2]

theorem key7 (h0 : p.val = (x 0).val) (h1 : n.val = 1792 + (x 1).val) : (k0_pay5 (F := Ideal) b : FVec Ideal S544x128 .bf16) x = kT b e p n := by
  refine Eq.trans ?_ (kT_plain b e p (x 0) n 7 (x 1) h0 h1).symm
  pointwise [k0_pay5]

theorem krot0 (h0 : p.val = (x 0).val) (h1 : n.val = 128 + (x 1).val) : e x = kT b e p n := by
  refine Eq.trans ?_ (kT_rot b e p (x 0) n 0 (x 1) h0 h1).symm
  exact congrArg e (show (x : S544x128.Idx) = ix2 (x 0) (x 1) from by pointwise)

theorem krot1 (h0 : p.val = (x 0).val) (h1 : n.val = 384 + (x 1).val) : e x = kT b e p n := by
  refine Eq.trans ?_ (kT_rot b e p (x 0) n 1 (x 1) h0 h1).symm
  exact congrArg e (show (x : S544x128.Idx) = ix2 (x 0) (x 1) from by pointwise)

theorem krot2 (h0 : p.val = (x 0).val) (h1 : n.val = 640 + (x 1).val) : e x = kT b e p n := by
  refine Eq.trans ?_ (kT_rot b e p (x 0) n 2 (x 1) h0 h1).symm
  exact congrArg e (show (x : S544x128.Idx) = ix2 (x 0) (x 1) from by pointwise)

theorem krot3 (h0 : p.val = (x 0).val) (h1 : n.val = 896 + (x 1).val) : e x = kT b e p n := by
  refine Eq.trans ?_ (kT_rot b e p (x 0) n 3 (x 1) h0 h1).symm
  exact congrArg e (show (x : S544x128.Idx) = ix2 (x 0) (x 1) from by pointwise)

theorem krot4 (h0 : p.val = (x 0).val) (h1 : n.val = 1152 + (x 1).val) : e x = kT b e p n := by
  refine Eq.trans ?_ (kT_rot b e p (x 0) n 4 (x 1) h0 h1).symm
  exact congrArg e (show (x : S544x128.Idx) = ix2 (x 0) (x 1) from by pointwise)

theorem krot5 (h0 : p.val = (x 0).val) (h1 : n.val = 1408 + (x 1).val) : e x = kT b e p n := by
  refine Eq.trans ?_ (kT_rot b e p (x 0) n 5 (x 1) h0 h1).symm
  exact congrArg e (show (x : S544x128.Idx) = ix2 (x 0) (x 1) from by pointwise)

theorem krot6 (h0 : p.val = (x 0).val) (h1 : n.val = 1664 + (x 1).val) : e x = kT b e p n := by
  refine Eq.trans ?_ (kT_rot b e p (x 0) n 6 (x 1) h0 h1).symm
  exact congrArg e (show (x : S544x128.Idx) = ix2 (x 0) (x 1) from by pointwise)

theorem krot7 (h0 : p.val = (x 0).val) (h1 : n.val = 1920 + (x 1).val) : e x = kT b e p n := by
  refine Eq.trans ?_ (kT_rot b e p (x 0) n 7 (x 1) h0 h1).symm
  exact congrArg e (show (x : S544x128.Idx) = ix2 (x 0) (x 1) from by pointwise)

end Tiles

theorem low : ∀ d : Fin 128, IntOp.cmpi .slt (BitVec.ofNat 32 d.val) 64#32 = if d.val < 64 then 1#1 else 0#1 := by decide +kernel

/-! The products and tables of a block's rows. -/
section Rows
variable (x0 : FVec Ideal S544x1536 .bf16) (x1 : FVec Ideal S544x128 .f32) (x2 : FVec Ideal S1x768 .f32) (x3 : FVec Ideal S1x512 .f32)
  (x4 : FVec Ideal S768x2048 .bf16) (x5 : FVec Ideal S768x1024 .bf16) (x6 x7 : FVec Ideal S512x1024 .bf16) (p : Fin 544)

theorem cq_apply (k : Fin 768) : (k0_pay44 (F := Ideal) x0 x1 x2 x3 x4 x5 x6 x7 : FVec Ideal S544x768 .bf16) (ix2 p k)
    = Spec.Mla.cq (fun j => x0 (ix2 p j)) (fun j => x2 (ix2 0 j)) k := by
  unfold Spec.Mla.cq Spec.Mla.rms k0_pay44
  pointwise [k0_pay7, k0_pay6]

theorem ckv_apply (k : Fin 512) : (k0_pay8 (F := Ideal) (View.ld (Val := Elt Ideal) x0 r0_0) (View.ld (Val := Elt Ideal) x3 r0_2) : FVec Ideal S544x512 .f32) (ix2 p k)
    = Spec.Mla.ckv (fun j => x0 (ix2 p j)) (fun j => x3 (ix2 0 j)) k := by
  unfold Spec.Mla.ckv Spec.Mla.rms
  pointwise [k0_pay8, k0_pay6]

theorem tab_apply (d : Fin 128) : (k0_pay52 (F := Ideal) x0 x1 x2 x3 x4 x5 x6 x7 : FVec Ideal S544x128 .f32) (ix2 p d) = x1 (ix2 p d) * scale := by
  unfold scale k0_pay52 k0_pay46
  pointwise [k0_pay19, k0_pay9]

theorem tabr_apply (d : Fin 128) : (k0_pay53 (F := Ideal) x0 x1 x2 x3 x4 x5 x6 x7 : FVec Ideal S544x128 .f32) (ix2 p d) = x1 (ix2 p (Spec.Mla.turn d)) * scale := by
  unfold scale k0_pay53 Spec.Mla.turn
  pointwise [k0_pay20, k0_pay10, k0_pay9]

theorem kpe_apply (d : Fin 128) : (k0_pay12 (F := Ideal) (k0_pay46 (F := Ideal) x0 x1 x2 x3 x4 x5 x6 x7) (k0_pay47 (F := Ideal) x0 x1 x2 x3 x4 x5 x6 x7) : FVec Ideal S544x128 .f32) (ix2 p d)
    = Spec.Mla.kpe (fun j => x0 (ix2 p j)) (fun j => x1 (ix2 p j)) d := by
  unfold k0_pay46 k0_pay47 Spec.Mla.kpe Spec.Mla.turn
  pointwise [k0_pay12, k0_pay11, k0_pay9, k0_pay6]
  rw [low d]
  split <;> rfl

theorem a_apply (n : Fin 2048) : (k0_pay48 (F := Ideal) x0 x1 x2 x3 x4 x5 x6 x7 : FVec Ideal S544x2048 .f32) (ix2 p n)
    = ∑ k : Fin 768, Spec.Mla.cq (fun j => x0 (ix2 p j)) (fun j => x2 (ix2 0 j)) k * x4 (ix2 k n) := by
  unfold k0_pay48
  refine Eq.trans ?_ (Finset.sum_congr rfl fun k _ => congrArg (· * x4 (ix2 k n)) (cq_apply x0 x1 x2 x3 x4 x5 x6 x7 p k))
  generalize k0_pay44 (F := Ideal) x0 x1 x2 x3 x4 x5 x6 x7 = l
  pointwise [k0_pay13]

theorem b_apply (n : Fin 1024) : (k0_pay49 (F := Ideal) x0 x1 x2 x3 x4 x5 x6 x7 : FVec Ideal S544x1024 .f32) (ix2 p n)
    = ∑ k : Fin 768, Spec.Mla.cq (fun j => x0 (ix2 p j)) (fun j => x2 (ix2 0 j)) k * x5 (ix2 k n) := by
  unfold k0_pay49
  refine Eq.trans ?_ (Finset.sum_congr rfl fun k _ => congrArg (· * x5 (ix2 k n)) (cq_apply x0 x1 x2 x3 x4 x5 x6 x7 p k))
  generalize k0_pay44 (F := Ideal) x0 x1 x2 x3 x4 x5 x6 x7 = l
  pointwise [k0_pay14]

theorem k_apply (n : Fin 1024) : (k0_pay50 (F := Ideal) x0 x1 x2 x3 x4 x5 x6 x7 : FVec Ideal S544x1024 .f32) (ix2 p n)
    = ∑ k : Fin 512, Spec.Mla.ckv (fun j => x0 (ix2 p j)) (fun j => x3 (ix2 0 j)) k * x6 (ix2 k n) := by
  unfold k0_pay50
  refine Eq.trans ?_ (Finset.sum_congr rfl fun k _ => congrArg (· * x6 (ix2 k n)) (ckv_apply x0 x3 p k))
  unfold k0_pay45
  generalize k0_pay8 (F := Ideal) _ _ = l
  pointwise [k0_pay16, k0_pay15]

theorem v_apply (n : Fin 1024) : (k0_pay17 (F := Ideal) (k0_pay45 (F := Ideal) x0 x1 x2 x3 x4 x5 x6 x7) (View.ld (Val := Elt Ideal) x7 r0_7) : FVec Ideal S544x1024 .bf16) (ix2 p n)
    = Spec.Mla.v (fun j => x0 (ix2 p j)) (fun j => x3 (ix2 0 j)) (fun k n => x7 (ix2 k n)) n := by
  refine Eq.trans ?_ (Finset.sum_congr rfl fun k _ => congrArg (· * x7 (ix2 k n)) (ckv_apply x0 x3 p k))
  unfold k0_pay45
  generalize k0_pay8 (F := Ideal) _ _ = l
  pointwise [k0_pay17, k0_pay15]

theorem e_apply (d : Fin 128) : (k0_pay51 (F := Ideal) x0 x1 x2 x3 x4 x5 x6 x7 : FVec Ideal S544x128 .bf16) (ix2 p d)
    = Spec.Mla.kpe (fun j => x0 (ix2 p j)) (fun j => x1 (ix2 p j)) d :=
  kpe_apply x0 x1 x2 x3 x4 x5 x6 x7 p d

theorem whole {S : Shape} {e : EltTy} (X : S.Idx → Elt Ideal e) {off : Fin S.rank → Nat} (h : off = fun _ => 0) (inb : ∀ a, off a + S.size a ≤ S.size a) :
    View.ld (Val := Elt Ideal) X (Rect.unit off S.size inb) = X := View.ld_unit_zero h inb X

theorem zeros : (![0, 0] : Fin 2 → Nat) = fun _ => 0 := by decide

/-- The compressed key and value's block, -/
def cB (x0 : FVec Ideal S544x1536 .bf16) (x3 : FVec Ideal S1x512 .f32) : FVec Ideal S544x512 .f32 := k0_pay8 (F := Ideal) x0 x3

theorem cB_apply (k : Fin 512) : cB x0 x3 (ix2 p k) = Spec.Mla.ckv (fun j => x0 (ix2 p j)) (fun j => x3 (ix2 0 j)) k := by
  have h := ckv_apply x0 x3 p k
  rw [show View.ld (Val := Elt Ideal) (S := S544x1536) (e' := .bf16) x0 r0_0 = x0 from whole (S := S544x1536) (e := .bf16) x0 zeros _, show View.ld (Val := Elt Ideal) (S := S1x512) (e' := .f32) x3 r0_2 = x3 from whole (S := S1x512) (e := .f32) x3 zeros _] at h
  exact h

/-- the values'. -/
def vB : FVec Ideal S544x1024 .bf16 := k0_pay17 (F := Ideal) (k0_pay45 (F := Ideal) x0 x1 x2 x3 x4 x5 x6 x7) x7

theorem vB_apply (n : Fin 1024) : vB x0 x1 x2 x3 x4 x5 x6 x7 (ix2 p n)
    = Spec.Mla.v (fun j => x0 (ix2 p j)) (fun j => x3 (ix2 0 j)) (fun k n => x7 (ix2 k n)) n := by
  have h := v_apply x0 x1 x2 x3 x4 x5 x6 x7 p n
  rw [show View.ld (Val := Elt Ideal) (S := S512x1024) (e' := .bf16) x7 r0_7 = x7 from whole (S := S512x1024) (e := .bf16) x7 zeros _] at h
  exact h

theorem first_tile (b : FVec Ideal S544x1024 .f32) (t t' : FVec Ideal S544x128 .f32) (x : S544x128.Idx) (n : Fin 2048) (h0 : p.val = (x 0).val) (h1 : n.val = (x 1).val) :
    (k0_pay21 (F := Ideal) (k0_pay44 (F := Ideal) x0 x1 x2 x3 x4 x5 x6 x7) x4 : FVec Ideal S544x128 .bf16) x = qT (k0_pay48 (F := Ideal) x0 x1 x2 x3 x4 x5 x6 x7) b t t' p n := by
  have h := plain0 b t t' x p n (k0_pay44 (F := Ideal) x0 x1 x2 x3 x4 x5 x6 x7) x4 h0 h1
  refine h.trans (congrArg (fun a => qT a b t t' p n) ?_)
  unfold k0_pay48
  rw [show View.ld (Val := Elt Ideal) (S := S768x2048) (e' := .bf16) x4 r0_5 = x4 from whole (S := S768x2048) (e := .bf16) x4 zeros _]

/-- A row of the query tiles, -/
theorem q_row (n : Fin 2048) : qT (k0_pay48 (F := Ideal) x0 x1 x2 x3 x4 x5 x6 x7) (k0_pay49 (F := Ideal) x0 x1 x2 x3 x4 x5 x6 x7) (k0_pay52 (F := Ideal) x0 x1 x2 x3 x4 x5 x6 x7)
      (k0_pay53 (F := Ideal) x0 x1 x2 x3 x4 x5 x6 x7) p n
    = Spec.Mla.q scale (fun j => x0 (ix2 p j)) (fun j => x1 (ix2 p j)) (fun j => x2 (ix2 0 j)) (fun k n => x4 (ix2 k n)) (fun k n => x5 (ix2 k n)) n := by
  unfold qT Spec.Mla.q
  rw [a_apply, b_apply, tab_apply, tabr_apply]

/-- and of the key tiles. -/
theorem k_row (n : Fin 2048) : kT (k0_pay50 (F := Ideal) x0 x1 x2 x3 x4 x5 x6 x7) (k0_pay51 (F := Ideal) x0 x1 x2 x3 x4 x5 x6 x7) p n
    = Spec.Mla.k (fun j => x0 (ix2 p j)) (fun j => x1 (ix2 p j)) (fun j => x3 (ix2 0 j)) (fun k n => x6 (ix2 k n)) n := by
  unfold kT Spec.Mla.k
  rw [k_apply, e_apply]
end Rows
end Cert.MlaIdeal.Gen
end
-- ==== Proof.Proj.MlaValue.lean ====
/-
  The latent attention's projections: what the call leaves in its five results, in terms of its operands.
-/
module
public import proofs.«01_k».proof.Proof.Proj.MlaTiles
@[expose] public section
set_option maxRecDepth 16384
noncomputable section
open Idealize.ShloMosaic Idealize.ShloMosaic.TcCoe Idealize.ShloMosaic.Tactic Idealize.SL.Sem
open Idealize.ShloMosaic.Pipeline (Dat)
namespace Cert.MlaIdeal.Gen
open Cert.MlaIdeal
variable (m : (ℓ : Loc nD τ sig) → Buf (Elt Ideal) ℓ)

theorem idx : ∀ t : Fin cfg0.N, win0_0.index t = ![t.val, 6] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

/-- A row's packed columns, from the latent ones on, -/
def uRow (c : Dev nD) (i : Fin 18496) : Fin 1536 → EReal := fun j => (V m c main_v37 : FVec Ideal S18496x10752 .bf16) (ix2 i ⟨9216 + j.val, by omega⟩)
/-- its rotary table, -/
def tRow (c : Dev nD) (i : Fin 18496) : Fin 128 → EReal := fun d => (V m c main_v66 : FVec Ideal S18496x128 .f32) (ix2 i d)
/-- the gains -/
def gq (c : Dev nD) : Fin 768 → EReal := fun k => (V m c main_v17 : FVec Ideal S1x768 .f32) (ix2 0 k)
def gkv (c : Dev nD) : Fin 512 → EReal := fun k => (V m c main_v20 : FVec Ideal S1x512 .f32) (ix2 0 k)
/-- and the weights. -/
def wa (c : Dev nD) : Fin 768 → Fin 2048 → EReal := fun k n => (V m c main_v24 : FVec Ideal S768x2048 .bf16) (ix2 k n)
def wb (c : Dev nD) : Fin 768 → Fin 1024 → EReal := fun k n => (V m c main_v30 : FVec Ideal S768x1024 .bf16) (ix2 k n)
def wk (c : Dev nD) : Fin 512 → Fin 1024 → EReal := fun k n => (V m c main_v33 : FVec Ideal S512x1024 .bf16) (ix2 k n)
def wv (c : Dev nD) : Fin 512 → Fin 1024 → EReal := fun k n => (V m c main_v36 : FVec Ideal S512x1024 .bf16) (ix2 k n)

def qRows (c : Dev nD) : FVec Ideal S18496x2048 .bf16 := fun i => Spec.Mla.q scale (uRow m c (i 0)) (tRow m c (i 0)) (gq m c) (wa m c) (wb m c) (i 1)
def ckvRows (c : Dev nD) : FVec Ideal S18496x512 .f32 := fun i => Spec.Mla.ckv (uRow m c (i 0)) (gkv m c) (i 1)
def kpeRows (c : Dev nD) : FVec Ideal S18496x128 .f32 := fun i => Spec.Mla.kpe (uRow m c (i 0)) (tRow m c (i 0)) (i 1)
def kRows (c : Dev nD) : FVec Ideal S18496x2048 .bf16 := fun i => Spec.Mla.k (uRow m c (i 0)) (tRow m c (i 0)) (gkv m c) (wk m c) (i 1)
def vRows (c : Dev nD) : FVec Ideal S18496x1024 .bf16 := fun i => Spec.Mla.v (uRow m c (i 0)) (gkv m c) (wv m c) (i 1)

section Reads
variable (c : Dev nD) (t : Fin cfg0.N)
theorem read_u (p : Fin 544) (h : 544 * t.val + p.val < 18496) : (fun j => (show FVec Ideal S544x1536 .bf16 from iblk m c 0 t) (ix2 p j)) = uRow m c ⟨544 * t.val + p.val, h⟩ := by
  funext j
  unfold uRow
  blk_ext [iblk, idx t]
theorem read_t (p : Fin 544) (h : 544 * t.val + p.val < 18496) : (fun j => (show FVec Ideal S544x128 .f32 from iblk m c 1 t) (ix2 p j)) = tRow m c ⟨544 * t.val + p.val, h⟩ := by
  funext j
  unfold tRow
  blk_ext [iblk, idx t]
theorem read_gq : (fun j => (show FVec Ideal S1x768 .f32 from iblk m c 2 t) (ix2 0 j)) = gq m c := by
  funext j
  unfold gq
  blk_ext [iblk, idx t]
theorem read_gkv : (fun j => (show FVec Ideal S1x512 .f32 from iblk m c 3 t) (ix2 0 j)) = gkv m c := by
  funext j
  unfold gkv
  blk_ext [iblk, idx t]
theorem read_wa : (fun k n => (show FVec Ideal S768x2048 .bf16 from iblk m c 4 t) (ix2 k n)) = wa m c := by
  funext k n
  unfold wa
  blk_ext [iblk, idx t]
theorem read_wb : (fun k n => (show FVec Ideal S768x1024 .bf16 from iblk m c 5 t) (ix2 k n)) = wb m c := by
  funext k n
  unfold wb
  blk_ext [iblk, idx t]
theorem read_wk : (fun k n => (show FVec Ideal S512x1024 .bf16 from iblk m c 6 t) (ix2 k n)) = wk m c := by
  funext k n
  unfold wk
  blk_ext [iblk, idx t]
theorem read_wv : (fun k n => (show FVec Ideal S512x1024 .bf16 from iblk m c 7 t) (ix2 k n)) = wv m c := by
  funext k n
  unfold wv
  blk_ext [iblk, idx t]
end Reads

theorem final_ckv (c : Dev nD) : (dats m 0 c).arrAt 9 cfg0.N = ckvRows m c := by
  refine (dats m 0 c).arrAt_eq_of_covers 9 _ (by decide +kernel) fun t _ y => ?_
  have ht : t.val < 34 := t.isLt
  have hy : (y 0).val < 544 := (y 0).isLt
  have hb : 544 * t.val + (y 0).val < 18496 := by omega
  have key : ∀ i : S18496x512.Idx, (i 0).val = 544 * t.val + (y 0).val → (i 1).val = (y 1).val →
      cB (iblk m c 0 t) (iblk m c 3 t) (ix2 (y 0) (y 1)) = ckvRows m c i := by
    intro i h0 h1
    refine (cB_apply (iblk m c 0 t) (iblk m c 3 t) (y 0) (y 1)).trans ?_
    unfold ckvRows
    rw [show i 0 = (⟨544 * t.val + (y 0).val, hb⟩ : Fin 18496) from Fin.ext h0, show i 1 = y 1 from Fin.ext h1]
    rw [read_u m c t (y 0) hb, read_gkv m c t]
  blk_simp
  rw [after0_9]
  frame_out
  rw [show (y : S544x512.Idx) = ix2 (y 0) (y 1) from by pointwise]
  refine key _ ?_ ?_
  · blk_simp [idx t]
    omega
  · blk_simp [idx t]

theorem final_kpe (c : Dev nD) : (dats m 0 c).arrAt 10 cfg0.N = kpeRows m c := by
  refine (dats m 0 c).arrAt_eq_of_covers 10 _ (by decide +kernel) fun t _ y => ?_
  have ht : t.val < 34 := t.isLt
  have hy : (y 0).val < 544 := (y 0).isLt
  have hb : 544 * t.val + (y 0).val < 18496 := by omega
  have key : ∀ i : S18496x128.Idx, (i 0).val = 544 * t.val + (y 0).val → (i 1).val = (y 1).val →
      (k0_pay12 (F := Ideal) (k0_pay46 (F := Ideal) (iblk m c 0 t) (iblk m c 1 t) (iblk m c 2 t) (iblk m c 3 t) (iblk m c 4 t) (iblk m c 5 t) (iblk m c 6 t) (iblk m c 7 t)) (k0_pay47 (F := Ideal) (iblk m c 0 t) (iblk m c 1 t) (iblk m c 2 t) (iblk m c 3 t) (iblk m c 4 t) (iblk m c 5 t) (iblk m c 6 t) (iblk m c 7 t)) : FVec Ideal S544x128 .f32) (ix2 (y 0) (y 1)) = kpeRows m c i := by
    intro i h0 h1
    refine (kpe_apply (iblk m c 0 t) (iblk m c 1 t) (iblk m c 2 t) (iblk m c 3 t) (iblk m c 4 t) (iblk m c 5 t) (iblk m c 6 t) (iblk m c 7 t) (y 0) (y 1)).trans ?_
    unfold kpeRows
    rw [show i 0 = (⟨544 * t.val + (y 0).val, hb⟩ : Fin 18496) from Fin.ext h0, show i 1 = y 1 from Fin.ext h1]
    rw [read_u m c t (y 0) hb, read_t m c t (y 0) hb]
  blk_simp
  rw [after0_10]
  frame_out
  rw [show (y : S544x128.Idx) = ix2 (y 0) (y 1) from by pointwise]
  refine key _ ?_ ?_
  · blk_simp [idx t]
    omega
  · blk_simp [idx t]

theorem final_v (c : Dev nD) : (dats m 0 c).arrAt 12 cfg0.N = vRows m c := by
  refine (dats m 0 c).arrAt_eq_of_covers 12 _ (by decide +kernel) fun t _ y => ?_
  have ht : t.val < 34 := t.isLt
  have hy : (y 0).val < 544 := (y 0).isLt
  have hb : 544 * t.val + (y 0).val < 18496 := by omega
  have key : ∀ i : S18496x1024.Idx, (i 0).val = 544 * t.val + (y 0).val → (i 1).val = (y 1).val →
      vB (iblk m c 0 t) (iblk m c 1 t) (iblk m c 2 t) (iblk m c 3 t) (iblk m c 4 t) (iblk m c 5 t) (iblk m c 6 t) (iblk m c 7 t) (ix2 (y 0) (y 1)) = vRows m c i := by
    intro i h0 h1
    refine (vB_apply (iblk m c 0 t) (iblk m c 1 t) (iblk m c 2 t) (iblk m c 3 t) (iblk m c 4 t) (iblk m c 5 t) (iblk m c 6 t) (iblk m c 7 t) (y 0) (y 1)).trans ?_
    unfold vRows
    rw [show i 0 = (⟨544 * t.val + (y 0).val, hb⟩ : Fin 18496) from Fin.ext h0, show i 1 = y 1 from Fin.ext h1]
    rw [read_u m c t (y 0) hb, read_gkv m c t, read_wv m c t]
  blk_simp
  rw [after0_12]
  frame_out
  rw [show (y : S544x1024.Idx) = ix2 (y 0) (y 1) from by pointwise]
  refine key _ ?_ ?_
  · blk_simp [idx t]
    omega
  · blk_simp [idx t]

set_option maxHeartbeats 1000000 in
theorem final_q (c : Dev nD) : (dats m 0 c).arrAt 8 cfg0.N = qRows m c := by
  refine (dats m 0 c).arrAt_eq_of_covers 8 _ (by decide +kernel) fun t _ y => ?_
  have ht : t.val < 34 := t.isLt
  have hy : (y 0).val < 544 := (y 0).isLt
  have hb : 544 * t.val + (y 0).val < 18496 := by omega
  have key : ∀ i : S18496x2048.Idx, (i 0).val = 544 * t.val + (y 0).val → (i 1).val = (y 1).val →
      qT (k0_pay48 (F := Ideal) (iblk m c 0 t) (iblk m c 1 t) (iblk m c 2 t) (iblk m c 3 t) (iblk m c 4 t) (iblk m c 5 t) (iblk m c 6 t) (iblk m c 7 t)) (k0_pay49 (F := Ideal) (iblk m c 0 t) (iblk m c 1 t) (iblk m c 2 t) (iblk m c 3 t) (iblk m c 4 t) (iblk m c 5 t) (iblk m c 6 t) (iblk m c 7 t)) (k0_pay52 (F := Ideal) (iblk m c 0 t) (iblk m c 1 t) (iblk m c 2 t) (iblk m c 3 t) (iblk m c 4 t) (iblk m c 5 t) (iblk m c 6 t) (iblk m c 7 t)) (k0_pay53 (F := Ideal) (iblk m c 0 t) (iblk m c 1 t) (iblk m c 2 t) (iblk m c 3 t) (iblk m c 4 t) (iblk m c 5 t) (iblk m c 6 t) (iblk m c 7 t)) (y 0) (y 1) = qRows m c i := by
    intro i h0 h1
    refine (q_row (iblk m c 0 t) (iblk m c 1 t) (iblk m c 2 t) (iblk m c 3 t) (iblk m c 4 t) (iblk m c 5 t) (iblk m c 6 t) (iblk m c 7 t) (y 0) (y 1)).trans ?_
    unfold qRows
    rw [show i 0 = (⟨544 * t.val + (y 0).val, hb⟩ : Fin 18496) from Fin.ext h0, show i 1 = y 1 from Fin.ext h1]
    rw [read_u m c t (y 0) hb, read_t m c t (y 0) hb, read_gq m c t, read_wa m c t, read_wb m c t]
  refine Eq.trans ?_ (key _ ?_ ?_)
  · blk_simp
    rw [after0_8]
    frame_out
    canon_tiles x h
    · exact rot7 _ _ _ _ x _ _ (by simpa using h0) (by simpa using h1)
    · exact plain7 _ _ _ _ x _ _ (by simpa using h0) (by simpa using h1)
    · exact rot6 _ _ _ _ x _ _ (by simpa using h0) (by simpa using h1)
    · exact plain6 _ _ _ _ x _ _ (by simpa using h0) (by simpa using h1)
    · exact rot5 _ _ _ _ x _ _ (by simpa using h0) (by simpa using h1)
    · exact plain5 _ _ _ _ x _ _ (by simpa using h0) (by simpa using h1)
    · exact rot4 _ _ _ _ x _ _ (by simpa using h0) (by simpa using h1)
    · exact plain4 _ _ _ _ x _ _ (by simpa using h0) (by simpa using h1)
    · exact rot3 _ _ _ _ x _ _ (by simpa using h0) (by simpa using h1)
    · exact plain3 _ _ _ _ x _ _ (by simpa using h0) (by simpa using h1)
    · exact rot2 _ _ _ _ x _ _ (by simpa using h0) (by simpa using h1)
    · exact plain2 _ _ _ _ x _ _ (by simpa using h0) (by simpa using h1)
    · exact rot1 _ _ _ _ x _ _ (by simpa using h0) (by simpa using h1)
    · exact plain1 _ _ _ _ x _ _ (by simpa using h0) (by simpa using h1)
    · exact rot0 _ _ _ _ x _ _ (by simpa using h0) (by simpa using h1)
    · exact first_tile (iblk m c 0 t) (iblk m c 1 t) (iblk m c 2 t) (iblk m c 3 t) (iblk m c 4 t) (iblk m c 5 t) (iblk m c 6 t) (iblk m c 7 t) _ _ _ _ x _ (by simpa using h0) (by simpa using h1)
  · blk_simp [idx t]
    omega
  · blk_simp [idx t]

set_option maxHeartbeats 1000000 in
theorem final_k (c : Dev nD) : (dats m 0 c).arrAt 11 cfg0.N = kRows m c := by
  refine (dats m 0 c).arrAt_eq_of_covers 11 _ (by decide +kernel) fun t _ y => ?_
  have ht : t.val < 34 := t.isLt
  have hy : (y 0).val < 544 := (y 0).isLt
  have hb : 544 * t.val + (y 0).val < 18496 := by omega
  have key : ∀ i : S18496x2048.Idx, (i 0).val = 544 * t.val + (y 0).val → (i 1).val = (y 1).val →
      kT (k0_pay50 (F := Ideal) (iblk m c 0 t) (iblk m c 1 t) (iblk m c 2 t) (iblk m c 3 t) (iblk m c 4 t) (iblk m c 5 t) (iblk m c 6 t) (iblk m c 7 t)) (k0_pay51 (F := Ideal) (iblk m c 0 t) (iblk m c 1 t) (iblk m c 2 t) (iblk m c 3 t) (iblk m c 4 t) (iblk m c 5 t) (iblk m c 6 t) (iblk m c 7 t)) (y 0) (y 1) = kRows m c i := by
    intro i h0 h1
    refine (k_row (iblk m c 0 t) (iblk m c 1 t) (iblk m c 2 t) (iblk m c 3 t) (iblk m c 4 t) (iblk m c 5 t) (iblk m c 6 t) (iblk m c 7 t) (y 0) (y 1)).trans ?_
    unfold kRows
    rw [show i 0 = (⟨544 * t.val + (y 0).val, hb⟩ : Fin 18496) from Fin.ext h0, show i 1 = y 1 from Fin.ext h1]
    rw [read_u m c t (y 0) hb, read_t m c t (y 0) hb, read_gkv m c t, read_wk m c t]
  refine Eq.trans ?_ (key _ ?_ ?_)
  · blk_simp
    rw [after0_11]
    frame_out
    canon_tiles x h
    · exact krot7 _ _ x _ _ (by simpa using h0) (by simpa using h1)
    · exact key7 _ _ x _ _ (by simpa using h0) (by simpa using h1)
    · exact krot6 _ _ x _ _ (by simpa using h0) (by simpa using h1)
    · exact key6 _ _ x _ _ (by simpa using h0) (by simpa using h1)
    · exact krot5 _ _ x _ _ (by simpa using h0) (by simpa using h1)
    · exact key5 _ _ x _ _ (by simpa using h0) (by simpa using h1)
    · exact krot4 _ _ x _ _ (by simpa using h0) (by simpa using h1)
    · exact key4 _ _ x _ _ (by simpa using h0) (by simpa using h1)
    · exact krot3 _ _ x _ _ (by simpa using h0) (by simpa using h1)
    · exact key3 _ _ x _ _ (by simpa using h0) (by simpa using h1)
    · exact krot2 _ _ x _ _ (by simpa using h0) (by simpa using h1)
    · exact key2 _ _ x _ _ (by simpa using h0) (by simpa using h1)
    · exact krot1 _ _ x _ _ (by simpa using h0) (by simpa using h1)
    · exact key1 _ _ x _ _ (by simpa using h0) (by simpa using h1)
    · exact krot0 _ _ x _ _ (by simpa using h0) (by simpa using h1)
    · exact key0 _ _ x _ _ (by simpa using h0) (by simpa using h1)
  · blk_simp [idx t]
    omega
  · blk_simp [idx t]

end Cert.MlaIdeal.Gen
end
-- ==== Proof.Proj.MlaArgs.lean ====
/-
  What the host lines leave in the arrays that the latent attention's projections read, in terms of the
  arguments: the packed columns, the rotary table, the gains and the heads' weights.
-/
module
public import proofs.«01_k».proof.Proof.Proj.MlaValue
public import proofs.«01_k».proof.Proof.Attn.Consts
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem

namespace Cert.MlaIdeal.Gen
open Cert.MlaIdeal Idealize.ShloMosaic.StableHlo

/-- The columns in packed order. -/
def packed (A : FVec Ideal S18496x10592 .f32) : FVec Ideal S18496x10752 .bf16 :=
  truncf (F := Ideal) .bf16 (concatenate S18496x10752 1 [⟨S18496x6144, ((extractStridedSlice S18496x6144 ![0, 0] A slices_S18496x10592_S18496x6144_0_0) : (⟨S18496x6144, .f32⟩ : BufTy).Contents (Elt Ideal))⟩, ⟨S18496x4352, ((extractStridedSlice S18496x4352 ![0, 6176] A slices_S18496x10592_S18496x4352_0_6176) : (⟨S18496x4352, .f32⟩ : BufTy).Contents (Elt Ideal))⟩, ⟨S18496x32, ((extractStridedSlice S18496x32 ![0, 10528] A slices_S18496x10592_S18496x32_0_10528) : (⟨S18496x32, .f32⟩ : BufTy).Contents (Elt Ideal))⟩, ⟨S18496x32, ((extractStridedSlice S18496x32 ![0, 10560] A slices_S18496x10592_S18496x32_0_10560) : (⟨S18496x32, .f32⟩ : BufTy).Contents (Elt Ideal))⟩, ⟨S18496x32, ((extractStridedSlice S18496x32 ![0, 10560] A slices_S18496x10592_S18496x32_0_10560) : (⟨S18496x32, .f32⟩ : BufTy).Contents (Elt Ideal))⟩, ⟨S18496x32, ((extractStridedSlice S18496x32 ![0, 10528] A slices_S18496x10592_S18496x32_0_10528) : (⟨S18496x32, .f32⟩ : BufTy).Contents (Elt Ideal))⟩, ⟨S18496x32, ((extractStridedSlice S18496x32 ![0, 6144] A slices_S18496x10592_S18496x32_0_6144) : (⟨S18496x32, .f32⟩ : BufTy).Contents (Elt Ideal))⟩, ⟨S18496x96, ((broadcastInDim S18496x96 ![] bcast_S_S18496x96 (constant (F := Ideal) S_ .f32 0x00000000#32)) : (⟨S18496x96, .f32⟩ : BufTy).Contents (Elt Ideal))⟩] concatenates_S18496x6144_S18496x4352_S18496x32_S18496x32_S18496x32_S18496x32_S18496x32_S18496x96_S18496x10752_d1) bitsLt_bf16_f32

/-- The rotary table of an array of angles. -/
def table (a : FVec Ideal S18496x32 .f32) : FVec Ideal S18496x128 .f32 :=
  concatenate S18496x128 1 [⟨S18496x32, (Host.cos a : (⟨S18496x32, .f32⟩ : BufTy).Contents (Elt Ideal))⟩, ⟨S18496x32, (Host.cos a : (⟨S18496x32, .f32⟩ : BufTy).Contents (Elt Ideal))⟩, ⟨S18496x32, (Host.negf (Host.sin a) : (⟨S18496x32, .f32⟩ : BufTy).Contents (Elt Ideal))⟩, ⟨S18496x32, (Host.sin a : (⟨S18496x32, .f32⟩ : BufTy).Contents (Elt Ideal))⟩] concatenates_S18496x32_S18496x32_S18496x32_S18496x32_S18496x128_d1

/-- Rotary lanes of the heads' query weights. -/
def pe (w : FVec Ideal S2x768x1536 .f32) : FVec Ideal S768x8x64 .f32 :=
  extractStridedSlice S768x8x64 ![0, 0, 128] (shapeCast S768x8x192 (shapeCast S768x1536 (extractStridedSlice S1x768x1536 ![0, 0, 0] w slices_S2x768x1536_S1x768x1536_0_0_0) shapeCasts_S1x768x1536_S768x1536) shapeCasts_S768x1536_S768x8x192) slices_S768x8x192_S768x8x64_0_0_128

/-- Plain lanes of the heads' query weights. -/
def np (w : FVec Ideal S2x768x1536 .f32) : FVec Ideal S768x8x128 .f32 :=
  extractStridedSlice S768x8x128 ![0, 0, 0] (shapeCast S768x8x192 (shapeCast S768x1536 (extractStridedSlice S1x768x1536 ![0, 0, 0] w slices_S2x768x1536_S1x768x1536_0_0_0) shapeCasts_S1x768x1536_S768x1536) shapeCasts_S768x1536_S768x8x192) slices_S768x8x192_S768x8x128_0_0_0

/-- Zero lanes. -/
def zs : FVec Ideal S768x8x64 .f32 := broadcastInDim S768x8x64 ![] bcast_S_S768x8x64 (constant (F := Ideal) S_ .f32 0x00000000#32)

/-- A head's weights for 256 query lanes. -/
def heads (a : FVec Ideal S768x8x128 .f32) (b z : FVec Ideal S768x8x64 .f32) : FVec Ideal S768x2048 .bf16 :=
  truncf (F := Ideal) .bf16 (shapeCast S768x2048 (concatenate S768x8x256 2 [⟨S768x8x128, (a : (⟨S768x8x128, .f32⟩ : BufTy).Contents (Elt Ideal))⟩, ⟨S768x8x64, (b : (⟨S768x8x64, .f32⟩ : BufTy).Contents (Elt Ideal))⟩, ⟨S768x8x64, (z : (⟨S768x8x64, .f32⟩ : BufTy).Contents (Elt Ideal))⟩] concatenates_S768x8x128_S768x8x64_S768x8x64_S768x8x256_d2) shapeCasts_S768x8x256_S768x2048) bitsLt_bf16_f32

/-- The rotary lanes' halves exchanged. -/
def swap (b : FVec Ideal S768x8x64 .f32) : FVec Ideal S768x8x64 .f32 :=
  concatenate S768x8x64 2 [⟨S768x8x32, (extractStridedSlice S768x8x32 ![0, 0, 32] b slices_S768x8x64_S768x8x32_0_0_32)⟩, ⟨S768x8x32, (extractStridedSlice S768x8x32 ![0, 0, 0] b slices_S768x8x64_S768x8x32_0_0_0)⟩] concatenates_S768x8x32_S768x8x32_S768x8x64_d2

/-- A head's exchanged rotary weights. -/
def turned (s z : FVec Ideal S768x8x64 .f32) : FVec Ideal S768x1024 .bf16 :=
  truncf (F := Ideal) .bf16 (shapeCast S768x1024 (concatenate S768x8x128 2 [⟨S768x8x64, s⟩, ⟨S768x8x64, z⟩] concatenates_S768x8x64_S768x8x64_S768x8x128_d2) shapeCasts_S768x8x128_S768x1024) bitsLt_bf16_f32

/-- The heads' key and value weights. -/
def kv (w : FVec Ideal S2x512x2048 .f32) : FVec Ideal S512x8x256 .f32 :=
  shapeCast S512x8x256 (shapeCast S512x2048 (extractStridedSlice S1x512x2048 ![0, 0, 0] w slices_S2x512x2048_S1x512x2048_0_0_0) shapeCasts_S1x512x2048_S512x2048) shapeCasts_S512x2048_S512x8x256

/-- The remainder of each entry by `n`. -/
def remOf (i : IVec S2048 32) (n : IVec S_ 32) : IVec S2048 32 :=
  select (andi (cmpi .ne (cmpi .slt (Host.remsi i (broadcastInDim S2048 ![] bcast_S_S2048 (select (cmpi .eq (id n) (constantI S_ 32 0#32)) (constantI S_ 32 1#32) (id n)))) (broadcastInDim S2048 ![] bcast_S_S2048 (constantI S_ 32 0#32))) (broadcastInDim S2048 ![] bcast_S_S2048 (cmpi .slt (select (cmpi .eq (id n) (constantI S_ 32 0#32)) (constantI S_ 32 1#32) (id n)) (constantI S_ 32 0#32)))) (cmpi .ne (Host.remsi i (broadcastInDim S2048 ![] bcast_S_S2048 (select (cmpi .eq (id n) (constantI S_ 32 0#32)) (constantI S_ 32 1#32) (id n)))) (broadcastInDim S2048 ![] bcast_S_S2048 (constantI S_ 32 0#32)))) (addi (Host.remsi i (broadcastInDim S2048 ![] bcast_S_S2048 (select (cmpi .eq (id n) (constantI S_ 32 0#32)) (constantI S_ 32 1#32) (id n)))) (broadcastInDim S2048 ![] bcast_S_S2048 (select (cmpi .eq (id n) (constantI S_ 32 0#32)) (constantI S_ 32 1#32) (id n)))) (Host.remsi i (broadcastInDim S2048 ![] bcast_S_S2048 (select (cmpi .eq (id n) (constantI S_ 32 0#32)) (constantI S_ 32 1#32) (id n))))

/-- The angles of tokens whose positions come in three runs. -/
def angleOf (p : IVec S16384 32) (q : IVec S64 32) (r : IVec S2048 32) : FVec Ideal S18496x32 .f32 :=
  mulf (broadcastInDim S18496x32 ![0, 1] bcast_S18496x1_S18496x32_0_1 (broadcastInDim S18496x1 ![0] bcast_S18496_S18496x1_0 (sitofp (F := Ideal) .f32 ((concatenate S18496 0 [⟨S16384, (p : (⟨S16384, .i32⟩ : BufTy).Contents (Elt Ideal))⟩, ⟨S64, (q : (⟨S64, .i32⟩ : BufTy).Contents (Elt Ideal))⟩, ⟨S2048, ((addi (broadcastInDim S2048 ![] bcast_S_S2048 (constantI S_ 32 2064#32)) r) : (⟨S2048, .i32⟩ : BufTy).Contents (Elt Ideal))⟩] concatenates_S16384_S64_S2048_S18496_d0 : (⟨S18496, .i32⟩ : BufTy).Contents (Elt Ideal)))))) (broadcastInDim S18496x32 ![0, 1] bcast_S1x32_S18496x32_0_1 (broadcastInDim S1x32 ![1] bcast_S32_S1x32_1 (Host.powf (broadcastInDim S32 ![] bcast_S_S32 (constant (F := Ideal) S_ .f32 0x461C4000#32)) (Host.divf (Host.negf (sitofp (F := Ideal) .f32 (iotaInDim S32 32 0))) (broadcastInDim S32 ![] bcast_S_S32 (constant (F := Ideal) S_ .f32 0x42000000#32))))))

/-- The angle of each token and frequency. -/
def angle : FVec Ideal S18496x32 .f32 :=
  angleOf (addi (broadcastInDim S16384 ![] bcast_S_S16384 (constantI S_ 32 16#32)) (iotaInDim S16384 32 0)) (maxsi (subi (iotaInDim S64 32 0) (broadcastInDim S64 ![] bcast_S_S64 (constantI S_ 32 48#32))) (broadcastInDim S64 ![] bcast_S_S64 (constantI S_ 32 0#32))) (remOf (iotaInDim S2048 32 0) (constantI S_ 32 64#32))

theorem last_line (X : Valuation τ sig (Elt Ideal)) : after hostOps0_2 X (Proc.devRef .tc main_v66)
    = table (angleOf (X (Proc.devRef .tc main_v40)) (X (Proc.devRef .tc main_v45)) (X (Proc.devRef .tc main_v47))) := by
  after_reads_simp
  rfl
theorem mid_line (X : Valuation τ sig (Elt Ideal)) : after hostOps0_1 X (Proc.devRef .tc main_v47)
    = remOf (X (Proc.devRef .tc main_v46)) (X (Proc.devRef .tc main_c_3)) := by
  after_reads_simp
  simp only [TRef.toBuf, TRef.ofBuf, cast_eq]
  rfl
theorem mid_p (X : Valuation τ sig (Elt Ideal)) : after hostOps0_1 X (Proc.devRef .tc main_v40) = X (Proc.devRef .tc main_v40) := by
  after_reads_simp
theorem mid_q (X : Valuation τ sig (Elt Ideal)) : after hostOps0_1 X (Proc.devRef .tc main_v45) = X (Proc.devRef .tc main_v45) := by
  after_reads_simp
theorem first_p (X : Valuation τ sig (Elt Ideal)) : after hostOps0 X (Proc.devRef .tc main_v40) = (addi (broadcastInDim S16384 ![] bcast_S_S16384 (constantI S_ 32 16#32)) (iotaInDim S16384 32 0)) := by
  after_reads_simp
theorem first_q (X : Valuation τ sig (Elt Ideal)) : after hostOps0 X (Proc.devRef .tc main_v45) = (maxsi (subi (iotaInDim S64 32 0) (broadcastInDim S64 ![] bcast_S_S64 (constantI S_ 32 48#32))) (broadcastInDim S64 ![] bcast_S_S64 (constantI S_ 32 0#32))) := by
  after_reads_simp
theorem first_i (X : Valuation τ sig (Elt Ideal)) : after hostOps0 X (Proc.devRef .tc main_v46) = (iotaInDim S2048 32 0) := by
  after_reads_simp
theorem first_n (X : Valuation τ sig (Elt Ideal)) : after hostOps0 X (Proc.devRef .tc main_c_3) = (constantI S_ 32 64#32) := by
  after_reads_simp

section Values
variable (m : (ℓ : Loc nD τ sig) → Buf (Elt Ideal) ℓ) (c : Dev nD)

set_option maxHeartbeats 1000000 in
theorem V_u : V m c main_v37 = packed (m ((c : Thread nD τ).loc main_arg0)) := rfl
set_option maxHeartbeats 1000000 in
theorem V_t : V m c main_v66 = table angle := by
  have e : V m c main_v66 = after hostOps0_2 (after hostOps0_1 (after hostOps0 (fun b => m (c, b)))) (Proc.devRef .tc main_v66) := by
    show after (List.flatten [hostOps0, hostOps0_1, hostOps0_2]) _ _ = _
    rw [List.flatten_cons, List.flatten_cons, List.flatten_cons, List.flatten_nil, List.append_nil, after_append, after_append]
  rw [e, last_line, mid_line, mid_p, mid_q, first_p, first_q, first_i, first_n]
  rfl
theorem V_gq : V m c main_v17 = shapeCast S1x768 (shapeCast S768 (extractStridedSlice S1x768 ![0, 0] (m ((c : Thread nD τ).loc main_arg1) : FVec Ideal S2x768 .f32) slices_S2x768_S1x768_0_0) shapeCasts_S1x768_S768) shapeCasts_S768_S1x768 := rfl
theorem V_gkv : V m c main_v20 = shapeCast S1x512 (shapeCast S512 (extractStridedSlice S1x512 ![0, 0] (m ((c : Thread nD τ).loc main_arg3) : FVec Ideal S2x512 .f32) slices_S2x512_S1x512_0_0) shapeCasts_S1x512_S512) shapeCasts_S512_S1x512 := rfl
theorem V_wa : V m c main_v24 = heads (np (m ((c : Thread nD τ).loc main_arg2))) (pe (m ((c : Thread nD τ).loc main_arg2))) zs := rfl
theorem V_wb : V m c main_v30 = turned (swap (pe (m ((c : Thread nD τ).loc main_arg2)))) zs := rfl
theorem V_wk : V m c main_v33 = truncf (F := Ideal) .bf16 (shapeCast S512x1024 (extractStridedSlice S512x8x128 ![0, 0, 0] (kv (m ((c : Thread nD τ).loc main_arg4))) slices_S512x8x256_S512x8x128_0_0_0) shapeCasts_S512x8x128_S512x1024) bitsLt_bf16_f32 := rfl
theorem V_wv : V m c main_v36 = truncf (F := Ideal) .bf16 (shapeCast S512x1024 (extractStridedSlice S512x8x128 ![0, 0, 128] (kv (m ((c : Thread nD τ).loc main_arg4))) slices_S512x8x256_S512x8x128_0_0_128) shapeCasts_S512x8x128_S512x1024) bitsLt_bf16_f32 := rfl
end Values

theorem packed_u (A : FVec Ideal S18496x10592 .f32) (i : Fin 18496) (q : Fin 1344) : packed A (ix2 i ⟨9216 + q.val, by omega⟩) = A (ix2 i ⟨9248 + q.val, by omega⟩) := by
  pointwise [packed]
  repeat' split
  all_goals first
    | (exfalso; omega)
    | exact congrArg (fun j => A (ix2 i j)) (Fin.ext (by dsimp only; omega))
    | rfl
theorem packed_r (A : FVec Ideal S18496x10592 .f32) (i : Fin 18496) (q : Fin 32) : packed A (ix2 i ⟨10560 + q.val, by omega⟩) = A (ix2 i ⟨10560 + q.val, by omega⟩) := by
  pointwise [packed]
  repeat' split
  all_goals first
    | (exfalso; omega)
    | exact congrArg (fun j => A (ix2 i j)) (Fin.ext (by dsimp only; omega))
    | rfl
theorem packed_s (A : FVec Ideal S18496x10592 .f32) (i : Fin 18496) (q : Fin 32) : packed A (ix2 i ⟨10592 + q.val, by omega⟩) = A (ix2 i ⟨10528 + q.val, by omega⟩) := by
  pointwise [packed]
  repeat' split
  all_goals first
    | (exfalso; omega)
    | exact congrArg (fun j => A (ix2 i j)) (Fin.ext (by dsimp only; omega))
    | rfl
theorem table0 (a : FVec Ideal S18496x32 .f32) (i : Fin 18496) (q : Fin 32) : table a (ix2 i ⟨q.val, by omega⟩) = Host.cos a (ix2 i q) := by
  generalize hx : Host.cos a = x
  generalize hy : Host.sin a = y
  generalize hz : Host.negf y = z
  pointwise [table, hx, hy, hz]
  repeat' split
  all_goals first
    | (exfalso; omega)
    | exact congrArg (fun j => x (ix2 i j)) (Fin.ext (by dsimp only; omega))
    | exact congrArg (fun j => y (ix2 i j)) (Fin.ext (by dsimp only; omega))
    | exact congrArg (fun j => z (ix2 i j)) (Fin.ext (by dsimp only; omega))
    | rfl
theorem table1 (a : FVec Ideal S18496x32 .f32) (i : Fin 18496) (q : Fin 32) : table a (ix2 i ⟨32 + q.val, by omega⟩) = Host.cos a (ix2 i q) := by
  generalize hx : Host.cos a = x
  generalize hy : Host.sin a = y
  generalize hz : Host.negf y = z
  pointwise [table, hx, hy, hz]
  repeat' split
  all_goals first
    | (exfalso; omega)
    | exact congrArg (fun j => x (ix2 i j)) (Fin.ext (by dsimp only; omega))
    | exact congrArg (fun j => y (ix2 i j)) (Fin.ext (by dsimp only; omega))
    | exact congrArg (fun j => z (ix2 i j)) (Fin.ext (by dsimp only; omega))
    | rfl
theorem table2 (a : FVec Ideal S18496x32 .f32) (i : Fin 18496) (q : Fin 32) : table a (ix2 i ⟨64 + q.val, by omega⟩) = Host.negf (Host.sin a) (ix2 i q) := by
  generalize hx : Host.cos a = x
  generalize hy : Host.sin a = y
  generalize hz : Host.negf y = z
  pointwise [table, hx, hy, hz]
  repeat' split
  all_goals first
    | (exfalso; omega)
    | exact congrArg (fun j => x (ix2 i j)) (Fin.ext (by dsimp only; omega))
    | exact congrArg (fun j => y (ix2 i j)) (Fin.ext (by dsimp only; omega))
    | exact congrArg (fun j => z (ix2 i j)) (Fin.ext (by dsimp only; omega))
    | rfl
theorem table3 (a : FVec Ideal S18496x32 .f32) (i : Fin 18496) (q : Fin 32) : table a (ix2 i ⟨96 + q.val, by omega⟩) = Host.sin a (ix2 i q) := by
  generalize hx : Host.cos a = x
  generalize hy : Host.sin a = y
  generalize hz : Host.negf y = z
  pointwise [table, hx, hy, hz]
  repeat' split
  all_goals first
    | (exfalso; omega)
    | exact congrArg (fun j => x (ix2 i j)) (Fin.ext (by dsimp only; omega))
    | exact congrArg (fun j => y (ix2 i j)) (Fin.ext (by dsimp only; omega))
    | exact congrArg (fun j => z (ix2 i j)) (Fin.ext (by dsimp only; omega))
    | rfl

theorem np_apply (w : FVec Ideal S2x768x1536 .f32) (k : Fin 768) (h : Fin 8) (e : Fin 128) : np w (ix3 k h e) = w (ix3 0 k ⟨192 * h.val + e.val, by omega⟩) := by
  pointwise [np]
  blk_ext []
theorem pe_apply (w : FVec Ideal S2x768x1536 .f32) (k : Fin 768) (h : Fin 8) (e : Fin 64) : pe w (ix3 k h e) = w (ix3 0 k ⟨192 * h.val + (128 + e.val), by omega⟩) := by
  pointwise [pe]
  blk_ext []
theorem zs_apply (i : S768x8x64.Idx) : zs i = 0 := Cert.Consts.zero
theorem heads_np (a : FVec Ideal S768x8x128 .f32) (b z : FVec Ideal S768x8x64 .f32) (k : Fin 768) (h : Fin 8) (e : Fin 128) :
    heads a b z (ix2 k ⟨256 * h.val + e.val, by omega⟩) = a (ix3 k h e) := by
  pointwise [heads]
  refine (dif_pos (show (256 * h.val + e.val) % 256 < 128 by omega)).trans ?_
  blk_ext []
theorem heads_pe (a : FVec Ideal S768x8x128 .f32) (b z : FVec Ideal S768x8x64 .f32) (k : Fin 768) (h : Fin 8) (e : Fin 64) :
    heads a b z (ix2 k ⟨256 * h.val + 128 + e.val, by omega⟩) = b (ix3 k h e) := by
  pointwise [heads]
  refine (dif_neg (show ¬ (256 * h.val + 128 + e.val) % 256 < 128 by omega)).trans ?_
  refine (dif_pos (show (256 * h.val + 128 + e.val) % 256 - 128 < 64 by omega)).trans ?_
  blk_ext []
theorem heads_zs (a : FVec Ideal S768x8x128 .f32) (b z : FVec Ideal S768x8x64 .f32) (k : Fin 768) (h : Fin 8) (e : Fin 64) :
    heads a b z (ix2 k ⟨256 * h.val + 192 + e.val, by omega⟩) = z (ix3 k h e) := by
  pointwise [heads]
  refine (dif_neg (show ¬ (256 * h.val + 192 + e.val) % 256 < 128 by omega)).trans ?_
  refine (dif_neg (show ¬ (256 * h.val + 192 + e.val) % 256 - 128 < 64 by omega)).trans ?_
  blk_ext []
theorem swap_lo (b : FVec Ideal S768x8x64 .f32) (k : Fin 768) (h : Fin 8) (e : Fin 32) :
    swap b (ix3 k h ⟨e.val, by omega⟩) = b (ix3 k h ⟨32 + e.val, by omega⟩) := by
  pointwise [swap]
theorem swap_hi (b : FVec Ideal S768x8x64 .f32) (k : Fin 768) (h : Fin 8) (e : Fin 32) :
    swap b (ix3 k h ⟨32 + e.val, by omega⟩) = b (ix3 k h ⟨e.val, by omega⟩) := by
  pointwise [swap]
theorem turned_pe (s z : FVec Ideal S768x8x64 .f32) (k : Fin 768) (h : Fin 8) (e : Fin 64) :
    turned s z (ix2 k ⟨128 * h.val + e.val, by omega⟩) = s (ix3 k h e) := by
  pointwise [turned]
  refine (dif_pos (show (128 * h.val + e.val) % 128 < 64 by omega)).trans ?_
  blk_ext []
theorem turned_zs (s z : FVec Ideal S768x8x64 .f32) (k : Fin 768) (h : Fin 8) (e : Fin 64) :
    turned s z (ix2 k ⟨128 * h.val + 64 + e.val, by omega⟩) = z (ix3 k h e) := by
  pointwise [turned]
  refine (dif_neg (show ¬ (128 * h.val + 64 + e.val) % 128 < 64 by omega)).trans ?_
  blk_ext []
theorem kv_apply (w : FVec Ideal S2x512x2048 .f32) (k : Fin 512) (h : Fin 8) (e : Fin 256) : kv w (ix3 k h e) = w (ix3 0 k ⟨256 * h.val + e.val, by omega⟩) := by
  pointwise [kv]
  blk_ext []

section Reads
variable (m : (ℓ : Loc nD τ sig) → Buf (Elt Ideal) ℓ) (c : Dev nD)

theorem gq_apply (k : Fin 768) : gq m c k = (m ((c : Thread nD τ).loc main_arg1) : FVec Ideal S2x768 .f32) (ix2 0 k) := by
  unfold gq
  rw [V_gq]
  pointwise
  blk_ext []
theorem gkv_apply (k : Fin 512) : gkv m c k = (m ((c : Thread nD τ).loc main_arg3) : FVec Ideal S2x512 .f32) (ix2 0 k) := by
  unfold gkv
  rw [V_gkv]
  pointwise
  blk_ext []
theorem wk_apply (k : Fin 512) (h : Fin 8) (e : Fin 128) :
    wk m c k ⟨128 * h.val + e.val, by omega⟩ = (m ((c : Thread nD τ).loc main_arg4) : FVec Ideal S2x512x2048 .f32) (ix3 0 k ⟨256 * h.val + e.val, by omega⟩) := by
  unfold wk
  rw [V_wk]
  refine Eq.trans ?_ (kv_apply _ k h ⟨e.val, by omega⟩)
  generalize kv _ = w
  pointwise
  blk_ext []
theorem wv_apply (k : Fin 512) (h : Fin 8) (e : Fin 128) :
    wv m c k ⟨128 * h.val + e.val, by omega⟩ = (m ((c : Thread nD τ).loc main_arg4) : FVec Ideal S2x512x2048 .f32) (ix3 0 k ⟨256 * h.val + (128 + e.val), by omega⟩) := by
  unfold wv
  rw [V_wv]
  refine Eq.trans ?_ (kv_apply _ k h ⟨128 + e.val, by omega⟩)
  generalize kv _ = w
  pointwise
  blk_ext []
end Reads

end Cert.MlaIdeal.Gen
end
-- ==== Proof.Proj.MlaRef.lean ====
/-
  The reference's composed terms of the latent attention's projections, one stage at a time, read index by index.
-/
module
public import proofs.«01_k».proof.Proof.Gen.MlaRefIdeal.Run
public import proofs.«01_k».proof.Proof.Proj.MlaArgs
public import proofs.«01_k».proof.Proof.Attn.Consts
public import proofs.«01_k».proof.Proof.Attn.Scale
@[expose] public section
set_option maxRecDepth 16384
noncomputable section
open Idealize.ShloMosaic Idealize.ShloMosaic.TcCoe Idealize.SL.Sem

namespace Cert.MlaRefIdeal.Proj
open Cert.MlaRefIdeal Cert.MlaRefIdeal.Gen

/-- The layer's columns of the compressed projections. -/
def cols (A : FVec Ideal S18496x10592 .f32) : FVec Ideal S18496x1344 .f32 := extractStridedSlice S18496x1344 ![0, 9248] A slices_S18496x10592_S18496x1344_0_9248

/-- The norm of 768 columns times a gain. -/
def norm768 (x : FVec Ideal S18496x768 .f32) (g : FVec Ideal S768 .f32) : FVec Ideal S18496x768 .f32 :=
  mulf (mulf x (broadcastInDim S18496x768 ![0, 1] bcast_S18496x1_S18496x768_0_1 (Host.rsqrt (addf (Host.divf (broadcastInDim S18496x1 ![0] bcast_S18496_S18496x1_0 (Host.reduceAdd (mulf x x) (constant (F := Ideal) S_ .f32 0x00000000#32) reducesTo_S18496x768_S18496_d1 h_S_)) (broadcastInDim S18496x1 ![] bcast_S_S18496x1 (constant (F := Ideal) S_ .f32 0x44400000#32))) (broadcastInDim S18496x1 ![] bcast_S_S18496x1 (constant (F := Ideal) S_ .f32 0x358637BD#32)))))) (broadcastInDim S18496x768 ![0, 1] bcast_S1x768_S18496x768_0_1 (broadcastInDim S1x768 ![1] bcast_S768_S1x768_1 g))

/-- The norm of 512 columns times a gain. -/
def norm512 (x : FVec Ideal S18496x512 .f32) (g : FVec Ideal S512 .f32) : FVec Ideal S18496x512 .f32 :=
  mulf (mulf x (broadcastInDim S18496x512 ![0, 1] bcast_S18496x1_S18496x512_0_1 (Host.rsqrt (addf (Host.divf (broadcastInDim S18496x1 ![0] bcast_S18496_S18496x1_0 (Host.reduceAdd (mulf x x) (constant (F := Ideal) S_ .f32 0x00000000#32) reducesTo_S18496x512_S18496_d1 h_S_)) (broadcastInDim S18496x1 ![] bcast_S_S18496x1 (constant (F := Ideal) S_ .f32 0x44000000#32))) (broadcastInDim S18496x1 ![] bcast_S_S18496x1 (constant (F := Ideal) S_ .f32 0x358637BD#32)))))) (broadcastInDim S18496x512 ![0, 1] bcast_S1x512_S18496x512_0_1 (broadcastInDim S1x512 ![1] bcast_S512_S1x512_1 g))

/-- The compressed queries. -/
def cqs (A : FVec Ideal S18496x10592 .f32) (g : FVec Ideal S2x768 .f32) : FVec Ideal S18496x768 .f32 :=
  norm768 (extractStridedSlice S18496x768 ![0, 0] (cols A) slices_S18496x1344_S18496x768_0_0) (shapeCast _ (extractStridedSlice S1x768 ![0, 0] g slices_S2x768_S1x768_0_0) shapeCasts_S1x768_S768)

/-- The compressed keys and values. -/
def ckvs (A : FVec Ideal S18496x10592 .f32) (g : FVec Ideal S2x512 .f32) : FVec Ideal S18496x512 .f32 :=
  norm512 (extractStridedSlice S18496x512 ![0, 768] (cols A) slices_S18496x1344_S18496x512_0_768) (shapeCast _ (extractStridedSlice S1x512 ![0, 0] g slices_S2x512_S1x512_0_0) shapeCasts_S1x512_S512)

/-- The rotary key before its turn. -/
def kr (A : FVec Ideal S18496x10592 .f32) : FVec Ideal S18496x64 .f32 := extractStridedSlice S18496x64 ![0, 1280] (cols A) slices_S18496x1344_S18496x64_0_1280

/-- The angle of each token and frequency. -/
def angle : FVec Ideal S18496x32 .f32 :=
  mulf (broadcastInDim S18496x32 ![0, 1] bcast_S18496x1_S18496x32_0_1 (broadcastInDim S18496x1 ![0] bcast_S18496_S18496x1_0 (sitofp (F := Ideal) .f32 ((concatenate S18496 0 [⟨S16384, ((addi (broadcastInDim S16384 ![] bcast_S_S16384 (constantI S_ 32 16#32)) (iotaInDim S16384 32 0)) : (⟨S16384, .i32⟩ : BufTy).Contents (Elt Ideal))⟩, ⟨S64, ((maxsi (subi (iotaInDim S64 32 0) (broadcastInDim S64 ![] bcast_S_S64 (constantI S_ 32 48#32))) (broadcastInDim S64 ![] bcast_S_S64 (constantI S_ 32 0#32))) : (⟨S64, .i32⟩ : BufTy).Contents (Elt Ideal))⟩, ⟨S2048, ((addi (broadcastInDim S2048 ![] bcast_S_S2048 (constantI S_ 32 2064#32)) (select (andi (cmpi .ne (cmpi .slt (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32))) (broadcastInDim S2048 ![] bcast_S_S2048 (cmpi .slt (select (cmpi .eq (id (constantI S_ 32 64#32)) (constantI S_ 32 0#32)) (constantI S_ 32 1#32) (id (constantI S_ 32 64#32))) (constantI S_ 32 0#32)))) (cmpi .ne (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32)))) (addi (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (select (cmpi .eq (id (constantI S_ 32 64#32)) (constantI S_ 32 0#32)) (constantI S_ 32 1#32) (id (constantI S_ 32 64#32))))) (Host.remsi (iotaInDim S2048 32 0) (broadcastInDim S2048 ![] bcast_S_S2048 (select (cmpi .eq (id (constantI S_ 32 64#32)) (constantI S_ 32 0#32)) (constantI S_ 32 1#32) (id (constantI S_ 32 64#32))))))) : (⟨S2048, .i32⟩ : BufTy).Contents (Elt Ideal))⟩] concatenates_S16384_S64_S2048_S18496_d0 : (⟨S18496, .i32⟩ : BufTy).Contents (Elt Ideal)))))) (broadcastInDim S18496x32 ![0, 1] bcast_S1x32_S18496x32_0_1 (broadcastInDim S1x32 ![1] bcast_S32_S1x32_1 (Host.powf (broadcastInDim S32 ![] bcast_S_S32 (constant (F := Ideal) S_ .f32 0x461C4000#32)) (Host.divf (Host.negf (sitofp (F := Ideal) .f32 (iotaInDim S32 32 0))) (broadcastInDim S32 ![] bcast_S_S32 (constant (F := Ideal) S_ .f32 0x42000000#32))))))

/-- Rows turned by their angles. -/
def rope (x : FVec Ideal S18496x64 .f32) (a : FVec Ideal S18496x32 .f32) : FVec Ideal S18496x64 .f32 :=
  concatenate S18496x64 1 [⟨S18496x32, (subf (mulf (extractStridedSlice S18496x32 ![0, 0] x slices_S18496x64_S18496x32_0_0) (Host.cos a)) (mulf (extractStridedSlice S18496x32 ![0, 32] x slices_S18496x64_S18496x32_0_32) (Host.sin a)))⟩, ⟨S18496x32, (addf (mulf (extractStridedSlice S18496x32 ![0, 0] x slices_S18496x64_S18496x32_0_0) (Host.sin a)) (mulf (extractStridedSlice S18496x32 ![0, 32] x slices_S18496x64_S18496x32_0_32) (Host.cos a)))⟩] concatenates_S18496x32_S18496x32_S18496x64_d1

/-- Heads' rows turned by their angles. -/
def ropes (x : FVec Ideal S18496x8x64 .f32) (C S : FVec Ideal S18496x32 .f32) : FVec Ideal S18496x8x64 .f32 :=
  concatenate S18496x8x64 2 [⟨S18496x8x32, (subf (mulf (extractStridedSlice S18496x8x32 ![0, 0, 0] x slices_S18496x8x64_S18496x8x32_0_0_0) (broadcastInDim S18496x8x32 ![0, 1, 2] bcast_S18496x1x32_S18496x8x32_0_1_2 (shapeCast _ C shapeCasts_S18496x32_S18496x1x32))) (mulf (extractStridedSlice S18496x8x32 ![0, 0, 32] x slices_S18496x8x64_S18496x8x32_0_0_32) (broadcastInDim S18496x8x32 ![0, 1, 2] bcast_S18496x1x32_S18496x8x32_0_1_2 (shapeCast _ S shapeCasts_S18496x32_S18496x1x32))))⟩, ⟨S18496x8x32, (addf (mulf (extractStridedSlice S18496x8x32 ![0, 0, 0] x slices_S18496x8x64_S18496x8x32_0_0_0) (broadcastInDim S18496x8x32 ![0, 1, 2] bcast_S18496x1x32_S18496x8x32_0_1_2 (shapeCast _ S shapeCasts_S18496x32_S18496x1x32))) (mulf (extractStridedSlice S18496x8x32 ![0, 0, 32] x slices_S18496x8x64_S18496x8x32_0_0_32) (broadcastInDim S18496x8x32 ![0, 1, 2] bcast_S18496x1x32_S18496x8x32_0_1_2 (shapeCast _ C shapeCasts_S18496x32_S18496x1x32))))⟩] concatenates_S18496x8x32_S18496x8x32_S18496x8x64_d2

/-- The heads' queries before their turn. -/
def qs (x : FVec Ideal S18496x768 .f32) (w : FVec Ideal S2x768x1536 .f32) : FVec Ideal S18496x8x192 .f32 :=
  shapeCast _ (Host.dotGeneral dot_S18496x768_S768x1536_S18496x1536_1_0_0_1_n_n none x (shapeCast _ (extractStridedSlice S1x768x1536 ![0, 0, 0] w slices_S2x768x1536_S1x768x1536_0_0_0) shapeCasts_S1x768x1536_S768x1536)) shapeCasts_S18496x1536_S18496x8x192

/-- The heads' keys and values. -/
def kvs (x : FVec Ideal S18496x512 .f32) (w : FVec Ideal S2x512x2048 .f32) : FVec Ideal S18496x8x256 .f32 :=
  shapeCast _ (Host.dotGeneral dot_S18496x512_S512x2048_S18496x2048_1_0_0_1_n_n none x (shapeCast _ (extractStridedSlice S1x512x2048 ![0, 0, 0] w slices_S2x512x2048_S1x512x2048_0_0_0) shapeCasts_S1x512x2048_S512x2048)) shapeCasts_S18496x2048_S18496x8x256

/-- A head's 128 plain lanes, 64 rotary ones and 64 zeros side by side. -/
def lanes (n : FVec Ideal S18496x8x128 .f32) (r : FVec Ideal S18496x8x64 .f32) : FVec Ideal S18496x8x256 .f32 :=
  concatenate S18496x8x256 2 [⟨S18496x8x128, (n : (⟨S18496x8x128, .f32⟩ : BufTy).Contents (Elt Ideal))⟩, ⟨S18496x8x64, (r : (⟨S18496x8x64, .f32⟩ : BufTy).Contents (Elt Ideal))⟩, ⟨S18496x8x64, ((broadcastInDim S18496x8x64 ![] bcast_S_S18496x8x64 (constant (F := Ideal) S_ .f32 0x00000000#32)) : (⟨S18496x8x64, .f32⟩ : BufTy).Contents (Elt Ideal))⟩] concatenates_S18496x8x128_S18496x8x64_S18496x8x64_S18496x8x256_d2

/-- Division by the root of 192 and the logarithm of 2. -/
def scaled (x : FVec Ideal S18496x8x256 .f32) : FVec Ideal S18496x8x256 .f32 :=
  Host.divf (Host.divf x (broadcastInDim S18496x8x256 ![] bcast_S_S18496x8x256 (Host.sqrt (constant (F := Ideal) S_ .f32 0x43400000#32)))) (broadcastInDim S18496x8x256 ![] bcast_S_S18496x8x256 (Host.log (constant (F := Ideal) S_ .f32 0x40000000#32)))

/-- The heads' lanes in one row. -/
def flat (x : FVec Ideal S18496x8x256 .f32) : FVec Ideal S18496x2048 .bf16 :=
  truncf (F := Ideal) .bf16 (shapeCast _ x shapeCasts_S18496x8x256_S18496x2048) bitsLt_bf16_f32

/-- The queries. -/
def qRef (A : FVec Ideal S18496x10592 .f32) (g : FVec Ideal S2x768 .f32) (w : FVec Ideal S2x768x1536 .f32) : FVec Ideal S18496x2048 .bf16 :=
  flat (scaled (lanes (extractStridedSlice S18496x8x128 ![0, 0, 0] (qs (cqs A g) w) slices_S18496x8x192_S18496x8x128_0_0_0) (ropes (extractStridedSlice S18496x8x64 ![0, 0, 128] (qs (cqs A g) w) slices_S18496x8x192_S18496x8x64_0_0_128) (Host.cos angle) (Host.sin angle))))

/-- The rotary key, padded. -/
def kpeRef (A : FVec Ideal S18496x10592 .f32) : FVec Ideal S18496x128 .f32 :=
  pad S18496x128 ![0, 0] ![0, 64] ![0, 0] (rope (kr A) angle) (sitofp (F := Ideal) .f32 (constantI S_ 32 0#32)) pads_S18496x64_S18496x128_000_0640 h_S_

/-- The keys. -/
def kRef (A : FVec Ideal S18496x10592 .f32) (g : FVec Ideal S2x512 .f32) (w : FVec Ideal S2x512x2048 .f32) : FVec Ideal S18496x2048 .bf16 :=
  flat (lanes (extractStridedSlice S18496x8x128 ![0, 0, 0] (kvs (ckvs A g) w) slices_S18496x8x256_S18496x8x128_0_0_0) (broadcastInDim S18496x8x64 ![0, 1, 2] bcast_S18496x1x64_S18496x8x64_0_1_2 (broadcastInDim S18496x1x64 ![0, 2] bcast_S18496x64_S18496x1x64_0_2 (rope (kr A) angle))))

/-- The values. -/
def vRef (A : FVec Ideal S18496x10592 .f32) (g : FVec Ideal S2x512 .f32) (w : FVec Ideal S2x512x2048 .f32) : FVec Ideal S18496x1024 .bf16 :=
  truncf (F := Ideal) .bf16 (shapeCast _ (extractStridedSlice S18496x8x128 ![0, 0, 128] (kvs (ckvs A g) w) slices_S18496x8x256_S18496x8x128_0_0_128) shapeCasts_S18496x8x128_S18496x1024) bitsLt_bf16_f32

section Terms
variable (m : (ℓ : Loc nD τ sig) → Buf (Elt Ideal) ℓ) (c : Dev nD)
theorem q_term : Value.res_main_v123 m c = qRef (m ((c.tc : Thread nD τ).loc main_arg0)) (m ((c.tc : Thread nD τ).loc main_arg1)) (m ((c.tc : Thread nD τ).loc main_arg2)) := rfl
theorem kpe_term : Value.res_main_v124 m c = kpeRef (m ((c.tc : Thread nD τ).loc main_arg0)) := rfl
theorem k_term : Value.res_main_v126 m c = kRef (m ((c.tc : Thread nD τ).loc main_arg0)) (m ((c.tc : Thread nD τ).loc main_arg3)) (m ((c.tc : Thread nD τ).loc main_arg4)) := rfl
end Terms

theorem angle_eq : angle = Cert.MlaIdeal.Gen.angle := rfl

theorem cols_apply (A : FVec Ideal S18496x10592 .f32) (i : Fin 18496) (j : Fin 1344) : cols A (ix2 i j) = A (ix2 i ⟨9248 + j.val, by omega⟩) := by
  pointwise [cols]
  blk_ext []
theorem norm768_apply (x : FVec Ideal S18496x768 .f32) (g : FVec Ideal S768 .f32) (i : Fin 18496) (j : Fin 768) :
    norm768 x g (ix2 i j) = Spec.Mla.rms 1145044992#32 (fun k => x (ix2 i k)) (g (ix1 j)) j := by
  unfold Spec.Mla.rms
  pointwise [norm768]
theorem norm512_apply (x : FVec Ideal S18496x512 .f32) (g : FVec Ideal S512 .f32) (i : Fin 18496) (j : Fin 512) :
    norm512 x g (ix2 i j) = Spec.Mla.rms 1140850688#32 (fun k => x (ix2 i k)) (g (ix1 j)) j := by
  unfold Spec.Mla.rms
  pointwise [norm512]
theorem rms_congr {n : Nat} {w : BitVec 32} {f f' : Fin n → EReal} {g g' : EReal} (hf : ∀ k, f k = f' k) (hg : g = g') (j : Fin n) :
    Spec.Mla.rms w f g j = Spec.Mla.rms w f' g' j := by
  rw [funext hf, hg]
theorem cqs_apply (A : FVec Ideal S18496x10592 .f32) (g : FVec Ideal S2x768 .f32) (i : Fin 18496) (j : Fin 768) :
    cqs A g (ix2 i j) = Spec.Mla.rms 1145044992#32 (fun k : Fin 768 => A (ix2 i ⟨9248 + k.val, by omega⟩)) (g (ix2 0 j)) j := by
  refine (norm768_apply _ _ i j).trans (rms_congr (fun k => ?_) ?_ j)
  · refine Eq.trans ?_ (cols_apply A i ⟨k.val, by omega⟩)
    generalize cols A = x
    pointwise
    try blk_ext []
  · pointwise
    try blk_ext []
theorem ckvs_apply (A : FVec Ideal S18496x10592 .f32) (g : FVec Ideal S2x512 .f32) (i : Fin 18496) (j : Fin 512) :
    ckvs A g (ix2 i j) = Spec.Mla.rms 1140850688#32 (fun k : Fin 512 => A (ix2 i ⟨9248 + (768 + k.val), by omega⟩)) (g (ix2 0 j)) j := by
  refine (norm512_apply _ _ i j).trans (rms_congr (fun k => ?_) ?_ j)
  · refine Eq.trans ?_ (cols_apply A i ⟨768 + k.val, by omega⟩)
    generalize cols A = x
    pointwise
    try blk_ext []
  · pointwise
    try blk_ext []
theorem kr_apply (A : FVec Ideal S18496x10592 .f32) (i : Fin 18496) (d : Fin 64) : kr A (ix2 i d) = A (ix2 i ⟨9248 + (1280 + d.val), by omega⟩) := by
  refine Eq.trans ?_ (cols_apply A i ⟨1280 + d.val, by omega⟩)
  unfold kr
  generalize cols A = x
  pointwise
  try blk_ext []
theorem qs_apply (x : FVec Ideal S18496x768 .f32) (w : FVec Ideal S2x768x1536 .f32) (i : Fin 18496) (h : Fin 8) (e : Fin 192) :
    qs x w (ix3 i h e) = ∑ k : Fin 768, x (ix2 i k) * w (ix3 0 k ⟨192 * h.val + e.val, by omega⟩) := by
  pointwise [qs]
  refine Finset.sum_congr rfl fun k _ => congr_arg₂ (· * ·) ?_ ?_
  · blk_ext []
  · blk_ext []
theorem kvs_apply (x : FVec Ideal S18496x512 .f32) (w : FVec Ideal S2x512x2048 .f32) (i : Fin 18496) (h : Fin 8) (e : Fin 256) :
    kvs x w (ix3 i h e) = ∑ k : Fin 512, x (ix2 i k) * w (ix3 0 k ⟨256 * h.val + e.val, by omega⟩) := by
  pointwise [kvs]
  refine Finset.sum_congr rfl fun k _ => congr_arg₂ (· * ·) ?_ ?_
  · blk_ext []
  · blk_ext []
theorem rope_lo (x : FVec Ideal S18496x64 .f32) (a : FVec Ideal S18496x32 .f32) (i : Fin 18496) (d : Fin 32) :
    rope x a (ix2 i ⟨d.val, by omega⟩) = x (ix2 i ⟨d.val, by omega⟩) * Host.cos a (ix2 i d) - x (ix2 i ⟨32 + d.val, by omega⟩) * Host.sin a (ix2 i d) := by
  unfold rope
  generalize Host.cos a = C
  generalize Host.sin a = S
  pointwise
theorem rope_hi (x : FVec Ideal S18496x64 .f32) (a : FVec Ideal S18496x32 .f32) (i : Fin 18496) (d : Fin 32) :
    rope x a (ix2 i ⟨32 + d.val, by omega⟩) = x (ix2 i ⟨d.val, by omega⟩) * Host.sin a (ix2 i d) + x (ix2 i ⟨32 + d.val, by omega⟩) * Host.cos a (ix2 i d) := by
  unfold rope
  generalize Host.cos a = C
  generalize Host.sin a = S
  pointwise
theorem ropes_lo (x : FVec Ideal S18496x8x64 .f32) (C S : FVec Ideal S18496x32 .f32) (i : Fin 18496) (h : Fin 8) (d : Fin 32) :
    ropes x C S (ix3 i h ⟨d.val, by omega⟩) = x (ix3 i h ⟨d.val, by omega⟩) * C (ix2 i d) - x (ix3 i h ⟨32 + d.val, by omega⟩) * S (ix2 i d) := by
  pointwise [ropes]
theorem ropes_hi (x : FVec Ideal S18496x8x64 .f32) (C S : FVec Ideal S18496x32 .f32) (i : Fin 18496) (h : Fin 8) (d : Fin 32) :
    ropes x C S (ix3 i h ⟨32 + d.val, by omega⟩) = x (ix3 i h ⟨d.val, by omega⟩) * S (ix2 i d) + x (ix3 i h ⟨32 + d.val, by omega⟩) * C (ix2 i d) := by
  pointwise [ropes]
theorem lanes_n (n : FVec Ideal S18496x8x128 .f32) (r : FVec Ideal S18496x8x64 .f32) (i : Fin 18496) (h : Fin 8) (e : Fin 128) :
    lanes n r (ix3 i h ⟨e.val, by omega⟩) = n (ix3 i h e) := by
  pointwise [lanes]
theorem lanes_r (n : FVec Ideal S18496x8x128 .f32) (r : FVec Ideal S18496x8x64 .f32) (i : Fin 18496) (h : Fin 8) (e : Fin 64) :
    lanes n r (ix3 i h ⟨128 + e.val, by omega⟩) = r (ix3 i h e) := by
  pointwise [lanes]
theorem lanes_z (n : FVec Ideal S18496x8x128 .f32) (r : FVec Ideal S18496x8x64 .f32) (i : Fin 18496) (h : Fin 8) (e : Fin 64) :
    lanes n r (ix3 i h ⟨192 + e.val, by omega⟩) = 0 := by
  pointwise [lanes]
  exact (dif_neg (show ¬ 192 + e.val < 128 by omega)).trans (dif_neg (show ¬ 192 + e.val - 128 < 64 by omega))
theorem two : Ideal.ofBits .f32 0x40000000#32 = ((2 : ℝ) : EReal) := by
  simp [Ideal.ofBits, Ideal.ieee, -EReal.coe_mul]; norm_num
theorem div_div (x : EReal) : Ideal.div (Ideal.div x (Ideal.sqrt (Ideal.ofBits .f32 0x43400000#32))) (Ideal.log (Ideal.ofBits .f32 0x40000000#32)) = (Scale.c : EReal) * x := by
  rw [Consts.width, two, Ideal.sqrt_coe, if_neg (by norm_num), Ideal.log_coe, if_neg (by norm_num), Ideal.div_coe (Real.sqrt_pos.mpr (by norm_num)).ne',
    Ideal.div_coe (Real.log_pos (by norm_num)).ne', mul_assoc, ← EReal.coe_mul, mul_comm, one_div, one_div]
  rfl
theorem scaled_apply (x : FVec Ideal S18496x8x256 .f32) (i : S18496x8x256.Idx) : scaled x i = (Scale.c : EReal) * x i := div_div (x i)
theorem flat_apply (x : FVec Ideal S18496x8x256 .f32) (i : Fin 18496) (h : Fin 8) (e : Fin 256) :
    flat x (ix2 i ⟨256 * h.val + e.val, by omega⟩) = x (ix3 i h e) := by
  pointwise [flat]
  blk_ext []

end Cert.MlaRefIdeal.Proj
end
-- ==== Proof.Proj.Mla.lean ====
/-
  The claims of the latent attention's projections.
-/
module
public import proofs.«01_k».proof.Defs
public import proofs.«01_k».proof.Proof.Proj.MlaRef
public import proofs.«01_k».proof.Proof.Gen.MlaRefIdeal.Run
public import proofs.«01_k».proof.Proof.Gen.Mla.Frame
public import Idealize.ShloMosaic.Adequacy
public import Idealize.ShloMosaic.Init
@[expose] public section
set_option maxRecDepth 16384
noncomputable section
open Idealize.ShloMosaic Idealize.ShloMosaic.TcCoe Idealize.SL.Sem

namespace Cert.Spec.Mla

theorem turn_lo (d : Fin 64) : turn ⟨d.val, by omega⟩ = ⟨64 + d.val, by omega⟩ := Fin.ext (by show (d.val + 128 - 64) % 128 = 64 + d.val; omega)

theorem kpe_lo (u : Fin 1536 → EReal) (t : Fin 128 → EReal) (d : Fin 64) :
    kpe u t ⟨d.val, by omega⟩ = u ⟨1280 + d.val, by omega⟩ * t ⟨d.val, by omega⟩ + u ⟨1344 + d.val, by omega⟩ * t ⟨64 + d.val, by omega⟩ := by
  refine (if_pos (show d.val < 64 from d.isLt)).trans (congrArg₂ (· + ·) rfl (congrArg₂ (· * ·) (congrArg u (Fin.ext ?_)) (congrArg t (turn_lo d))))
  show 1280 + (turn ⟨d.val, _⟩).val = 1344 + d.val
  rw [turn_lo]
  show 1280 + (64 + d.val) = 1344 + d.val
  omega

theorem kpe_hi (u : Fin 1536 → EReal) (t : Fin 128 → EReal) (d : Fin 64) : kpe u t ⟨64 + d.val, by omega⟩ = 0 :=
  if_neg (show ¬ 64 + d.val < 64 by omega)

theorem q_plain (κ : EReal) (u : Fin 1536 → EReal) (t : Fin 128 → EReal) (g : Fin 768 → EReal) (wa : Fin 768 → Fin 2048 → EReal) (wb : Fin 768 → Fin 1024 → EReal)
    (h : Fin 8) (e : Fin 128) : q κ u t g wa wb ⟨256 * h.val + e.val, by omega⟩ = (∑ k : Fin 768, cq u g k * wa k ⟨256 * h.val + e.val, by omega⟩) * κ :=
  if_pos (show (256 * h.val + e.val) % 256 < 128 by omega)

theorem q_rot (κ : EReal) (u : Fin 1536 → EReal) (t : Fin 128 → EReal) (g : Fin 768 → EReal) (wa : Fin 768 → Fin 2048 → EReal) (wb : Fin 768 → Fin 1024 → EReal)
    (h : Fin 8) (d : Fin 128) : q κ u t g wa wb ⟨256 * h.val + 128 + d.val, by omega⟩
      = (∑ k : Fin 768, cq u g k * wa k ⟨256 * h.val + 128 + d.val, by omega⟩) * (t d * κ)
        + (∑ k : Fin 768, cq u g k * wb k ⟨128 * h.val + d.val, by omega⟩) * (t (turn d) * κ) := by
  refine (if_neg (show ¬ (256 * h.val + 128 + d.val) % 256 < 128 by omega)).trans ?_
  have e : (⟨(256 * h.val + 128 + d.val) % 128, by omega⟩ : Fin 128) = d := Fin.ext (by show _ % _ = _; omega)
  have e' : (⟨128 * ((256 * h.val + 128 + d.val) / 256) + (256 * h.val + 128 + d.val) % 128, by omega⟩ : Fin 1024) = ⟨128 * h.val + d.val, by omega⟩ :=
    Fin.ext (by show 128 * ((256 * h.val + 128 + d.val) / 256) + (256 * h.val + 128 + d.val) % 128 = 128 * h.val + d.val; omega)
  show _ * (t ⟨_ % 128, _⟩ * κ) + (∑ k : Fin 768, cq u g k * wb k ⟨_, _⟩) * (t (turn ⟨_ % 128, _⟩) * κ) = _
  rw [e, e']

theorem k_plain (u : Fin 1536 → EReal) (t : Fin 128 → EReal) (g : Fin 512 → EReal) (wk : Fin 512 → Fin 1024 → EReal) (h : Fin 8) (e : Fin 128) :
    k u t g wk ⟨256 * h.val + e.val, by omega⟩ = ∑ k : Fin 512, ckv u g k * wk k ⟨128 * h.val + e.val, by omega⟩ := by
  refine (if_pos (show (256 * h.val + e.val) % 256 < 128 by omega)).trans ?_
  have e' : (⟨128 * ((256 * h.val + e.val) / 256) + (256 * h.val + e.val) % 128, by omega⟩ : Fin 1024) = ⟨128 * h.val + e.val, by omega⟩ :=
    Fin.ext (by show 128 * ((256 * h.val + e.val) / 256) + (256 * h.val + e.val) % 128 = 128 * h.val + e.val; omega)
  show (∑ k : Fin 512, ckv u g k * wk k ⟨_, _⟩) = _
  rw [e']

theorem k_rot (u : Fin 1536 → EReal) (t : Fin 128 → EReal) (g : Fin 512 → EReal) (wk : Fin 512 → Fin 1024 → EReal) (h : Fin 8) (d : Fin 128) :
    k u t g wk ⟨256 * h.val + 128 + d.val, by omega⟩ = kpe u t d := by
  refine (if_neg (show ¬ (256 * h.val + 128 + d.val) % 256 < 128 by omega)).trans ?_
  exact congrArg (kpe u t) (Fin.ext (by show (256 * h.val + 128 + d.val) % 128 = d.val; omega))

/-- A turned pair's first lane, scaled after or before. -/
theorem scale_lo (x y C S : EReal) : (Scale.c : EReal) * (x * C - y * S) = x * (C * (Scale.c : EReal)) + y * (-S * (Scale.c : EReal)) := by
  rw [Scale.mul_sub_pos Scale.c_pos, sub_eq_add_neg, mul_comm _ (x * C), mul_comm _ (y * S), mul_assoc, mul_assoc, neg_mul, mul_neg]

/-- Its second lane. -/
theorem scale_hi (x y C S : EReal) : (Scale.c : EReal) * (x * S + y * C) = y * (C * (Scale.c : EReal)) + x * (S * (Scale.c : EReal)) := by
  rw [Scale.mul_add_pos Scale.c_pos, mul_comm _ (x * S), mul_comm _ (y * C), mul_assoc, mul_assoc, add_comm]

end Cert.Spec.Mla

namespace Cert.MlaRefIdeal.Proj
open Cert.MlaRefIdeal Cert.MlaRefIdeal.Gen

theorem qn_apply (y : FVec Ideal S18496x8x192 .f32) (i : Fin 18496) (h : Fin 8) (e : Fin 128) :
    extractStridedSlice S18496x8x128 ![0, 0, 0] y slices_S18496x8x192_S18496x8x128_0_0_0 (ix3 i h e) = y (ix3 i h ⟨e.val, by omega⟩) := by
  pointwise
theorem qp_apply (y : FVec Ideal S18496x8x192 .f32) (i : Fin 18496) (h : Fin 8) (e : Fin 64) :
    extractStridedSlice S18496x8x64 ![0, 0, 128] y slices_S18496x8x192_S18496x8x64_0_0_128 (ix3 i h e) = y (ix3 i h ⟨128 + e.val, by omega⟩) := by
  pointwise
theorem kn_apply (y : FVec Ideal S18496x8x256 .f32) (i : Fin 18496) (h : Fin 8) (e : Fin 128) :
    extractStridedSlice S18496x8x128 ![0, 0, 0] y slices_S18496x8x256_S18496x8x128_0_0_0 (ix3 i h e) = y (ix3 i h ⟨e.val, by omega⟩) := by
  pointwise
theorem spread_apply (r : FVec Ideal S18496x64 .f32) (i : Fin 18496) (h : Fin 8) (e : Fin 64) :
    broadcastInDim S18496x8x64 ![0, 1, 2] bcast_S18496x1x64_S18496x8x64_0_1_2 (broadcastInDim S18496x1x64 ![0, 2] bcast_S18496x64_S18496x1x64_0_2 r) (ix3 i h e) = r (ix2 i e) := by
  pointwise
theorem vlanes_apply (y : FVec Ideal S18496x8x256 .f32) (i : Fin 18496) (h : Fin 8) (e : Fin 128) :
    truncf (F := Ideal) .bf16 (shapeCast S18496x1024 (extractStridedSlice S18496x8x128 ![0, 0, 128] y slices_S18496x8x256_S18496x8x128_0_0_128) shapeCasts_S18496x8x128_S18496x1024) bitsLt_bf16_f32
      (ix2 i ⟨128 * h.val + e.val, by omega⟩) = y (ix3 i h ⟨128 + e.val, by omega⟩) := by
  pointwise
  blk_ext []
theorem zero : (FloatOps.sitofp (F := Ideal) FTy.f32 0#32 : EReal) = 0 := by
  show ((((0#32 : BitVec 32).toInt : ℤ) : ℝ) : EReal) = 0
  simp
/-- The rotary key, padded. -/
def padded (r : FVec Ideal S18496x64 .f32) : FVec Ideal S18496x128 .f32 :=
  pad S18496x128 ![0, 0] ![0, 64] ![0, 0] r (sitofp (F := Ideal) .f32 (constantI S_ 32 0#32)) pads_S18496x64_S18496x128_000_0640 h_S_
theorem padded_lo (r : FVec Ideal S18496x64 .f32) (i : Fin 18496) (e : Fin 64) : padded r (ix2 i ⟨e.val, by omega⟩) = r (ix2 i e) := by
  pointwise [padded]
theorem padded_hi (r : FVec Ideal S18496x64 .f32) (i : Fin 18496) (e : Fin 64) : padded r (ix2 i ⟨64 + e.val, by omega⟩) = 0 := by
  pointwise [padded]
  exact zero
end Cert.MlaRefIdeal.Proj

namespace Cert.MlaIdeal.Gen
open Cert.MlaIdeal Cert.Spec.Mla Cert.MlaRefIdeal.Proj
variable (m : (ℓ : Loc nD τ sig) → Buf (Elt Ideal) ℓ) (c : Dev nD)

theorem scale_eq : scale = ((Scale.c : ℝ) : EReal) := IdealRules.named_const.ideal_named_scalar _ _ _ _ rfl

/-- The arguments. -/
def A0 : FVec Ideal S18496x10592 .f32 := m ((c : Thread nD τ).loc main_arg0)
def A1 : FVec Ideal S2x768 .f32 := m ((c : Thread nD τ).loc main_arg1)
def A2 : FVec Ideal S2x768x1536 .f32 := m ((c : Thread nD τ).loc main_arg2)
def A3 : FVec Ideal S2x512 .f32 := m ((c : Thread nD τ).loc main_arg3)
def A4 : FVec Ideal S2x512x2048 .f32 := m ((c : Thread nD τ).loc main_arg4)

variable (i : Fin 18496)

theorem uRow_u (q : Fin 1344) : uRow m c i ⟨q.val, by omega⟩ = A0 m c (ix2 i ⟨9248 + q.val, by omega⟩) := by
  unfold uRow
  rw [V_u]
  exact packed_u _ i q
theorem uRow_r (q : Fin 32) : uRow m c i ⟨1344 + q.val, by omega⟩ = A0 m c (ix2 i ⟨9248 + (1280 + (32 + q.val)), by omega⟩) := by
  unfold uRow
  rw [V_u]
  refine Eq.trans (congrArg (fun j => packed _ (ix2 i j)) (Fin.ext ?_)) ((packed_r _ i q).trans (congrArg (fun j => A0 m c (ix2 i j)) (Fin.ext ?_)))
  · show 9216 + (1344 + q.val) = 10560 + q.val
    omega
  · show 10560 + q.val = 9248 + (1280 + (32 + q.val))
    omega
theorem uRow_s (q : Fin 32) : uRow m c i ⟨1344 + (32 + q.val), by omega⟩ = A0 m c (ix2 i ⟨9248 + (1280 + q.val), by omega⟩) := by
  unfold uRow
  rw [V_u]
  refine Eq.trans (congrArg (fun j => packed _ (ix2 i j)) (Fin.ext ?_)) ((packed_s _ i q).trans (congrArg (fun j => A0 m c (ix2 i j)) (Fin.ext ?_)))
  · show 9216 + (1344 + (32 + q.val)) = 10592 + q.val
    omega
  · show 10528 + q.val = 9248 + (1280 + q.val)
    omega
theorem tRow_0 (q : Fin 32) : tRow m c i ⟨q.val, by omega⟩ = Host.cos angle (ix2 i q) := by
  unfold tRow
  rw [V_t]
  exact table0 _ i q
theorem tRow_1 (q : Fin 32) : tRow m c i ⟨32 + q.val, by omega⟩ = Host.cos angle (ix2 i q) := by
  unfold tRow
  rw [V_t]
  exact table1 _ i q
theorem tRow_2 (q : Fin 32) : tRow m c i ⟨64 + q.val, by omega⟩ = -(Host.sin angle (ix2 i q) : EReal) := by
  unfold tRow
  rw [V_t]
  exact table2 _ i q
theorem tRow_3 (q : Fin 32) : tRow m c i ⟨64 + (32 + q.val), by omega⟩ = Host.sin angle (ix2 i q) := by
  unfold tRow
  rw [V_t]
  refine Eq.trans (congrArg (fun j => table _ (ix2 i j)) (Fin.ext ?_)) (table3 _ i q)
  show 64 + (32 + q.val) = 96 + q.val
  omega

theorem cq_eq (k : Fin 768) : cq (uRow m c i) (gq m c) k = cqs (A0 m c) (A1 m c) (ix2 i k) :=
  (rms_congr (fun k => uRow_u m c i ⟨k.val, by omega⟩) (gq_apply m c k) k).trans (cqs_apply _ _ i k).symm
theorem ckv_eq (k : Fin 512) : ckv (uRow m c i) (gkv m c) k = ckvs (A0 m c) (A3 m c) (ix2 i k) :=
  (rms_congr (fun k => uRow_u m c i ⟨768 + k.val, by omega⟩) (gkv_apply m c k) k).trans (ckvs_apply _ _ i k).symm

theorem kpe_eq (e : Fin 64) : kpe (uRow m c i) (tRow m c i) ⟨e.val, by omega⟩ = rope (kr (A0 m c)) Cert.MlaRefIdeal.Proj.angle (ix2 i e) := by
  rw [angle_eq]
  refine (kpe_lo _ _ e).trans ?_
  by_cases he : e.val < 32
  · obtain ⟨d, hd, rfl⟩ : ∃ (d : Fin 32) (hd : d.val < 64), e = ⟨d.val, hd⟩ := ⟨⟨e.val, he⟩, e.isLt, rfl⟩
    refine Eq.trans ?_ (rope_lo _ _ i d).symm
    rw [kr_apply, kr_apply, sub_eq_add_neg, ← mul_neg]
    exact congrArg₂ (· + ·) (congrArg₂ (· * ·) (uRow_u m c i ⟨1280 + d.val, by omega⟩) (tRow_0 m c i d)) (congrArg₂ (· * ·) (uRow_r m c i d) (tRow_2 m c i d))
  · obtain ⟨d, hd, rfl⟩ : ∃ (d : Fin 32) (hd : 32 + d.val < 64), e = ⟨32 + d.val, hd⟩ := ⟨⟨e.val - 32, by omega⟩, by dsimp only; omega, Fin.ext (by show e.val = 32 + (e.val - 32); omega)⟩
    refine Eq.trans ?_ (rope_hi _ _ i d).symm
    rw [kr_apply, kr_apply, add_comm]
    exact congrArg₂ (· + ·) (congrArg₂ (· * ·) (uRow_s m c i d) (tRow_3 m c i d)) (congrArg₂ (· * ·) (uRow_u m c i ⟨1280 + (32 + d.val), by omega⟩) (tRow_1 m c i d))

theorem wa_np (k : Fin 768) (h : Fin 8) (e : Fin 128) : wa m c k ⟨256 * h.val + e.val, by omega⟩ = A2 m c (ix3 0 k ⟨192 * h.val + e.val, by omega⟩) := by
  unfold wa
  rw [V_wa]
  exact (heads_np _ _ _ k h e).trans (np_apply _ k h e)
theorem wa_pe (k : Fin 768) (h : Fin 8) (e : Fin 64) : wa m c k ⟨256 * h.val + 128 + e.val, by omega⟩ = A2 m c (ix3 0 k ⟨192 * h.val + (128 + e.val), by omega⟩) := by
  unfold wa
  rw [V_wa]
  exact (heads_pe _ _ _ k h e).trans (pe_apply _ k h e)
theorem wa_zs (k : Fin 768) (h : Fin 8) (e : Fin 64) : wa m c k ⟨256 * h.val + 128 + (64 + e.val), by omega⟩ = 0 := by
  unfold wa
  rw [V_wa]
  refine Eq.trans (congrArg (fun j => heads _ _ _ (ix2 k j)) (Fin.ext ?_)) ((heads_zs _ _ _ k h e).trans (zs_apply _))
  show 256 * h.val + 128 + (64 + e.val) = 256 * h.val + 192 + e.val
  omega
theorem wb_lo (k : Fin 768) (h : Fin 8) (e : Fin 32) : wb m c k ⟨128 * h.val + e.val, by omega⟩ = A2 m c (ix3 0 k ⟨192 * h.val + (128 + (32 + e.val)), by omega⟩) := by
  unfold wb
  rw [V_wb]
  exact (turned_pe _ _ k h ⟨e.val, by omega⟩).trans ((swap_lo _ k h e).trans (pe_apply _ k h _))
theorem wb_hi (k : Fin 768) (h : Fin 8) (e : Fin 32) : wb m c k ⟨128 * h.val + (32 + e.val), by omega⟩ = A2 m c (ix3 0 k ⟨192 * h.val + (128 + e.val), by omega⟩) := by
  unfold wb
  rw [V_wb]
  exact (turned_pe _ _ k h ⟨32 + e.val, by omega⟩).trans ((swap_hi _ k h e).trans (pe_apply _ k h _))
theorem wb_zs (k : Fin 768) (h : Fin 8) (e : Fin 64) : wb m c k ⟨128 * h.val + (64 + e.val), by omega⟩ = 0 := by
  unfold wb
  rw [V_wb]
  refine Eq.trans (congrArg (fun j => turned _ _ (ix2 k j)) (Fin.ext ?_)) ((turned_zs _ _ k h e).trans (zs_apply _))
  show 128 * h.val + (64 + e.val) = 128 * h.val + 64 + e.val
  omega

/-- A head's query before its turn. -/
def y (h : Fin 8) (e : Fin 192) : EReal := qs (cqs (A0 m c) (A1 m c)) (A2 m c) (ix3 i h e)

theorem sum_q (h : Fin 8) (e : Fin 192) (f : Fin 768 → EReal) (hf : ∀ k, f k = A2 m c (ix3 0 k ⟨192 * h.val + e.val, by omega⟩)) :
    ∑ k : Fin 768, cq (uRow m c i) (gq m c) k * f k = y m c i h e :=
  (Finset.sum_congr rfl fun k _ => congrArg₂ (· * ·) (cq_eq m c i k) (hf k)).trans (qs_apply _ _ i h e).symm
theorem sum_z (f : Fin 768 → EReal) (hf : ∀ k, f k = 0) : ∑ k : Fin 768, cq (uRow m c i) (gq m c) k * f k = 0 :=
  Finset.sum_eq_zero fun k _ => by rw [hf, mul_zero]

theorem q_0 (h : Fin 8) (e : Fin 128) : qRef (A0 m c) (A1 m c) (A2 m c) (ix2 i ⟨256 * h.val + e.val, by omega⟩)
    = q scale (uRow m c i) (tRow m c i) (gq m c) (wa m c) (wb m c) ⟨256 * h.val + e.val, by omega⟩ := by
  refine (flat_apply _ i h ⟨e.val, by omega⟩).trans ((scaled_apply _ _).trans ?_)
  rw [lanes_n, qn_apply, q_plain, sum_q m c i h ⟨e.val, by omega⟩ _ (fun k => wa_np m c k h e), scale_eq, mul_comm]
  rfl
theorem q_1 (h : Fin 8) (e : Fin 32) : qRef (A0 m c) (A1 m c) (A2 m c) (ix2 i ⟨256 * h.val + (128 + e.val), by omega⟩)
    = q scale (uRow m c i) (tRow m c i) (gq m c) (wa m c) (wb m c) ⟨256 * h.val + 128 + e.val, by omega⟩ := by
  refine (flat_apply _ i h ⟨128 + e.val, by omega⟩).trans ((scaled_apply _ _).trans ?_)
  refine (congrArg _ ((lanes_r _ _ i h ⟨e.val, by omega⟩).trans (ropes_lo _ _ _ i h e))).trans ?_
  rw [qp_apply, qp_apply, angle_eq]
  refine (scale_lo _ _ _ _).trans (Eq.trans ?_ (q_rot _ _ _ _ _ _ h ⟨e.val, by omega⟩).symm)
  rw [turn_lo ⟨e.val, by omega⟩, scale_eq, sum_q m c i h ⟨128 + e.val, by omega⟩ _ (fun k => wa_pe m c k h ⟨e.val, by omega⟩),
    sum_q m c i h ⟨128 + (32 + e.val), by omega⟩ _ (fun k => wb_lo m c k h e), tRow_0 m c i e, tRow_2 m c i e]
  rfl
theorem q_2 (h : Fin 8) (e : Fin 32) : qRef (A0 m c) (A1 m c) (A2 m c) (ix2 i ⟨256 * h.val + (128 + (32 + e.val)), by omega⟩)
    = q scale (uRow m c i) (tRow m c i) (gq m c) (wa m c) (wb m c) ⟨256 * h.val + 128 + (32 + e.val), by omega⟩ := by
  refine (flat_apply _ i h ⟨128 + (32 + e.val), by omega⟩).trans ((scaled_apply _ _).trans ?_)
  refine (congrArg _ ((lanes_r _ _ i h ⟨32 + e.val, by omega⟩).trans (ropes_hi _ _ _ i h e))).trans ?_
  rw [qp_apply, qp_apply, angle_eq]
  refine (scale_hi _ _ _ _).trans (Eq.trans ?_ (q_rot _ _ _ _ _ _ h ⟨32 + e.val, by omega⟩).symm)
  rw [turn_lo ⟨32 + e.val, by omega⟩, scale_eq, sum_q m c i h ⟨128 + (32 + e.val), by omega⟩ _ (fun k => wa_pe m c k h ⟨32 + e.val, by omega⟩),
    sum_q m c i h ⟨128 + e.val, by omega⟩ _ (fun k => wb_hi m c k h e), tRow_1 m c i e, tRow_3 m c i e]
  rfl
theorem q_3 (h : Fin 8) (e : Fin 64) : qRef (A0 m c) (A1 m c) (A2 m c) (ix2 i ⟨256 * h.val + (192 + e.val), by omega⟩)
    = q scale (uRow m c i) (tRow m c i) (gq m c) (wa m c) (wb m c) ⟨256 * h.val + 128 + (64 + e.val), by omega⟩ := by
  refine (flat_apply _ i h ⟨192 + e.val, by omega⟩).trans ((scaled_apply _ _).trans ?_)
  refine (congrArg _ (lanes_z _ _ i h e)).trans (Eq.trans ?_ (q_rot _ _ _ _ _ _ h ⟨64 + e.val, by omega⟩).symm)
  rw [sum_z m c i _ (fun k => wa_zs m c k h e), sum_z m c i _ (fun k => wb_zs m c k h e), mul_zero, zero_mul, zero_mul, add_zero]

theorem q_eq (n : Fin 2048) : qRef (A0 m c) (A1 m c) (A2 m c) (ix2 i n) = qRows m c (ix2 i n) := by
  show _ = q scale (uRow m c i) (tRow m c i) (gq m c) (wa m c) (wb m c) n
  obtain ⟨h, e, he, rfl⟩ : ∃ (h : Fin 8) (e : Fin 256) (he : 256 * h.val + e.val < 2048), n = ⟨256 * h.val + e.val, he⟩ :=
    ⟨⟨n.val / 256, by omega⟩, ⟨n.val % 256, by omega⟩, by dsimp only; omega, Fin.ext (by dsimp only; omega)⟩
  by_cases h0 : e.val < 128
  · exact q_0 m c i h ⟨e.val, h0⟩
  by_cases h1 : e.val < 160
  · have e1 : 256 * h.val + (128 + (e.val - 128)) = 256 * h.val + e.val := by omega
    have e2 : 256 * h.val + 128 + (e.val - 128) = 256 * h.val + e.val := by omega
    have := q_1 m c i h ⟨e.val - 128, by omega⟩
    simp only [e1, e2] at this
    exact this
  by_cases h2 : e.val < 192
  · have e1 : 256 * h.val + (128 + (32 + (e.val - 160))) = 256 * h.val + e.val := by omega
    have e2 : 256 * h.val + 128 + (32 + (e.val - 160)) = 256 * h.val + e.val := by omega
    have := q_2 m c i h ⟨e.val - 160, by omega⟩
    simp only [e1, e2] at this
    exact this
  · have e1 : 256 * h.val + (192 + (e.val - 192)) = 256 * h.val + e.val := by omega
    have e2 : 256 * h.val + 128 + (64 + (e.val - 192)) = 256 * h.val + e.val := by omega
    have := q_3 m c i h ⟨e.val - 192, by omega⟩
    simp only [e1, e2] at this
    exact this

theorem kpeRows_eq (d : Fin 128) : kpeRef (A0 m c) (ix2 i d) = kpeRows m c (ix2 i d) := by
  show padded (rope (kr (A0 m c)) Cert.MlaRefIdeal.Proj.angle) (ix2 i d) = kpe (uRow m c i) (tRow m c i) d
  by_cases hd : d.val < 64
  · exact (padded_lo _ i ⟨d.val, hd⟩).trans (kpe_eq m c i ⟨d.val, hd⟩).symm
  · obtain ⟨e, he, rfl⟩ : ∃ (e : Fin 64) (he : 64 + e.val < 128), d = ⟨64 + e.val, he⟩ := ⟨⟨d.val - 64, by omega⟩, by dsimp only; omega, Fin.ext (by show d.val = 64 + (d.val - 64); omega)⟩
    exact (padded_hi _ i e).trans (kpe_hi _ _ e).symm

theorem sum_k (h : Fin 8) (e : Fin 256) (f : Fin 512 → EReal) (hf : ∀ k, f k = A4 m c (ix3 0 k ⟨256 * h.val + e.val, by omega⟩)) :
    ∑ k : Fin 512, ckv (uRow m c i) (gkv m c) k * f k = kvs (ckvs (A0 m c) (A3 m c)) (A4 m c) (ix3 i h e) :=
  (Finset.sum_congr rfl fun k _ => congrArg₂ (· * ·) (ckv_eq m c i k) (hf k)).trans (kvs_apply _ _ i h e).symm

theorem k_0 (h : Fin 8) (e : Fin 128) : kRef (A0 m c) (A3 m c) (A4 m c) (ix2 i ⟨256 * h.val + e.val, by omega⟩)
    = k (uRow m c i) (tRow m c i) (gkv m c) (wk m c) ⟨256 * h.val + e.val, by omega⟩ := by
  refine (flat_apply _ i h ⟨e.val, by omega⟩).trans ?_
  rw [lanes_n, kn_apply, k_plain, sum_k m c i h ⟨e.val, by omega⟩ _ (fun k => wk_apply m c k h e)]
theorem k_1 (h : Fin 8) (e : Fin 64) : kRef (A0 m c) (A3 m c) (A4 m c) (ix2 i ⟨256 * h.val + (128 + e.val), by omega⟩)
    = k (uRow m c i) (tRow m c i) (gkv m c) (wk m c) ⟨256 * h.val + 128 + e.val, by omega⟩ := by
  refine (flat_apply _ i h ⟨128 + e.val, by omega⟩).trans ((lanes_r _ _ i h e).trans ((spread_apply _ i h e).trans ?_))
  exact (kpe_eq m c i e).symm.trans (k_rot _ _ _ _ h ⟨e.val, by omega⟩).symm
theorem k_2 (h : Fin 8) (e : Fin 64) : kRef (A0 m c) (A3 m c) (A4 m c) (ix2 i ⟨256 * h.val + (192 + e.val), by omega⟩)
    = k (uRow m c i) (tRow m c i) (gkv m c) (wk m c) ⟨256 * h.val + 128 + (64 + e.val), by omega⟩ := by
  refine (flat_apply _ i h ⟨192 + e.val, by omega⟩).trans ((lanes_z _ _ i h e).trans ?_)
  exact (kpe_hi _ _ e).symm.trans (k_rot _ _ _ _ h ⟨64 + e.val, by omega⟩).symm

theorem k_eq (n : Fin 2048) : kRef (A0 m c) (A3 m c) (A4 m c) (ix2 i n) = kRows m c (ix2 i n) := by
  show _ = k (uRow m c i) (tRow m c i) (gkv m c) (wk m c) n
  obtain ⟨h, e, he, rfl⟩ : ∃ (h : Fin 8) (e : Fin 256) (he : 256 * h.val + e.val < 2048), n = ⟨256 * h.val + e.val, he⟩ :=
    ⟨⟨n.val / 256, by omega⟩, ⟨n.val % 256, by omega⟩, by dsimp only; omega, Fin.ext (by dsimp only; omega)⟩
  by_cases h0 : e.val < 128
  · exact k_0 m c i h ⟨e.val, h0⟩
  by_cases h1 : e.val < 192
  · have e1 : 256 * h.val + (128 + (e.val - 128)) = 256 * h.val + e.val := by omega
    have e2 : 256 * h.val + 128 + (e.val - 128) = 256 * h.val + e.val := by omega
    have := k_1 m c i h ⟨e.val - 128, by omega⟩
    simp only [e1, e2] at this
    exact this
  · have e1 : 256 * h.val + (192 + (e.val - 192)) = 256 * h.val + e.val := by omega
    have e2 : 256 * h.val + 128 + (64 + (e.val - 192)) = 256 * h.val + e.val := by omega
    have := k_2 m c i h ⟨e.val - 192, by omega⟩
    simp only [e1, e2] at this
    exact this

theorem v_eq (n : Fin 1024) : vRef (A0 m c) (A3 m c) (A4 m c) (ix2 i n) = vRows m c (ix2 i n) := by
  show _ = v (uRow m c i) (gkv m c) (wv m c) n
  obtain ⟨h, e, he, rfl⟩ : ∃ (h : Fin 8) (e : Fin 128) (he : 128 * h.val + e.val < 1024), n = ⟨128 * h.val + e.val, he⟩ :=
    ⟨⟨n.val / 128, by omega⟩, ⟨n.val % 128, by omega⟩, by dsimp only; omega, Fin.ext (by dsimp only; omega)⟩
  exact (vlanes_apply _ i h e).trans (sum_k m c i h ⟨128 + e.val, by omega⟩ _ (fun k => wv_apply m c k h e)).symm

end Cert.MlaIdeal.Gen

namespace Cert.Proj.Mla

theorem frame_p : Cert.quiescent_Mla := fun m ρ _ => Cert.Mla.Gen.frame m ρ
theorem frame_pi : Cert.quiescent_MlaIdeal := fun m ρ _ => Cert.MlaIdeal.Gen.frame m ρ
theorem frame_ri : Cert.quiescent_MlaRefIdeal := fun m ρ _ =>
  (θ_run Cert.MlaRefIdeal.defs _ _).mono (fun r h => ⟨fun c => (h c).2.2.2.2.2, Idealize.ShloMosaic.sem_eq_zero_of_no_sems (by decide) r.2⟩)
    (Cert.MlaRefIdeal.Value.run (F := Ideal) m ρ)

/-- The queries' scale, named in place of its rounding. -/
theorem preserves : Cert.preserves_Mla_MlaIdeal :=
  IdealRules.named_const.statement Cert.MlaIdeal.κ "qscale" .f32 0x3DD53B95#32 (((Real.sqrt 192)⁻¹ * (Real.log 2)⁻¹ : ℝ) : EReal) rfl

theorem algebraic : Cert.algebraic_MlaIdeal_MlaRefIdeal := by
  intro m ρ m' ρ' _ hagree
  refine ⟨_, _, _, _, _, Cert.MlaIdeal.Value.run_blocks m ρ, ?_⟩
  refine (θ_run Cert.MlaRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.MlaRefIdeal.Value.run (F := Ideal) m' ρ')
  all_goals obtain ⟨h0, h1, h2, h3, h4⟩ := hagree c
  · rw [Cert.MlaIdeal.Gen.final_q, Cert.MlaRefIdeal.Proj.q_term, h0, h1, h2]
    refine funext fun (i : (⟨2, ![18496, 2048]⟩ : Shape).Idx) => ?_
    rw [show i = ix2 (i 0) (i 1) from by pointwise]
    exact Cert.MlaIdeal.Gen.q_eq m c (i 0) (i 1)
  · rw [Cert.MlaIdeal.Gen.final_ckv, h0, h3]
    refine funext fun (i : (⟨2, ![18496, 512]⟩ : Shape).Idx) => ?_
    rw [show i = ix2 (i 0) (i 1) from by pointwise]
    exact (Cert.MlaIdeal.Gen.ckv_eq m c (i 0) (i 1)).symm
  · rw [Cert.MlaIdeal.Gen.final_kpe, Cert.MlaRefIdeal.Proj.kpe_term, h0]
    refine funext fun (i : (⟨2, ![18496, 128]⟩ : Shape).Idx) => ?_
    rw [show i = ix2 (i 0) (i 1) from by pointwise]
    exact Cert.MlaIdeal.Gen.kpeRows_eq m c (i 0) (i 1)
  · rw [Cert.MlaIdeal.Gen.final_k, Cert.MlaRefIdeal.Proj.k_term, h0, h3, h4]
    refine funext fun (i : (⟨2, ![18496, 2048]⟩ : Shape).Idx) => ?_
    rw [show i = ix2 (i 0) (i 1) from by pointwise]
    exact Cert.MlaIdeal.Gen.k_eq m c (i 0) (i 1)
  · rw [Cert.MlaIdeal.Gen.final_v, h0, h3, h4]
    refine funext fun (i : (⟨2, ![18496, 1024]⟩ : Shape).Idx) => ?_
    rw [show i = ix2 (i 0) (i 1) from by pointwise]
    exact Cert.MlaIdeal.Gen.v_eq m c (i 0) (i 1)

end Cert.Proj.Mla
end
-- ==== Proof.Conv.Shift.lean ====
/-
  The shift matrix: each row has ones at the columns whose entries it sums, zeros elsewhere.
-/
module
public import proofs.«01_k».proof.Proof.Gen.ActIdeal
public import Idealize.ShloMosaic.PureOps.Ideal
@[expose] public section
set_option maxRecDepth 16384
noncomputable section
open Idealize.ShloMosaic
namespace Cert.ActIdeal.Conv
open Cert.ActIdeal Cert.ActIdeal.Gen

/-- Whether row `r` sums column `k`. -/
abbrev sel (r k : Nat) : Bool :=
  if r < 64 then (if r = 0 then 3 ≤ k && k < 6 else k = r + 15)
  else if r < 128 then (if r = 64 then k < 3 else if r = 65 then 3 ≤ k && k < 6 else k + 50 = r)
  else (r = 128 && k = 78) || (r = 131 && k = 79)

theorem table : ∀ n : Fin 11520, lit0 n = if sel (n.val / 80) (n.val % 80) then 0x3F80#16 else 0#16 := by decide +kernel

end Cert.ActIdeal.Conv
end
-- ==== Proof.Conv.Block.lean ====
/-
  The convolution's body at a grid point: the shifted frames, and the gated sum of three of them.
-/
module
public import proofs.«01_k».proof.Proof.Gen.ActIdeal.Value
public import proofs.«01_k».proof.Proof.Conv.Shift
public import Idealize.ShloMosaic.Lib.Pipeline.ValueKit
public import Idealize.ShloMosaic.Lib.Pipeline.ReadBack
public import Idealize.ShloMosaic.Lib.WritesUnit
@[expose] public section
set_option maxRecDepth 16384
noncomputable section
open Idealize.ShloMosaic Idealize.ShloMosaic.TcCoe Idealize.SL.Sem
namespace Cert.ActIdeal.Conv
open Cert.ActIdeal Cert.ActIdeal.Gen

theorem sum_one (p : Fin 80 → Prop) [DecidablePred p] (f : Fin 80 → EReal) (a : Fin 80) (h : ∀ k, p k ↔ k = a) :
    ∑ k, (if p k then (1 : EReal) else 0) * f k = f a := by
  simp [h, ite_mul]

theorem sum_three (p : Fin 80 → Prop) [DecidablePred p] (f : Fin 80 → EReal) (a b c : Fin 80) (hab : a ≠ b) (hac : a ≠ c) (hbc : b ≠ c)
    (h : ∀ k, p k ↔ k = a ∨ k = b ∨ k = c) :
    ∑ k, (if p k then (1 : EReal) else 0) * f k = f a + (f b + f c) := by
  have e : ∀ k, (if p k then (1 : EReal) else 0) * f k = if k ∈ ({a, b, c} : Finset (Fin 80)) then f k else 0 := by
    intro k
    by_cases hk : p k
    · rw [if_pos hk, one_mul, if_pos (by simpa using (h k).mp hk)]
    · rw [if_neg hk, zero_mul, if_neg (by simpa using fun h' => hk ((h k).mpr h'))]
  rw [Finset.sum_congr rfl fun k _ => e k, Finset.sum_ite_mem, Finset.univ_inter, Finset.sum_insert (by simp [hab, hac]),
    Finset.sum_insert (by simp [hbc]), Finset.sum_singleton]

/-- The remainders of a finite number are zero. -/
theorem parts {x : EReal} (h : x ≠ ⊤) (h' : x ≠ ⊥) : x + ((x - x) + (x - x - (x - x))) = x := by
  lift x to ℝ using ⟨h, h'⟩
  norm_cast
  ring

variable (i : grid0.Coords) (x0 : FVec Ideal S64x11264 .bf16) (x1 : FVec Ideal S64x11264 .bf16) (x2 : FVec Ideal S1x2x11264 .f32)
  (x3 : FVec Ideal S3x11264 .f32) (x4 : FVec Ideal S144x80 .bf16) (T : FVec Ideal S16x11264 .f32)

/-- Six rows stored one by one over a filled scratch. -/
def stored (p0 p1 p2 p3 p4 p5 : FVec Ideal S1x11264 .f32) (z : FVec Ideal S16x11264 .f32) : FVec Ideal S16x11264 .f32 :=
  View.readCov (Val := Elt Ideal) (s := S16x11264) (e := .f32) (View.whole cc0_scratch0)
    [⟨Rect.unit ![5, 0] ![1, 11264] inb_S16x11264_S1x11264_5_0, p5⟩,
      ⟨Rect.unit ![4, 0] ![1, 11264] inb_S16x11264_S1x11264_4_0, p4⟩,
      ⟨Rect.unit ![3, 0] ![1, 11264] inb_S16x11264_S1x11264_3_0, p3⟩,
      ⟨Rect.unit ![2, 0] ![1, 11264] inb_S16x11264_S1x11264_2_0, p2⟩,
      ⟨Rect.unit ![1, 0] ![1, 11264] inb_S16x11264_S1x11264_1_0, p1⟩,
      ⟨Rect.unit ![0, 0] ![1, 11264] inb_S16x11264_S1x11264_0_0, p0⟩,
      ⟨Rect.unit ![0, 0] ![16, 11264] inb_S16x11264_S16x11264_0_0, z⟩]
    (Rect.unit (s := S16x11264) ![0, 0] ![16, 11264] inb_S16x11264_S16x11264_0_0).toLoadRect

/-- The scratch's rows: each state row as its three parts. -/
def tail : FVec Ideal S16x11264 .f32 :=
  stored (k0_pay10 (F := Ideal) x2) (k0_pay11 (F := Ideal) x2) (k0_pay12 (F := Ideal) x2) (k0_pay13 (F := Ideal) x2) (k0_pay14 (F := Ideal) x2)
    (k0_pay16 (F := Ideal) (k0_pay15 x2)) (k0_pay9 (F := Ideal))

theorem hi0 (j : Fin 11264) : k0_pay10 (F := Ideal) x2 (ix2 0 j) = x2 (ix3 0 0 j) := by pointwise [k0_pay10, k0_pay5, k0_pay4]
theorem mid0 (j : Fin 11264) : k0_pay11 (F := Ideal) x2 (ix2 0 j) = x2 (ix3 0 0 j) - x2 (ix3 0 0 j) := by pointwise [k0_pay11, k0_pay7, k0_pay6, k0_pay5, k0_pay4]
theorem lo0 (j : Fin 11264) : k0_pay12 (F := Ideal) x2 (ix2 0 j) = x2 (ix3 0 0 j) - x2 (ix3 0 0 j) - (x2 (ix3 0 0 j) - x2 (ix3 0 0 j)) := by pointwise [k0_pay12, k0_pay8, k0_pay7, k0_pay6, k0_pay5, k0_pay4]
theorem hi1 (j : Fin 11264) : k0_pay13 (F := Ideal) x2 (ix2 0 j) = x2 (ix3 0 1 j) := by pointwise [k0_pay13, k0_pay5, k0_pay4]
theorem mid1 (j : Fin 11264) : k0_pay14 (F := Ideal) x2 (ix2 0 j) = x2 (ix3 0 1 j) - x2 (ix3 0 1 j) := by pointwise [k0_pay14, k0_pay7, k0_pay6, k0_pay5, k0_pay4]
theorem lo1 (j : Fin 11264) : k0_pay16 (F := Ideal) (k0_pay15 (F := Ideal) x2) (ix2 0 j) = x2 (ix3 0 1 j) - x2 (ix3 0 1 j) - (x2 (ix3 0 1 j) - x2 (ix3 0 1 j)) := by pointwise [k0_pay16, k0_pay15, k0_pay8, k0_pay7, k0_pay6, k0_pay5, k0_pay4]

/-- A box that starts at the origin reads a scratch's rows as they are. -/
theorem box (r : Fin 16) (j : Fin 11264) :
    (Rect.unit (s := S16x11264) ![0, 0] ![16, 11264] inb_S16x11264_S16x11264_0_0).toLoadRect.idx (ix2 r j) = ix2 r j := by
  pointwise

/-- A stored row reads back as it was. -/
theorem hit {sig : RefSig} {κ : Kind} {sp : Space} (v : View sig κ sp S16x11264 .f32) (f : v.ty.Contents (Elt Ideal)) {off : Fin 2 → Nat}
    (inb : ∀ a : Fin 2, off a + (![1, 11264] : Fin 2 → Nat) a ≤ S16x11264.size a) (w : FVec Ideal S1x11264 .f32)
    (L : List (View.Piece (Elt Ideal) S16x11264 .f32)) (r : Fin 16) (j : Fin 11264) (h : off = ![r.val, 0]) :
    v.read (Elt Ideal) (v.writes (Elt Ideal) f (⟨Rect.unit (s := S16x11264) off ![1, 11264] inb, w⟩ :: L)) (ix2 r j) = w (ix2 0 j) := by
  have hx : ∀ a : Fin 2, ((ix2 r j : S16x11264.Idx) a).val = (![r.val, 0] : Fin 2 → Nat) a + ((ix2 0 j : S1x11264.Idx) a).val := by
    refine Fin.forall_fin_two.mpr ⟨?_, ?_⟩
    · show r.val = r.val + 0
      rfl
    · show j.val = 0 + j.val
      exact (Nat.zero_add _).symm
  exact View.read_writes_cons_unit_of_mem v f inb w L (ix2 r j) (show S1x11264.Idx from ix2 0 j) h hx

section
variable (p0 p1 p2 p3 p4 p5 : FVec Ideal S1x11264 .f32) (z : FVec Ideal S16x11264 .f32) (j : Fin 11264)

theorem stored5 : stored p0 p1 p2 p3 p4 p5 z (ix2 5 j) = p5 (ix2 0 j) := by
  unfold stored View.readCov
  rw [View.readAt_apply, box]
  exact hit _ _ _ p5 _ 5 j rfl
theorem stored4 : stored p0 p1 p2 p3 p4 p5 z (ix2 4 j) = p4 (ix2 0 j) := by
  unfold stored View.readCov
  rw [View.readAt_apply, box]
  refine (View.read_writes_cons_rows_of_not_mem (o := 5) (W := 1) _ _ _ _ _ _ rfl rfl (.inl (show 4 < 5 by decide))).trans ?_
  exact hit _ _ _ p4 _ 4 j rfl
theorem stored3 : stored p0 p1 p2 p3 p4 p5 z (ix2 3 j) = p3 (ix2 0 j) := by
  unfold stored View.readCov
  rw [View.readAt_apply, box]
  refine (View.read_writes_cons_rows_of_not_mem (o := 5) (W := 1) _ _ _ _ _ _ rfl rfl (.inl (show 3 < 5 by decide))).trans ?_
  refine (View.read_writes_cons_rows_of_not_mem (o := 4) (W := 1) _ _ _ _ _ _ rfl rfl (.inl (show 3 < 4 by decide))).trans ?_
  exact hit _ _ _ p3 _ 3 j rfl
theorem stored2 : stored p0 p1 p2 p3 p4 p5 z (ix2 2 j) = p2 (ix2 0 j) := by
  unfold stored View.readCov
  rw [View.readAt_apply, box]
  refine (View.read_writes_cons_rows_of_not_mem (o := 5) (W := 1) _ _ _ _ _ _ rfl rfl (.inl (show 2 < 5 by decide))).trans ?_
  refine (View.read_writes_cons_rows_of_not_mem (o := 4) (W := 1) _ _ _ _ _ _ rfl rfl (.inl (show 2 < 4 by decide))).trans ?_
  refine (View.read_writes_cons_rows_of_not_mem (o := 3) (W := 1) _ _ _ _ _ _ rfl rfl (.inl (show 2 < 3 by decide))).trans ?_
  exact hit _ _ _ p2 _ 2 j rfl
theorem stored1 : stored p0 p1 p2 p3 p4 p5 z (ix2 1 j) = p1 (ix2 0 j) := by
  unfold stored View.readCov
  rw [View.readAt_apply, box]
  refine (View.read_writes_cons_rows_of_not_mem (o := 5) (W := 1) _ _ _ _ _ _ rfl rfl (.inl (show 1 < 5 by decide))).trans ?_
  refine (View.read_writes_cons_rows_of_not_mem (o := 4) (W := 1) _ _ _ _ _ _ rfl rfl (.inl (show 1 < 4 by decide))).trans ?_
  refine (View.read_writes_cons_rows_of_not_mem (o := 3) (W := 1) _ _ _ _ _ _ rfl rfl (.inl (show 1 < 3 by decide))).trans ?_
  refine (View.read_writes_cons_rows_of_not_mem (o := 2) (W := 1) _ _ _ _ _ _ rfl rfl (.inl (show 1 < 2 by decide))).trans ?_
  exact hit _ _ _ p1 _ 1 j rfl
theorem stored0 : stored p0 p1 p2 p3 p4 p5 z (ix2 0 j) = p0 (ix2 0 j) := by
  unfold stored View.readCov
  rw [View.readAt_apply, box]
  refine (View.read_writes_cons_rows_of_not_mem (o := 5) (W := 1) _ _ _ _ _ _ rfl rfl (.inl (show 0 < 5 by decide))).trans ?_
  refine (View.read_writes_cons_rows_of_not_mem (o := 4) (W := 1) _ _ _ _ _ _ rfl rfl (.inl (show 0 < 4 by decide))).trans ?_
  refine (View.read_writes_cons_rows_of_not_mem (o := 3) (W := 1) _ _ _ _ _ _ rfl rfl (.inl (show 0 < 3 by decide))).trans ?_
  refine (View.read_writes_cons_rows_of_not_mem (o := 2) (W := 1) _ _ _ _ _ _ rfl rfl (.inl (show 0 < 2 by decide))).trans ?_
  refine (View.read_writes_cons_rows_of_not_mem (o := 1) (W := 1) _ _ _ _ _ _ rfl rfl (.inl (show 0 < 1 by decide))).trans ?_
  exact hit _ _ _ p0 _ 0 j rfl
end

theorem pay17_eq : k0_pay17 (F := Ideal) i x0 = x0 := by
  have h : ∀ k : S64x11264.Idx, k0_pay17 (F := Ideal) i x0 k = x0 k := by
    intro k
    have hi : (i 1).val = 0 := by have := (i 1).isLt; simpa using this
    pointwise [k0_pay17]
    have e : ∀ n : Fin 64, IntOp.cmpi .sge (IntOp.addi (BitVec.ofNat 32 n.val) (Scalar.muli 0#32 64#32)) 0#32 = 1#1 := by decide
    rw [e (k 0)]
    rfl
  exact funext h

/-- The scratch's rows and then the gate's. -/
def ext (k : Fin 80) (j : Fin 11264) : EReal :=
  if h : k.val < 16 then T (ix2 ⟨k.val, h⟩ j) else x0 (ix2 ⟨k.val - 16, by omega⟩ j)

theorem pay18_apply (r : Fin 144) (j : Fin 11264) : k0_pay18 (F := Ideal) i x0 T x4 (ix2 r j) = ∑ k : Fin 80, x4 (ix2 r k) * ext x0 T k j := by
  unfold k0_pay18
  rw [pay17_eq]
  unfold ext
  pointwise
theorem pay19_apply (r : Fin 16) (j : Fin 11264) : k0_pay19 (F := Ideal) i x0 T x4 (ix2 r j) = k0_pay18 (F := Ideal) i x0 T x4 (ix2 ⟨128 + r.val, by omega⟩ j) := by
  unfold k0_pay19
  generalize k0_pay18 (F := Ideal) i x0 T x4 = z
  pointwise
theorem pay20_apply (s : Fin 64) (j : Fin 11264) : k0_pay20 (F := Ideal) i x0 T x4 (ix2 s j) = k0_pay18 (F := Ideal) i x0 T x4 (ix2 ⟨64 + s.val, by omega⟩ j) := by
  unfold k0_pay20
  generalize k0_pay18 (F := Ideal) i x0 T x4 = z
  pointwise
theorem pay21_apply (w2 w1 : FVec Ideal S1x11264 .f32) (s : Fin 64) (j : Fin 11264) :
    k0_pay21 (F := Ideal) i x0 T x4 w2 w1 (ix2 s j) = w2 (ix2 0 j) * x0 (ix2 s j) + w1 (ix2 0 j) * k0_pay18 (F := Ideal) i x0 T x4 (ix2 ⟨s.val, by omega⟩ j) := by
  unfold k0_pay21
  generalize k0_pay18 (F := Ideal) i x0 T x4 = z
  rw [pay17_eq]
  pointwise
theorem pay1_apply (D : FVec Ideal S64x11264 .f32) (Y : FVec Ideal S64x11264 .f32) (w0 : FVec Ideal S1x11264 .f32) (s : Fin 64) (j : Fin 11264) :
    k0_pay1 (F := Ideal) D Y w0 x1 (ix2 s j) = (Y (ix2 s j) + w0 (ix2 0 j) * D (ix2 s j)) * Ideal.logistic (Y (ix2 s j) + w0 (ix2 0 j) * D (ix2 s j)) * x1 (ix2 s j) := by
  pointwise [k0_pay1]
end Cert.ActIdeal.Conv
end
-- ==== Proof.Conv.Taps.lean ====
/-
  The shift matrix's products: the frame before, the frame two before, and the last two frames.
-/
module
public import proofs.«01_k».proof.Proof.Conv.Block
@[expose] public section
set_option maxRecDepth 16384
noncomputable section
open Idealize.ShloMosaic Idealize.ShloMosaic.TcCoe Idealize.SL.Sem
namespace Cert.ActIdeal.Conv
open Cert.ActIdeal Cert.ActIdeal.Gen

theorem sel_two : ∀ s : Fin 64, 2 ≤ s.val → ∀ k : Fin 80, (sel (64 + s.val) k.val = true ↔ k.val = 16 + (s.val - 2)) := by decide +kernel
theorem sel_two0 : ∀ k : Fin 80, (sel 64 k.val = true ↔ k = 0 ∨ k = 1 ∨ k = 2) := by decide +kernel
theorem sel_two1 : ∀ k : Fin 80, (sel 65 k.val = true ↔ k = 3 ∨ k = 4 ∨ k = 5) := by decide +kernel
theorem sel_one : ∀ s : Fin 64, 1 ≤ s.val → ∀ k : Fin 80, (sel s.val k.val = true ↔ k.val = 16 + (s.val - 1)) := by decide +kernel
theorem sel_one0 : ∀ k : Fin 80, (sel 0 k.val = true ↔ k = 3 ∨ k = 4 ∨ k = 5) := by decide +kernel
theorem sel_last0 : ∀ k : Fin 80, (sel 128 k.val = true ↔ k = 78) := by decide +kernel
theorem sel_last1 : ∀ k : Fin 80, (sel 131 k.val = true ↔ k = 79) := by decide +kernel

variable (i : grid0.Coords) (x0 : FVec Ideal S64x11264 .bf16) (x2 : FVec Ideal S1x2x11264 .f32) (x4 : FVec Ideal S144x80 .bf16)

/-- The state's two frames, then the gate's. -/
def xs (n : Nat) (j : Fin 11264) : EReal :=
  if n = 0 then x2 (ix3 0 0 j) else if n = 1 then x2 (ix3 0 1 j) else if h : n - 2 < 64 then x0 (ix2 ⟨n - 2, h⟩ j) else 0

theorem ext_gate (T : FVec Ideal S16x11264 .f32) (n : Fin 64) (j : Fin 11264) : ext x0 T ⟨16 + n.val, by omega⟩ j = x0 (ix2 n j) := by
  unfold ext
  rw [dif_neg (by simp)]
  exact congrArg (fun r => x0 (ix2 r j)) (Fin.ext (by simp))

theorem ext0 (j : Fin 11264) : ext x0 (tail x2) 0 j = x2 (ix3 0 0 j) := (dif_pos (by decide)).trans ((stored0 _ _ _ _ _ _ _ j).trans (hi0 x2 j))
theorem ext1 (j : Fin 11264) : ext x0 (tail x2) 1 j = x2 (ix3 0 0 j) - x2 (ix3 0 0 j) := (dif_pos (by decide)).trans ((stored1 _ _ _ _ _ _ _ j).trans (mid0 x2 j))
theorem ext2 (j : Fin 11264) : ext x0 (tail x2) 2 j = x2 (ix3 0 0 j) - x2 (ix3 0 0 j) - (x2 (ix3 0 0 j) - x2 (ix3 0 0 j)) := (dif_pos (by decide)).trans ((stored2 _ _ _ _ _ _ _ j).trans (lo0 x2 j))
theorem ext3 (j : Fin 11264) : ext x0 (tail x2) 3 j = x2 (ix3 0 1 j) := (dif_pos (by decide)).trans ((stored3 _ _ _ _ _ _ _ j).trans (hi1 x2 j))
theorem ext4 (j : Fin 11264) : ext x0 (tail x2) 4 j = x2 (ix3 0 1 j) - x2 (ix3 0 1 j) := (dif_pos (by decide)).trans ((stored4 _ _ _ _ _ _ _ j).trans (mid1 x2 j))
theorem ext5 (j : Fin 11264) : ext x0 (tail x2) 5 j = x2 (ix3 0 1 j) - x2 (ix3 0 1 j) - (x2 (ix3 0 1 j) - x2 (ix3 0 1 j)) := (dif_pos (by decide)).trans ((stored5 _ _ _ _ _ _ _ j).trans (lo1 x2 j))

variable (hp : ∀ r k, x4 (ix2 r k) = if sel r.val k.val then (1 : EReal) else 0)
include hp

theorem dot_one (r : Fin 144) (T : FVec Ideal S16x11264 .f32) (n : Fin 64) (h : ∀ k : Fin 80, sel r.val k.val = true ↔ k.val = 16 + n.val) (j : Fin 11264) :
    k0_pay18 (F := Ideal) i x0 T x4 (ix2 r j) = x0 (ix2 n j) := by
  refine (pay18_apply i x0 x4 T r j).trans ?_
  refine (Finset.sum_congr rfl fun k _ => congrArg (· * _) (hp r k)).trans ?_
  refine (sum_one (fun k : Fin 80 => sel r.val k.val = true) (fun k => ext x0 T k j) ⟨16 + n.val, by omega⟩ fun k => (h k).trans ?_).trans (ext_gate x0 T n j)
  exact ⟨fun e => Fin.ext e, fun e => congrArg Fin.val e⟩

variable (hf : ∀ b j, x2 (ix3 0 b j) ≠ ⊤ ∧ x2 (ix3 0 b j) ≠ ⊥)
include hf

theorem dot_zero (r : Fin 144) (h : ∀ k : Fin 80, sel r.val k.val = true ↔ k = 0 ∨ k = 1 ∨ k = 2) (j : Fin 11264) :
    k0_pay18 (F := Ideal) i x0 (tail x2) x4 (ix2 r j) = x2 (ix3 0 0 j) := by
  refine (pay18_apply i x0 x4 _ r j).trans ?_
  refine (Finset.sum_congr rfl fun k _ => congrArg (· * _) (hp r k)).trans ?_
  refine (sum_three (fun k : Fin 80 => sel r.val k.val = true) (fun k => ext x0 (tail x2) k j) 0 1 2 (by decide) (by decide) (by decide) h).trans ?_
  rw [ext0, ext1, ext2]
  exact parts (hf 0 j).1 (hf 0 j).2

theorem dot_first (r : Fin 144) (h : ∀ k : Fin 80, sel r.val k.val = true ↔ k = 3 ∨ k = 4 ∨ k = 5) (j : Fin 11264) :
    k0_pay18 (F := Ideal) i x0 (tail x2) x4 (ix2 r j) = x2 (ix3 0 1 j) := by
  refine (pay18_apply i x0 x4 _ r j).trans ?_
  refine (Finset.sum_congr rfl fun k _ => congrArg (· * _) (hp r k)).trans ?_
  refine (sum_three (fun k : Fin 80 => sel r.val k.val = true) (fun k => ext x0 (tail x2) k j) 3 4 5 (by decide) (by decide) (by decide) h).trans ?_
  rw [ext3, ext4, ext5]
  exact parts (hf 1 j).1 (hf 1 j).2

/-- The frame two before. -/
theorem two_before (s : Fin 64) (j : Fin 11264) : k0_pay18 (F := Ideal) i x0 (tail x2) x4 (ix2 ⟨64 + s.val, by omega⟩ j) = xs x0 x2 s.val j := by
  unfold xs
  by_cases h0 : s.val = 0
  · rw [if_pos h0]
    refine dot_zero i x0 x2 x4 hp hf _ (fun k => ?_) j
    show sel (64 + s.val) k.val = true ↔ _
    rw [h0]; exact sel_two0 k
  by_cases h1 : s.val = 1
  · rw [if_neg h0, if_pos h1]
    refine dot_first i x0 x2 x4 hp hf _ (fun k => ?_) j
    show sel (64 + s.val) k.val = true ↔ _
    rw [h1]; exact sel_two1 k
  rw [if_neg h0, if_neg h1, dif_pos (show s.val - 2 < 64 by omega)]
  exact dot_one i x0 x4 hp _ _ ⟨s.val - 2, by omega⟩ (sel_two s (by omega)) j

/-- The frame before. -/
theorem one_before (s : Fin 64) (j : Fin 11264) : k0_pay18 (F := Ideal) i x0 (tail x2) x4 (ix2 ⟨s.val, by omega⟩ j) = xs x0 x2 (s.val + 1) j := by
  unfold xs
  rw [if_neg (by omega)]
  by_cases h0 : s.val = 0
  · rw [if_pos (by omega)]
    refine dot_first i x0 x2 x4 hp hf _ (fun k => ?_) j
    show sel s.val k.val = true ↔ _
    rw [h0]; exact sel_one0 k
  rw [if_neg (by omega), dif_pos (show s.val + 1 - 2 < 64 by omega)]
  exact (dot_one i x0 x4 hp _ _ ⟨s.val - 1, by omega⟩ (sel_one s (by omega)) j).trans (congrArg (fun r => x0 (ix2 r j)) (Fin.ext (by dsimp only; omega)))

omit hf
/-- The last frames. -/
theorem last0 (T : FVec Ideal S16x11264 .f32) (j : Fin 11264) : k0_pay19 (F := Ideal) i x0 T x4 (ix2 0 j) = x0 (ix2 62 j) :=
  (pay19_apply i x0 x4 T 0 j).trans (dot_one i x0 x4 hp _ T 62 (fun k => (sel_last0 k).trans (by omega)) j)
theorem last1 (T : FVec Ideal S16x11264 .f32) (j : Fin 11264) : k0_pay19 (F := Ideal) i x0 T x4 (ix2 3 j) = x0 (ix2 63 j) :=
  (pay19_apply i x0 x4 T 3 j).trans (dot_one i x0 x4 hp _ T 63 (fun k => (sel_last1 k).trans (by omega)) j)

include hf
/-- A frame's convolution. -/
theorem conv_apply (w0 w1 w2 : FVec Ideal S1x11264 .f32) (x1 : FVec Ideal S64x11264 .bf16) (s : Fin 64) (j : Fin 11264) (Z : EReal)
    (hZ : w2 (ix2 0 j) * x0 (ix2 s j) + w1 (ix2 0 j) * xs x0 x2 (s.val + 1) j + w0 (ix2 0 j) * xs x0 x2 s.val j = Z) :
    k0_pay1 (F := Ideal) (k0_pay20 (F := Ideal) i x0 (tail x2) x4) (k0_pay21 (F := Ideal) i x0 (tail x2) x4 w2 w1) w0 x1 (ix2 s j)
      = Z * Ideal.logistic Z * x1 (ix2 s j) := by
  rw [pay1_apply, pay20_apply, pay21_apply, two_before i x0 x2 x4 hp hf, one_before i x0 x2 x4 hp hf, hZ]
end Cert.ActIdeal.Conv
end
-- ==== Proof.Conv.Reads.lean ====
/-
  What the convolution's input blocks hold, in terms of the arguments.
-/
module
public import proofs.«01_k».proof.Proof.Conv.Taps
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ActIdeal.Conv
open Cert.ActIdeal Cert.ActIdeal.Gen
variable (m : (ℓ : Loc nD τ sig) → Buf (Elt Ideal) ℓ) (c : Dev nD)

theorem idx : ∀ t : Fin cfg0.N, win0_0.index t = ![257 + t.val, 0] ∧ win0_1.index t = ![257 + t.val, 0] ∧ win0_2.index t = ![t.val, 0, 0]
   ∧ win0_3.index t = ![0, 0] ∧ win0_4.index t = ![0, 0] ∧ win0_5.index t = ![257 + t.val, 0] ∧ win0_6.index t = ![t.val, 0, 0] :=
  (by decide +kernel : ∀ t : Fin grid0.N, _)

theorem V_gate : V m c main_v1 = truncf (F := Ideal) .bf16 (pad S18496x11264 ![0, 0] ![0, 256] ![0, 0] (m ((c : Thread nD τ).loc main_arg0) : FVec Ideal S18496x11008 .f32) (sitofp (F := Ideal) .f32 (constantI S_ 32 0#32)) pads_S18496x11008_S18496x11264_000_02560 h_S_) bitsLt_bf16_f32 := rfl
theorem V_up : V m c main_v3 = truncf (F := Ideal) .bf16 (pad S18496x11264 ![0, 0] ![0, 256] ![0, 0] (m ((c : Thread nD τ).loc main_arg1) : FVec Ideal S18496x11008 .f32) (sitofp (F := Ideal) .f32 (constantI S_ 32 0#32)) pads_S18496x11008_S18496x11264_000_02560 h_S_) bitsLt_bf16_f32 := rfl
theorem V_act : V m c main_v12_0 = truncf (F := Ideal) .bf16 (pad S18496x11264 ![0, 0] ![0, 256] ![0, 0] (m ((c : Thread nD τ).loc main_arg4) : FVec Ideal S18496x11008 .f32) (sitofp (F := Ideal) .f32 (constantI S_ 32 0#32)) pads_S18496x11008_S18496x11264_000_02560 h_S_) bitsLt_bf16_f32 := rfl
theorem V_state : V m c main_v8 = pad S32x2x11264 ![0, 0, 0] ![0, 0, 256] ![0, 0, 0] (shapeCast S32x2x11008 (extractStridedSlice S1x32x2x11008 ![0, 0, 0, 0] (m ((c : Thread nD τ).loc main_arg2) : FVec Ideal S2x32x2x11008 .f32) slices_S2x32x2x11008_S1x32x2x11008_0_0_0_0) shapeCasts_S1x32x2x11008_S32x2x11008) (sitofp (F := Ideal) .f32 (constantI S_ 32 0#32)) pads_S32x2x11008_S32x2x11264_000_000_02560 h_S_ := rfl
theorem V_taps : V m c main_v11 = pad S3x11264 ![0, 0] ![0, 256] ![0, 0] (shapeCast S3x11008 (extractStridedSlice S1x3x11008 ![0, 0, 0] (m ((c : Thread nD τ).loc main_arg3) : FVec Ideal S2x3x11008 .f32) slices_S2x3x11008_S1x3x11008_0_0_0) shapeCasts_S1x3x11008_S3x11008) (sitofp (F := Ideal) .f32 (constantI S_ 32 0#32)) pads_S3x11008_S3x11264_000_02560 h_S_ := rfl
theorem V_pm : V m c main_cst = fun i => FloatOps.ofBits (F := Ideal) .bf16 (lit0 (S144x80.rowMajor i)) := rfl

/-- Rows of 11008 entries, padded with zeros to 11264. -/
theorem pad_rows (x : FVec Ideal S18496x11008 .f32) (i : Fin 18496) (j : Fin 11264) :
    truncf (F := Ideal) .bf16 (pad S18496x11264 ![0, 0] ![0, 256] ![0, 0] x (sitofp (F := Ideal) .f32 (constantI S_ 32 0#32)) pads_S18496x11008_S18496x11264_000_02560 h_S_) bitsLt_bf16_f32 (ix2 i j)
      = if hj : j.val < 11008 then x (ix2 i ⟨j.val, hj⟩) else 0 := by
  pointwise
  by_cases hj : j.val < 11008
  · simp only [dif_pos hj]
  · rw [dif_neg hj]
    refine Eq.trans ?_ (dif_neg hj).symm
    show ((((0#32 : BitVec 32).toInt : ℤ) : ℝ) : EReal) = 0
    simp

theorem pad_state (x : FVec Ideal S2x32x2x11008 .f32) (b : Fin 32) (s : Fin 2) (j : Fin 11264) :
    pad S32x2x11264 ![0, 0, 0] ![0, 0, 256] ![0, 0, 0] (shapeCast S32x2x11008 (extractStridedSlice S1x32x2x11008 ![0, 0, 0, 0] x slices_S2x32x2x11008_S1x32x2x11008_0_0_0_0) shapeCasts_S1x32x2x11008_S32x2x11008) (sitofp (F := Ideal) .f32 (constantI S_ 32 0#32)) pads_S32x2x11008_S32x2x11264_000_000_02560 h_S_ (ix3 b s j)
      = if hj : j.val < 11008 then x (ix4 0 b s ⟨j.val, hj⟩) else 0 := by
  pointwise
  by_cases hj : j.val < 11008
  · simp only [dif_pos hj]
  · rw [dif_neg hj]
    refine Eq.trans ?_ (dif_neg hj).symm
    show ((((0#32 : BitVec 32).toInt : ℤ) : ℝ) : EReal) = 0
    simp

theorem pad_taps (x : FVec Ideal S2x3x11008 .f32) (r : Fin 3) (j : Fin 11264) :
    pad S3x11264 ![0, 0] ![0, 256] ![0, 0] (shapeCast S3x11008 (extractStridedSlice S1x3x11008 ![0, 0, 0] x slices_S2x3x11008_S1x3x11008_0_0_0) shapeCasts_S1x3x11008_S3x11008) (sitofp (F := Ideal) .f32 (constantI S_ 32 0#32)) pads_S3x11008_S3x11264_000_02560 h_S_ (ix2 r j)
      = if hj : j.val < 11008 then x (ix3 0 r ⟨j.val, hj⟩) else 0 := by
  pointwise
  by_cases hj : j.val < 11008
  · simp only [dif_pos hj]
  · rw [dif_neg hj]
    refine Eq.trans ?_ (dif_neg hj).symm
    show ((((0#32 : BitVec 32).toInt : ℤ) : ℝ) : EReal) = 0
    simp

theorem read_gate (t : Fin cfg0.N) (s : Fin 64) (j : Fin 11264) :
    (show FVec Ideal S64x11264 .bf16 from iblk m c 0 t) (ix2 s j)
      = if hj : j.val < 11008 then (show FVec Ideal S18496x11008 .f32 from m ((c : Thread nD τ).loc main_arg0)) (ix2 ⟨16448 + 64 * t.val + s.val, by have : t.val < 32 := t.isLt; omega⟩ ⟨j.val, hj⟩) else 0 := by
  have ht : t.val < 32 := t.isLt
  refine Eq.trans ?_ (pad_rows _ ⟨16448 + 64 * t.val + s.val, by omega⟩ j)
  blk_simp [iblk]
  rw [V_gate]
  blk_ext [idx t]

theorem read_up (t : Fin cfg0.N) (s : Fin 64) (j : Fin 11264) :
    (show FVec Ideal S64x11264 .bf16 from iblk m c 1 t) (ix2 s j)
      = if hj : j.val < 11008 then (show FVec Ideal S18496x11008 .f32 from m ((c : Thread nD τ).loc main_arg1)) (ix2 ⟨16448 + 64 * t.val + s.val, by have : t.val < 32 := t.isLt; omega⟩ ⟨j.val, hj⟩) else 0 := by
  have ht : t.val < 32 := t.isLt
  refine Eq.trans ?_ (pad_rows _ ⟨16448 + 64 * t.val + s.val, by omega⟩ j)
  blk_simp [iblk]
  rw [V_up]
  blk_ext [idx t]

theorem read_state (t : Fin cfg0.N) (s : Fin 2) (j : Fin 11264) :
    (show FVec Ideal S1x2x11264 .f32 from iblk m c 2 t) (ix3 0 s j)
      = if hj : j.val < 11008 then (show FVec Ideal S2x32x2x11008 .f32 from m ((c : Thread nD τ).loc main_arg2)) (ix4 0 ⟨t.val, t.isLt⟩ s ⟨j.val, hj⟩) else 0 := by
  have ht : t.val < 32 := t.isLt
  refine Eq.trans ?_ (pad_state _ ⟨t.val, t.isLt⟩ s j)
  blk_simp [iblk]
  rw [V_state]
  blk_ext [idx t]

theorem read_taps (t : Fin cfg0.N) (r : Fin 3) (j : Fin 11264) :
    (show FVec Ideal S3x11264 .f32 from iblk m c 3 t) (ix2 r j)
      = if hj : j.val < 11008 then (show FVec Ideal S2x3x11008 .f32 from m ((c : Thread nD τ).loc main_arg3)) (ix3 0 r ⟨j.val, hj⟩) else 0 := by
  have ht : t.val < 32 := t.isLt
  refine Eq.trans ?_ (pad_taps _ r j)
  blk_simp [iblk]
  rw [V_taps]
  blk_ext [idx t]

theorem one : FloatOps.ofBits (F := Ideal) .bf16 0x3F80#16 = (1 : EReal) := by
  show Ideal.ofBits .bf16 0x3F80#16 = 1
  simp [Ideal.ofBits, Ideal.ieee]
  rw [← EReal.coe_mul]
  norm_num
theorem zero : FloatOps.ofBits (F := Ideal) .bf16 0#16 = (0 : EReal) := by
  show Ideal.ofBits .bf16 0#16 = 0
  simp [Ideal.ofBits, Ideal.ieee]

theorem read_pm (t : Fin cfg0.N) (r : Fin 144) (k : Fin 80) :
    (show FVec Ideal S144x80 .bf16 from iblk m c 4 t) (ix2 r k) = if sel r.val k.val then (1 : EReal) else 0 := by
  have h : (show FVec Ideal S144x80 .bf16 from iblk m c 4 t) (ix2 r k) = FloatOps.ofBits (F := Ideal) .bf16 (lit0 (S144x80.rowMajor (ix2 r k))) := by
    blk_simp [iblk]
    rw [V_pm]
    refine congrArg (fun i : S144x80.Idx => FloatOps.ofBits (F := Ideal) .bf16 (lit0 (S144x80.rowMajor i))) ?_
    blk_ext [idx t]
  have hv : (S144x80.rowMajor (ix2 r k)).val = 80 * r.val + k.val := by
    refine (Shape.rowMajor_val_two _).trans ?_
    show r.val * 80 + k.val = _
    omega
  rw [h]
  refine (congrArg _ (table (S144x80.rowMajor (ix2 r k)))).trans ?_
  rw [hv, show (80 * r.val + k.val) / 80 = r.val by omega, show (80 * r.val + k.val) % 80 = k.val by omega]
  split
  · exact one
  · exact zero
end Cert.ActIdeal.Conv
end
-- ==== Proof.Conv.Spec.lean ====
/-
  The feed-forward part's causal convolution and gate, at a sample's frames.
-/
module
public import Idealize.ShloMosaic.Lib.Pipeline.ValueKit
public import Idealize.ShloMosaic.PureOps.Ideal
@[expose] public section
noncomputable section
open Idealize.ShloMosaic
namespace Cert.Spec
variable (A0 A1 : FVec Ideal ⟨2, ![18496, 11008]⟩ .f32) (A2 : FVec Ideal ⟨4, ![2, 32, 2, 11008]⟩ .f32)
  (A3 : FVec Ideal ⟨3, ![2, 3, 11008]⟩ .f32) (A4 : FVec Ideal ⟨2, ![18496, 11008]⟩ .f32)

/-- A sample's two state frames, then its 64 gate frames. -/
def series (b : Fin 32) (n : Fin 66) (j : Fin 11008) : EReal :=
  if h : n.val < 2 then A2 (ix4 0 b ⟨n.val, h⟩ j) else A0 (ix2 ⟨16448 + 64 * b.val + (n.val - 2), by omega⟩ j)

/-- Three taps over a frame and the two before it. -/
def conv (b : Fin 32) (s : Fin 64) (j : Fin 11008) : EReal :=
  A3 (ix3 0 0 j) * series A0 A2 b ⟨s.val, by omega⟩ j + A3 (ix3 0 1 j) * series A0 A2 b ⟨s.val + 1, by omega⟩ j
    + A3 (ix3 0 2 j) * series A0 A2 b ⟨s.val + 2, by omega⟩ j

/-- The gated frame. -/
def gated (b : Fin 32) (s : Fin 64) (j : Fin 11008) : EReal :=
  conv A0 A2 A3 b s j * Ideal.logistic (conv A0 A2 A3 b s j) * A1 (ix2 ⟨16448 + 64 * b.val + s.val, by omega⟩ j)

/-- The whole result: the rows before the samples as given, then the gated frames; zeros past the last column. -/
def acts (i : Fin 18496) (j : Fin 11264) : EReal :=
  if hj : j.val < 11008 then
    (if i.val < 16448 then A4 (ix2 i ⟨j.val, hj⟩)
    else gated A0 A1 A2 A3 ⟨(i.val - 16448) / 64, by omega⟩ ⟨(i.val - 16448) % 64, by omega⟩ ⟨j.val, hj⟩)
  else 0

/-- The new state: a sample's last two frames; zeros past the last column. -/
def fresh (b : Fin 32) (r : Fin 2) (j : Fin 11264) : EReal :=
  if hj : j.val < 11008 then series A0 A2 b ⟨64 + r.val, by omega⟩ ⟨j.val, hj⟩ else 0
end Cert.Spec
end
-- ==== Proof.Conv.Value.lean ====
/-
  What the convolution and its gate leave in their results.
-/
module
public import proofs.«01_k».proof.Proof.Conv.Reads
public import proofs.«01_k».proof.Proof.Conv.Spec
@[expose] public section
set_option maxRecDepth 16384
noncomputable section
open Idealize.ShloMosaic Idealize.ShloMosaic.TcCoe Idealize.SL.Sem
open Idealize.ShloMosaic.Pipeline (Dat)
namespace Cert.ActIdeal.Conv
open Cert.ActIdeal Cert.ActIdeal.Gen
variable (m : (ℓ : Loc nD τ sig) → Buf (Elt Ideal) ℓ) (c : Dev nD)

/-- The first layer's state is finite. -/
def Finite : Prop := ∀ b s j, (show FVec Ideal S2x32x2x11008 .f32 from m ((c : Thread nD τ).loc main_arg2)) (ix4 0 b s j) ≠ (⊤ : EReal)
  ∧ (show FVec Ideal S2x32x2x11008 .f32 from m ((c : Thread nD τ).loc main_arg2)) (ix4 0 b s j) ≠ (⊥ : EReal)

theorem tap (x3 : FVec Ideal S3x11264 .f32) (j : Fin 11264) :
    View.ld (Val := Elt Ideal) (S := S3x11264) (e' := .f32) x3 (Rect.unit ![0, 0] ![1, 11264] inb_S3x11264_S1x11264_0_0) (ix2 0 j) = x3 (ix2 0 j)
    ∧ View.ld (Val := Elt Ideal) (S := S3x11264) (e' := .f32) x3 (Rect.unit ![1, 0] ![1, 11264] inb_S3x11264_S1x11264_1_0) (ix2 0 j) = x3 (ix2 1 j)
    ∧ View.ld (Val := Elt Ideal) (S := S3x11264) (e' := .f32) x3 (Rect.unit ![2, 0] ![1, 11264] inb_S3x11264_S1x11264_2_0) (ix2 0 j) = x3 (ix2 2 j) := by
  refine ⟨?_, ?_, ?_⟩ <;> pointwise

/-- The state block is finite. -/
theorem finite_blk (h : Finite m c) (t : Fin cfg0.N) (b : Fin 2) (j : Fin 11264) :
    (show FVec Ideal S1x2x11264 .f32 from iblk m c 2 t) (ix3 0 b j) ≠ (⊤ : EReal) ∧ (show FVec Ideal S1x2x11264 .f32 from iblk m c 2 t) (ix3 0 b j) ≠ (⊥ : EReal) := by
  rw [read_state m c t b j]
  by_cases hj : j.val < 11008
  · rw [dif_pos hj]
    exact h _ _ _
  · rw [dif_neg hj]
    exact ⟨EReal.zero_ne_top, EReal.zero_ne_bot⟩

theorem xs_eq (t : Fin cfg0.N) (n : Fin 66) (j : Fin 11264) (hj : j.val < 11008) :
    xs (iblk m c 0 t) (iblk m c 2 t) n.val j
      = Spec.series (m ((c : Thread nD τ).loc main_arg0)) (m ((c : Thread nD τ).loc main_arg2)) ⟨t.val, t.isLt⟩ n ⟨j.val, hj⟩ := by
  unfold xs Spec.series
  by_cases h0 : n.val = 0
  · rw [if_pos h0, dif_pos (by omega)]
    refine (read_state m c t 0 j).trans ((dif_pos hj).trans ?_)
    exact congrArg (fun r => (show FVec Ideal S2x32x2x11008 .f32 from m ((c : Thread nD τ).loc main_arg2)) (ix4 0 ⟨t.val, t.isLt⟩ r ⟨j.val, hj⟩)) (Fin.ext h0.symm)
  rw [if_neg h0]
  by_cases h1 : n.val = 1
  · rw [if_pos h1, dif_pos (by omega)]
    refine (read_state m c t 1 j).trans ((dif_pos hj).trans ?_)
    exact congrArg (fun r => (show FVec Ideal S2x32x2x11008 .f32 from m ((c : Thread nD τ).loc main_arg2)) (ix4 0 ⟨t.val, t.isLt⟩ r ⟨j.val, hj⟩)) (Fin.ext h1.symm)
  rw [if_neg h1, dif_pos (by omega), dif_neg (by omega)]
  exact (read_gate m c t ⟨n.val - 2, by omega⟩ j).trans (dif_pos hj)

/-- A block's gated frame. -/
theorem blk_apply (h : Finite m c) (t : Fin cfg0.N) (s : Fin 64) (j : Fin 11264) :
    k0_pay1 (F := Ideal) (k0_pay20 (F := Ideal) (grid0.coords t) (iblk m c 0 t) (tail (iblk m c 2 t)) (iblk m c 4 t))
        (k0_pay21 (F := Ideal) (grid0.coords t) (iblk m c 0 t) (tail (iblk m c 2 t)) (iblk m c 4 t)
          (View.ld (Val := Elt Ideal) (S := S3x11264) (e' := .f32) (iblk m c 3 t) (Rect.unit ![2, 0] ![1, 11264] inb_S3x11264_S1x11264_2_0))
          (View.ld (Val := Elt Ideal) (S := S3x11264) (e' := .f32) (iblk m c 3 t) (Rect.unit ![1, 0] ![1, 11264] inb_S3x11264_S1x11264_1_0)))
        (View.ld (Val := Elt Ideal) (S := S3x11264) (e' := .f32) (iblk m c 3 t) (Rect.unit ![0, 0] ![1, 11264] inb_S3x11264_S1x11264_0_0))
        (iblk m c 1 t) (ix2 s j)
      = if hj : j.val < 11008 then Spec.gated (m ((c : Thread nD τ).loc main_arg0)) (m ((c : Thread nD τ).loc main_arg1)) (m ((c : Thread nD τ).loc main_arg2)) (m ((c : Thread nD τ).loc main_arg3)) ⟨t.val, t.isLt⟩ s ⟨j.val, hj⟩ else 0 := by
  refine (conv_apply (grid0.coords t) (iblk m c 0 t) (iblk m c 2 t) (iblk m c 4 t) (read_pm m c t) (finite_blk m c h t) _ _ _ (iblk m c 1 t) s j _ rfl).trans ?_
  by_cases hj : j.val < 11008
  · rw [dif_pos hj]
    unfold Spec.gated
    have hu := (read_up m c t s j).trans (dif_pos hj)
    have hw : ∀ r : Fin 3, _ := fun r => (read_taps m c t r j).trans (dif_pos hj)
    have hg : (show FVec Ideal S64x11264 .bf16 from iblk m c 0 t) (ix2 s j) = Spec.series (m ((c : Thread nD τ).loc main_arg0)) (m ((c : Thread nD τ).loc main_arg2)) ⟨t.val, t.isLt⟩ ⟨s.val + 2, by omega⟩ ⟨j.val, hj⟩ :=
      by
        refine (read_gate m c t s j).trans ((dif_pos hj).trans ?_)
        unfold Spec.series
        rw [dif_neg (show ¬ s.val + 2 < 2 by omega)]
        rfl
    have hz : ∀ Z Z' U U' : EReal, Z = Z' → U = U' → Z * Ideal.logistic Z * U = Z' * Ideal.logistic Z' * U' := by
      rintro _ _ _ _ rfl rfl; rfl
    refine hz _ _ _ _ ?_ hu
    unfold Spec.conv
    refine (add_comm _ _).trans ((congrArg _ (add_comm _ _)).trans ((add_assoc _ _ _).symm.trans ?_))
    refine congrArg₂ (· + ·) (congrArg₂ (· + ·) (congrArg₂ (· * ·) ?_ ?_) (congrArg₂ (· * ·) ?_ ?_)) (congrArg₂ (· * ·) ?_ ?_)
    · exact (tap (iblk m c 3 t) j).1.trans (hw 0)
    · exact xs_eq m c t ⟨s.val, by omega⟩ j hj
    · exact (tap (iblk m c 3 t) j).2.1.trans (hw 1)
    · exact xs_eq m c t ⟨s.val + 1, by omega⟩ j hj
    · exact (tap (iblk m c 3 t) j).2.2.trans (hw 2)
    · exact hg
  · rw [dif_neg hj]
    have hz : ∀ Z U : EReal, U = 0 → Z * Ideal.logistic Z * U = 0 := by
      rintro Z _ rfl; exact mul_zero _
    exact hz _ _ ((read_up m c t s j).trans (dif_neg hj))

theorem blk_at (h : Finite m c) (t : Fin cfg0.N) (y : S64x11264.Idx) :
    k0_pay1 (F := Ideal) (k0_pay20 (F := Ideal) (grid0.coords t) (iblk m c 0 t) (tail (iblk m c 2 t)) (iblk m c 4 t))
        (k0_pay21 (F := Ideal) (grid0.coords t) (iblk m c 0 t) (tail (iblk m c 2 t)) (iblk m c 4 t)
          (View.ld (Val := Elt Ideal) (S := S3x11264) (e' := .f32) (iblk m c 3 t) (Rect.unit ![2, 0] ![1, 11264] inb_S3x11264_S1x11264_2_0))
          (View.ld (Val := Elt Ideal) (S := S3x11264) (e' := .f32) (iblk m c 3 t) (Rect.unit ![1, 0] ![1, 11264] inb_S3x11264_S1x11264_1_0)))
        (View.ld (Val := Elt Ideal) (S := S3x11264) (e' := .f32) (iblk m c 3 t) (Rect.unit ![0, 0] ![1, 11264] inb_S3x11264_S1x11264_0_0))
        (iblk m c 1 t) y
      = if hj : (y 1).val < 11008 then Spec.gated (m ((c : Thread nD τ).loc main_arg0)) (m ((c : Thread nD τ).loc main_arg1)) (m ((c : Thread nD τ).loc main_arg2)) (m ((c : Thread nD τ).loc main_arg3)) ⟨t.val, t.isLt⟩ (y 0) ⟨(y 1).val, hj⟩ else 0 := by
  conv_lhs => rw [show y = ix2 (y 0) (y 1) from by pointwise]
  exact blk_apply m c h t (y 0) (y 1)

/-- The gated rows by name. -/
def rows : FVec Ideal S18496x11264 .bf16 := fun i =>
  Spec.acts (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

theorem final (h : Finite m c) : (dats m 0 c).arrAt 5 cfg0.N = fun i => if 16448 ≤ (i 0).val then rows m c i else (dats m 0 c).A 5 i := by
  refine ((dats m 0 c).arrAt_eq_of_coversWhere 5 (rows m c) (fun β => 257 ≤ β 0) (by decide +kernel) (fun t hf y => ?_) (fun j => by blk_simp [Pipeline.Window.cell_apply]; omega))
  have ht : t.val < 32 := t.isLt
  have hr : rows m c ((((View.whole main_v12_0).slice (win0_5.rect t)).emb y)) = if hj : (y 1 : Nat) < 11008 then Spec.gated (m ((c : Thread nD τ).loc main_arg0)) (m ((c : Thread nD τ).loc main_arg1)) (m ((c : Thread nD τ).loc main_arg2)) (m ((c : Thread nD τ).loc main_arg3)) ⟨t.val, t.isLt⟩ (y 0) ⟨(y 1 : Nat), hj⟩ else 0 := by
    unfold rows
    have h0 : ((((View.whole main_v12_0).slice (win0_5.rect t)).emb y) 0 : Nat) = 64 * (257 + t.val) + (y 0 : Nat) := by
      blk_simp [idx t]
      try omega
    have h1 : ((((View.whole main_v12_0).slice (win0_5.rect t)).emb y) 1 : Nat) = (y 1 : Nat) := by
      blk_simp [idx t]
      try omega
    have y0 : (y 0 : Nat) < 64 := (y 0).isLt
    generalize ((View.whole main_v12_0).slice (win0_5.rect t)).emb y = z at h0 h1 ⊢
    have e : ∀ (i : Fin 18496) (j : Fin 11264), i.val = 64 * (257 + t.val) + (y 0 : Nat) → j.val = (y 1 : Nat) →
        Spec.acts (m ((c : Thread nD τ).loc main_arg0)) (m ((c : Thread nD τ).loc main_arg1)) (m ((c : Thread nD τ).loc main_arg2)) (m ((c : Thread nD τ).loc main_arg3)) (m ((c : Thread nD τ).loc main_arg4)) i j
          = if hj : (y 1 : Nat) < 11008 then Spec.gated (m ((c : Thread nD τ).loc main_arg0)) (m ((c : Thread nD τ).loc main_arg1)) (m ((c : Thread nD τ).loc main_arg2)) (m ((c : Thread nD τ).loc main_arg3)) ⟨t.val, t.isLt⟩ (y 0) ⟨(y 1 : Nat), hj⟩ else 0 := by
      intro i j hi hj
      unfold Spec.acts
      by_cases h' : j.val < 11008
      · rw [dif_pos h', dif_pos (by omega), if_neg (by omega)]
        have k : ∀ (b : Fin 32) (s : Fin 64) (q : Fin 11008), b.val = t.val → s.val = (y 0 : Nat) → q.val = (y 1 : Nat) →
            Spec.gated (m ((c : Thread nD τ).loc main_arg0)) (m ((c : Thread nD τ).loc main_arg1)) (m ((c : Thread nD τ).loc main_arg2)) (m ((c : Thread nD τ).loc main_arg3)) b s q
              = Spec.gated (m ((c : Thread nD τ).loc main_arg0)) (m ((c : Thread nD τ).loc main_arg1)) (m ((c : Thread nD τ).loc main_arg2)) (m ((c : Thread nD τ).loc main_arg3)) ⟨t.val, t.isLt⟩ (y 0) ⟨(y 1 : Nat), by omega⟩ := by
          intro b s q hb hs hq
          rw [show b = ⟨t.val, t.isLt⟩ from Fin.ext hb, show s = y 0 from Fin.ext hs, show q = ⟨(y 1 : Nat), by omega⟩ from Fin.ext hq]
        exact k _ _ _ (show (i.val - 16448) / 64 = t.val by omega) (show (i.val - 16448) % 64 = (y 0 : Nat) by omega) hj
      · rw [dif_neg h', dif_neg (by omega)]
    exact e _ _ h0 h1
  refine Eq.trans ?_ hr.symm
  blk_simp
  rw [after0_5]; unfold outsAt0
  frame_open
  simp (disch := decide) only [↓ View.readCov_skip, ↓ View.readCov_cons_toLoadRect, ↓ View.readCov_fill]
  frame_out
  exact blk_at m c h t y

/-- The activations' array. -/
theorem acts_apply (h : Finite m c) (i : Fin 18496) (j : Fin 11264) :
    (show FVec Ideal S18496x11264 .bf16 from (dats m 0 c).arrAt 5 cfg0.N) (ix2 i j)
      = Spec.acts (m ((c : Thread nD τ).loc main_arg0)) (m ((c : Thread nD τ).loc main_arg1)) (m ((c : Thread nD τ).loc main_arg2)) (m ((c : Thread nD τ).loc main_arg3)) (m ((c : Thread nD τ).loc main_arg4)) i j := by
  rw [final m c h]
  by_cases hi : i.val < 16448
  · refine (if_neg (show ¬ 16448 ≤ i.val by omega)).trans ?_
    refine (congrFun (V_act m c) (ix2 i j)).trans ((pad_rows _ i j).trans ?_)
    unfold Spec.acts
    by_cases hj : j.val < 11008
    · rw [dif_pos hj, dif_pos hj, if_pos hi]
    · rw [dif_neg hj, dif_neg hj]
  · exact if_pos (show 16448 ≤ i.val by omega)

/-- The two stored frames. -/
theorem stored_last (i : grid0.Coords) (x0 : FVec Ideal S64x11264 .bf16) (T : FVec Ideal S16x11264 .f32) (x4 : FVec Ideal S144x80 .bf16)
    (hp : ∀ r k, x4 (ix2 r k) = if sel r.val k.val then (1 : EReal) else 0) (x : S1x1x11264.Idx) :
    k0_pay3 (F := Ideal) (View.ld (Val := Elt Ideal) (S := S16x11264) (e' := .f32) (k0_pay19 (F := Ideal) i x0 T x4) (Rect.unit ![3, 0] ![1, 11264] inb_S16x11264_S1x11264_3_0)) x
      = x0 (ix2 63 (x 2)) := by
  refine Eq.trans ?_ (last1 i x0 x4 hp T (x 2))
  generalize k0_pay19 (F := Ideal) i x0 T x4 = z
  pointwise [k0_pay3]
theorem stored_first (i : grid0.Coords) (x0 : FVec Ideal S64x11264 .bf16) (T : FVec Ideal S16x11264 .f32) (x4 : FVec Ideal S144x80 .bf16)
    (hp : ∀ r k, x4 (ix2 r k) = if sel r.val k.val then (1 : EReal) else 0) (x : S1x1x11264.Idx) :
    k0_pay2 (F := Ideal) (View.ld (Val := Elt Ideal) (S := S16x11264) (e' := .f32) (k0_pay19 (F := Ideal) i x0 T x4) (Rect.unit ![0, 0] ![1, 11264] inb_S16x11264_S1x11264_0_0)) x
      = x0 (ix2 62 (x 2)) := by
  refine Eq.trans ?_ (last0 i x0 x4 hp T (x 2))
  generalize k0_pay19 (F := Ideal) i x0 T x4 = z
  pointwise [k0_pay2]

theorem fresh_at (t : Fin cfg0.N) (q : Fin 64) (k : Fin 11264) (b : Fin 32) (r : Fin 2) (j : Fin 11264) (hb : b.val = t.val) (hq : q.val = 62 + r.val) (hj : j.val = k.val) :
    (show FVec Ideal S64x11264 .bf16 from iblk m c 0 t) (ix2 q k)
      = Spec.fresh (m ((c : Thread nD τ).loc main_arg0)) (m ((c : Thread nD τ).loc main_arg2)) b r j := by
  refine (read_gate m c t q k).trans ?_
  unfold Spec.fresh Spec.series
  obtain rfl : j = k := Fin.ext hj
  by_cases hk : j.val < 11008
  · rw [dif_pos hk, dif_pos hk, dif_neg (show ¬ 64 + r.val < 2 by omega)]
    exact congrArg (fun n => (show FVec Ideal S18496x11008 .f32 from m ((c : Thread nD τ).loc main_arg0)) (ix2 n ⟨j.val, hk⟩)) (Fin.ext (by
      show 16448 + 64 * t.val + q.val = 16448 + 64 * b.val + (64 + r.val - 2)
      omega))
  · rw [dif_neg hk, dif_neg hk]

/-- The new state's array. -/
theorem fresh_apply : (dats m 0 c).arrAt 6 cfg0.N = fun i : S32x2x11264.Idx => Spec.fresh (m ((c : Thread nD τ).loc main_arg0)) (m ((c : Thread nD τ).loc main_arg2)) (i 0) (i 1) (i 2) := by
  refine (dats m 0 c).arrAt_eq_of_covers 6 _ (by decide +kernel) fun t _ y => ?_
  have ht : t.val < 32 := t.isLt
  blk_simp
  rw [after0_6]; unfold outsAt0
  frame_open
  simp (disch := decide) only [↓ View.readCov_skip, ↓ View.readCov_cons_toLoadRect, ↓ View.readCov_fill]
  frame_out
  canon_tiles x h
  · refine (stored_last (grid0.coords t) (iblk m c 0 t) _ (iblk m c 4 t) (read_pm m c t) x).trans (fresh_at m c t 63 (x 2) _ _ _ ?_ ?_ ?_)
    · blk_simp [idx t]
      try omega
    · blk_simp [idx t]
      try omega
    · blk_simp [idx t]
      try omega
  · refine (stored_first (grid0.coords t) (iblk m c 0 t) _ (iblk m c 4 t) (read_pm m c t) x).trans (fresh_at m c t 62 (x 2) _ _ _ ?_ ?_ ?_)
    · blk_simp [idx t]
      try omega
    · blk_simp [idx t]
      try omega
    · blk_simp [idx t]
      try omega
end Cert.ActIdeal.Conv
end
-- ==== Proof.Conv.Ref.lean ====
/-
  What the convolution's reference leaves in its results.
-/
module
public import proofs.«01_k».proof.Proof.Gen.ActRefIdeal.Run
public import proofs.«01_k».proof.Proof.Conv.Spec
public import Idealize.ShloMosaic.Lib.Claim
@[expose] public section
set_option maxRecDepth 16384
noncomputable section
open Idealize.ShloMosaic Idealize.ShloMosaic.TcCoe Idealize.SL.Sem
namespace Cert.ActRefIdeal.Conv
open Cert.ActRefIdeal Cert.ActRefIdeal.Gen
variable (A0 A1 : FVec Ideal S18496x11008 .f32) (A2 : FVec Ideal S2x32x2x11008 .f32) (A3 : FVec Ideal S2x3x11008 .f32) (A4 : FVec Ideal S18496x11008 .f32)

/-- The state's frames and the gate's, side by side. -/
def cat : FVec Ideal S32x66x11008 .f32 :=
  concatenate S32x66x11008 1 [⟨S32x2x11008, ((shapeCast S32x2x11008 (extractStridedSlice S1x32x2x11008 ![0, 0, 0, 0] A2 slices_S2x32x2x11008_S1x32x2x11008_0_0_0_0) shapeCasts_S1x32x2x11008_S32x2x11008) : (⟨S32x2x11008, .f32⟩ : BufTy).Contents (Elt Ideal))⟩, ⟨S32x64x11008, ((shapeCast S32x64x11008 (extractStridedSlice S2048x11008 ![16448, 0] A0 slices_S18496x11008_S2048x11008_16448_0) shapeCasts_S2048x11008_S32x64x11008) : (⟨S32x64x11008, .f32⟩ : BufTy).Contents (Elt Ideal))⟩] concatenates_S32x2x11008_S32x64x11008_S32x66x11008_d1

theorem cat_apply (b : Fin 32) (n : Fin 66) (j : Fin 11008) : cat A0 A2 (ix3 b n j) = Spec.series A0 A2 b n j := by
  unfold Spec.series
  by_cases h : n.val < 2
  · rw [dif_pos h]
    pointwise [cat]
    refine (dif_pos h).trans ?_
    rfl
  · rw [dif_neg h]
    pointwise [cat]
    refine (dif_neg h).trans ?_
    refine congrArg (fun q => A0 (ix2 q j)) (Fin.ext ?_)
    show 16448 + (b.val * 64 + (n.val - 2)) = 16448 + 64 * b.val + (n.val - 2)
    omega

/-- A tap's weights at every frame. -/
def tapRow (r : Nat) (hs : S3x11008.Slices ![r, 0] S1x11008) : FVec Ideal S32x64x11008 .f32 :=
  broadcastInDim S32x64x11008 ![0, 1, 2] bcast_S1x1x11008_S32x64x11008_0_1_2 (broadcastInDim S1x1x11008 ![2] bcast_S11008_S1x1x11008_2 (shapeCast S11008 (extractStridedSlice S1x11008 ![r, 0] (shapeCast S3x11008 (extractStridedSlice S1x3x11008 ![0, 0, 0] A3 slices_S2x3x11008_S1x3x11008_0_0_0) shapeCasts_S1x3x11008_S3x11008) hs) shapeCasts_S1x11008_S11008))

/-- The convolution. -/
def y : FVec Ideal S32x64x11008 .f32 :=
  addf (addf (mulf (tapRow A3 0 slices_S3x11008_S1x11008_0_0) (extractStridedSlice S32x64x11008 ![0, 0, 0] (cat A0 A2) slices_S32x66x11008_S32x64x11008_0_0_0))
    (mulf (tapRow A3 1 slices_S3x11008_S1x11008_1_0) (extractStridedSlice S32x64x11008 ![0, 1, 0] (cat A0 A2) slices_S32x66x11008_S32x64x11008_0_1_0)))
    (mulf (tapRow A3 2 slices_S3x11008_S1x11008_2_0) (extractStridedSlice S32x64x11008 ![0, 2, 0] (cat A0 A2) slices_S32x66x11008_S32x64x11008_0_2_0))

theorem tap0 (b : Fin 32) (s : Fin 64) (j : Fin 11008) : tapRow A3 0 slices_S3x11008_S1x11008_0_0 (ix3 b s j) = A3 (ix3 0 0 j) := by pointwise [tapRow]
theorem tap1 (b : Fin 32) (s : Fin 64) (j : Fin 11008) : tapRow A3 1 slices_S3x11008_S1x11008_1_0 (ix3 b s j) = A3 (ix3 0 1 j) := by pointwise [tapRow]
theorem tap2 (b : Fin 32) (s : Fin 64) (j : Fin 11008) : tapRow A3 2 slices_S3x11008_S1x11008_2_0 (ix3 b s j) = A3 (ix3 0 2 j) := by pointwise [tapRow]
theorem sl0 (z : FVec Ideal S32x66x11008 .f32) (b : Fin 32) (s : Fin 64) (j : Fin 11008) : extractStridedSlice S32x64x11008 ![0, 0, 0] z slices_S32x66x11008_S32x64x11008_0_0_0 (ix3 b s j) = z (ix3 b ⟨s.val, by omega⟩ j) := by pointwise
theorem sl1 (z : FVec Ideal S32x66x11008 .f32) (b : Fin 32) (s : Fin 64) (j : Fin 11008) : extractStridedSlice S32x64x11008 ![0, 1, 0] z slices_S32x66x11008_S32x64x11008_0_1_0 (ix3 b s j) = z (ix3 b ⟨s.val + 1, by omega⟩ j) := by
  pointwise
  exact congrArg (fun n => z (ix3 b n j)) (Fin.ext (Nat.add_comm _ _))
theorem sl2 (z : FVec Ideal S32x66x11008 .f32) (b : Fin 32) (s : Fin 64) (j : Fin 11008) : extractStridedSlice S32x64x11008 ![0, 2, 0] z slices_S32x66x11008_S32x64x11008_0_2_0 (ix3 b s j) = z (ix3 b ⟨s.val + 2, by omega⟩ j) := by
  pointwise
  exact congrArg (fun n => z (ix3 b n j)) (Fin.ext (Nat.add_comm _ _))

theorem y_apply (b : Fin 32) (s : Fin 64) (j : Fin 11008) : y A0 A2 A3 (ix3 b s j) = Spec.conv A0 A2 A3 b s j := by
  unfold Spec.conv
  rw [← cat_apply, ← cat_apply, ← cat_apply, ← tap0 A3 b s j, ← tap1 A3 b s j, ← tap2 A3 b s j]
  generalize hz : cat A0 A2 = z
  rw [← sl0 z, ← sl1 z, ← sl2 z]
  unfold y
  rw [hz]
  rfl

/-- The gated frames. -/
def g (Y : FVec Ideal S32x64x11008 .f32) : FVec Ideal S32x64x11008 .f32 :=
  mulf (mulf Y (Host.divf (broadcastInDim S32x64x11008 ![] bcast_S_S32x64x11008 (constant (F := Ideal) S_ .f32 0x3F800000#32)) (addf (broadcastInDim S32x64x11008 ![] bcast_S_S32x64x11008 (constant (F := Ideal) S_ .f32 0x3F800000#32)) (Host.exp (Host.negf Y)))))
    (shapeCast S32x64x11008 (extractStridedSlice S2048x11008 ![16448, 0] A1 slices_S18496x11008_S2048x11008_16448_0) shapeCasts_S2048x11008_S32x64x11008)

theorem g_apply (Y : FVec Ideal S32x64x11008 .f32) (b : Fin 32) (s : Fin 64) (j : Fin 11008) :
    g A1 Y (ix3 b s j) = Y (ix3 b s j) * Ideal.logistic (Y (ix3 b s j)) * A1 (ix2 ⟨16448 + 64 * b.val + s.val, by omega⟩ j) := by
  pointwise [g]
  have e : (⟨16448 + (b.val * 64 + s.val), by omega⟩ : Fin 18496) = ⟨16448 + 64 * b.val + s.val, by omega⟩ := Fin.ext (by dsimp only; omega)
  rw [e]
  rfl

/-- The rows before the samples, then the gated frames. -/
def whole (G : FVec Ideal S32x64x11008 .f32) : FVec Ideal S18496x11264 .bf16 :=
  truncf .bf16 (pad S18496x11264 ![0, 0] ![0, 256] ![0, 0] (concatenate S18496x11008 0 [⟨S16448x11008, ((extractStridedSlice S16448x11008 ![0, 0] A4 slices_S18496x11008_S16448x11008_0_0) : (⟨S16448x11008, .f32⟩ : BufTy).Contents (Elt Ideal))⟩, ⟨S2048x11008, ((shapeCast S2048x11008 G shapeCasts_S32x64x11008_S2048x11008) : (⟨S2048x11008, .f32⟩ : BufTy).Contents (Elt Ideal))⟩] concatenates_S16448x11008_S2048x11008_S18496x11008_d0) (sitofp (F := Ideal) .f32 (constantI S_ 32 0#32)) pads_S18496x11008_S18496x11264_000_02560 h_S_) bitsLt_bf16_f32

theorem whole_apply (G : FVec Ideal S32x64x11008 .f32) (i : Fin 18496) (j : Fin 11264) :
    whole A4 G (ix2 i j) = if hj : j.val < 11008 then (if i.val < 16448 then A4 (ix2 i ⟨j.val, hj⟩)
      else G (ix3 ⟨(i.val - 16448) / 64, by omega⟩ ⟨(i.val - 16448) % 64, by omega⟩ ⟨j.val, hj⟩)) else 0 := by
  pointwise [whole]
  by_cases hj : j.val < 11008
  · simp only [dif_pos hj]
    by_cases hi : i.val < 16448
    · rw [dif_pos hi, if_pos hi]
    · rw [dif_neg hi, if_neg hi]
  · rw [dif_neg hj]
    refine Eq.trans ?_ (dif_neg hj).symm
    show ((((0#32 : BitVec 32).toInt : ℤ) : ℝ) : EReal) = 0
    simp

/-- The last two frames. -/
def tailOf : FVec Ideal S32x2x11264 .f32 :=
  pad S32x2x11264 ![0, 0, 0] ![0, 0, 256] ![0, 0, 0] (extractStridedSlice S32x2x11008 ![0, 64, 0] (cat A0 A2) slices_S32x66x11008_S32x2x11008_0_64_0) (sitofp (F := Ideal) .f32 (constantI S_ 32 0#32)) pads_S32x2x11008_S32x2x11264_000_000_02560 h_S_

theorem tailOf_apply (b : Fin 32) (r : Fin 2) (j : Fin 11264) : tailOf A0 A2 (ix3 b r j) = Spec.fresh A0 A2 b r j := by
  unfold Spec.fresh tailOf
  simp only [← cat_apply]
  generalize cat A0 A2 = z
  pointwise
  by_cases hj : j.val < 11008
  · simp only [dif_pos hj]
  · rw [dif_neg hj]
    refine Eq.trans ?_ (dif_neg hj).symm
    show ((((0#32 : BitVec 32).toInt : ℤ) : ℝ) : EReal) = 0
    simp

theorem res_eq (m : (ℓ : Loc nD τ sig) → Buf (Elt Ideal) ℓ) (c : Dev nD) :
    (show FVec Ideal S18496x11264 .bf16 from Value.res_out0 m c)
      = whole (m ((c : Thread nD τ).loc main_arg4)) (g (m ((c : Thread nD τ).loc main_arg1)) (y (m ((c : Thread nD τ).loc main_arg0)) (m ((c : Thread nD τ).loc main_arg2)) (m ((c : Thread nD τ).loc main_arg3)))) := rfl

theorem acts_apply (m : (ℓ : Loc nD τ sig) → Buf (Elt Ideal) ℓ) (c : Dev nD) (i : Fin 18496) (j : Fin 11264) :
    (show FVec Ideal S18496x11264 .bf16 from Value.res_out0 m c) (ix2 i j)
      = Spec.acts (m ((c : Thread nD τ).loc main_arg0)) (m ((c : Thread nD τ).loc main_arg1)) (m ((c : Thread nD τ).loc main_arg2)) (m ((c : Thread nD τ).loc main_arg3)) (m ((c : Thread nD τ).loc main_arg4)) i j := by
  rw [res_eq]
  refine (whole_apply _ _ i j).trans ?_
  unfold Spec.acts Spec.gated
  simp only [g_apply, y_apply]
end Cert.ActRefIdeal.Conv
end
-- ==== Proof.Conv.Claims.lean ====
/-
  The convolution's and the gate's claims.
-/
module
public import proofs.«01_k».proof.Defs
public import proofs.«01_k».proof.Proof.Conv.Value
public import proofs.«01_k».proof.Proof.Conv.Ref
public import proofs.«01_k».proof.Proof.Gen.Act.Frame
public import Idealize.ShloMosaic.Adequacy
public import Idealize.ShloMosaic.Init
@[expose] public section
set_option maxRecDepth 16384
noncomputable section
open Idealize.ShloMosaic Idealize.ShloMosaic.TcCoe Idealize.SL.Sem

namespace Cert.Pre_finite_state
theorem facts : Facts where
  slices_S2x32x2x11008_S1x32x2x11008_0_0_0_0 := by decide
  shapeCasts_S1x32x2x11008_S32x2x11008 := by decide
  bcast_S_S32x2x11008 := by decide

theorem fn_apply [Facts] (A0 A1 : FVec Ideal S18496x11008 .f32) (A2 : FVec Ideal S2x32x2x11008 .f32) (A3 : FVec Ideal S2x3x11008 .f32) (A4 : FVec Ideal S18496x11008 .f32)
    (b : Fin 32) (s : Fin 2) (j : Fin 11008) (h : fn A0 A1 A2 A3 A4 = fun _ => 1#1) : A2 (ix4 0 b s j) ≠ (⊤ : EReal) ∧ A2 (ix4 0 b s j) ≠ (⊥ : EReal) := by
  have h' := congrFun h (ix3 b s j)
  have e : fn A0 A1 A2 A3 A4 (ix3 b s j) = Ideal.cmp .olt (max (A2 (ix4 0 b s j)) (-(A2 (ix4 0 b s j)))) (Ideal.ofBits .f32 0x7F800000#32) := by
    pointwise [fn]
    rfl
  have top : Ideal.ofBits .f32 0x7F800000#32 = (⊤ : EReal) := by simp [Ideal.ofBits, Ideal.ieee]
  rw [e, top] at h'
  generalize A2 (ix4 0 b s j) = x at h' ⊢
  constructor
  · rintro rfl
    simp [Ideal.cmp] at h'
  · rintro rfl
    simp [Ideal.cmp] at h'
end Cert.Pre_finite_state

namespace Cert.Conv

theorem frame_p : Cert.quiescent_Act := fun m ρ _ => Cert.Act.Gen.frame m ρ
theorem frame_pi : Cert.quiescent_ActIdeal := fun m ρ _ => Cert.ActIdeal.Gen.frame m ρ
theorem frame_pi_pre [Cert.Pre_finite_state.Facts] : Cert.quiescent_ActIdeal_pre_finite_state := fun m ρ _ => Cert.ActIdeal.Gen.frame m ρ
theorem frame_ri : Cert.quiescent_ActRefIdeal := fun m ρ _ =>
  (θ_run Cert.ActRefIdeal.defs _ _).mono (fun r h => ⟨fun c => (h c).2.2, Idealize.ShloMosaic.sem_eq_zero_of_no_sems (by decide) r.2⟩)
    (Cert.ActRefIdeal.Value.run (F := Ideal) m ρ)
theorem frame_ri_pre [Cert.Pre_finite_state.Facts] : Cert.quiescent_ActRefIdeal_pre_finite_state := fun m ρ _ => frame_ri m ρ trivial

theorem preserves : Cert.preserves_Act_ActIdeal := trivial

theorem algebraic [Cert.Pre_finite_state.Facts] : Cert.algebraic_ActIdeal_ActRefIdeal_pre_finite_state := by
  intro m ρ m' ρ' hpre hagree
  refine ⟨_, _, Cert.ActIdeal.Value.run_blocks m ρ, ?_⟩
  refine (θ_run Cert.ActRefIdeal.defs _ _).mono (fun _ h c => ⟨(h c).1.trans ?_, (h c).2.1.trans ?_, (h c).2.2⟩)
    (Cert.ActRefIdeal.Value.run (F := Ideal) m' ρ')
  all_goals obtain ⟨h0, h1, h2, h3, h4⟩ := hagree c
  · refine funext fun (i : (⟨2, ![18496, 11264]⟩ : Shape).Idx) => ?_
    rw [show i = ix2 (i 0) (i 1) from by pointwise]
    refine (Cert.ActRefIdeal.Conv.acts_apply m' c (i 0) (i 1)).trans ((?_ : _ = _).trans
      (Cert.ActIdeal.Conv.acts_apply m c (fun b s j => Cert.Pre_finite_state.fn_apply _ _ _ _ _ b s j (hpre c)) (i 0) (i 1)).symm)
    rw [h0, h1, h2, h3, h4]
  · refine funext fun (i : (⟨3, ![32, 2, 11264]⟩ : Shape).Idx) => ?_
    refine Eq.trans ?_ (congrFun (Cert.ActIdeal.Conv.fresh_apply m c) i).symm
    rw [h0, h2]
    rw [show i = ix3 (i 0) (i 1) (i 2) from by pointwise]
    exact Cert.ActRefIdeal.Conv.tailOf_apply _ _ (i 0) (i 1) (i 2)

end Cert.Conv
end
-- ==== Proof.Convp.Sel.lean ====
/-
  The shift matrix: each row has ones at the columns whose entries it sums, zeros elsewhere.
-/
module
public import proofs.«01_k».proof.Proof.Gen.ActpIdeal
public import Idealize.ShloMosaic.PureOps.Ideal
@[expose] public section
set_option maxRecDepth 16384
noncomputable section
open Idealize.ShloMosaic
namespace Cert.ActpIdeal.Conv
open Cert.ActpIdeal Cert.ActpIdeal.Gen

/-- Whether row `r` sums column `k`. -/
abbrev sel (r k : Nat) : Bool :=
  if r < 128 then (if r = 0 then 3 ≤ k && k < 6 else k = r + 15)
  else if r < 256 then (if r = 128 then k < 3 else if r = 129 then 3 ≤ k && k < 6 else k + 114 = r)
  else (r = 256 && k = 142) || (r = 259 && k = 143)

/-- The entry that position `n` of the table should hold. -/
abbrev entry (n : Nat) : BitVec 16 := if sel (n / 144) (n % 144) then 0x3F80#16 else 0#16

end Cert.ActpIdeal.Conv
end
-- ==== Proof.Convp.Table0.lean ====
/-
  The shift matrix's entries, checked 1088 at a time: part 1 of 4.
-/
module
public import proofs.«01_k».proof.Proof.Convp.Sel
@[expose] public section
set_option maxRecDepth 16384
set_option Elab.async false
noncomputable section
open Idealize.ShloMosaic
namespace Cert.ActpIdeal.Conv
open Cert.ActpIdeal Cert.ActpIdeal.Gen

theorem table0 : ∀ n : Fin 1088, lit0 ⟨0 + n.val, by omega⟩ = entry (0 + n.val) := by decide +kernel
theorem table1 : ∀ n : Fin 1088, lit0 ⟨1088 + n.val, by omega⟩ = entry (1088 + n.val) := by decide +kernel
theorem table2 : ∀ n : Fin 1088, lit0 ⟨2176 + n.val, by omega⟩ = entry (2176 + n.val) := by decide +kernel
theorem table3 : ∀ n : Fin 1088, lit0 ⟨3264 + n.val, by omega⟩ = entry (3264 + n.val) := by decide +kernel
theorem table4 : ∀ n : Fin 1088, lit0 ⟨4352 + n.val, by omega⟩ = entry (4352 + n.val) := by decide +kernel
theorem table5 : ∀ n : Fin 1088, lit0 ⟨5440 + n.val, by omega⟩ = entry (5440 + n.val) := by decide +kernel
theorem table6 : ∀ n : Fin 1088, lit0 ⟨6528 + n.val, by omega⟩ = entry (6528 + n.val) := by decide +kernel
theorem table7 : ∀ n : Fin 1088, lit0 ⟨7616 + n.val, by omega⟩ = entry (7616 + n.val) := by decide +kernel
theorem table8 : ∀ n : Fin 1088, lit0 ⟨8704 + n.val, by omega⟩ = entry (8704 + n.val) := by decide +kernel

end Cert.ActpIdeal.Conv
end
-- ==== Proof.Convp.Table1.lean ====
/-
  The shift matrix's entries, checked 1088 at a time: part 2 of 4.
-/
module
public import proofs.«01_k».proof.Proof.Convp.Sel
@[expose] public section
set_option maxRecDepth 16384
set_option Elab.async false
noncomputable section
open Idealize.ShloMosaic
namespace Cert.ActpIdeal.Conv
open Cert.ActpIdeal Cert.ActpIdeal.Gen

theorem table9 : ∀ n : Fin 1088, lit0 ⟨9792 + n.val, by omega⟩ = entry (9792 + n.val) := by decide +kernel
theorem table10 : ∀ n : Fin 1088, lit0 ⟨10880 + n.val, by omega⟩ = entry (10880 + n.val) := by decide +kernel
theorem table11 : ∀ n : Fin 1088, lit0 ⟨11968 + n.val, by omega⟩ = entry (11968 + n.val) := by decide +kernel
theorem table12 : ∀ n : Fin 1088, lit0 ⟨13056 + n.val, by omega⟩ = entry (13056 + n.val) := by decide +kernel
theorem table13 : ∀ n : Fin 1088, lit0 ⟨14144 + n.val, by omega⟩ = entry (14144 + n.val) := by decide +kernel
theorem table14 : ∀ n : Fin 1088, lit0 ⟨15232 + n.val, by omega⟩ = entry (15232 + n.val) := by decide +kernel
theorem table15 : ∀ n : Fin 1088, lit0 ⟨16320 + n.val, by omega⟩ = entry (16320 + n.val) := by decide +kernel
theorem table16 : ∀ n : Fin 1088, lit0 ⟨17408 + n.val, by omega⟩ = entry (17408 + n.val) := by decide +kernel
theorem table17 : ∀ n : Fin 1088, lit0 ⟨18496 + n.val, by omega⟩ = entry (18496 + n.val) := by decide +kernel

end Cert.ActpIdeal.Conv
end
-- ==== Proof.Convp.Table2.lean ====
/-
  The shift matrix's entries, checked 1088 at a time: part 3 of 4.
-/
module
public import proofs.«01_k».proof.Proof.Convp.Sel
@[expose] public section
set_option maxRecDepth 16384
set_option Elab.async false
noncomputable section
open Idealize.ShloMosaic
namespace Cert.ActpIdeal.Conv
open Cert.ActpIdeal Cert.ActpIdeal.Gen

theorem table18 : ∀ n : Fin 1088, lit0 ⟨19584 + n.val, by omega⟩ = entry (19584 + n.val) := by decide +kernel
theorem table19 : ∀ n : Fin 1088, lit0 ⟨20672 + n.val, by omega⟩ = entry (20672 + n.val) := by decide +kernel
theorem table20 : ∀ n : Fin 1088, lit0 ⟨21760 + n.val, by omega⟩ = entry (21760 + n.val) := by decide +kernel
theorem table21 : ∀ n : Fin 1088, lit0 ⟨22848 + n.val, by omega⟩ = entry (22848 + n.val) := by decide +kernel
theorem table22 : ∀ n : Fin 1088, lit0 ⟨23936 + n.val, by omega⟩ = entry (23936 + n.val) := by decide +kernel
theorem table23 : ∀ n : Fin 1088, lit0 ⟨25024 + n.val, by omega⟩ = entry (25024 + n.val) := by decide +kernel
theorem table24 : ∀ n : Fin 1088, lit0 ⟨26112 + n.val, by omega⟩ = entry (26112 + n.val) := by decide +kernel
theorem table25 : ∀ n : Fin 1088, lit0 ⟨27200 + n.val, by omega⟩ = entry (27200 + n.val) := by decide +kernel
theorem table26 : ∀ n : Fin 1088, lit0 ⟨28288 + n.val, by omega⟩ = entry (28288 + n.val) := by decide +kernel

end Cert.ActpIdeal.Conv
end
-- ==== Proof.Convp.Table3.lean ====
/-
  The shift matrix's entries, checked 1088 at a time: part 4 of 4.
-/
module
public import proofs.«01_k».proof.Proof.Convp.Sel
@[expose] public section
set_option maxRecDepth 16384
set_option Elab.async false
noncomputable section
open Idealize.ShloMosaic
namespace Cert.ActpIdeal.Conv
open Cert.ActpIdeal Cert.ActpIdeal.Gen

theorem table27 : ∀ n : Fin 1088, lit0 ⟨29376 + n.val, by omega⟩ = entry (29376 + n.val) := by decide +kernel
theorem table28 : ∀ n : Fin 1088, lit0 ⟨30464 + n.val, by omega⟩ = entry (30464 + n.val) := by decide +kernel
theorem table29 : ∀ n : Fin 1088, lit0 ⟨31552 + n.val, by omega⟩ = entry (31552 + n.val) := by decide +kernel
theorem table30 : ∀ n : Fin 1088, lit0 ⟨32640 + n.val, by omega⟩ = entry (32640 + n.val) := by decide +kernel
theorem table31 : ∀ n : Fin 1088, lit0 ⟨33728 + n.val, by omega⟩ = entry (33728 + n.val) := by decide +kernel
theorem table32 : ∀ n : Fin 1088, lit0 ⟨34816 + n.val, by omega⟩ = entry (34816 + n.val) := by decide +kernel
theorem table33 : ∀ n : Fin 1088, lit0 ⟨35904 + n.val, by omega⟩ = entry (35904 + n.val) := by decide +kernel
theorem table34 : ∀ n : Fin 1088, lit0 ⟨36992 + n.val, by omega⟩ = entry (36992 + n.val) := by decide +kernel
theorem table35 : ∀ n : Fin 1088, lit0 ⟨38080 + n.val, by omega⟩ = entry (38080 + n.val) := by decide +kernel

end Cert.ActpIdeal.Conv
end
-- ==== Proof.Convp.Shift.lean ====
/-
  The shift matrix: each row has ones at the columns whose entries it sums, zeros elsewhere.
-/
module
public import proofs.«01_k».proof.Proof.Convp.Table0
public import proofs.«01_k».proof.Proof.Convp.Table1
public import proofs.«01_k».proof.Proof.Convp.Table2
public import proofs.«01_k».proof.Proof.Convp.Table3
@[expose] public section
set_option maxRecDepth 16384
noncomputable section
open Idealize.ShloMosaic
namespace Cert.ActpIdeal.Conv
open Cert.ActpIdeal Cert.ActpIdeal.Gen

theorem part (o : Nat) (h : ∀ n : Fin 1088, ∀ hn : o + n.val < 39168, lit0 ⟨o + n.val, hn⟩ = entry (o + n.val)) (n : Fin 39168) (h0 : o ≤ n.val) (h1 : n.val < o + 1088) :
    lit0 n = entry n.val := by
  have e : n.val = o + (n.val - o) := by omega
  have := h ⟨n.val - o, by omega⟩ (by dsimp only; omega)
  have k : (⟨o + (n.val - o), by omega⟩ : Fin 39168) = n := Fin.ext e.symm
  dsimp only at this
  rw [k, ← e] at this
  exact this

theorem table (n : Fin 39168) : lit0 n = if sel (n.val / 144) (n.val % 144) then 0x3F80#16 else 0#16 := by
  by_cases h0 : n.val < 1088
  · exact part 0 (fun n _ => table0 n) n (by omega) h0
  by_cases h1 : n.val < 2176
  · exact part 1088 (fun n _ => table1 n) n (by omega) h1
  by_cases h2 : n.val < 3264
  · exact part 2176 (fun n _ => table2 n) n (by omega) h2
  by_cases h3 : n.val < 4352
  · exact part 3264 (fun n _ => table3 n) n (by omega) h3
  by_cases h4 : n.val < 5440
  · exact part 4352 (fun n _ => table4 n) n (by omega) h4
  by_cases h5 : n.val < 6528
  · exact part 5440 (fun n _ => table5 n) n (by omega) h5
  by_cases h6 : n.val < 7616
  · exact part 6528 (fun n _ => table6 n) n (by omega) h6
  by_cases h7 : n.val < 8704
  · exact part 7616 (fun n _ => table7 n) n (by omega) h7
  by_cases h8 : n.val < 9792
  · exact part 8704 (fun n _ => table8 n) n (by omega) h8
  by_cases h9 : n.val < 10880
  · exact part 9792 (fun n _ => table9 n) n (by omega) h9
  by_cases h10 : n.val < 11968
  · exact part 10880 (fun n _ => table10 n) n (by omega) h10
  by_cases h11 : n.val < 13056
  · exact part 11968 (fun n _ => table11 n) n (by omega) h11
  by_cases h12 : n.val < 14144
  · exact part 13056 (fun n _ => table12 n) n (by omega) h12
  by_cases h13 : n.val < 15232
  · exact part 14144 (fun n _ => table13 n) n (by omega) h13
  by_cases h14 : n.val < 16320
  · exact part 15232 (fun n _ => table14 n) n (by omega) h14
  by_cases h15 : n.val < 17408
  · exact part 16320 (fun n _ => table15 n) n (by omega) h15
  by_cases h16 : n.val < 18496
  · exact part 17408 (fun n _ => table16 n) n (by omega) h16
  by_cases h17 : n.val < 19584
  · exact part 18496 (fun n _ => table17 n) n (by omega) h17
  by_cases h18 : n.val < 20672
  · exact part 19584 (fun n _ => table18 n) n (by omega) h18
  by_cases h19 : n.val < 21760
  · exact part 20672 (fun n _ => table19 n) n (by omega) h19
  by_cases h20 : n.val < 22848
  · exact part 21760 (fun n _ => table20 n) n (by omega) h20
  by_cases h21 : n.val < 23936
  · exact part 22848 (fun n _ => table21 n) n (by omega) h21
  by_cases h22 : n.val < 25024
  · exact part 23936 (fun n _ => table22 n) n (by omega) h22
  by_cases h23 : n.val < 26112
  · exact part 25024 (fun n _ => table23 n) n (by omega) h23
  by_cases h24 : n.val < 27200
  · exact part 26112 (fun n _ => table24 n) n (by omega) h24
  by_cases h25 : n.val < 28288
  · exact part 27200 (fun n _ => table25 n) n (by omega) h25
  by_cases h26 : n.val < 29376
  · exact part 28288 (fun n _ => table26 n) n (by omega) h26
  by_cases h27 : n.val < 30464
  · exact part 29376 (fun n _ => table27 n) n (by omega) h27
  by_cases h28 : n.val < 31552
  · exact part 30464 (fun n _ => table28 n) n (by omega) h28
  by_cases h29 : n.val < 32640
  · exact part 31552 (fun n _ => table29 n) n (by omega) h29
  by_cases h30 : n.val < 33728
  · exact part 32640 (fun n _ => table30 n) n (by omega) h30
  by_cases h31 : n.val < 34816
  · exact part 33728 (fun n _ => table31 n) n (by omega) h31
  by_cases h32 : n.val < 35904
  · exact part 34816 (fun n _ => table32 n) n (by omega) h32
  by_cases h33 : n.val < 36992
  · exact part 35904 (fun n _ => table33 n) n (by omega) h33
  by_cases h34 : n.val < 38080
  · exact part 36992 (fun n _ => table34 n) n (by omega) h34
  exact part 38080 (fun n _ => table35 n) n (by omega) (by have := n.isLt; omega)

end Cert.ActpIdeal.Conv
end
-- ==== Proof.Convp.Block.lean ====
/-
  The convolution's body at a grid point: the shifted frames, and the gated sum of three of them.
-/
module
public import proofs.«01_k».proof.Proof.Gen.ActpIdeal.Value
public import proofs.«01_k».proof.Proof.Convp.Shift
public import Idealize.ShloMosaic.Lib.Pipeline.ValueKit
public import Idealize.ShloMosaic.Lib.Pipeline.ReadBack
public import Idealize.ShloMosaic.Lib.WritesUnit
@[expose] public section
set_option maxRecDepth 16384
noncomputable section
open Idealize.ShloMosaic Idealize.ShloMosaic.TcCoe Idealize.SL.Sem
namespace Cert.ActpIdeal.Conv
open Cert.ActpIdeal Cert.ActpIdeal.Gen

theorem sum_one (p : Fin 144 → Prop) [DecidablePred p] (f : Fin 144 → EReal) (a : Fin 144) (h : ∀ k, p k ↔ k = a) :
    ∑ k, (if p k then (1 : EReal) else 0) * f k = f a := by
  simp [h, ite_mul]

theorem sum_three (p : Fin 144 → Prop) [DecidablePred p] (f : Fin 144 → EReal) (a b c : Fin 144) (hab : a ≠ b) (hac : a ≠ c) (hbc : b ≠ c)
    (h : ∀ k, p k ↔ k = a ∨ k = b ∨ k = c) :
    ∑ k, (if p k then (1 : EReal) else 0) * f k = f a + (f b + f c) := by
  have e : ∀ k, (if p k then (1 : EReal) else 0) * f k = if k ∈ ({a, b, c} : Finset (Fin 144)) then f k else 0 := by
    intro k
    by_cases hk : p k
    · rw [if_pos hk, one_mul, if_pos (by simpa using (h k).mp hk)]
    · rw [if_neg hk, zero_mul, if_neg (by simpa using fun h' => hk ((h k).mpr h'))]
  rw [Finset.sum_congr rfl fun k _ => e k, Finset.sum_ite_mem, Finset.univ_inter, Finset.sum_insert (by simp [hab, hac]),
    Finset.sum_insert (by simp [hbc]), Finset.sum_singleton]

/-- The remainders of a finite number are zero. -/
theorem parts {x : EReal} (h : x ≠ ⊤) (h' : x ≠ ⊥) : x + ((x - x) + (x - x - (x - x))) = x := by
  lift x to ℝ using ⟨h, h'⟩
  norm_cast
  ring

variable (i : grid0.Coords) (x0 : FVec Ideal S128x11264 .bf16) (x1 : FVec Ideal S128x11264 .bf16) (x2 : FVec Ideal S1x2x11264 .f32)
  (x3 : FVec Ideal S3x11264 .f32) (x4 : FVec Ideal S272x144 .bf16) (T : FVec Ideal S16x11264 .f32)

/-- Six rows stored one by one over a filled scratch. -/
def stored (p0 p1 p2 p3 p4 p5 : FVec Ideal S1x11264 .f32) (z : FVec Ideal S16x11264 .f32) : FVec Ideal S16x11264 .f32 :=
  View.readCov (Val := Elt Ideal) (s := S16x11264) (e := .f32) (View.whole cc0_scratch0)
    [⟨Rect.unit ![5, 0] ![1, 11264] inb_S16x11264_S1x11264_5_0, p5⟩,
      ⟨Rect.unit ![4, 0] ![1, 11264] inb_S16x11264_S1x11264_4_0, p4⟩,
      ⟨Rect.unit ![3, 0] ![1, 11264] inb_S16x11264_S1x11264_3_0, p3⟩,
      ⟨Rect.unit ![2, 0] ![1, 11264] inb_S16x11264_S1x11264_2_0, p2⟩,
      ⟨Rect.unit ![1, 0] ![1, 11264] inb_S16x11264_S1x11264_1_0, p1⟩,
      ⟨Rect.unit ![0, 0] ![1, 11264] inb_S16x11264_S1x11264_0_0, p0⟩,
      ⟨Rect.unit ![0, 0] ![16, 11264] inb_S16x11264_S16x11264_0_0, z⟩]
    (Rect.unit (s := S16x11264) ![0, 0] ![16, 11264] inb_S16x11264_S16x11264_0_0).toLoadRect

/-- The scratch's rows: each state row as its three parts. -/
def tail : FVec Ideal S16x11264 .f32 :=
  stored (k0_pay10 (F := Ideal) x2) (k0_pay11 (F := Ideal) x2) (k0_pay12 (F := Ideal) x2) (k0_pay13 (F := Ideal) x2) (k0_pay14 (F := Ideal) x2)
    (k0_pay16 (F := Ideal) (k0_pay15 x2)) (k0_pay9 (F := Ideal))

theorem hi0 (j : Fin 11264) : k0_pay10 (F := Ideal) x2 (ix2 0 j) = x2 (ix3 0 0 j) := by pointwise [k0_pay10, k0_pay5, k0_pay4]
theorem mid0 (j : Fin 11264) : k0_pay11 (F := Ideal) x2 (ix2 0 j) = x2 (ix3 0 0 j) - x2 (ix3 0 0 j) := by pointwise [k0_pay11, k0_pay7, k0_pay6, k0_pay5, k0_pay4]
theorem lo0 (j : Fin 11264) : k0_pay12 (F := Ideal) x2 (ix2 0 j) = x2 (ix3 0 0 j) - x2 (ix3 0 0 j) - (x2 (ix3 0 0 j) - x2 (ix3 0 0 j)) := by pointwise [k0_pay12, k0_pay8, k0_pay7, k0_pay6, k0_pay5, k0_pay4]
theorem hi1 (j : Fin 11264) : k0_pay13 (F := Ideal) x2 (ix2 0 j) = x2 (ix3 0 1 j) := by pointwise [k0_pay13, k0_pay5, k0_pay4]
theorem mid1 (j : Fin 11264) : k0_pay14 (F := Ideal) x2 (ix2 0 j) = x2 (ix3 0 1 j) - x2 (ix3 0 1 j) := by pointwise [k0_pay14, k0_pay7, k0_pay6, k0_pay5, k0_pay4]
theorem lo1 (j : Fin 11264) : k0_pay16 (F := Ideal) (k0_pay15 (F := Ideal) x2) (ix2 0 j) = x2 (ix3 0 1 j) - x2 (ix3 0 1 j) - (x2 (ix3 0 1 j) - x2 (ix3 0 1 j)) := by pointwise [k0_pay16, k0_pay15, k0_pay8, k0_pay7, k0_pay6, k0_pay5, k0_pay4]

/-- A box that starts at the origin reads a scratch's rows as they are. -/
theorem box (r : Fin 16) (j : Fin 11264) :
    (Rect.unit (s := S16x11264) ![0, 0] ![16, 11264] inb_S16x11264_S16x11264_0_0).toLoadRect.idx (ix2 r j) = ix2 r j := by
  pointwise

/-- A stored row reads back as it was. -/
theorem hit {sig : RefSig} {κ : Kind} {sp : Space} (v : View sig κ sp S16x11264 .f32) (f : v.ty.Contents (Elt Ideal)) {off : Fin 2 → Nat}
    (inb : ∀ a : Fin 2, off a + (![1, 11264] : Fin 2 → Nat) a ≤ S16x11264.size a) (w : FVec Ideal S1x11264 .f32)
    (L : List (View.Piece (Elt Ideal) S16x11264 .f32)) (r : Fin 16) (j : Fin 11264) (h : off = ![r.val, 0]) :
    v.read (Elt Ideal) (v.writes (Elt Ideal) f (⟨Rect.unit (s := S16x11264) off ![1, 11264] inb, w⟩ :: L)) (ix2 r j) = w (ix2 0 j) := by
  have hx : ∀ a : Fin 2, ((ix2 r j : S16x11264.Idx) a).val = (![r.val, 0] : Fin 2 → Nat) a + ((ix2 0 j : S1x11264.Idx) a).val := by
    refine Fin.forall_fin_two.mpr ⟨?_, ?_⟩
    · show r.val = r.val + 0
      rfl
    · show j.val = 0 + j.val
      exact (Nat.zero_add _).symm
  exact View.read_writes_cons_unit_of_mem v f inb w L (ix2 r j) (show S1x11264.Idx from ix2 0 j) h hx

section
variable (p0 p1 p2 p3 p4 p5 : FVec Ideal S1x11264 .f32) (z : FVec Ideal S16x11264 .f32) (j : Fin 11264)

theorem stored5 : stored p0 p1 p2 p3 p4 p5 z (ix2 5 j) = p5 (ix2 0 j) := by
  unfold stored View.readCov
  rw [View.readAt_apply, box]
  exact hit _ _ _ p5 _ 5 j rfl
theorem stored4 : stored p0 p1 p2 p3 p4 p5 z (ix2 4 j) = p4 (ix2 0 j) := by
  unfold stored View.readCov
  rw [View.readAt_apply, box]
  refine (View.read_writes_cons_rows_of_not_mem (o := 5) (W := 1) _ _ _ _ _ _ rfl rfl (.inl (show 4 < 5 by decide))).trans ?_
  exact hit _ _ _ p4 _ 4 j rfl
theorem stored3 : stored p0 p1 p2 p3 p4 p5 z (ix2 3 j) = p3 (ix2 0 j) := by
  unfold stored View.readCov
  rw [View.readAt_apply, box]
  refine (View.read_writes_cons_rows_of_not_mem (o := 5) (W := 1) _ _ _ _ _ _ rfl rfl (.inl (show 3 < 5 by decide))).trans ?_
  refine (View.read_writes_cons_rows_of_not_mem (o := 4) (W := 1) _ _ _ _ _ _ rfl rfl (.inl (show 3 < 4 by decide))).trans ?_
  exact hit _ _ _ p3 _ 3 j rfl
theorem stored2 : stored p0 p1 p2 p3 p4 p5 z (ix2 2 j) = p2 (ix2 0 j) := by
  unfold stored View.readCov
  rw [View.readAt_apply, box]
  refine (View.read_writes_cons_rows_of_not_mem (o := 5) (W := 1) _ _ _ _ _ _ rfl rfl (.inl (show 2 < 5 by decide))).trans ?_
  refine (View.read_writes_cons_rows_of_not_mem (o := 4) (W := 1) _ _ _ _ _ _ rfl rfl (.inl (show 2 < 4 by decide))).trans ?_
  refine (View.read_writes_cons_rows_of_not_mem (o := 3) (W := 1) _ _ _ _ _ _ rfl rfl (.inl (show 2 < 3 by decide))).trans ?_
  exact hit _ _ _ p2 _ 2 j rfl
theorem stored1 : stored p0 p1 p2 p3 p4 p5 z (ix2 1 j) = p1 (ix2 0 j) := by
  unfold stored View.readCov
  rw [View.readAt_apply, box]
  refine (View.read_writes_cons_rows_of_not_mem (o := 5) (W := 1) _ _ _ _ _ _ rfl rfl (.inl (show 1 < 5 by decide))).trans ?_
  refine (View.read_writes_cons_rows_of_not_mem (o := 4) (W := 1) _ _ _ _ _ _ rfl rfl (.inl (show 1 < 4 by decide))).trans ?_
  refine (View.read_writes_cons_rows_of_not_mem (o := 3) (W := 1) _ _ _ _ _ _ rfl rfl (.inl (show 1 < 3 by decide))).trans ?_
  refine (View.read_writes_cons_rows_of_not_mem (o := 2) (W := 1) _ _ _ _ _ _ rfl rfl (.inl (show 1 < 2 by decide))).trans ?_
  exact hit _ _ _ p1 _ 1 j rfl
theorem stored0 : stored p0 p1 p2 p3 p4 p5 z (ix2 0 j) = p0 (ix2 0 j) := by
  unfold stored View.readCov
  rw [View.readAt_apply, box]
  refine (View.read_writes_cons_rows_of_not_mem (o := 5) (W := 1) _ _ _ _ _ _ rfl rfl (.inl (show 0 < 5 by decide))).trans ?_
  refine (View.read_writes_cons_rows_of_not_mem (o := 4) (W := 1) _ _ _ _ _ _ rfl rfl (.inl (show 0 < 4 by decide))).trans ?_
  refine (View.read_writes_cons_rows_of_not_mem (o := 3) (W := 1) _ _ _ _ _ _ rfl rfl (.inl (show 0 < 3 by decide))).trans ?_
  refine (View.read_writes_cons_rows_of_not_mem (o := 2) (W := 1) _ _ _ _ _ _ rfl rfl (.inl (show 0 < 2 by decide))).trans ?_
  refine (View.read_writes_cons_rows_of_not_mem (o := 1) (W := 1) _ _ _ _ _ _ rfl rfl (.inl (show 0 < 1 by decide))).trans ?_
  exact hit _ _ _ p0 _ 0 j rfl
end

theorem pay17_eq : k0_pay17 (F := Ideal) i x0 = x0 := by
  have h : ∀ k : S128x11264.Idx, k0_pay17 (F := Ideal) i x0 k = x0 k := by
    intro k
    pointwise [k0_pay17]
    have e : ∀ (n : Fin 128) (q : Fin 128), IntOp.cmpi .sge (IntOp.addi (BitVec.ofNat 32 n.val) (Scalar.muli (BitVec.ofNat 32 q.val) 128#32)) 0#32 = 1#1 := by decide +kernel
    rw [e (k 0) (i 1)]
    rfl
  exact funext h

/-- The scratch's rows and then the gate's. -/
def ext (k : Fin 144) (j : Fin 11264) : EReal :=
  if h : k.val < 16 then T (ix2 ⟨k.val, h⟩ j) else x0 (ix2 ⟨k.val - 16, by omega⟩ j)

theorem pay18_apply (r : Fin 272) (j : Fin 11264) : k0_pay18 (F := Ideal) i x0 T x4 (ix2 r j) = ∑ k : Fin 144, x4 (ix2 r k) * ext x0 T k j := by
  unfold k0_pay18
  rw [pay17_eq]
  unfold ext
  pointwise
theorem pay19_apply (r : Fin 16) (j : Fin 11264) : k0_pay19 (F := Ideal) i x0 T x4 (ix2 r j) = k0_pay18 (F := Ideal) i x0 T x4 (ix2 ⟨256 + r.val, by omega⟩ j) := by
  unfold k0_pay19
  generalize k0_pay18 (F := Ideal) i x0 T x4 = z
  pointwise
theorem pay20_apply (s : Fin 128) (j : Fin 11264) : k0_pay20 (F := Ideal) i x0 T x4 (ix2 s j) = k0_pay18 (F := Ideal) i x0 T x4 (ix2 ⟨128 + s.val, by omega⟩ j) := by
  unfold k0_pay20
  generalize k0_pay18 (F := Ideal) i x0 T x4 = z
  pointwise
theorem pay21_apply (w2 w1 : FVec Ideal S1x11264 .f32) (s : Fin 128) (j : Fin 11264) :
    k0_pay21 (F := Ideal) i x0 T x4 w2 w1 (ix2 s j) = w2 (ix2 0 j) * x0 (ix2 s j) + w1 (ix2 0 j) * k0_pay18 (F := Ideal) i x0 T x4 (ix2 ⟨s.val, by omega⟩ j) := by
  unfold k0_pay21
  generalize k0_pay18 (F := Ideal) i x0 T x4 = z
  rw [pay17_eq]
  pointwise
theorem pay1_apply (D : FVec Ideal S128x11264 .f32) (Y : FVec Ideal S128x11264 .f32) (w0 : FVec Ideal S1x11264 .f32) (s : Fin 128) (j : Fin 11264) :
    k0_pay1 (F := Ideal) D Y w0 x1 (ix2 s j) = (Y (ix2 s j) + w0 (ix2 0 j) * D (ix2 s j)) * Ideal.logistic (Y (ix2 s j) + w0 (ix2 0 j) * D (ix2 s j)) * x1 (ix2 s j) := by
  pointwise [k0_pay1]
end Cert.ActpIdeal.Conv
end
-- ==== Proof.Convp.Taps.lean ====
/-
  The shift matrix's products: the frame before, the frame two before, and the last two frames.
-/
module
public import proofs.«01_k».proof.Proof.Convp.Block
@[expose] public section
set_option maxRecDepth 16384
noncomputable section
open Idealize.ShloMosaic Idealize.ShloMosaic.TcCoe Idealize.SL.Sem
namespace Cert.ActpIdeal.Conv
open Cert.ActpIdeal Cert.ActpIdeal.Gen

theorem sel_two : ∀ s : Fin 128, 2 ≤ s.val → ∀ k : Fin 144, (sel (128 + s.val) k.val = true ↔ k.val = 16 + (s.val - 2)) := by decide +kernel
theorem sel_two0 : ∀ k : Fin 144, (sel 128 k.val = true ↔ k = 0 ∨ k = 1 ∨ k = 2) := by decide +kernel
theorem sel_two1 : ∀ k : Fin 144, (sel 129 k.val = true ↔ k = 3 ∨ k = 4 ∨ k = 5) := by decide +kernel
theorem sel_one : ∀ s : Fin 128, 1 ≤ s.val → ∀ k : Fin 144, (sel s.val k.val = true ↔ k.val = 16 + (s.val - 1)) := by decide +kernel
theorem sel_one0 : ∀ k : Fin 144, (sel 0 k.val = true ↔ k = 3 ∨ k = 4 ∨ k = 5) := by decide +kernel
theorem sel_last0 : ∀ k : Fin 144, (sel 256 k.val = true ↔ k = 142) := by decide +kernel
theorem sel_last1 : ∀ k : Fin 144, (sel 259 k.val = true ↔ k = 143) := by decide +kernel
theorem sel_none : ∀ r : Fin 272, (r.val = 257 ∨ r.val = 258 ∨ r.val = 260 ∨ r.val = 261) → ∀ k : Fin 144, ¬ sel r.val k.val = true := by decide +kernel

variable (i : grid0.Coords) (x0 : FVec Ideal S128x11264 .bf16) (x2 : FVec Ideal S1x2x11264 .f32) (x4 : FVec Ideal S272x144 .bf16)

/-- A scratch whose first six rows are two frames, each as three parts. -/
def Carries (T : FVec Ideal S16x11264 .f32) (a b : Fin 11264 → EReal) : Prop :=
  ∀ j, T (ix2 0 j) + (T (ix2 1 j) + T (ix2 2 j)) = a j ∧ T (ix2 3 j) + (T (ix2 4 j) + T (ix2 5 j)) = b j

/-- Two carried frames, then the gate's. -/
def xs (a b : Fin 11264 → EReal) (n : Nat) (j : Fin 11264) : EReal :=
  if n = 0 then a j else if n = 1 then b j else if h : n - 2 < 128 then x0 (ix2 ⟨n - 2, h⟩ j) else 0

theorem ext_gate (T : FVec Ideal S16x11264 .f32) (n : Fin 128) (j : Fin 11264) : ext x0 T ⟨16 + n.val, by omega⟩ j = x0 (ix2 n j) := by
  unfold ext
  rw [dif_neg (by simp)]
  exact congrArg (fun r => x0 (ix2 r j)) (Fin.ext (by simp))

/-- What the first point stores carries the state. -/
theorem tail_carries (hf : ∀ b j, x2 (ix3 0 b j) ≠ ⊤ ∧ x2 (ix3 0 b j) ≠ ⊥) :
    Carries (tail x2) (fun j => x2 (ix3 0 0 j)) (fun j => x2 (ix3 0 1 j)) := by
  intro j
  refine ⟨Eq.trans (congrArg₂ (· + ·) ((stored0 _ _ _ _ _ _ _ j).trans (hi0 x2 j)) (congrArg₂ (· + ·) ((stored1 _ _ _ _ _ _ _ j).trans (mid0 x2 j))
      ((stored2 _ _ _ _ _ _ _ j).trans (lo0 x2 j)))) (parts (hf 0 j).1 (hf 0 j).2),
    Eq.trans (congrArg₂ (· + ·) ((stored3 _ _ _ _ _ _ _ j).trans (hi1 x2 j)) (congrArg₂ (· + ·) ((stored4 _ _ _ _ _ _ _ j).trans (mid1 x2 j))
      ((stored5 _ _ _ _ _ _ _ j).trans (lo1 x2 j)))) (parts (hf 1 j).1 (hf 1 j).2)⟩

variable (hp : ∀ r k, x4 (ix2 r k) = if sel r.val k.val then (1 : EReal) else 0)
include hp

theorem dot_one (r : Fin 272) (T : FVec Ideal S16x11264 .f32) (n : Fin 128) (h : ∀ k : Fin 144, sel r.val k.val = true ↔ k.val = 16 + n.val) (j : Fin 11264) :
    k0_pay18 (F := Ideal) i x0 T x4 (ix2 r j) = x0 (ix2 n j) := by
  refine (pay18_apply i x0 x4 T r j).trans ?_
  refine (Finset.sum_congr rfl fun k _ => congrArg (· * _) (hp r k)).trans ?_
  refine (sum_one (fun k : Fin 144 => sel r.val k.val = true) (fun k => ext x0 T k j) ⟨16 + n.val, by omega⟩ fun k => (h k).trans ?_).trans (ext_gate x0 T n j)
  exact ⟨fun e => Fin.ext e, fun e => congrArg Fin.val e⟩

theorem dot_none (r : Fin 272) (T : FVec Ideal S16x11264 .f32) (h : ∀ k : Fin 144, ¬ sel r.val k.val = true) (j : Fin 11264) :
    k0_pay18 (F := Ideal) i x0 T x4 (ix2 r j) = 0 := by
  refine (pay18_apply i x0 x4 T r j).trans ?_
  refine (Finset.sum_congr rfl fun k _ => (congrArg (· * _) ((hp r k).trans (if_neg (h k)))).trans (zero_mul _)).trans ?_
  exact Finset.sum_const_zero

/-- What a point leaves carries its last two frames. -/
theorem next_carries (T : FVec Ideal S16x11264 .f32) :
    Carries (k0_pay19 (F := Ideal) i x0 T x4) (fun j => x0 (ix2 126 j)) (fun j => x0 (ix2 127 j)) := by
  intro j
  have e (r : Fin 16) (h : r.val = 1 ∨ r.val = 2 ∨ r.val = 4 ∨ r.val = 5) : k0_pay19 (F := Ideal) i x0 T x4 (ix2 r j) = 0 :=
    (pay19_apply i x0 x4 T r j).trans (dot_none i x0 x4 hp _ T (sel_none ⟨256 + r.val, by omega⟩ (by dsimp only; omega)) j)
  have e0 : k0_pay19 (F := Ideal) i x0 T x4 (ix2 0 j) = x0 (ix2 126 j) :=
    (pay19_apply i x0 x4 T 0 j).trans (dot_one i x0 x4 hp _ T 126 (fun k => (sel_last0 k).trans (by omega)) j)
  have e3 : k0_pay19 (F := Ideal) i x0 T x4 (ix2 3 j) = x0 (ix2 127 j) :=
    (pay19_apply i x0 x4 T 3 j).trans (dot_one i x0 x4 hp _ T 127 (fun k => (sel_last1 k).trans (by omega)) j)
  rw [e 1 (by decide), e 2 (by decide), e 4 (by decide), e 5 (by decide), e0, e3]
  simp

/-- The last frames. -/
theorem last0 (T : FVec Ideal S16x11264 .f32) (j : Fin 11264) : k0_pay19 (F := Ideal) i x0 T x4 (ix2 0 j) = x0 (ix2 126 j) :=
  (pay19_apply i x0 x4 T 0 j).trans (dot_one i x0 x4 hp _ T 126 (fun k => (sel_last0 k).trans (by omega)) j)
theorem last1 (T : FVec Ideal S16x11264 .f32) (j : Fin 11264) : k0_pay19 (F := Ideal) i x0 T x4 (ix2 3 j) = x0 (ix2 127 j) :=
  (pay19_apply i x0 x4 T 3 j).trans (dot_one i x0 x4 hp _ T 127 (fun k => (sel_last1 k).trans (by omega)) j)

variable (T : FVec Ideal S16x11264 .f32) (a b : Fin 11264 → EReal) (hc : Carries T a b)
include hc

theorem dot_zero (r : Fin 272) (h : ∀ k : Fin 144, sel r.val k.val = true ↔ k = 0 ∨ k = 1 ∨ k = 2) (j : Fin 11264) :
    k0_pay18 (F := Ideal) i x0 T x4 (ix2 r j) = a j := by
  refine (pay18_apply i x0 x4 _ r j).trans ?_
  refine (Finset.sum_congr rfl fun k _ => congrArg (· * _) (hp r k)).trans ?_
  refine (sum_three (fun k : Fin 144 => sel r.val k.val = true) (fun k => ext x0 T k j) 0 1 2 (by decide) (by decide) (by decide) h).trans ?_
  exact (congrArg₂ (· + ·) (dif_pos (by decide)) (congrArg₂ (· + ·) (dif_pos (by decide)) (dif_pos (by decide)))).trans (hc j).1

theorem dot_first (r : Fin 272) (h : ∀ k : Fin 144, sel r.val k.val = true ↔ k = 3 ∨ k = 4 ∨ k = 5) (j : Fin 11264) :
    k0_pay18 (F := Ideal) i x0 T x4 (ix2 r j) = b j := by
  refine (pay18_apply i x0 x4 _ r j).trans ?_
  refine (Finset.sum_congr rfl fun k _ => congrArg (· * _) (hp r k)).trans ?_
  refine (sum_three (fun k : Fin 144 => sel r.val k.val = true) (fun k => ext x0 T k j) 3 4 5 (by decide) (by decide) (by decide) h).trans ?_
  exact (congrArg₂ (· + ·) (dif_pos (by decide)) (congrArg₂ (· + ·) (dif_pos (by decide)) (dif_pos (by decide)))).trans (hc j).2

/-- The frame two before. -/
theorem two_before (s : Fin 128) (j : Fin 11264) : k0_pay18 (F := Ideal) i x0 T x4 (ix2 ⟨128 + s.val, by omega⟩ j) = xs x0 a b s.val j := by
  unfold xs
  by_cases h0 : s.val = 0
  · rw [if_pos h0]
    refine dot_zero i x0 x4 hp T a b hc _ (fun k => ?_) j
    show sel (128 + s.val) k.val = true ↔ _
    rw [h0]; exact sel_two0 k
  by_cases h1 : s.val = 1
  · rw [if_neg h0, if_pos h1]
    refine dot_first i x0 x4 hp T a b hc _ (fun k => ?_) j
    show sel (128 + s.val) k.val = true ↔ _
    rw [h1]; exact sel_two1 k
  rw [if_neg h0, if_neg h1, dif_pos (show s.val - 2 < 128 by omega)]
  exact dot_one i x0 x4 hp _ _ ⟨s.val - 2, by omega⟩ (sel_two s (by omega)) j

/-- The frame before. -/
theorem one_before (s : Fin 128) (j : Fin 11264) : k0_pay18 (F := Ideal) i x0 T x4 (ix2 ⟨s.val, by omega⟩ j) = xs x0 a b (s.val + 1) j := by
  unfold xs
  rw [if_neg (by omega)]
  by_cases h0 : s.val = 0
  · rw [if_pos (by omega)]
    refine dot_first i x0 x4 hp T a b hc _ (fun k => ?_) j
    show sel s.val k.val = true ↔ _
    rw [h0]; exact sel_one0 k
  rw [if_neg (by omega), dif_pos (show s.val + 1 - 2 < 128 by omega)]
  exact (dot_one i x0 x4 hp _ _ ⟨s.val - 1, by omega⟩ (sel_one s (by omega)) j).trans (congrArg (fun r => x0 (ix2 r j)) (Fin.ext (by dsimp only; omega)))

/-- A frame's convolution. -/
theorem conv_apply (w0 w1 w2 : FVec Ideal S1x11264 .f32) (x1 : FVec Ideal S128x11264 .bf16) (s : Fin 128) (j : Fin 11264) (Z : EReal)
    (hZ : w2 (ix2 0 j) * x0 (ix2 s j) + w1 (ix2 0 j) * xs x0 a b (s.val + 1) j + w0 (ix2 0 j) * xs x0 a b s.val j = Z) :
    k0_pay1 (F := Ideal) (k0_pay20 (F := Ideal) i x0 T x4) (k0_pay21 (F := Ideal) i x0 T x4 w2 w1) w0 x1 (ix2 s j)
      = Z * Ideal.logistic Z * x1 (ix2 s j) := by
  rw [pay1_apply, pay20_apply, pay21_apply, two_before i x0 x4 hp T a b hc, one_before i x0 x4 hp T a b hc, hZ]
end Cert.ActpIdeal.Conv
end
-- ==== Proof.Convp.Reads.lean ====
/-
  What the convolution's input blocks hold, in terms of the arguments.
-/
module
public import proofs.«01_k».proof.Proof.Convp.Taps
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ActpIdeal.Conv
open Cert.ActpIdeal Cert.ActpIdeal.Gen
variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, 0]
   ∧ win0_3.index t = ![0, 0] ∧ win0_4.index t = ![0, 0] ∧ win0_5.index t = ![t.val, 0] ∧ win0_6.index t = ![0, 0, 0] :=
  (by decide +kernel : ∀ t : Fin grid0.N, _)

theorem V_gate : V m c main_v5 = truncf (F := Ideal) .bf16 (pad S18496x11264 ![0, 0] ![0, 256] ![0, 0] (m ((c : Thread nD τ).loc main_arg0) : FVec Ideal S18496x11008 .f32) (sitofp (F := Ideal) .f32 (constantI S_ 32 0#32)) pads_S18496x11008_S18496x11264_000_02560 h_S_) bitsLt_bf16_f32 := rfl
theorem V_up : V m c main_v6 = truncf (F := Ideal) .bf16 (pad S18496x11264 ![0, 0] ![0, 256] ![0, 0] (m ((c : Thread nD τ).loc main_arg1) : FVec Ideal S18496x11008 .f32) (sitofp (F := Ideal) .f32 (constantI S_ 32 0#32)) pads_S18496x11008_S18496x11264_000_02560 h_S_) bitsLt_bf16_f32 := rfl
theorem V_act : V m c main_v11_0 = truncf (F := Ideal) .bf16 (pad S18496x11264 ![0, 0] ![0, 256] ![0, 0] (m ((c : Thread nD τ).loc main_arg3) : FVec Ideal S18496x11008 .f32) (sitofp (F := Ideal) .f32 (constantI S_ 32 0#32)) pads_S18496x11008_S18496x11264_000_02560 h_S_) bitsLt_bf16_f32 := rfl
theorem V_state : V m c main_v4 = broadcastInDim S1x2x11264 ![1, 2] bcast_S2x11264_S1x2x11264_1_2 (extractStridedSlice S2x11264 ![16446, 0] (pad S18496x11264 ![0, 0] ![0, 256] ![0, 0] (m ((c : Thread nD τ).loc main_arg0) : FVec Ideal S18496x11008 .f32) (sitofp (F := Ideal) .f32 (constantI S_ 32 0#32)) pads_S18496x11008_S18496x11264_000_02560 h_S_) slices_S18496x11264_S2x11264_16446_0) := rfl
theorem V_taps : V m c main_v10 = pad S3x11264 ![0, 0] ![0, 256] ![0, 0] (shapeCast S3x11008 (extractStridedSlice S1x3x11008 ![0, 0, 0] (m ((c : Thread nD τ).loc main_arg2) : FVec Ideal S2x3x11008 .f32) slices_S2x3x11008_S1x3x11008_0_0_0) shapeCasts_S1x3x11008_S3x11008) (sitofp (F := Ideal) .f32 (constantI S_ 32 0#32)) pads_S3x11008_S3x11264_000_02560 h_S_ := rfl
theorem V_pm : V m c main_cst = fun i => FloatOps.ofBits (F := Ideal) .bf16 (lit0 (S272x144.rowMajor i)) := rfl

/-- Rows of 11008 entries, padded with zeros to 11264. -/
theorem pad_rows (x : FVec Ideal S18496x11008 .f32) (i : Fin 18496) (j : Fin 11264) :
    truncf (F := Ideal) .bf16 (pad S18496x11264 ![0, 0] ![0, 256] ![0, 0] x (sitofp (F := Ideal) .f32 (constantI S_ 32 0#32)) pads_S18496x11008_S18496x11264_000_02560 h_S_) bitsLt_bf16_f32 (ix2 i j)
      = if hj : j.val < 11008 then x (ix2 i ⟨j.val, hj⟩) else 0 := by
  pointwise
  by_cases hj : j.val < 11008
  · simp only [dif_pos hj]
  · rw [dif_neg hj]
    refine Eq.trans ?_ (dif_neg hj).symm
    show ((((0#32 : BitVec 32).toInt : ℤ) : ℝ) : EReal) = 0
    simp

theorem pad_state (x : FVec Ideal S18496x11008 .f32) (s : Fin 2) (j : Fin 11264) :
    broadcastInDim S1x2x11264 ![1, 2] bcast_S2x11264_S1x2x11264_1_2 (extractStridedSlice S2x11264 ![16446, 0] (pad S18496x11264 ![0, 0] ![0, 256] ![0, 0] x (sitofp (F := Ideal) .f32 (constantI S_ 32 0#32)) pads_S18496x11008_S18496x11264_000_02560 h_S_) slices_S18496x11264_S2x11264_16446_0) (ix3 0 s j)
      = if hj : j.val < 11008 then x (ix2 ⟨16446 + s.val, by omega⟩ ⟨j.val, hj⟩) else 0 := by
  pointwise
  by_cases hj : j.val < 11008
  · rw [dif_pos hj]
    exact dif_pos (show 16446 + s.val < 18496 ∧ j.val < 11008 from ⟨by omega, hj⟩)
  · rw [dif_neg hj]
    refine (dif_neg (show ¬ (16446 + s.val < 18496 ∧ j.val < 11008) from fun h => hj h.2)).trans ?_
    show ((((0#32 : BitVec 32).toInt : ℤ) : ℝ) : EReal) = 0
    simp

theorem pad_taps (x : FVec Ideal S2x3x11008 .f32) (r : Fin 3) (j : Fin 11264) :
    pad S3x11264 ![0, 0] ![0, 256] ![0, 0] (shapeCast S3x11008 (extractStridedSlice S1x3x11008 ![0, 0, 0] x slices_S2x3x11008_S1x3x11008_0_0_0) shapeCasts_S1x3x11008_S3x11008) (sitofp (F := Ideal) .f32 (constantI S_ 32 0#32)) pads_S3x11008_S3x11264_000_02560 h_S_ (ix2 r j)
      = if hj : j.val < 11008 then x (ix3 0 r ⟨j.val, hj⟩) else 0 := by
  pointwise
  by_cases hj : j.val < 11008
  · simp only [dif_pos hj]
  · rw [dif_neg hj]
    refine Eq.trans ?_ (dif_neg hj).symm
    show ((((0#32 : BitVec 32).toInt : ℤ) : ℝ) : EReal) = 0
    simp

theorem read_gate (t : Fin cfg0.N) (s : Fin 128) (j : Fin 11264) :
    (show FVec Ideal S128x11264 .bf16 from X0_0 m c t) (ix2 s j)
      = if hj : j.val < 11008 then (show FVec Ideal S18496x11008 .f32 from m ((c : Thread nD τ).loc main_arg0)) (ix2 ⟨128 * t.val + s.val, by have : t.val < 128 := t.isLt; omega⟩ ⟨j.val, hj⟩) else 0 := by
  have ht : t.val < 128 := t.isLt
  refine Eq.trans ?_ (pad_rows _ ⟨128 * t.val + s.val, by omega⟩ j)
  refine (dif_pos (moved0_0 t (ix2 s j))).trans ?_
  blk_simp [iblk]
  rw [V_gate]
  blk_ext [idx t]

theorem read_up (t : Fin cfg0.N) (s : Fin 128) (j : Fin 11264) :
    (show FVec Ideal S128x11264 .bf16 from X0_1 m c t) (ix2 s j)
      = if hj : j.val < 11008 then (show FVec Ideal S18496x11008 .f32 from m ((c : Thread nD τ).loc main_arg1)) (ix2 ⟨128 * t.val + s.val, by have : t.val < 128 := t.isLt; omega⟩ ⟨j.val, hj⟩) else 0 := by
  have ht : t.val < 128 := t.isLt
  refine Eq.trans ?_ (pad_rows _ ⟨128 * t.val + s.val, by omega⟩ j)
  refine (dif_pos (moved0_1 t (ix2 s j))).trans ?_
  blk_simp [iblk]
  rw [V_up]
  blk_ext [idx t]

theorem read_state (t : Fin cfg0.N) (s : Fin 2) (j : Fin 11264) :
    (show FVec Ideal S1x2x11264 .f32 from iblk m c 2 t) (ix3 0 s j)
      = if hj : j.val < 11008 then (show FVec Ideal S18496x11008 .f32 from m ((c : Thread nD τ).loc main_arg0)) (ix2 ⟨16446 + s.val, by omega⟩ ⟨j.val, hj⟩) else 0 := by
  have ht : t.val < 128 := t.isLt
  refine Eq.trans ?_ (pad_state _ s j)
  blk_simp [iblk]
  rw [V_state]
  blk_ext [idx t]

theorem read_taps (t : Fin cfg0.N) (r : Fin 3) (j : Fin 11264) :
    (show FVec Ideal S3x11264 .f32 from iblk m c 3 t) (ix2 r j)
      = if hj : j.val < 11008 then (show FVec Ideal S2x3x11008 .f32 from m ((c : Thread nD τ).loc main_arg2)) (ix3 0 r ⟨j.val, hj⟩) else 0 := by
  have ht : t.val < 128 := t.isLt
  refine Eq.trans ?_ (pad_taps _ r j)
  blk_simp [iblk]
  rw [V_taps]
  blk_ext [idx t]

theorem one : FloatOps.ofBits (F := Ideal) .bf16 0x3F80#16 = (1 : EReal) := by
  show Ideal.ofBits .bf16 0x3F80#16 = 1
  simp [Ideal.ofBits, Ideal.ieee]
  rw [← EReal.coe_mul]
  norm_num
theorem zero : FloatOps.ofBits (F := Ideal) .bf16 0#16 = (0 : EReal) := by
  show Ideal.ofBits .bf16 0#16 = 0
  simp [Ideal.ofBits, Ideal.ieee]

theorem read_pm (t : Fin cfg0.N) (r : Fin 272) (k : Fin 144) :
    (show FVec Ideal S272x144 .bf16 from iblk m c 4 t) (ix2 r k) = if sel r.val k.val then (1 : EReal) else 0 := by
  have h : (show FVec Ideal S272x144 .bf16 from iblk m c 4 t) (ix2 r k) = FloatOps.ofBits (F := Ideal) .bf16 (lit0 (S272x144.rowMajor (ix2 r k))) := by
    blk_simp [iblk]
    rw [V_pm]
    refine congrArg (fun i : S272x144.Idx => FloatOps.ofBits (F := Ideal) .bf16 (lit0 (S272x144.rowMajor i))) ?_
    blk_ext [idx t]
  have hv : (S272x144.rowMajor (ix2 r k)).val = 144 * r.val + k.val := by
    refine (Shape.rowMajor_val_two _).trans ?_
    show r.val * 144 + k.val = _
    omega
  rw [h]
  refine (congrArg _ (table (S272x144.rowMajor (ix2 r k)))).trans ?_
  rw [hv, show (144 * r.val + k.val) / 144 = r.val by omega, show (144 * r.val + k.val) % 144 = k.val by omega]
  split
  · exact one
  · exact zero
end Cert.ActpIdeal.Conv
end
-- ==== Proof.Convp.Spec.lean ====
/-
  The feed-forward part's causal convolution and gate, at the prompt's frames.
-/
module
public import Idealize.ShloMosaic.Lib.Pipeline.ValueKit
public import Idealize.ShloMosaic.PureOps.Ideal
@[expose] public section
noncomputable section
open Idealize.ShloMosaic
namespace Cert.Convp
variable (A0 A1 : FVec Ideal ⟨2, ![18496, 11008]⟩ .f32) (A2 : FVec Ideal ⟨3, ![2, 3, 11008]⟩ .f32) (A3 : FVec Ideal ⟨2, ![18496, 11008]⟩ .f32)

/-- The last two meta tokens' gate frames, then the prompt's 16384. -/
def series (n : Fin 16386) (j : Fin 11008) : EReal :=
  if h : n.val < 2 then A0 (ix2 ⟨16446 + n.val, by omega⟩ j) else A0 (ix2 ⟨n.val - 2, by omega⟩ j)

/-- Three taps over a frame and the two before it. -/
def conv (s : Fin 16384) (j : Fin 11008) : EReal :=
  A2 (ix3 0 0 j) * series A0 ⟨s.val, by omega⟩ j + A2 (ix3 0 1 j) * series A0 ⟨s.val + 1, by omega⟩ j
    + A2 (ix3 0 2 j) * series A0 ⟨s.val + 2, by omega⟩ j

/-- The gated frame. -/
def gated (s : Fin 16384) (j : Fin 11008) : EReal :=
  conv A0 A2 s j * Ideal.logistic (conv A0 A2 s j) * A1 (ix2 ⟨s.val, by omega⟩ j)

/-- The whole result: the gated frames, then the rows after the prompt as given; zeros past the last column. -/
def acts (i : Fin 18496) (j : Fin 11264) : EReal :=
  if hj : j.val < 11008 then
    (if hi : i.val < 16384 then gated A0 A1 A2 ⟨i.val, hi⟩ ⟨j.val, hj⟩ else A3 (ix2 i ⟨j.val, hj⟩))
  else 0

/-- The new state: the prompt's last two frames; zeros past the last column. -/
def fresh (r : Fin 2) (j : Fin 11264) : EReal :=
  if hj : j.val < 11008 then series A0 ⟨16384 + r.val, by omega⟩ ⟨j.val, hj⟩ else 0
end Cert.Convp
end
-- ==== Proof.Convp.Value.lean ====
/-
  What the convolution and its gate leave in their results, at the prompt's frames.
-/
module
public import proofs.«01_k».proof.Proof.Convp.Reads
public import proofs.«01_k».proof.Proof.Convp.Spec
@[expose] public section
set_option maxRecDepth 16384
noncomputable section
open Idealize.ShloMosaic Idealize.ShloMosaic.TcCoe Idealize.SL.Sem
open Idealize.ShloMosaic.Pipeline (Dat)
namespace Cert.ActpIdeal.Conv
open Cert.ActpIdeal Cert.ActpIdeal.Gen
variable (m : (ℓ : Loc nD τ sig) → Buf (Elt Ideal) ℓ) (c : Dev nD)

/-- The last two meta tokens' gate rows are finite. -/
def Finite : Prop := ∀ (s : Fin 2) (j : Fin 11008), (show FVec Ideal S18496x11008 .f32 from m ((c : Thread nD τ).loc main_arg0)) (ix2 ⟨16446 + s.val, by omega⟩ j) ≠ (⊤ : EReal)
  ∧ (show FVec Ideal S18496x11008 .f32 from m ((c : Thread nD τ).loc main_arg0)) (ix2 ⟨16446 + s.val, by omega⟩ j) ≠ (⊥ : EReal)

theorem tap (x3 : FVec Ideal S3x11264 .f32) (j : Fin 11264) :
    View.ld (Val := Elt Ideal) (S := S3x11264) (e' := .f32) x3 (Rect.unit ![0, 0] ![1, 11264] inb_S3x11264_S1x11264_0_0) (ix2 0 j) = x3 (ix2 0 j)
    ∧ View.ld (Val := Elt Ideal) (S := S3x11264) (e' := .f32) x3 (Rect.unit ![1, 0] ![1, 11264] inb_S3x11264_S1x11264_1_0) (ix2 0 j) = x3 (ix2 1 j)
    ∧ View.ld (Val := Elt Ideal) (S := S3x11264) (e' := .f32) x3 (Rect.unit ![2, 0] ![1, 11264] inb_S3x11264_S1x11264_2_0) (ix2 0 j) = x3 (ix2 2 j) := by
  refine ⟨?_, ?_, ?_⟩ <;> pointwise

/-- The state block is finite. -/
theorem finite_blk (h : Finite m c) (t : Fin cfg0.N) (b : Fin 2) (j : Fin 11264) :
    (show FVec Ideal S1x2x11264 .f32 from iblk m c 2 t) (ix3 0 b j) ≠ (⊤ : EReal) ∧ (show FVec Ideal S1x2x11264 .f32 from iblk m c 2 t) (ix3 0 b j) ≠ (⊥ : EReal) := by
  rw [read_state m c t b j]
  by_cases hj : j.val < 11008
  · rw [dif_pos hj]
    exact h _ _
  · rw [dif_neg hj]
    exact ⟨EReal.zero_ne_top, EReal.zero_ne_bot⟩

/-- The two frames before a point's 128. -/
def pre (t : Fin cfg0.N) (r : Fin 2) (j : Fin 11264) : EReal :=
  if hj : j.val < 11008 then Convp.series (m ((c : Thread nD τ).loc main_arg0)) ⟨128 * t.val + r.val, by have : t.val < 128 := t.isLt; omega⟩ ⟨j.val, hj⟩ else 0

/-- The scratch after the first point's body, after a middle one's, and after the last one's. -/
theorem scratch_A (t : Fin cfg0.N) (h0 : t.val % 128 = 0) (h1 : ¬t.val % 128 = 127) :
    (outsAt0 m c t.val t.isLt).2.2 = k0_pay19 (F := Ideal) (grid0.coords t) (X0_0 m c t) (tail (iblk m c 2 t)) (iblk m c 4 t) := by
  refine funext fun y => ?_
  rw [outsAt0_A m c t h0 h1]
  dsimp only
  unfold sout0_A_0
  frame_open
  simp (disch := decide) only [↓ View.readCov_skip, ↓ View.readCov_cons_toLoadRect, ↓ View.readCov_fill]
  frame_out
  rfl
theorem scratch_B (t : Fin cfg0.N) (h0 : ¬t.val % 128 = 0) (h1 : ¬t.val % 128 = 127) :
    (outsAt0 m c t.val t.isLt).2.2 = k0_pay19 (F := Ideal) (grid0.coords t) (X0_0 m c t) (outsAt0 m c (t.val - 1) (Nat.lt_of_le_of_lt (Nat.sub_le _ _) t.isLt)).2.2 (iblk m c 4 t) := by
  refine funext fun y => ?_
  rw [outsAt0_B m c t h0 h1]
  dsimp only
  unfold sout0_B_0
  frame_open
  frame_out
  rw [read_unread_whole]
theorem scratch_C (t : Fin cfg0.N) (h0 : ¬t.val % 128 = 0) (h1 : t.val % 128 = 127) :
    (outsAt0 m c t.val t.isLt).2.2 = k0_pay19 (F := Ideal) (grid0.coords t) (X0_0 m c t) (outsAt0 m c (t.val - 1) (Nat.lt_of_le_of_lt (Nat.sub_le _ _) t.isLt)).2.2 (iblk m c 4 t) := by
  refine funext fun y => ?_
  rw [outsAt0_C m c t h0 h1]
  dsimp only
  unfold sout0_C_0
  frame_open
  frame_out
  rw [read_unread_whole]

/-- After any point the scratch carries that point's last two frames. -/
theorem after_carries (t : Fin cfg0.N) :
    Carries (outsAt0 m c t.val t.isLt).2.2 (fun j => (show FVec Ideal S128x11264 .bf16 from X0_0 m c t) (ix2 126 j)) (fun j => (show FVec Ideal S128x11264 .bf16 from X0_0 m c t) (ix2 127 j)) := by
  by_cases h0 : t.val % 128 = 0
  · rw [scratch_A m c t h0 (by omega)]
    exact next_carries (grid0.coords t) (X0_0 m c t) (iblk m c 4 t) (read_pm m c t) _
  by_cases h1 : t.val % 128 = 127
  · rw [scratch_C m c t h0 h1]
    exact next_carries (grid0.coords t) (X0_0 m c t) (iblk m c 4 t) (read_pm m c t) _
  · rw [scratch_B m c t h0 h1]
    exact next_carries (grid0.coords t) (X0_0 m c t) (iblk m c 4 t) (read_pm m c t) _

theorem Carries.congr {T : FVec Ideal S16x11264 .f32} {a b a' b' : Fin 11264 → EReal} (h : Carries T a b) (ha : ∀ j, a j = a' j) (hb : ∀ j, b j = b' j) :
    Carries T a' b' := fun j => ⟨(h j).1.trans (ha j), (h j).2.trans (hb j)⟩

/-- The first point's scratch carries the frames before it. -/
theorem first (h : Finite m c) (t : Fin cfg0.N) (h0 : t.val = 0) : Carries (tail (iblk m c 2 t)) (pre m c t 0) (pre m c t 1) := by
  have e : ∀ (r : Fin 2) (j : Fin 11264), (show FVec Ideal S1x2x11264 .f32 from iblk m c 2 t) (ix3 0 r j) = pre m c t r j := by
    intro r j
    rw [read_state m c t r j]
    unfold pre Convp.series
    by_cases hj : j.val < 11008
    · rw [dif_pos hj, dif_pos hj, dif_pos (show 128 * t.val + r.val < 2 by omega)]
      exact congrArg (fun n => (show FVec Ideal S18496x11008 .f32 from m ((c : Thread nD τ).loc main_arg0)) (ix2 n ⟨j.val, hj⟩)) (Fin.ext (by dsimp only; omega))
    · rw [dif_neg hj, dif_neg hj]
  exact (tail_carries (iblk m c 2 t) (finite_blk m c h t)).congr (e 0) (e 1)

/-- A later point's scratch carries the frames before it. -/
theorem later (t : Fin cfg0.N) (h0 : t.val ≠ 0) :
    Carries (outsAt0 m c (t.val - 1) (Nat.lt_of_le_of_lt (Nat.sub_le _ _) t.isLt)).2.2 (pre m c t 0) (pre m c t 1) := by
  have ht : t.val < 128 := t.isLt
  have e : ∀ (q : Fin 128) (r : Fin 2) (j : Fin 11264), q.val = 126 + r.val →
      (show FVec Ideal S128x11264 .bf16 from X0_0 m c ⟨t.val - 1, Nat.lt_of_le_of_lt (Nat.sub_le _ _) t.isLt⟩) (ix2 q j) = pre m c t r j := by
    intro q r j hq
    rw [read_gate m c ⟨t.val - 1, Nat.lt_of_le_of_lt (Nat.sub_le _ _) t.isLt⟩ q j]
    unfold pre Convp.series
    by_cases hj : j.val < 11008
    · rw [dif_pos hj, dif_pos hj, dif_neg (show ¬ 128 * t.val + r.val < 2 by omega)]
      exact congrArg (fun n => (show FVec Ideal S18496x11008 .f32 from m ((c : Thread nD τ).loc main_arg0)) (ix2 n ⟨j.val, hj⟩)) (Fin.ext (by dsimp only; omega))
    · rw [dif_neg hj, dif_neg hj]
  exact (after_carries m c ⟨t.val - 1, Nat.lt_of_le_of_lt (Nat.sub_le _ _) t.isLt⟩).congr (fun j => e 126 0 j rfl) (fun j => e 127 1 j rfl)

theorem xs_eq (t : Fin cfg0.N) (n : Fin 130) (j : Fin 11264) (hj : j.val < 11008) :
    xs (X0_0 m c t) (pre m c t 0) (pre m c t 1) n.val j
      = Convp.series (m ((c : Thread nD τ).loc main_arg0)) ⟨128 * t.val + n.val, by have : t.val < 128 := t.isLt; omega⟩ ⟨j.val, hj⟩ := by
  have ht : t.val < 128 := t.isLt
  unfold xs
  have e : ∀ r : Fin 2, n.val = r.val → pre m c t r j = Convp.series (m ((c : Thread nD τ).loc main_arg0)) ⟨128 * t.val + n.val, by omega⟩ ⟨j.val, hj⟩ := by
    intro r hr
    unfold pre
    rw [dif_pos hj]
    exact congrArg (fun n => Convp.series (m ((c : Thread nD τ).loc main_arg0)) n ⟨j.val, hj⟩) (Fin.ext (by dsimp only; omega))
  by_cases h0 : n.val = 0
  · rw [if_pos h0]
    exact e 0 h0
  rw [if_neg h0]
  by_cases h1 : n.val = 1
  · rw [if_pos h1]
    exact e 1 h1
  rw [if_neg h1, dif_pos (show n.val - 2 < 128 by omega)]
  refine (read_gate m c t ⟨n.val - 2, by omega⟩ j).trans ((dif_pos hj).trans ?_)
  unfold Convp.series
  rw [dif_neg (show ¬ 128 * t.val + n.val < 2 by omega)]
  exact congrArg (fun n => (show FVec Ideal S18496x11008 .f32 from m ((c : Thread nD τ).loc main_arg0)) (ix2 n ⟨j.val, hj⟩)) (Fin.ext (by dsimp only; omega))

/-- A block's gated frame. -/
theorem blk_apply (t : Fin cfg0.N) (T : FVec Ideal S16x11264 .f32) (hT : Carries T (pre m c t 0) (pre m c t 1)) (s : Fin 128) (j : Fin 11264) :
    k0_pay1 (F := Ideal) (k0_pay20 (F := Ideal) (grid0.coords t) (X0_0 m c t) T (iblk m c 4 t))
        (k0_pay21 (F := Ideal) (grid0.coords t) (X0_0 m c t) T (iblk m c 4 t)
          (View.ld (Val := Elt Ideal) (S := S3x11264) (e' := .f32) (iblk m c 3 t) (Rect.unit ![2, 0] ![1, 11264] inb_S3x11264_S1x11264_2_0))
          (View.ld (Val := Elt Ideal) (S := S3x11264) (e' := .f32) (iblk m c 3 t) (Rect.unit ![1, 0] ![1, 11264] inb_S3x11264_S1x11264_1_0)))
        (View.ld (Val := Elt Ideal) (S := S3x11264) (e' := .f32) (iblk m c 3 t) (Rect.unit ![0, 0] ![1, 11264] inb_S3x11264_S1x11264_0_0))
        (X0_1 m c t) (ix2 s j)
      = if hj : j.val < 11008 then Convp.gated (m ((c : Thread nD τ).loc main_arg0)) (m ((c : Thread nD τ).loc main_arg1)) (m ((c : Thread nD τ).loc main_arg2)) ⟨128 * t.val + s.val, by have : t.val < 128 := t.isLt; omega⟩ ⟨j.val, hj⟩ else 0 := by
  have ht : t.val < 128 := t.isLt
  refine (conv_apply (grid0.coords t) (X0_0 m c t) (iblk m c 4 t) (read_pm m c t) T _ _ hT _ _ _ (X0_1 m c t) s j _ rfl).trans ?_
  by_cases hj : j.val < 11008
  · rw [dif_pos hj]
    unfold Convp.gated
    have hu := (read_up m c t s j).trans (dif_pos hj)
    have hw : ∀ r : Fin 3, _ := fun r => (read_taps m c t r j).trans (dif_pos hj)
    have hg : (show FVec Ideal S128x11264 .bf16 from X0_0 m c t) (ix2 s j) = Convp.series (m ((c : Thread nD τ).loc main_arg0)) ⟨128 * t.val + s.val + 2, by omega⟩ ⟨j.val, hj⟩ :=
      by
        refine (read_gate m c t s j).trans ((dif_pos hj).trans ?_)
        unfold Convp.series
        rw [dif_neg (show ¬ 128 * t.val + s.val + 2 < 2 by omega)]
        rfl
    have hz : ∀ Z Z' U U' : EReal, Z = Z' → U = U' → Z * Ideal.logistic Z * U = Z' * Ideal.logistic Z' * U' := by
      rintro _ _ _ _ rfl rfl; rfl
    refine hz _ _ _ _ ?_ hu
    unfold Convp.conv
    refine (add_comm _ _).trans ((congrArg _ (add_comm _ _)).trans ((add_assoc _ _ _).symm.trans ?_))
    refine congrArg₂ (· + ·) (congrArg₂ (· + ·) (congrArg₂ (· * ·) ?_ ?_) (congrArg₂ (· * ·) ?_ ?_)) (congrArg₂ (· * ·) ?_ ?_)
    · exact (tap (iblk m c 3 t) j).1.trans (hw 0)
    · exact xs_eq m c t ⟨s.val, by omega⟩ j hj
    · exact (tap (iblk m c 3 t) j).2.1.trans (hw 1)
    · exact xs_eq m c t ⟨s.val + 1, by omega⟩ j hj
    · exact (tap (iblk m c 3 t) j).2.2.trans (hw 2)
    · exact hg
  · rw [dif_neg hj]
    have hz : ∀ Z U : EReal, U = 0 → Z * Ideal.logistic Z * U = 0 := by
      rintro Z _ rfl; exact mul_zero _
    exact hz _ _ ((read_up m c t s j).trans (dif_neg hj))

theorem blk_at (t : Fin cfg0.N) (T : FVec Ideal S16x11264 .f32) (hT : Carries T (pre m c t 0) (pre m c t 1)) (y : S128x11264.Idx) :
    k0_pay1 (F := Ideal) (k0_pay20 (F := Ideal) (grid0.coords t) (X0_0 m c t) T (iblk m c 4 t))
        (k0_pay21 (F := Ideal) (grid0.coords t) (X0_0 m c t) T (iblk m c 4 t)
          (View.ld (Val := Elt Ideal) (S := S3x11264) (e' := .f32) (iblk m c 3 t) (Rect.unit ![2, 0] ![1, 11264] inb_S3x11264_S1x11264_2_0))
          (View.ld (Val := Elt Ideal) (S := S3x11264) (e' := .f32) (iblk m c 3 t) (Rect.unit ![1, 0] ![1, 11264] inb_S3x11264_S1x11264_1_0)))
        (View.ld (Val := Elt Ideal) (S := S3x11264) (e' := .f32) (iblk m c 3 t) (Rect.unit ![0, 0] ![1, 11264] inb_S3x11264_S1x11264_0_0))
        (X0_1 m c t) y
      = if hj : (y 1).val < 11008 then Convp.gated (m ((c : Thread nD τ).loc main_arg0)) (m ((c : Thread nD τ).loc main_arg1)) (m ((c : Thread nD τ).loc main_arg2)) ⟨128 * t.val + (y 0 : Nat), by have : t.val < 128 := t.isLt; have : (y 0 : Nat) < 128 := (y 0).isLt; omega⟩ ⟨(y 1).val, hj⟩ else 0 := by
  conv_lhs => rw [show y = ix2 (y 0) (y 1) from by pointwise]
  exact blk_apply m c t T hT (y 0) (y 1)

end Cert.ActpIdeal.Conv
end
-- ==== Proof.Convp.Final.lean ====
/-
  The results of the convolution and its gate as whole arrays, at the prompt's frames.
-/
module
public import proofs.«01_k».proof.Proof.Convp.Value
@[expose] public section
set_option maxRecDepth 16384
noncomputable section
open Idealize.ShloMosaic Idealize.ShloMosaic.TcCoe Idealize.SL.Sem
open Idealize.ShloMosaic.Pipeline (Dat)
namespace Cert.ActpIdeal.Conv
open Cert.ActpIdeal Cert.ActpIdeal.Gen
variable (m : (ℓ : Loc nD τ sig) → Buf (Elt Ideal) ℓ) (c : Dev nD)

/-- The gated rows by name. -/
def rows : FVec Ideal S18496x11264 .bf16 := fun i =>
  Convp.acts (m ((c : Thread nD τ).loc main_arg0)) (m ((c : Thread nD τ).loc main_arg1)) (m ((c : Thread nD τ).loc main_arg2)) (m ((c : Thread nD τ).loc main_arg3)) (i 0) (i 1)

/-- Where a block's entry lies in the array. -/
theorem pos (t : Fin cfg0.N) (y : ((cfg0.win 5).xblock (cfg0.grid.coords t)).Idx) :
    ((win0_5.rect t).emb y 0 : Nat) = 128 * t.val + (y 0 : Nat) ∧ ((win0_5.rect t).emb y 1 : Nat) = (y 1 : Nat) := by
  constructor
  · refine (win0_5.rect_emb_val t y 0).trans ?_
    rw [(idx t).2.2.2.2.2.1]
    show t.val * 128 + (y 0 : Nat) = _
    omega
  · refine (win0_5.rect_emb_val t y 1).trans ?_
    rw [(idx t).2.2.2.2.2.1]
    show 0 * 11264 + (y 1 : Nat) = _
    omega

theorem rows_at (t : Fin cfg0.N) (z : S18496x11264.Idx) (x : S128x11264.Idx) (h0 : (z 0 : Nat) = 128 * t.val + (x 0 : Nat)) (h1 : (z 1 : Nat) = (x 1 : Nat)) :
    rows m c z = if hj : (x 1).val < 11008 then Convp.gated (m ((c : Thread nD τ).loc main_arg0)) (m ((c : Thread nD τ).loc main_arg1)) (m ((c : Thread nD τ).loc main_arg2)) ⟨128 * t.val + (x 0 : Nat), by have : t.val < 128 := t.isLt; have : (x 0 : Nat) < 128 := (x 0).isLt; omega⟩ ⟨(x 1).val, hj⟩ else 0 := by
  have ht : t.val < 128 := t.isLt
  have x0 : (x 0 : Nat) < 128 := (x 0).isLt
  have e : ∀ (i : Fin 18496) (j : Fin 11264), i.val = 128 * t.val + (x 0 : Nat) → j.val = (x 1 : Nat) →
      Convp.acts (m ((c : Thread nD τ).loc main_arg0)) (m ((c : Thread nD τ).loc main_arg1)) (m ((c : Thread nD τ).loc main_arg2)) (m ((c : Thread nD τ).loc main_arg3)) i j
        = if hj : (x 1 : Nat) < 11008 then Convp.gated (m ((c : Thread nD τ).loc main_arg0)) (m ((c : Thread nD τ).loc main_arg1)) (m ((c : Thread nD τ).loc main_arg2)) ⟨128 * t.val + (x 0 : Nat), by omega⟩ ⟨(x 1 : Nat), hj⟩ else 0 := by
    intro i j hi hj
    unfold Convp.acts
    by_cases h' : j.val < 11008
    · rw [dif_pos h', dif_pos (show (x 1 : Nat) < 11008 by omega), dif_pos (show i.val < 16384 by omega)]
      have k : ∀ (s s' : Fin 16384) (q q' : Fin 11008), s.val = s'.val → q.val = q'.val →
          Convp.gated (m ((c : Thread nD τ).loc main_arg0)) (m ((c : Thread nD τ).loc main_arg1)) (m ((c : Thread nD τ).loc main_arg2)) s q
            = Convp.gated (m ((c : Thread nD τ).loc main_arg0)) (m ((c : Thread nD τ).loc main_arg1)) (m ((c : Thread nD τ).loc main_arg2)) s' q' := by
        intro s s' q q' hs hq
        rw [Fin.ext hs, Fin.ext hq]
      exact k _ _ _ _ hi hj
    · rw [dif_neg h', dif_neg (by omega)]
  exact e _ _ h0 h1

/-- What a point writes back. -/
theorem after_rows (h : Finite m c) (t : Fin cfg0.N) (x : S128x11264.Idx) :
    (show FVec Ideal S128x11264 .bf16 from (dats m 0 c).after 5 t) x = if hj : (x 1).val < 11008 then Convp.gated (m ((c : Thread nD τ).loc main_arg0)) (m ((c : Thread nD τ).loc main_arg1)) (m ((c : Thread nD τ).loc main_arg2)) ⟨128 * t.val + (x 0 : Nat), by have : t.val < 128 := t.isLt; have : (x 0 : Nat) < 128 := (x 0).isLt; omega⟩ ⟨(x 1).val, hj⟩ else 0 := by
  have ht : t.val < 128 := t.isLt
  rw [after0_5]
  by_cases h0 : t.val % 128 = 0
  · rw [outsAt0_A m c t h0 (by omega)]
    dsimp only
    unfold out0_A_5
    frame_open
    simp (disch := decide) only [↓ View.readCov_skip, ↓ View.readCov_cons_toLoadRect, ↓ View.readCov_fill]
    frame_out
    exact blk_at m c t _ (first m c h t (by omega)) x
  by_cases h1 : t.val % 128 = 127
  · rw [outsAt0_C m c t h0 h1]
    dsimp only
    unfold out0_C_5
    frame_open
    frame_out
    rw [read_unread_whole]
    exact blk_at m c t _ (later m c t (by omega)) x
  · rw [outsAt0_B m c t h0 h1]
    dsimp only
    unfold out0_B_5
    frame_open
    frame_out
    rw [read_unread_whole]
    exact blk_at m c t _ (later m c t (by omega)) x

theorem flushed (h : Finite m c) (t : Fin cfg0.N) (y : ((cfg0.win 5).xblock (cfg0.grid.coords t)).Idx) :
    (dats m 0 c).flushed 5 t y = rows m c ((win0_5.rect t).emb y) := by
  refine ((dats m 0 c).flushed_apply 5 t y).trans ?_
  refine (after_rows m c h t ((cfg0.win 5).xinj (cfg0.grid.coords t) y)).trans ?_
  exact (rows_at m c t _ _ (pos t y).1 (pos t y).2).symm

theorem final (h : Finite m c) : (dats m 0 c).arrAt 5 cfg0.N = fun i => if (i 0).val < 16384 then rows m c i else (dats m 0 c).A 5 i := by
  refine ((dats m 0 c).arrAt_eq_of_coversWhere 5 (rows m c) (fun β => β 0 < 128) (by decide +kernel) (fun t hf y => flushed m c h t y) (fun j => by blk_simp [Pipeline.Window.cell_apply]; omega))

/-- The activations' array. -/
theorem acts_apply (h : Finite m c) (i : Fin 18496) (j : Fin 11264) :
    (show FVec Ideal S18496x11264 .bf16 from (dats m 0 c).arrAt 5 cfg0.N) (ix2 i j)
      = Convp.acts (m ((c : Thread nD τ).loc main_arg0)) (m ((c : Thread nD τ).loc main_arg1)) (m ((c : Thread nD τ).loc main_arg2)) (m ((c : Thread nD τ).loc main_arg3)) i j := by
  rw [final m c h]
  by_cases hi : i.val < 16384
  · exact if_pos (show i.val < 16384 from hi)
  · refine (if_neg (show ¬ i.val < 16384 from hi)).trans ?_
    refine (congrFun (V_act m c) (ix2 i j)).trans ((pad_rows _ i j).trans ?_)
    unfold Convp.acts
    by_cases hj : j.val < 11008
    · rw [dif_pos hj, dif_pos hj, dif_neg hi]
    · rw [dif_neg hj, dif_neg hj]

/-- The two stored frames. -/
theorem stored_last (i : grid0.Coords) (x0 : FVec Ideal S128x11264 .bf16) (T : FVec Ideal S16x11264 .f32) (x4 : FVec Ideal S272x144 .bf16)
    (hp : ∀ r k, x4 (ix2 r k) = if sel r.val k.val then (1 : EReal) else 0) (x : S1x1x11264.Idx) :
    k0_pay3 (F := Ideal) (View.ld (Val := Elt Ideal) (S := S16x11264) (e' := .f32) (k0_pay19 (F := Ideal) i x0 T x4) (Rect.unit ![3, 0] ![1, 11264] inb_S16x11264_S1x11264_3_0)) x
      = x0 (ix2 127 (x 2)) := by
  refine Eq.trans ?_ (last1 i x0 x4 hp T (x 2))
  generalize k0_pay19 (F := Ideal) i x0 T x4 = z
  pointwise [k0_pay3]
theorem stored_first (i : grid0.Coords) (x0 : FVec Ideal S128x11264 .bf16) (T : FVec Ideal S16x11264 .f32) (x4 : FVec Ideal S272x144 .bf16)
    (hp : ∀ r k, x4 (ix2 r k) = if sel r.val k.val then (1 : EReal) else 0) (x : S1x1x11264.Idx) :
    k0_pay2 (F := Ideal) (View.ld (Val := Elt Ideal) (S := S16x11264) (e' := .f32) (k0_pay19 (F := Ideal) i x0 T x4) (Rect.unit ![0, 0] ![1, 11264] inb_S16x11264_S1x11264_0_0)) x
      = x0 (ix2 126 (x 2)) := by
  refine Eq.trans ?_ (last0 i x0 x4 hp T (x 2))
  generalize k0_pay19 (F := Ideal) i x0 T x4 = z
  pointwise [k0_pay2]

theorem fresh_at (t : Fin cfg0.N) (h1 : t.val = 127) (q : Fin 128) (k : Fin 11264) (r : Fin 2) (j : Fin 11264) (hq : q.val = 126 + r.val) (hj : j.val = k.val) :
    (show FVec Ideal S128x11264 .bf16 from X0_0 m c t) (ix2 q k)
      = Convp.fresh (m ((c : Thread nD τ).loc main_arg0)) r j := by
  refine (read_gate m c t q k).trans ?_
  unfold Convp.fresh Convp.series
  obtain rfl : j = k := Fin.ext hj
  by_cases hk : j.val < 11008
  · rw [dif_pos hk, dif_pos hk, dif_neg (show ¬ 16384 + r.val < 2 by omega)]
    exact congrArg (fun n => (show FVec Ideal S18496x11008 .f32 from m ((c : Thread nD τ).loc main_arg0)) (ix2 n ⟨j.val, hk⟩)) (Fin.ext (by
      show 128 * t.val + q.val = 16384 + r.val - 2
      omega))
  · rw [dif_neg hk, dif_neg hk]

/-- The new state's array. -/
theorem fresh_apply : (dats m 0 c).arrAt 6 cfg0.N = fun i : S1x2x11264.Idx => Convp.fresh (m ((c : Thread nD τ).loc main_arg0)) (i 1) (i 2) := by
  refine (dats m 0 c).arrAt_eq_of_covers 6 _ (by decide +kernel) fun t hf y => ?_
  have ht1 : t.val = 127 := by
    have : t.val < 128 := t.isLt
    have := (flush0_6 t).mp hf
    omega
  blk_simp
  rw [after0_6, outsAt0_C m c t (by omega) (by omega)]
  dsimp only
  unfold out0_C_6
  frame_open
  simp (disch := decide) only [↓ View.readCov_skip, ↓ View.readCov_cons_toLoadRect, ↓ View.readCov_fill]
  frame_out
  canon_tiles x h
  · refine (stored_last (grid0.coords t) (X0_0 m c t) _ (iblk m c 4 t) (read_pm m c t) x).trans (fresh_at m c t ht1 127 (x 2) _ _ ?_ ?_)
    · blk_simp [idx t]
      try omega
    · blk_simp [idx t]
      try omega
  · refine (stored_first (grid0.coords t) (X0_0 m c t) _ (iblk m c 4 t) (read_pm m c t) x).trans (fresh_at m c t ht1 126 (x 2) _ _ ?_ ?_)
    · blk_simp [idx t]
      try omega
    · blk_simp [idx t]
      try omega
end Cert.ActpIdeal.Conv
end
-- ==== Proof.Convp.Ref.lean ====
/-
  What the convolution's reference leaves in its results, at the prompt's frames.
-/
module
public import proofs.«01_k».proof.Proof.Gen.ActpRefIdeal.Run
public import proofs.«01_k».proof.Proof.Convp.Spec
public import Idealize.ShloMosaic.Lib.Claim
@[expose] public section
set_option maxRecDepth 16384
noncomputable section
open Idealize.ShloMosaic Idealize.ShloMosaic.TcCoe Idealize.SL.Sem
namespace Cert.ActpRefIdeal.Conv
open Cert.ActpRefIdeal Cert.ActpRefIdeal.Gen
variable (A0 A1 : FVec Ideal S18496x11008 .f32) (A2 : FVec Ideal S2x3x11008 .f32) (A3 : FVec Ideal S18496x11008 .f32)

/-- The meta tokens' last frames and the prompt's, one after the other. -/
def cat : FVec Ideal S1x16386x11008 .f32 :=
  broadcastInDim S1x16386x11008 ![1, 2] bcast_S16386x11008_S1x16386x11008_1_2 (concatenate S16386x11008 0 [⟨S2x11008, ((extractStridedSlice S2x11008 ![16446, 0] A0 slices_S18496x11008_S2x11008_16446_0) : (⟨S2x11008, .f32⟩ : BufTy).Contents (Elt Ideal))⟩, ⟨S16384x11008, ((extractStridedSlice S16384x11008 ![0, 0] A0 slices_S18496x11008_S16384x11008_0_0) : (⟨S16384x11008, .f32⟩ : BufTy).Contents (Elt Ideal))⟩] concatenates_S2x11008_S16384x11008_S16386x11008_d0)

theorem cat_apply (n : Fin 16386) (j : Fin 11008) : cat A0 (ix3 0 n j) = Convp.series A0 n j := by
  unfold Convp.series
  by_cases h : n.val < 2
  · rw [dif_pos h]
    pointwise [cat]
    refine (dif_pos h).trans ?_
    rfl
  · rw [dif_neg h]
    pointwise [cat]
    refine (dif_neg h).trans ?_
    rfl

/-- A tap's weights at every frame. -/
def tapRow (r : Nat) (hs : S3x11008.Slices ![r, 0] S1x11008) : FVec Ideal S1x16384x11008 .f32 :=
  broadcastInDim S1x16384x11008 ![0, 1, 2] bcast_S1x1x11008_S1x16384x11008_0_1_2 (broadcastInDim S1x1x11008 ![2] bcast_S11008_S1x1x11008_2 (shapeCast S11008 (extractStridedSlice S1x11008 ![r, 0] (shapeCast S3x11008 (extractStridedSlice S1x3x11008 ![0, 0, 0] A2 slices_S2x3x11008_S1x3x11008_0_0_0) shapeCasts_S1x3x11008_S3x11008) hs) shapeCasts_S1x11008_S11008))

/-- The convolution. -/
def y : FVec Ideal S1x16384x11008 .f32 :=
  addf (addf (mulf (tapRow A2 0 slices_S3x11008_S1x11008_0_0) (extractStridedSlice S1x16384x11008 ![0, 0, 0] (cat A0) slices_S1x16386x11008_S1x16384x11008_0_0_0))
    (mulf (tapRow A2 1 slices_S3x11008_S1x11008_1_0) (extractStridedSlice S1x16384x11008 ![0, 1, 0] (cat A0) slices_S1x16386x11008_S1x16384x11008_0_1_0)))
    (mulf (tapRow A2 2 slices_S3x11008_S1x11008_2_0) (extractStridedSlice S1x16384x11008 ![0, 2, 0] (cat A0) slices_S1x16386x11008_S1x16384x11008_0_2_0))

theorem tap0 (s : Fin 16384) (j : Fin 11008) : tapRow A2 0 slices_S3x11008_S1x11008_0_0 (ix3 0 s j) = A2 (ix3 0 0 j) := by pointwise [tapRow]
theorem tap1 (s : Fin 16384) (j : Fin 11008) : tapRow A2 1 slices_S3x11008_S1x11008_1_0 (ix3 0 s j) = A2 (ix3 0 1 j) := by pointwise [tapRow]
theorem tap2 (s : Fin 16384) (j : Fin 11008) : tapRow A2 2 slices_S3x11008_S1x11008_2_0 (ix3 0 s j) = A2 (ix3 0 2 j) := by pointwise [tapRow]
theorem sl0 (z : FVec Ideal S1x16386x11008 .f32) (s : Fin 16384) (j : Fin 11008) : extractStridedSlice S1x16384x11008 ![0, 0, 0] z slices_S1x16386x11008_S1x16384x11008_0_0_0 (ix3 0 s j) = z (ix3 0 ⟨s.val, by omega⟩ j) := by pointwise
theorem sl1 (z : FVec Ideal S1x16386x11008 .f32) (s : Fin 16384) (j : Fin 11008) : extractStridedSlice S1x16384x11008 ![0, 1, 0] z slices_S1x16386x11008_S1x16384x11008_0_1_0 (ix3 0 s j) = z (ix3 0 ⟨s.val + 1, by omega⟩ j) := by
  pointwise
  exact congrArg (fun n => z (ix3 0 n j)) (Fin.ext (Nat.add_comm _ _))
theorem sl2 (z : FVec Ideal S1x16386x11008 .f32) (s : Fin 16384) (j : Fin 11008) : extractStridedSlice S1x16384x11008 ![0, 2, 0] z slices_S1x16386x11008_S1x16384x11008_0_2_0 (ix3 0 s j) = z (ix3 0 ⟨s.val + 2, by omega⟩ j) := by
  pointwise
  exact congrArg (fun n => z (ix3 0 n j)) (Fin.ext (Nat.add_comm _ _))

theorem y_apply (s : Fin 16384) (j : Fin 11008) : y A0 A2 (ix3 0 s j) = Convp.conv A0 A2 s j := by
  unfold Convp.conv
  rw [← cat_apply, ← cat_apply, ← cat_apply, ← tap0 A2 s j, ← tap1 A2 s j, ← tap2 A2 s j]
  generalize hz : cat A0 = z
  rw [← sl0 z, ← sl1 z, ← sl2 z]
  unfold y
  rw [hz]
  rfl

/-- The gated frames. -/
def g (Y : FVec Ideal S1x16384x11008 .f32) : FVec Ideal S1x16384x11008 .f32 :=
  mulf (mulf Y (Host.divf (broadcastInDim S1x16384x11008 ![] bcast_S_S1x16384x11008 (constant (F := Ideal) S_ .f32 0x3F800000#32)) (addf (broadcastInDim S1x16384x11008 ![] bcast_S_S1x16384x11008 (constant (F := Ideal) S_ .f32 0x3F800000#32)) (Host.exp (Host.negf Y)))))
    (broadcastInDim S1x16384x11008 ![1, 2] bcast_S16384x11008_S1x16384x11008_1_2 (extractStridedSlice S16384x11008 ![0, 0] A1 slices_S18496x11008_S16384x11008_0_0))

theorem g_apply (Y : FVec Ideal S1x16384x11008 .f32) (s : Fin 16384) (j : Fin 11008) :
    g A1 Y (ix3 0 s j) = Y (ix3 0 s j) * Ideal.logistic (Y (ix3 0 s j)) * A1 (ix2 ⟨s.val, by omega⟩ j) := by
  pointwise [g]
  rfl

/-- The gated frames, then the rows after the prompt. -/
def whole (G : FVec Ideal S1x16384x11008 .f32) : FVec Ideal S18496x11264 .bf16 :=
  truncf .bf16 (pad S18496x11264 ![0, 0] ![0, 256] ![0, 0] (concatenate S18496x11008 0 [⟨S16384x11008, ((shapeCast S16384x11008 G shapeCasts_S1x16384x11008_S16384x11008) : (⟨S16384x11008, .f32⟩ : BufTy).Contents (Elt Ideal))⟩, ⟨S2112x11008, ((extractStridedSlice S2112x11008 ![16384, 0] A3 slices_S18496x11008_S2112x11008_16384_0) : (⟨S2112x11008, .f32⟩ : BufTy).Contents (Elt Ideal))⟩] concatenates_S16384x11008_S2112x11008_S18496x11008_d0) (sitofp (F := Ideal) .f32 (constantI S_ 32 0#32)) pads_S18496x11008_S18496x11264_000_02560 h_S_) bitsLt_bf16_f32

theorem whole_apply (G : FVec Ideal S1x16384x11008 .f32) (i : Fin 18496) (j : Fin 11264) :
    whole A3 G (ix2 i j) = if hj : j.val < 11008 then (if hi : i.val < 16384 then G (ix3 0 ⟨i.val, hi⟩ ⟨j.val, hj⟩)
      else A3 (ix2 i ⟨j.val, hj⟩)) else 0 := by
  pointwise [whole]
  by_cases hj : j.val < 11008
  · simp only [dif_pos hj]
    by_cases hi : i.val < 16384
    · rw [dif_pos hi, dif_pos hi]
    · rw [dif_neg hi, dif_neg hi]
      exact congrArg (fun n => A3 (ix2 n ⟨j.val, hj⟩)) (Fin.ext (by dsimp only; omega))
  · rw [dif_neg hj]
    refine Eq.trans ?_ (dif_neg hj).symm
    show ((((0#32 : BitVec 32).toInt : ℤ) : ℝ) : EReal) = 0
    simp

/-- The last two frames. -/
def tailOf : FVec Ideal S1x2x11264 .f32 :=
  pad S1x2x11264 ![0, 0, 0] ![0, 0, 256] ![0, 0, 0] (extractStridedSlice S1x2x11008 ![0, 16384, 0] (cat A0) slices_S1x16386x11008_S1x2x11008_0_16384_0) (sitofp (F := Ideal) .f32 (constantI S_ 32 0#32)) pads_S1x2x11008_S1x2x11264_000_000_02560 h_S_

theorem tailOf_apply (r : Fin 2) (j : Fin 11264) : tailOf A0 (ix3 0 r j) = Convp.fresh A0 r j := by
  unfold Convp.fresh tailOf
  simp only [← cat_apply]
  generalize cat A0 = z
  pointwise
  by_cases hj : j.val < 11008
  · simp only [dif_pos hj]
  · rw [dif_neg hj]
    refine Eq.trans ?_ (dif_neg hj).symm
    show ((((0#32 : BitVec 32).toInt : ℤ) : ℝ) : EReal) = 0
    simp

theorem res_eq (m : (ℓ : Loc nD τ sig) → Buf (Elt Ideal) ℓ) (c : Dev nD) :
    (show FVec Ideal S18496x11264 .bf16 from Value.res_out0 m c)
      = whole (m ((c : Thread nD τ).loc main_arg3)) (g (m ((c : Thread nD τ).loc main_arg1)) (y (m ((c : Thread nD τ).loc main_arg0)) (m ((c : Thread nD τ).loc main_arg2)))) := rfl

theorem acts_apply (m : (ℓ : Loc nD τ sig) → Buf (Elt Ideal) ℓ) (c : Dev nD) (i : Fin 18496) (j : Fin 11264) :
    (show FVec Ideal S18496x11264 .bf16 from Value.res_out0 m c) (ix2 i j)
      = Convp.acts (m ((c : Thread nD τ).loc main_arg0)) (m ((c : Thread nD τ).loc main_arg1)) (m ((c : Thread nD τ).loc main_arg2)) (m ((c : Thread nD τ).loc main_arg3)) i j := by
  rw [res_eq]
  refine (whole_apply _ _ i j).trans ?_
  unfold Convp.acts Convp.gated
  simp only [g_apply, y_apply]
end Cert.ActpRefIdeal.Conv
end
-- ==== Proof.Convp.Claims.lean ====
/-
  The convolution's and the gate's claims, at the prompt's frames.
-/
module
public import proofs.«01_k».proof.Defs
public import proofs.«01_k».proof.Proof.Convp.Final
public import proofs.«01_k».proof.Proof.Convp.Ref
public import proofs.«01_k».proof.Proof.Gen.Actp.Frame
public import Idealize.ShloMosaic.Adequacy
public import Idealize.ShloMosaic.Init
@[expose] public section
set_option maxRecDepth 16384
noncomputable section
open Idealize.ShloMosaic Idealize.ShloMosaic.TcCoe Idealize.SL.Sem

namespace Cert.Pre_finite_meta
theorem facts : Facts where
  slices_S18496x11008_S2x11008_16446_0 := by decide
  bcast_S_S2x11008 := by decide

theorem fn_apply [Facts] (A0 A1 : FVec Ideal S18496x11008 .f32) (A2 : FVec Ideal S2x3x11008 .f32) (A3 : FVec Ideal S18496x11008 .f32)
    (s : Fin 2) (j : Fin 11008) (h : fn A0 A1 A2 A3 = fun _ => 1#1) : A0 (ix2 ⟨16446 + s.val, by omega⟩ j) ≠ (⊤ : EReal) ∧ A0 (ix2 ⟨16446 + s.val, by omega⟩ j) ≠ (⊥ : EReal) := by
  have h' := congrFun h (ix2 s j)
  have e : fn A0 A1 A2 A3 (ix2 s j) = Ideal.cmp .olt (max (A0 (ix2 ⟨16446 + s.val, by omega⟩ j)) (-(A0 (ix2 ⟨16446 + s.val, by omega⟩ j)))) (Ideal.ofBits .f32 0x7F800000#32) := by
    pointwise [fn]
    rfl
  have top : Ideal.ofBits .f32 0x7F800000#32 = (⊤ : EReal) := by simp [Ideal.ofBits, Ideal.ieee]
  rw [e, top] at h'
  generalize A0 (ix2 ⟨16446 + s.val, by omega⟩ j) = x at h' ⊢
  constructor
  · rintro rfl
    simp [Ideal.cmp] at h'
  · rintro rfl
    simp [Ideal.cmp] at h'
end Cert.Pre_finite_meta

namespace Cert.Convp

theorem frame_p : Cert.quiescent_Actp := fun m ρ _ => Cert.Actp.Gen.frame m ρ
theorem frame_pi : Cert.quiescent_ActpIdeal := fun m ρ _ => Cert.ActpIdeal.Gen.frame m ρ
theorem frame_pi_pre [Cert.Pre_finite_meta.Facts] : Cert.quiescent_ActpIdeal_pre_finite_meta := fun m ρ _ => Cert.ActpIdeal.Gen.frame m ρ
theorem frame_ri : Cert.quiescent_ActpRefIdeal := fun m ρ _ =>
  (θ_run Cert.ActpRefIdeal.defs _ _).mono (fun r h => ⟨fun c => (h c).2.2, Idealize.ShloMosaic.sem_eq_zero_of_no_sems (by decide) r.2⟩)
    (Cert.ActpRefIdeal.Value.run (F := Ideal) m ρ)
theorem frame_ri_pre [Cert.Pre_finite_meta.Facts] : Cert.quiescent_ActpRefIdeal_pre_finite_meta := fun m ρ _ => frame_ri m ρ trivial

theorem preserves : Cert.preserves_Actp_ActpIdeal := trivial

theorem algebraic [Cert.Pre_finite_meta.Facts] : Cert.algebraic_ActpIdeal_ActpRefIdeal_pre_finite_meta := by
  intro m ρ m' ρ' hpre hagree
  refine ⟨_, _, Cert.ActpIdeal.Value.run_blocks m ρ, ?_⟩
  refine (θ_run Cert.ActpRefIdeal.defs _ _).mono (fun _ h c => ⟨(h c).1.trans ?_, (h c).2.1.trans ?_, (h c).2.2⟩)
    (Cert.ActpRefIdeal.Value.run (F := Ideal) m' ρ')
  all_goals obtain ⟨h0, h1, h2, h3⟩ := hagree c
  · refine funext fun (i : (⟨2, ![18496, 11264]⟩ : Shape).Idx) => ?_
    rw [show i = ix2 (i 0) (i 1) from by pointwise]
    refine (Cert.ActpRefIdeal.Conv.acts_apply m' c (i 0) (i 1)).trans ((?_ : _ = _).trans
      (Cert.ActpIdeal.Conv.acts_apply m c (fun s j => Cert.Pre_finite_meta.fn_apply _ _ _ _ s j (hpre c)) (i 0) (i 1)).symm)
    rw [h0, h1, h2, h3]
  · refine funext fun (i : (⟨3, ![1, 2, 11264]⟩ : Shape).Idx) => ?_
    refine Eq.trans ?_ (congrFun (Cert.ActpIdeal.Conv.fresh_apply m c) i).symm
    rw [h0]
    have e : i = ix3 0 (i 1) (i 2) := (show i = ix3 (i 0) (i 1) (i 2) from by pointwise).trans
      (congrArg (fun q : Fin 1 => (ix3 q (i 1) (i 2) : (⟨3, ![1, 2, 11264]⟩ : Shape).Idx)) (Subsingleton.elim _ _))
    rw [e]
    exact Cert.ActpRefIdeal.Conv.tailOf_apply _ (i 1) (i 2)

end Cert.Convp
end
-- ==== Proof.lean ====
module

public import proofs.«01_k».proof.Defs
public import proofs.«01_k».proof.Proof.Attn.Claims
public import proofs.«01_k».proof.Proof.Proj.Gateup
public import proofs.«01_k».proof.Proof.Proj.Out
public import proofs.«01_k».proof.Proof.Proj.Mix
public import proofs.«01_k».proof.Proof.Proj.Inp
public import proofs.«01_k».proof.Proof.Proj.Prompt
public import proofs.«01_k».proof.Proof.Proj.Mla
public import proofs.«01_k».proof.Proof.Conv.Claims
public import proofs.«01_k».proof.Proof.Convp.Claims

@[expose] public section

noncomputable section

namespace Cert.Proof

theorem claim : Cert.Claim := ⟨Cert.Kernel.Gen.facts, Cert.KernelIdeal.Gen.facts, Cert.ReferenceIdeal.Gen.facts,
  Cert.Gateup.Gen.facts, Cert.GateupIdeal.Gen.facts, Cert.GateupRefIdeal.Gen.facts,
  Cert.Out.Gen.facts, Cert.OutIdeal.Gen.facts, Cert.OutRefIdeal.Gen.facts,
  Cert.Mix.Gen.facts, Cert.MixIdeal.Gen.facts, Cert.MixRefIdeal.Gen.facts,
  Cert.Inp.Gen.facts, Cert.InpIdeal.Gen.facts, Cert.InpRefIdeal.Gen.facts,
  Cert.Prompt.Gen.facts, Cert.PromptIdeal.Gen.facts, Cert.PromptRefIdeal.Gen.facts,
  Cert.Mla.Gen.facts, Cert.MlaIdeal.Gen.facts, Cert.MlaRefIdeal.Gen.facts,
  Cert.Act.Gen.facts, Cert.ActIdeal.Gen.facts, Cert.ActRefIdeal.Gen.facts,
  Cert.Actp.Gen.facts, Cert.ActpIdeal.Gen.facts, Cert.ActpRefIdeal.Gen.facts, Cert.Pre_finite_state.facts, Cert.Pre_finite_meta.facts,
  Attn.frame_p, Attn.frame_pi, Attn.frame_ri,
  Proj.Gateup.frame_p, Proj.Gateup.frame_pi, Proj.Gateup.frame_ri,
  Proj.Out.frame_p, Proj.Out.frame_pi, Proj.Out.frame_ri,
  Proj.Mix.frame_p, Proj.Mix.frame_pi, Proj.Mix.frame_ri,
  Proj.Inp.frame_p, Proj.Inp.frame_pi, Proj.Inp.frame_ri,
  Proj.Prompt.frame_p, Proj.Prompt.frame_pi, Proj.Prompt.frame_ri,
  Proj.Mla.frame_p, Proj.Mla.frame_pi, Proj.Mla.frame_ri,
  Conv.frame_p, Conv.frame_pi, @Conv.frame_pi_pre Cert.Pre_finite_state.facts, Conv.frame_ri, @Conv.frame_ri_pre Cert.Pre_finite_state.facts,
  Convp.frame_p, Convp.frame_pi, @Convp.frame_pi_pre Cert.Pre_finite_meta.facts, Convp.frame_ri, @Convp.frame_ri_pre Cert.Pre_finite_meta.facts,
  Attn.preserves, Attn.algebraic,
  Proj.Gateup.preserves, Proj.Gateup.algebraic,
  Proj.Out.preserves, Proj.Out.algebraic,
  Proj.Mix.preserves, Proj.Mix.algebraic,
  Proj.Inp.preserves, Proj.Inp.algebraic,
  Proj.Prompt.preserves, Proj.Prompt.algebraic,
  Proj.Mla.preserves, Proj.Mla.algebraic,
  Conv.preserves, @Conv.algebraic Cert.Pre_finite_state.facts,
  Convp.preserves, @Convp.algebraic Cert.Pre_finite_meta.facts⟩

end Cert.Proof

end
